-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Gather [hPre_candidates_in_range : Cert.Pre_candidates_in_range.Facts] (m : (ℓ : Loc Cert.Gather.nD Cert.Gather.τ Cert.Gather.sig) → Buf (Elt Bits) ℓ) : Prop :=
  ∀ c : Dev Cert.Gather.nD,
    (Cert.Pre_candidates_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_candidates_in_range : Cert.Pre_candidates_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_candidates_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_candidates_in_range [hPre_candidates_in_range : Cert.Pre_candidates_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_candidates_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def Pre_Minima [hPre_places_in_range : Cert.Pre_places_in_range.Facts] (m : (ℓ : Loc Cert.Minima.nD Cert.Minima.τ Cert.Minima.sig) → Buf (Elt Bits) ℓ) : Prop :=
  ∀ c : Dev Cert.Minima.nD,
    (Cert.Pre_places_in_range.fn (F := Bits) (m ((c.tc : Thread Cert.Minima.nD Cert.Minima.τ).loc Cert.Minima.main_arg0)) (m ((c.tc : Thread Cert.Minima.nD Cert.Minima.τ).loc Cert.Minima.main_arg1))) = (fun _ => 1#1)

def Pre_MinimaIdeal [hPre_places_in_range : Cert.Pre_places_in_range.Facts] (m : (ℓ : Loc Cert.MinimaIdeal.nD Cert.MinimaIdeal.τ Cert.MinimaIdeal.sig) → Buf (Elt Ideal) ℓ) : Prop :=
  ∀ c : Dev Cert.MinimaIdeal.nD,
    (Cert.Pre_places_in_range.fn (F := Ideal) (m ((c.tc : Thread Cert.MinimaIdeal.nD Cert.MinimaIdeal.τ).loc Cert.MinimaIdeal.main_arg0)) (m ((c.tc : Thread Cert.MinimaIdeal.nD Cert.MinimaIdeal.τ).loc Cert.MinimaIdeal.main_arg1))) = (fun _ => 1#1)

def Pre_MinimaReferenceIdeal (m : (ℓ : Loc Cert.MinimaReferenceIdeal.nD Cert.MinimaReferenceIdeal.τ Cert.MinimaReferenceIdeal.sig) → Buf (Elt Ideal) ℓ) : Prop :=
  True

def Pre_MinimaReferenceIdeal_places_in_range [hPre_places_in_range : Cert.Pre_places_in_range.Facts] (m : (ℓ : Loc Cert.MinimaReferenceIdeal.nD Cert.MinimaReferenceIdeal.τ Cert.MinimaReferenceIdeal.sig) → Buf (Elt Ideal) ℓ) : Prop :=
  ∀ c : Dev Cert.MinimaReferenceIdeal.nD,
    (Cert.Pre_places_in_range.fn (F := Ideal) (m ((c.tc : Thread Cert.MinimaReferenceIdeal.nD Cert.MinimaReferenceIdeal.τ).loc Cert.MinimaReferenceIdeal.main_arg0)) (m ((c.tc : Thread Cert.MinimaReferenceIdeal.nD Cert.MinimaReferenceIdeal.τ).loc Cert.MinimaReferenceIdeal.main_arg1))) = (fun _ => 1#1)

def Pre_Groups (m : (ℓ : Loc Cert.Groups.nD Cert.Groups.τ Cert.Groups.sig) → Buf (Elt Bits) ℓ) : Prop :=
  True

def Pre_GroupsIdeal (m : (ℓ : Loc Cert.GroupsIdeal.nD Cert.GroupsIdeal.τ Cert.GroupsIdeal.sig) → Buf (Elt Ideal) ℓ) : Prop :=
  True

def Pre_GroupsReferenceIdeal (m : (ℓ : Loc Cert.GroupsReferenceIdeal.nD Cert.GroupsReferenceIdeal.τ Cert.GroupsReferenceIdeal.sig) → Buf (Elt Ideal) ℓ) : Prop :=
  True

def Pre_Supers (m : (ℓ : Loc Cert.Supers.nD Cert.Supers.τ Cert.Supers.sig) → Buf (Elt Bits) ℓ) : Prop :=
  True

def Pre_SupersIdeal (m : (ℓ : Loc Cert.SupersIdeal.nD Cert.SupersIdeal.τ Cert.SupersIdeal.sig) → Buf (Elt Ideal) ℓ) : Prop :=
  True

def Pre_SupersIdeal_supers_below_infinity [hPre_supers_below_infinity : Cert.Pre_supers_below_infinity.Facts] (m : (ℓ : Loc Cert.SupersIdeal.nD Cert.SupersIdeal.τ Cert.SupersIdeal.sig) → Buf (Elt Ideal) ℓ) : Prop :=
  ∀ c : Dev Cert.SupersIdeal.nD,
    (Cert.Pre_supers_below_infinity.fn (F := Ideal) (m ((c.tc : Thread Cert.SupersIdeal.nD Cert.SupersIdeal.τ).loc Cert.SupersIdeal.main_arg0))) = (fun _ => 1#1)

def Pre_SupersReferenceIdeal (m : (ℓ : Loc Cert.SupersReferenceIdeal.nD Cert.SupersReferenceIdeal.τ Cert.SupersReferenceIdeal.sig) → Buf (Elt Ideal) ℓ) : Prop :=
  True

def Pre_SupersReferenceIdeal_supers_below_infinity [hPre_supers_below_infinity : Cert.Pre_supers_below_infinity.Facts] (m : (ℓ : Loc Cert.SupersReferenceIdeal.nD Cert.SupersReferenceIdeal.τ Cert.SupersReferenceIdeal.sig) → Buf (Elt Ideal) ℓ) : Prop :=
  ∀ c : Dev Cert.SupersReferenceIdeal.nD,
    (Cert.Pre_supers_below_infinity.fn (F := Ideal) (m ((c.tc : Thread Cert.SupersReferenceIdeal.nD Cert.SupersReferenceIdeal.τ).loc Cert.SupersReferenceIdeal.main_arg0))) = (fun _ => 1#1)

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsIdeal_groups_distinct [hPre_groups_distinct : Cert.Pre_groups_distinct.Facts] (m : (ℓ : Loc Cert.RowsIdeal.nD Cert.RowsIdeal.τ Cert.RowsIdeal.sig) → Buf (Elt Ideal) ℓ) : Prop :=
  ∀ c : Dev Cert.RowsIdeal.nD,
    (Cert.Pre_groups_distinct.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1))) = (fun _ => 1#1)

def Pre_RowsReferenceIdeal (m : (ℓ : Loc Cert.RowsReferenceIdeal.nD Cert.RowsReferenceIdeal.τ Cert.RowsReferenceIdeal.sig) → Buf (Elt Ideal) ℓ) : Prop :=
  True

def Pre_RowsReferenceIdeal_groups_distinct [hPre_groups_distinct : Cert.Pre_groups_distinct.Facts] (m : (ℓ : Loc Cert.RowsReferenceIdeal.nD Cert.RowsReferenceIdeal.τ Cert.RowsReferenceIdeal.sig) → Buf (Elt Ideal) ℓ) : Prop :=
  ∀ c : Dev Cert.RowsReferenceIdeal.nD,
    (Cert.Pre_groups_distinct.fn (F := Ideal) (m ((c.tc : Thread Cert.RowsReferenceIdeal.nD Cert.RowsReferenceIdeal.τ).loc Cert.RowsReferenceIdeal.main_arg0)) (m ((c.tc : Thread Cert.RowsReferenceIdeal.nD Cert.RowsReferenceIdeal.τ).loc Cert.RowsReferenceIdeal.main_arg1))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_rows_distinct [hPre_rows_distinct : Cert.Pre_rows_distinct.Facts] (m : (ℓ : Loc Cert.NearestIdeal.nD Cert.NearestIdeal.τ Cert.NearestIdeal.sig) → Buf (Elt Ideal) ℓ) : Prop :=
  ∀ c : Dev Cert.NearestIdeal.nD,
    (Cert.Pre_rows_distinct.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1)) (m ((c.tc : Thread Cert.NearestIdeal.nD Cert.NearestIdeal.τ).loc Cert.NearestIdeal.main_arg2))) = (fun _ => 1#1)

def Pre_NearestReferenceIdeal (m : (ℓ : Loc Cert.NearestReferenceIdeal.nD Cert.NearestReferenceIdeal.τ Cert.NearestReferenceIdeal.sig) → Buf (Elt Ideal) ℓ) : Prop :=
  True

def Pre_NearestReferenceIdeal_rows_distinct [hPre_rows_distinct : Cert.Pre_rows_distinct.Facts] (m : (ℓ : Loc Cert.NearestReferenceIdeal.nD Cert.NearestReferenceIdeal.τ Cert.NearestReferenceIdeal.sig) → Buf (Elt Ideal) ℓ) : Prop :=
  ∀ c : Dev Cert.NearestReferenceIdeal.nD,
    (Cert.Pre_rows_distinct.fn (F := Ideal) (m ((c.tc : Thread Cert.NearestReferenceIdeal.nD Cert.NearestReferenceIdeal.τ).loc Cert.NearestReferenceIdeal.main_arg0)) (m ((c.tc : Thread Cert.NearestReferenceIdeal.nD Cert.NearestReferenceIdeal.τ).loc Cert.NearestReferenceIdeal.main_arg1)) (m ((c.tc : Thread Cert.NearestReferenceIdeal.nD Cert.NearestReferenceIdeal.τ).loc Cert.NearestReferenceIdeal.main_arg2))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Gather [hGather : Cert.Gather.Facts] [hPre_candidates_in_range : Cert.Pre_candidates_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_candidates_in_range : Cert.Pre_candidates_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_candidates_in_range [hGatherReferenceIdeal : Cert.GatherReferenceIdeal.Facts] [hPre_candidates_in_range : Cert.Pre_candidates_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_candidates_in_range m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_Minima [hMinima : Cert.Minima.Facts] [hPre_places_in_range : Cert.Pre_places_in_range.Facts] : Prop :=
  ∀ (m : (ℓ : Loc Cert.Minima.nD Cert.Minima.τ Cert.Minima.sig) → Buf (Elt Bits) ℓ) (g : Dev Cert.Minima.nD → PrngReg), Pre_Minima m →
    θ_run (Cert.Minima.defs (F := Bits)) (Cert.Minima.threads (F := Bits)) ⟨m, fun _ => 0, g⟩ (fun r => (∀ c : Dev Cert.Minima.nD,
      r.2.mem ((c.tc : Thread Cert.Minima.nD Cert.Minima.τ).loc Cert.Minima.main_arg0) = m ((c.tc : Thread Cert.Minima.nD Cert.Minima.τ).loc Cert.Minima.main_arg0)
      ∧ r.2.mem ((c.tc : Thread Cert.Minima.nD Cert.Minima.τ).loc Cert.Minima.main_arg1) = m ((c.tc : Thread Cert.Minima.nD Cert.Minima.τ).loc Cert.Minima.main_arg1))
      ∧ r.2.sem = fun _ => 0)

def quiescent_MinimaIdeal [hMinimaIdeal : Cert.MinimaIdeal.Facts] [hPre_places_in_range : Cert.Pre_places_in_range.Facts] : Prop :=
  ∀ (m : (ℓ : Loc Cert.MinimaIdeal.nD Cert.MinimaIdeal.τ Cert.MinimaIdeal.sig) → Buf (Elt Ideal) ℓ) (g : Dev Cert.MinimaIdeal.nD → PrngReg), Pre_MinimaIdeal m →
    θ_run (Cert.MinimaIdeal.defs (F := Ideal)) (Cert.MinimaIdeal.threads (F := Ideal)) ⟨m, fun _ => 0, g⟩ (fun r => (∀ c : Dev Cert.MinimaIdeal.nD,
      r.2.mem ((c.tc : Thread Cert.MinimaIdeal.nD Cert.MinimaIdeal.τ).loc Cert.MinimaIdeal.main_arg0) = m ((c.tc : Thread Cert.MinimaIdeal.nD Cert.MinimaIdeal.τ).loc Cert.MinimaIdeal.main_arg0)
      ∧ r.2.mem ((c.tc : Thread Cert.MinimaIdeal.nD Cert.MinimaIdeal.τ).loc Cert.MinimaIdeal.main_arg1) = m ((c.tc : Thread Cert.MinimaIdeal.nD Cert.MinimaIdeal.τ).loc Cert.MinimaIdeal.main_arg1))
      ∧ r.2.sem = fun _ => 0)

def quiescent_MinimaReferenceIdeal [hMinimaReferenceIdeal : Cert.MinimaReferenceIdeal.Facts] : Prop :=
  ∀ (m : (ℓ : Loc Cert.MinimaReferenceIdeal.nD Cert.MinimaReferenceIdeal.τ Cert.MinimaReferenceIdeal.sig) → Buf (Elt Ideal) ℓ) (g : Dev Cert.MinimaReferenceIdeal.nD → PrngReg), Pre_MinimaReferenceIdeal m →
    θ_run (Cert.MinimaReferenceIdeal.defs (F := Ideal)) (onTc (τ := Cert.MinimaReferenceIdeal.τ) (Cert.MinimaReferenceIdeal.main (F := Ideal))) ⟨m, fun _ => 0, g⟩ (fun r => (∀ c : Dev Cert.MinimaReferenceIdeal.nD,
      r.2.mem ((c.tc : Thread Cert.MinimaReferenceIdeal.nD Cert.MinimaReferenceIdeal.τ).loc Cert.MinimaReferenceIdeal.main_arg0) = m ((c.tc : Thread Cert.MinimaReferenceIdeal.nD Cert.MinimaReferenceIdeal.τ).loc Cert.MinimaReferenceIdeal.main_arg0)
      ∧ r.2.mem ((c.tc : Thread Cert.MinimaReferenceIdeal.nD Cert.MinimaReferenceIdeal.τ).loc Cert.MinimaReferenceIdeal.main_arg1) = m ((c.tc : Thread Cert.MinimaReferenceIdeal.nD Cert.MinimaReferenceIdeal.τ).loc Cert.MinimaReferenceIdeal.main_arg1))
      ∧ r.2.sem = fun _ => 0)

def quiescent_MinimaReferenceIdeal_pre_places_in_range [hMinimaReferenceIdeal : Cert.MinimaReferenceIdeal.Facts] [hPre_places_in_range : Cert.Pre_places_in_range.Facts] : Prop :=
  ∀ (m : (ℓ : Loc Cert.MinimaReferenceIdeal.nD Cert.MinimaReferenceIdeal.τ Cert.MinimaReferenceIdeal.sig) → Buf (Elt Ideal) ℓ) (g : Dev Cert.MinimaReferenceIdeal.nD → PrngReg), Pre_MinimaReferenceIdeal_places_in_range m →
    θ_run (Cert.MinimaReferenceIdeal.defs (F := Ideal)) (onTc (τ := Cert.MinimaReferenceIdeal.τ) (Cert.MinimaReferenceIdeal.main (F := Ideal))) ⟨m, fun _ => 0, g⟩ (fun r => (∀ c : Dev Cert.MinimaReferenceIdeal.nD,
      r.2.mem ((c.tc : Thread Cert.MinimaReferenceIdeal.nD Cert.MinimaReferenceIdeal.τ).loc Cert.MinimaReferenceIdeal.main_arg0) = m ((c.tc : Thread Cert.MinimaReferenceIdeal.nD Cert.MinimaReferenceIdeal.τ).loc Cert.MinimaReferenceIdeal.main_arg0)
      ∧ r.2.mem ((c.tc : Thread Cert.MinimaReferenceIdeal.nD Cert.MinimaReferenceIdeal.τ).loc Cert.MinimaReferenceIdeal.main_arg1) = m ((c.tc : Thread Cert.MinimaReferenceIdeal.nD Cert.MinimaReferenceIdeal.τ).loc Cert.MinimaReferenceIdeal.main_arg1))
      ∧ r.2.sem = fun _ => 0)

def quiescent_Groups [hGroups : Cert.Groups.Facts] : Prop :=
  ∀ (m : (ℓ : Loc Cert.Groups.nD Cert.Groups.τ Cert.Groups.sig) → Buf (Elt Bits) ℓ) (g : Dev Cert.Groups.nD → PrngReg), Pre_Groups m →
    θ_run (Cert.Groups.defs (F := Bits)) (onTc (τ := Cert.Groups.τ) (Cert.Groups.main (F := Bits))) ⟨m, fun _ => 0, g⟩ (fun r => (∀ c : Dev Cert.Groups.nD,
      r.2.mem ((c.tc : Thread Cert.Groups.nD Cert.Groups.τ).loc Cert.Groups.main_arg0) = m ((c.tc : Thread Cert.Groups.nD Cert.Groups.τ).loc Cert.Groups.main_arg0)
      ∧ r.2.mem ((c.tc : Thread Cert.Groups.nD Cert.Groups.τ).loc Cert.Groups.main_arg1) = m ((c.tc : Thread Cert.Groups.nD Cert.Groups.τ).loc Cert.Groups.main_arg1))
      ∧ r.2.sem = fun _ => 0)

def quiescent_GroupsIdeal [hGroupsIdeal : Cert.GroupsIdeal.Facts] : Prop :=
  ∀ (m : (ℓ : Loc Cert.GroupsIdeal.nD Cert.GroupsIdeal.τ Cert.GroupsIdeal.sig) → Buf (Elt Ideal) ℓ) (g : Dev Cert.GroupsIdeal.nD → PrngReg), Pre_GroupsIdeal m →
    θ_run (Cert.GroupsIdeal.defs (F := Ideal)) (onTc (τ := Cert.GroupsIdeal.τ) (Cert.GroupsIdeal.main (F := Ideal))) ⟨m, fun _ => 0, g⟩ (fun r => (∀ c : Dev Cert.GroupsIdeal.nD,
      r.2.mem ((c.tc : Thread Cert.GroupsIdeal.nD Cert.GroupsIdeal.τ).loc Cert.GroupsIdeal.main_arg0) = m ((c.tc : Thread Cert.GroupsIdeal.nD Cert.GroupsIdeal.τ).loc Cert.GroupsIdeal.main_arg0)
      ∧ r.2.mem ((c.tc : Thread Cert.GroupsIdeal.nD Cert.GroupsIdeal.τ).loc Cert.GroupsIdeal.main_arg1) = m ((c.tc : Thread Cert.GroupsIdeal.nD Cert.GroupsIdeal.τ).loc Cert.GroupsIdeal.main_arg1))
      ∧ r.2.sem = fun _ => 0)

def quiescent_GroupsReferenceIdeal [hGroupsReferenceIdeal : Cert.GroupsReferenceIdeal.Facts] : Prop :=
  ∀ (m : (ℓ : Loc Cert.GroupsReferenceIdeal.nD Cert.GroupsReferenceIdeal.τ Cert.GroupsReferenceIdeal.sig) → Buf (Elt Ideal) ℓ) (g : Dev Cert.GroupsReferenceIdeal.nD → PrngReg), Pre_GroupsReferenceIdeal m →
    θ_run (Cert.GroupsReferenceIdeal.defs (F := Ideal)) (onTc (τ := Cert.GroupsReferenceIdeal.τ) (Cert.GroupsReferenceIdeal.main (F := Ideal))) ⟨m, fun _ => 0, g⟩ (fun r => (∀ c : Dev Cert.GroupsReferenceIdeal.nD,
      r.2.mem ((c.tc : Thread Cert.GroupsReferenceIdeal.nD Cert.GroupsReferenceIdeal.τ).loc Cert.GroupsReferenceIdeal.main_arg0) = m ((c.tc : Thread Cert.GroupsReferenceIdeal.nD Cert.GroupsReferenceIdeal.τ).loc Cert.GroupsReferenceIdeal.main_arg0)
      ∧ r.2.mem ((c.tc : Thread Cert.GroupsReferenceIdeal.nD Cert.GroupsReferenceIdeal.τ).loc Cert.GroupsReferenceIdeal.main_arg1) = m ((c.tc : Thread Cert.GroupsReferenceIdeal.nD Cert.GroupsReferenceIdeal.τ).loc Cert.GroupsReferenceIdeal.main_arg1))
      ∧ r.2.sem = fun _ => 0)

def quiescent_Supers [hSupers : Cert.Supers.Facts] : Prop :=
  ∀ (m : (ℓ : Loc Cert.Supers.nD Cert.Supers.τ Cert.Supers.sig) → Buf (Elt Bits) ℓ) (g : Dev Cert.Supers.nD → PrngReg), Pre_Supers m →
    θ_run (Cert.Supers.defs (F := Bits)) (onTc (τ := Cert.Supers.τ) (Cert.Supers.main (F := Bits))) ⟨m, fun _ => 0, g⟩ (fun r => (∀ c : Dev Cert.Supers.nD,
      r.2.mem ((c.tc : Thread Cert.Supers.nD Cert.Supers.τ).loc Cert.Supers.main_arg0) = m ((c.tc : Thread Cert.Supers.nD Cert.Supers.τ).loc Cert.Supers.main_arg0))
      ∧ r.2.sem = fun _ => 0)

def quiescent_SupersIdeal [hSupersIdeal : Cert.SupersIdeal.Facts] : Prop :=
  ∀ (m : (ℓ : Loc Cert.SupersIdeal.nD Cert.SupersIdeal.τ Cert.SupersIdeal.sig) → Buf (Elt Ideal) ℓ) (g : Dev Cert.SupersIdeal.nD → PrngReg), Pre_SupersIdeal m →
    θ_run (Cert.SupersIdeal.defs (F := Ideal)) (onTc (τ := Cert.SupersIdeal.τ) (Cert.SupersIdeal.main (F := Ideal))) ⟨m, fun _ => 0, g⟩ (fun r => (∀ c : Dev Cert.SupersIdeal.nD,
      r.2.mem ((c.tc : Thread Cert.SupersIdeal.nD Cert.SupersIdeal.τ).loc Cert.SupersIdeal.main_arg0) = m ((c.tc : Thread Cert.SupersIdeal.nD Cert.SupersIdeal.τ).loc Cert.SupersIdeal.main_arg0))
      ∧ r.2.sem = fun _ => 0)

def quiescent_SupersIdeal_pre_supers_below_infinity [hSupersIdeal : Cert.SupersIdeal.Facts] [hPre_supers_below_infinity : Cert.Pre_supers_below_infinity.Facts] : Prop :=
  ∀ (m : (ℓ : Loc Cert.SupersIdeal.nD Cert.SupersIdeal.τ Cert.SupersIdeal.sig) → Buf (Elt Ideal) ℓ) (g : Dev Cert.SupersIdeal.nD → PrngReg), Pre_SupersIdeal_supers_below_infinity m →
    θ_run (Cert.SupersIdeal.defs (F := Ideal)) (onTc (τ := Cert.SupersIdeal.τ) (Cert.SupersIdeal.main (F := Ideal))) ⟨m, fun _ => 0, g⟩ (fun r => (∀ c : Dev Cert.SupersIdeal.nD,
      r.2.mem ((c.tc : Thread Cert.SupersIdeal.nD Cert.SupersIdeal.τ).loc Cert.SupersIdeal.main_arg0) = m ((c.tc : Thread Cert.SupersIdeal.nD Cert.SupersIdeal.τ).loc Cert.SupersIdeal.main_arg0))
      ∧ r.2.sem = fun _ => 0)

def quiescent_SupersReferenceIdeal [hSupersReferenceIdeal : Cert.SupersReferenceIdeal.Facts] : Prop :=
  ∀ (m : (ℓ : Loc Cert.SupersReferenceIdeal.nD Cert.SupersReferenceIdeal.τ Cert.SupersReferenceIdeal.sig) → Buf (Elt Ideal) ℓ) (g : Dev Cert.SupersReferenceIdeal.nD → PrngReg), Pre_SupersReferenceIdeal m →
    θ_run (Cert.SupersReferenceIdeal.defs (F := Ideal)) (onTc (τ := Cert.SupersReferenceIdeal.τ) (Cert.SupersReferenceIdeal.main (F := Ideal))) ⟨m, fun _ => 0, g⟩ (fun r => (∀ c : Dev Cert.SupersReferenceIdeal.nD,
      r.2.mem ((c.tc : Thread Cert.SupersReferenceIdeal.nD Cert.SupersReferenceIdeal.τ).loc Cert.SupersReferenceIdeal.main_arg0) = m ((c.tc : Thread Cert.SupersReferenceIdeal.nD Cert.SupersReferenceIdeal.τ).loc Cert.SupersReferenceIdeal.main_arg0))
      ∧ r.2.sem = fun _ => 0)

def quiescent_SupersReferenceIdeal_pre_supers_below_infinity [hSupersReferenceIdeal : Cert.SupersReferenceIdeal.Facts] [hPre_supers_below_infinity : Cert.Pre_supers_below_infinity.Facts] : Prop :=
  ∀ (m : (ℓ : Loc Cert.SupersReferenceIdeal.nD Cert.SupersReferenceIdeal.τ Cert.SupersReferenceIdeal.sig) → Buf (Elt Ideal) ℓ) (g : Dev Cert.SupersReferenceIdeal.nD → PrngReg), Pre_SupersReferenceIdeal_supers_below_infinity m →
    θ_run (Cert.SupersReferenceIdeal.defs (F := Ideal)) (onTc (τ := Cert.SupersReferenceIdeal.τ) (Cert.SupersReferenceIdeal.main (F := Ideal))) ⟨m, fun _ => 0, g⟩ (fun r => (∀ c : Dev Cert.SupersReferenceIdeal.nD,
      r.2.mem ((c.tc : Thread Cert.SupersReferenceIdeal.nD Cert.SupersReferenceIdeal.τ).loc Cert.SupersReferenceIdeal.main_arg0) = m ((c.tc : Thread Cert.SupersReferenceIdeal.nD Cert.SupersReferenceIdeal.τ).loc Cert.SupersReferenceIdeal.main_arg0))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsIdeal_pre_groups_distinct [hRowsIdeal : Cert.RowsIdeal.Facts] [hPre_groups_distinct : Cert.Pre_groups_distinct.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal_groups_distinct m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1))
      ∧ r.2.sem = fun _ => 0)

def quiescent_RowsReferenceIdeal_pre_groups_distinct [hRowsReferenceIdeal : Cert.RowsReferenceIdeal.Facts] [hPre_groups_distinct : Cert.Pre_groups_distinct.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal_groups_distinct m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1)
      ∧ r.2.mem ((c.tc : Thread Cert.Nearest.nD Cert.Nearest.τ).loc Cert.Nearest.main_arg2) = m ((c.tc : Thread Cert.Nearest.nD Cert.Nearest.τ).loc Cert.Nearest.main_arg2))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
      ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2))
      ∧ r.2.sem = fun _ => 0)

def quiescent_NearestIdeal_pre_rows_distinct [hNearestIdeal : Cert.NearestIdeal.Facts] [hPre_rows_distinct : Cert.Pre_rows_distinct.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_rows_distinct m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
      ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2))
      ∧ r.2.sem = fun _ => 0)

def quiescent_NearestReferenceIdeal [hNearestReferenceIdeal : Cert.NearestReferenceIdeal.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1)
      ∧ r.2.mem ((c.tc : Thread Cert.NearestReferenceIdeal.nD Cert.NearestReferenceIdeal.τ).loc Cert.NearestReferenceIdeal.main_arg2) = m ((c.tc : Thread Cert.NearestReferenceIdeal.nD Cert.NearestReferenceIdeal.τ).loc Cert.NearestReferenceIdeal.main_arg2))
      ∧ r.2.sem = fun _ => 0)

def quiescent_NearestReferenceIdeal_pre_rows_distinct [hNearestReferenceIdeal : Cert.NearestReferenceIdeal.Facts] [hPre_rows_distinct : Cert.Pre_rows_distinct.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal_rows_distinct m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1)
      ∧ r.2.mem ((c.tc : Thread Cert.NearestReferenceIdeal.nD Cert.NearestReferenceIdeal.τ).loc Cert.NearestReferenceIdeal.main_arg2) = m ((c.tc : Thread Cert.NearestReferenceIdeal.nD Cert.NearestReferenceIdeal.τ).loc Cert.NearestReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Gather_GatherIdeal : Prop :=
  True

def algebraic_GatherIdeal_GatherReferenceIdeal [hGatherIdeal : Cert.GatherIdeal.Facts] [hGatherReferenceIdeal : Cert.GatherReferenceIdeal.Facts] [hPre_candidates_in_range : Cert.Pre_candidates_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v6) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def preserves_Minima_MinimaIdeal : Prop :=
  True

def algebraic_MinimaIdeal_MinimaReferenceIdeal [hMinimaIdeal : Cert.MinimaIdeal.Facts] [hMinimaReferenceIdeal : Cert.MinimaReferenceIdeal.Facts] [hPre_places_in_range : Cert.Pre_places_in_range.Facts] : Prop :=
  ∀ (m : (ℓ : Loc Cert.MinimaIdeal.nD Cert.MinimaIdeal.τ Cert.MinimaIdeal.sig) → Buf (Elt Ideal) ℓ) (g : Dev Cert.MinimaIdeal.nD → PrngReg)
    (m' : (ℓ : Loc Cert.MinimaReferenceIdeal.nD Cert.MinimaReferenceIdeal.τ Cert.MinimaReferenceIdeal.sig) → Buf (Elt Ideal) ℓ) (g' : Dev Cert.MinimaReferenceIdeal.nD → PrngReg), Pre_MinimaIdeal m →
    (∀ c : Dev Cert.MinimaIdeal.nD,
      m' ((c.tc : Thread Cert.MinimaReferenceIdeal.nD Cert.MinimaReferenceIdeal.τ).loc Cert.MinimaReferenceIdeal.main_arg0) = m ((c.tc : Thread Cert.MinimaIdeal.nD Cert.MinimaIdeal.τ).loc Cert.MinimaIdeal.main_arg0)
      ∧ m' ((c.tc : Thread Cert.MinimaReferenceIdeal.nD Cert.MinimaReferenceIdeal.τ).loc Cert.MinimaReferenceIdeal.main_arg1) = m ((c.tc : Thread Cert.MinimaIdeal.nD Cert.MinimaIdeal.τ).loc Cert.MinimaIdeal.main_arg1)) →
    ∃ (v0 : (c : Dev Cert.MinimaIdeal.nD) → Buf (Elt Ideal) ((c.tc : Thread Cert.MinimaIdeal.nD Cert.MinimaIdeal.τ).loc Cert.MinimaIdeal.main_v3)),
      θ_run (Cert.MinimaIdeal.defs (F := Ideal)) (Cert.MinimaIdeal.threads (F := Ideal)) ⟨m, fun _ => 0, g⟩ (fun r => ∀ c : Dev Cert.MinimaIdeal.nD,
          r.2.mem ((c.tc : Thread Cert.MinimaIdeal.nD Cert.MinimaIdeal.τ).loc Cert.MinimaIdeal.main_v3) = v0 c
          ∧ r.2.mem ((c.tc : Thread Cert.MinimaIdeal.nD Cert.MinimaIdeal.τ).loc Cert.MinimaIdeal.main_arg0) = m ((c.tc : Thread Cert.MinimaIdeal.nD Cert.MinimaIdeal.τ).loc Cert.MinimaIdeal.main_arg0)
          ∧ r.2.mem ((c.tc : Thread Cert.MinimaIdeal.nD Cert.MinimaIdeal.τ).loc Cert.MinimaIdeal.main_arg1) = m ((c.tc : Thread Cert.MinimaIdeal.nD Cert.MinimaIdeal.τ).loc Cert.MinimaIdeal.main_arg1))
      ∧ θ_run (Cert.MinimaReferenceIdeal.defs (F := Ideal)) (onTc (τ := Cert.MinimaReferenceIdeal.τ) (Cert.MinimaReferenceIdeal.main (F := Ideal))) ⟨m', fun _ => 0, g'⟩ (fun r => ∀ c : Dev Cert.MinimaReferenceIdeal.nD,
          r.2.mem ((c.tc : Thread Cert.MinimaReferenceIdeal.nD Cert.MinimaReferenceIdeal.τ).loc Cert.MinimaReferenceIdeal.main_v7) = v0 c
          ∧ r.2.mem ((c.tc : Thread Cert.MinimaReferenceIdeal.nD Cert.MinimaReferenceIdeal.τ).loc Cert.MinimaReferenceIdeal.main_arg0) = m' ((c.tc : Thread Cert.MinimaReferenceIdeal.nD Cert.MinimaReferenceIdeal.τ).loc Cert.MinimaReferenceIdeal.main_arg0)
          ∧ r.2.mem ((c.tc : Thread Cert.MinimaReferenceIdeal.nD Cert.MinimaReferenceIdeal.τ).loc Cert.MinimaReferenceIdeal.main_arg1) = m' ((c.tc : Thread Cert.MinimaReferenceIdeal.nD Cert.MinimaReferenceIdeal.τ).loc Cert.MinimaReferenceIdeal.main_arg1))

def preserves_Groups_GroupsIdeal : Prop :=
  True

def algebraic_GroupsIdeal_GroupsReferenceIdeal [hGroupsIdeal : Cert.GroupsIdeal.Facts] [hGroupsReferenceIdeal : Cert.GroupsReferenceIdeal.Facts] : Prop :=
  ∀ (m : (ℓ : Loc Cert.GroupsIdeal.nD Cert.GroupsIdeal.τ Cert.GroupsIdeal.sig) → Buf (Elt Ideal) ℓ) (g : Dev Cert.GroupsIdeal.nD → PrngReg)
    (m' : (ℓ : Loc Cert.GroupsReferenceIdeal.nD Cert.GroupsReferenceIdeal.τ Cert.GroupsReferenceIdeal.sig) → Buf (Elt Ideal) ℓ) (g' : Dev Cert.GroupsReferenceIdeal.nD → PrngReg), Pre_GroupsIdeal m →
    (∀ c : Dev Cert.GroupsIdeal.nD,
      m' ((c.tc : Thread Cert.GroupsReferenceIdeal.nD Cert.GroupsReferenceIdeal.τ).loc Cert.GroupsReferenceIdeal.main_arg0) = m ((c.tc : Thread Cert.GroupsIdeal.nD Cert.GroupsIdeal.τ).loc Cert.GroupsIdeal.main_arg0)
      ∧ m' ((c.tc : Thread Cert.GroupsReferenceIdeal.nD Cert.GroupsReferenceIdeal.τ).loc Cert.GroupsReferenceIdeal.main_arg1) = m ((c.tc : Thread Cert.GroupsIdeal.nD Cert.GroupsIdeal.τ).loc Cert.GroupsIdeal.main_arg1)) →
    ∃ (v0 : (c : Dev Cert.GroupsIdeal.nD) → Buf (Elt Ideal) ((c.tc : Thread Cert.GroupsIdeal.nD Cert.GroupsIdeal.τ).loc Cert.GroupsIdeal.main_v0_0)) (v1 : (c : Dev Cert.GroupsIdeal.nD) → Buf (Elt Ideal) ((c.tc : Thread Cert.GroupsIdeal.nD Cert.GroupsIdeal.τ).loc Cert.GroupsIdeal.main_v0_1)),
      θ_run (Cert.GroupsIdeal.defs (F := Ideal)) (onTc (τ := Cert.GroupsIdeal.τ) (Cert.GroupsIdeal.main (F := Ideal))) ⟨m, fun _ => 0, g⟩ (fun r => ∀ c : Dev Cert.GroupsIdeal.nD,
          r.2.mem ((c.tc : Thread Cert.GroupsIdeal.nD Cert.GroupsIdeal.τ).loc Cert.GroupsIdeal.main_v0_0) = v0 c
          ∧ r.2.mem ((c.tc : Thread Cert.GroupsIdeal.nD Cert.GroupsIdeal.τ).loc Cert.GroupsIdeal.main_v0_1) = v1 c
          ∧ r.2.mem ((c.tc : Thread Cert.GroupsIdeal.nD Cert.GroupsIdeal.τ).loc Cert.GroupsIdeal.main_arg0) = m ((c.tc : Thread Cert.GroupsIdeal.nD Cert.GroupsIdeal.τ).loc Cert.GroupsIdeal.main_arg0)
          ∧ r.2.mem ((c.tc : Thread Cert.GroupsIdeal.nD Cert.GroupsIdeal.τ).loc Cert.GroupsIdeal.main_arg1) = m ((c.tc : Thread Cert.GroupsIdeal.nD Cert.GroupsIdeal.τ).loc Cert.GroupsIdeal.main_arg1))
      ∧ θ_run (Cert.GroupsReferenceIdeal.defs (F := Ideal)) (onTc (τ := Cert.GroupsReferenceIdeal.τ) (Cert.GroupsReferenceIdeal.main (F := Ideal))) ⟨m', fun _ => 0, g'⟩ (fun r => ∀ c : Dev Cert.GroupsReferenceIdeal.nD,
          r.2.mem ((c.tc : Thread Cert.GroupsReferenceIdeal.nD Cert.GroupsReferenceIdeal.τ).loc Cert.GroupsReferenceIdeal.main_v13) = v0 c
          ∧ r.2.mem ((c.tc : Thread Cert.GroupsReferenceIdeal.nD Cert.GroupsReferenceIdeal.τ).loc Cert.GroupsReferenceIdeal.main_v14) = v1 c
          ∧ r.2.mem ((c.tc : Thread Cert.GroupsReferenceIdeal.nD Cert.GroupsReferenceIdeal.τ).loc Cert.GroupsReferenceIdeal.main_arg0) = m' ((c.tc : Thread Cert.GroupsReferenceIdeal.nD Cert.GroupsReferenceIdeal.τ).loc Cert.GroupsReferenceIdeal.main_arg0)
          ∧ r.2.mem ((c.tc : Thread Cert.GroupsReferenceIdeal.nD Cert.GroupsReferenceIdeal.τ).loc Cert.GroupsReferenceIdeal.main_arg1) = m' ((c.tc : Thread Cert.GroupsReferenceIdeal.nD Cert.GroupsReferenceIdeal.τ).loc Cert.GroupsReferenceIdeal.main_arg1))

def preserves_Supers_SupersIdeal : Prop :=
  True

def algebraic_SupersIdeal_SupersReferenceIdeal_pre_supers_below_infinity [hSupersIdeal : Cert.SupersIdeal.Facts] [hSupersReferenceIdeal : Cert.SupersReferenceIdeal.Facts] [hPre_supers_below_infinity : Cert.Pre_supers_below_infinity.Facts] : Prop :=
  ∀ (m : (ℓ : Loc Cert.SupersIdeal.nD Cert.SupersIdeal.τ Cert.SupersIdeal.sig) → Buf (Elt Ideal) ℓ) (g : Dev Cert.SupersIdeal.nD → PrngReg)
    (m' : (ℓ : Loc Cert.SupersReferenceIdeal.nD Cert.SupersReferenceIdeal.τ Cert.SupersReferenceIdeal.sig) → Buf (Elt Ideal) ℓ) (g' : Dev Cert.SupersReferenceIdeal.nD → PrngReg), Pre_SupersIdeal_supers_below_infinity m →
    (∀ c : Dev Cert.SupersIdeal.nD,
      m' ((c.tc : Thread Cert.SupersReferenceIdeal.nD Cert.SupersReferenceIdeal.τ).loc Cert.SupersReferenceIdeal.main_arg0) = m ((c.tc : Thread Cert.SupersIdeal.nD Cert.SupersIdeal.τ).loc Cert.SupersIdeal.main_arg0)) →
    ∃ (v0 : (c : Dev Cert.SupersIdeal.nD) → Buf (Elt Ideal) ((c.tc : Thread Cert.SupersIdeal.nD Cert.SupersIdeal.τ).loc Cert.SupersIdeal.main_v0_0)) (v1 : (c : Dev Cert.SupersIdeal.nD) → Buf (Elt Ideal) ((c.tc : Thread Cert.SupersIdeal.nD Cert.SupersIdeal.τ).loc Cert.SupersIdeal.main_v0_1)),
      θ_run (Cert.SupersIdeal.defs (F := Ideal)) (onTc (τ := Cert.SupersIdeal.τ) (Cert.SupersIdeal.main (F := Ideal))) ⟨m, fun _ => 0, g⟩ (fun r => ∀ c : Dev Cert.SupersIdeal.nD,
          r.2.mem ((c.tc : Thread Cert.SupersIdeal.nD Cert.SupersIdeal.τ).loc Cert.SupersIdeal.main_v0_0) = v0 c
          ∧ r.2.mem ((c.tc : Thread Cert.SupersIdeal.nD Cert.SupersIdeal.τ).loc Cert.SupersIdeal.main_v0_1) = v1 c
          ∧ r.2.mem ((c.tc : Thread Cert.SupersIdeal.nD Cert.SupersIdeal.τ).loc Cert.SupersIdeal.main_arg0) = m ((c.tc : Thread Cert.SupersIdeal.nD Cert.SupersIdeal.τ).loc Cert.SupersIdeal.main_arg0))
      ∧ θ_run (Cert.SupersReferenceIdeal.defs (F := Ideal)) (onTc (τ := Cert.SupersReferenceIdeal.τ) (Cert.SupersReferenceIdeal.main (F := Ideal))) ⟨m', fun _ => 0, g'⟩ (fun r => ∀ c : Dev Cert.SupersReferenceIdeal.nD,
          r.2.mem ((c.tc : Thread Cert.SupersReferenceIdeal.nD Cert.SupersReferenceIdeal.τ).loc Cert.SupersReferenceIdeal.main_v15) = v0 c
          ∧ r.2.mem ((c.tc : Thread Cert.SupersReferenceIdeal.nD Cert.SupersReferenceIdeal.τ).loc Cert.SupersReferenceIdeal.main_v21) = v1 c
          ∧ r.2.mem ((c.tc : Thread Cert.SupersReferenceIdeal.nD Cert.SupersReferenceIdeal.τ).loc Cert.SupersReferenceIdeal.main_arg0) = m' ((c.tc : Thread Cert.SupersReferenceIdeal.nD Cert.SupersReferenceIdeal.τ).loc Cert.SupersReferenceIdeal.main_arg0))

def preserves_Rows_RowsIdeal : Prop :=
  True

def algebraic_RowsIdeal_RowsReferenceIdeal_pre_groups_distinct [hRowsIdeal : Cert.RowsIdeal.Facts] [hRowsReferenceIdeal : Cert.RowsReferenceIdeal.Facts] [hPre_groups_distinct : Cert.Pre_groups_distinct.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal_groups_distinct m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v0)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v0) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v12) = v0 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1))

def preserves_Nearest_NearestIdeal : Prop :=
  True

def algebraic_NearestIdeal_NearestReferenceIdeal_pre_rows_distinct [hNearestIdeal : Cert.NearestIdeal.Facts] [hNearestReferenceIdeal : Cert.NearestReferenceIdeal.Facts] [hPre_rows_distinct : Cert.Pre_rows_distinct.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestReferenceIdeal.nD Cert.NearestReferenceIdeal.τ Cert.NearestReferenceIdeal.sig) → Buf (Elt Ideal) ℓ) (g' : Dev Cert.NearestReferenceIdeal.nD → PrngReg), Pre_NearestIdeal_rows_distinct m →
    (∀ c : Dev Cert.NearestIdeal.nD,
      m' ((c.tc : Thread Cert.NearestReferenceIdeal.nD Cert.NearestReferenceIdeal.τ).loc Cert.NearestReferenceIdeal.main_arg0) = m ((c.tc : Thread Cert.NearestIdeal.nD Cert.NearestIdeal.τ).loc Cert.NearestIdeal.main_arg0)
      ∧ m' ((c.tc : Thread Cert.NearestReferenceIdeal.nD Cert.NearestReferenceIdeal.τ).loc Cert.NearestReferenceIdeal.main_arg1) = m ((c.tc : Thread Cert.NearestIdeal.nD Cert.NearestIdeal.τ).loc Cert.NearestIdeal.main_arg1)
      ∧ m' ((c.tc : Thread Cert.NearestReferenceIdeal.nD Cert.NearestReferenceIdeal.τ).loc Cert.NearestReferenceIdeal.main_arg2) = m ((c.tc : Thread Cert.NearestIdeal.nD Cert.NearestIdeal.τ).loc Cert.NearestIdeal.main_arg2)) →
    ∃ (v0 : (c : Dev Cert.NearestIdeal.nD) → Buf (Elt Ideal) ((c.tc : Thread Cert.NearestIdeal.nD Cert.NearestIdeal.τ).loc Cert.NearestIdeal.main_v0)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v0) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
          ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2))
      ∧ θ_run (Cert.NearestReferenceIdeal.defs (F := Ideal)) (onTc (τ := Cert.NearestReferenceIdeal.τ) (Cert.NearestReferenceIdeal.main (F := Ideal))) ⟨m', fun _ => 0, g'⟩ (fun r => ∀ c : Dev Cert.NearestReferenceIdeal.nD,
          r.2.mem ((c.tc : Thread Cert.NearestReferenceIdeal.nD Cert.NearestReferenceIdeal.τ).loc Cert.NearestReferenceIdeal.main_v15) = v0 c
          ∧ r.2.mem ((c.tc : Thread Cert.NearestReferenceIdeal.nD Cert.NearestReferenceIdeal.τ).loc Cert.NearestReferenceIdeal.main_arg0) = m' ((c.tc : Thread Cert.NearestReferenceIdeal.nD Cert.NearestReferenceIdeal.τ).loc Cert.NearestReferenceIdeal.main_arg0)
          ∧ r.2.mem ((c.tc : Thread Cert.NearestReferenceIdeal.nD Cert.NearestReferenceIdeal.τ).loc Cert.NearestReferenceIdeal.main_arg1) = m' ((c.tc : Thread Cert.NearestReferenceIdeal.nD Cert.NearestReferenceIdeal.τ).loc Cert.NearestReferenceIdeal.main_arg1)
          ∧ r.2.mem ((c.tc : Thread Cert.NearestReferenceIdeal.nD Cert.NearestReferenceIdeal.τ).loc Cert.NearestReferenceIdeal.main_arg2) = m' ((c.tc : Thread Cert.NearestReferenceIdeal.nD Cert.NearestReferenceIdeal.τ).loc Cert.NearestReferenceIdeal.main_arg2))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hMinima : Cert.Minima.Facts) (hMinimaIdeal : Cert.MinimaIdeal.Facts) (hMinimaReferenceIdeal : Cert.MinimaReferenceIdeal.Facts) (hGroups : Cert.Groups.Facts) (hGroupsIdeal : Cert.GroupsIdeal.Facts) (hGroupsReferenceIdeal : Cert.GroupsReferenceIdeal.Facts) (hSupers : Cert.Supers.Facts) (hSupersIdeal : Cert.SupersIdeal.Facts) (hSupersReferenceIdeal : Cert.SupersReferenceIdeal.Facts) (hRows : Cert.Rows.Facts) (hRowsIdeal : Cert.RowsIdeal.Facts) (hRowsReferenceIdeal : Cert.RowsReferenceIdeal.Facts) (hNearest : Cert.Nearest.Facts) (hNearestIdeal : Cert.NearestIdeal.Facts) (hNearestReferenceIdeal : Cert.NearestReferenceIdeal.Facts) (hPre_rows_in_range : Cert.Pre_rows_in_range.Facts) (hPre_candidates_in_range : Cert.Pre_candidates_in_range.Facts) (hPre_places_in_range : Cert.Pre_places_in_range.Facts) (hPre_supers_below_infinity : Cert.Pre_supers_below_infinity.Facts) (hPre_groups_distinct : Cert.Pre_groups_distinct.Facts) (hPre_rows_distinct : Cert.Pre_rows_distinct.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ quiescent_Gather (hGather := hGather) (hPre_candidates_in_range := hPre_candidates_in_range)
    ∧ quiescent_GatherIdeal (hGatherIdeal := hGatherIdeal) (hPre_candidates_in_range := hPre_candidates_in_range)
    ∧ quiescent_GatherReferenceIdeal (hGatherReferenceIdeal := hGatherReferenceIdeal)
    ∧ quiescent_GatherReferenceIdeal_pre_candidates_in_range (hGatherReferenceIdeal := hGatherReferenceIdeal) (hPre_candidates_in_range := hPre_candidates_in_range)
    ∧ quiescent_Minima (hMinima := hMinima) (hPre_places_in_range := hPre_places_in_range)
    ∧ quiescent_MinimaIdeal (hMinimaIdeal := hMinimaIdeal) (hPre_places_in_range := hPre_places_in_range)
    ∧ quiescent_MinimaReferenceIdeal (hMinimaReferenceIdeal := hMinimaReferenceIdeal)
    ∧ quiescent_MinimaReferenceIdeal_pre_places_in_range (hMinimaReferenceIdeal := hMinimaReferenceIdeal) (hPre_places_in_range := hPre_places_in_range)
    ∧ quiescent_Groups (hGroups := hGroups)
    ∧ quiescent_GroupsIdeal (hGroupsIdeal := hGroupsIdeal)
    ∧ quiescent_GroupsReferenceIdeal (hGroupsReferenceIdeal := hGroupsReferenceIdeal)
    ∧ quiescent_Supers (hSupers := hSupers)
    ∧ quiescent_SupersIdeal (hSupersIdeal := hSupersIdeal)
    ∧ quiescent_SupersIdeal_pre_supers_below_infinity (hSupersIdeal := hSupersIdeal) (hPre_supers_below_infinity := hPre_supers_below_infinity)
    ∧ quiescent_SupersReferenceIdeal (hSupersReferenceIdeal := hSupersReferenceIdeal)
    ∧ quiescent_SupersReferenceIdeal_pre_supers_below_infinity (hSupersReferenceIdeal := hSupersReferenceIdeal) (hPre_supers_below_infinity := hPre_supers_below_infinity)
    ∧ quiescent_Rows (hRows := hRows)
    ∧ quiescent_RowsIdeal (hRowsIdeal := hRowsIdeal)
    ∧ quiescent_RowsIdeal_pre_groups_distinct (hRowsIdeal := hRowsIdeal) (hPre_groups_distinct := hPre_groups_distinct)
    ∧ quiescent_RowsReferenceIdeal (hRowsReferenceIdeal := hRowsReferenceIdeal)
    ∧ quiescent_RowsReferenceIdeal_pre_groups_distinct (hRowsReferenceIdeal := hRowsReferenceIdeal) (hPre_groups_distinct := hPre_groups_distinct)
    ∧ quiescent_Nearest (hNearest := hNearest)
    ∧ quiescent_NearestIdeal (hNearestIdeal := hNearestIdeal)
    ∧ quiescent_NearestIdeal_pre_rows_distinct (hNearestIdeal := hNearestIdeal) (hPre_rows_distinct := hPre_rows_distinct)
    ∧ quiescent_NearestReferenceIdeal (hNearestReferenceIdeal := hNearestReferenceIdeal)
    ∧ quiescent_NearestReferenceIdeal_pre_rows_distinct (hNearestReferenceIdeal := hNearestReferenceIdeal) (hPre_rows_distinct := hPre_rows_distinct)
    ∧ preserves_Kernel_KernelIdeal
    ∧ algebraic_KernelIdeal_ReferenceIdeal (hKernelIdeal := hKernelIdeal) (hReferenceIdeal := hReferenceIdeal) (hPre_rows_in_range := hPre_rows_in_range)
    ∧ preserves_Gather_GatherIdeal
    ∧ algebraic_GatherIdeal_GatherReferenceIdeal (hGatherIdeal := hGatherIdeal) (hGatherReferenceIdeal := hGatherReferenceIdeal) (hPre_candidates_in_range := hPre_candidates_in_range)
    ∧ preserves_Minima_MinimaIdeal
    ∧ algebraic_MinimaIdeal_MinimaReferenceIdeal (hMinimaIdeal := hMinimaIdeal) (hMinimaReferenceIdeal := hMinimaReferenceIdeal) (hPre_places_in_range := hPre_places_in_range)
    ∧ preserves_Groups_GroupsIdeal
    ∧ algebraic_GroupsIdeal_GroupsReferenceIdeal (hGroupsIdeal := hGroupsIdeal) (hGroupsReferenceIdeal := hGroupsReferenceIdeal)
    ∧ preserves_Supers_SupersIdeal
    ∧ algebraic_SupersIdeal_SupersReferenceIdeal_pre_supers_below_infinity (hSupersIdeal := hSupersIdeal) (hSupersReferenceIdeal := hSupersReferenceIdeal) (hPre_supers_below_infinity := hPre_supers_below_infinity)
    ∧ preserves_Rows_RowsIdeal
    ∧ algebraic_RowsIdeal_RowsReferenceIdeal_pre_groups_distinct (hRowsIdeal := hRowsIdeal) (hRowsReferenceIdeal := hRowsReferenceIdeal) (hPre_groups_distinct := hPre_groups_distinct)
    ∧ preserves_Nearest_NearestIdeal
    ∧ algebraic_NearestIdeal_NearestReferenceIdeal_pre_rows_distinct (hNearestIdeal := hNearestIdeal) (hNearestReferenceIdeal := hNearestReferenceIdeal) (hPre_rows_distinct := hPre_rows_distinct)
-- ==== Pre_candidates_in_range.lean ====
abbrev S100000x128 : Shape := ⟨2, ![100000, 128]⟩
abbrev S80x1024 : Shape := ⟨2, ![80, 1024]⟩
abbrev S_ : Shape := ⟨0, ![]⟩

class Facts : Prop where
  bcast_S_S80x1024 : S_.BroadcastsInDim S80x1024 (![] : Fin 0 → Fin S80x1024.rank)

variable [Facts]

def fn {F : FTy → Type} [FloatOps F] (main_arg0 : FVec F S100000x128 .f32) (main_arg1 : IVec S80x1024 32) : IVec S80x1024 1 :=
  let main_c : IVec S_ 32 := constantI S_ 32 0#32
  let main_v0 : IVec S80x1024 32 := broadcastInDim S80x1024 ![] bcast_S_S80x1024 main_c
  let main_v1 : IVec S80x1024 1 := cmpi .sge main_arg1 main_v0
  let main_c_0 : IVec S_ 32 := constantI S_ 32 100000#32
  let main_v2 : IVec S80x1024 32 := broadcastInDim S80x1024 ![] bcast_S_S80x1024 main_c_0
  let main_v3 : IVec S80x1024 1 := cmpi .slt main_arg1 main_v2
  let main_v4 : IVec S80x1024 1 := andi main_v1 main_v3
  main_v4
-- ==== Pre_groups_distinct.lean ====
abbrev S10x10x1024 : Shape := ⟨3, ![10, 10, 1024]⟩
abbrev S100x1024 : Shape := ⟨2, ![100, 1024]⟩
abbrev S100 : Shape := ⟨1, ![100]⟩
abbrev S100x1x1 : Shape := ⟨3, ![100, 1, 1]⟩
abbrev S1x100x1 : Shape := ⟨3, ![1, 100, 1]⟩
abbrev S100x100x1 : Shape := ⟨3, ![100, 100, 1]⟩
abbrev S100x1x1024 : Shape := ⟨3, ![100, 1, 1024]⟩
abbrev S1x100x1024 : Shape := ⟨3, ![1, 100, 1024]⟩
abbrev S100x100x1024 : Shape := ⟨3, ![100, 100, 1024]⟩
abbrev S_ : Shape := ⟨0, ![]⟩

class Facts : Prop where
  shapeCasts_S10x10x1024_S100x1024 : S10x10x1024.ShapeCasts S100x1024
  bcast_S100_S100x1x1_0 : S100.BroadcastsInDim S100x1x1 (![0] : Fin 1 → Fin S100x1x1.rank)
  bcast_S100_S1x100x1_1 : S100.BroadcastsInDim S1x100x1 (![1] : Fin 1 → Fin S1x100x1.rank)
  bcast_S100x1x1_S100x100x1_0_1_2 : S100x1x1.BroadcastsInDim S100x100x1 (![0, 1, 2] : Fin 3 → Fin S100x100x1.rank)
  bcast_S1x100x1_S100x100x1_0_1_2 : S1x100x1.BroadcastsInDim S100x100x1 (![0, 1, 2] : Fin 3 → Fin S100x100x1.rank)
  bcast_S100x1024_S100x1x1024_0_2 : S100x1024.BroadcastsInDim S100x1x1024 (![0, 2] : Fin 2 → Fin S100x1x1024.rank)
  bcast_S100x1024_S1x100x1024_1_2 : S100x1024.BroadcastsInDim S1x100x1024 (![1, 2] : Fin 2 → Fin S1x100x1024.rank)
  bcast_S100x1x1024_S100x100x1024_0_1_2 : S100x1x1024.BroadcastsInDim S100x100x1024 (![0, 1, 2] : Fin 3 → Fin S100x100x1024.rank)
  bcast_S1x100x1024_S100x100x1024_0_1_2 : S1x100x1024.BroadcastsInDim S100x100x1024 (![0, 1, 2] : Fin 3 → Fin S100x100x1024.rank)
  bcast_S100x100x1_S100x100x1024_0_1_2 : S100x100x1.BroadcastsInDim S100x100x1024 (![0, 1, 2] : Fin 3 → Fin S100x100x1024.rank)
  shapeCasts_S10x10x1024_S100x1x1024 : S10x10x1024.ShapeCasts S100x1x1024
  bcast_S_S100x1x1024 : S_.BroadcastsInDim S100x1x1024 (![] : Fin 0 → Fin S100x1x1024.rank)

variable [Facts]

def fn {F : FTy → Type} [FloatOps F] (main_arg0 : FVec F S10x10x1024 .f32) (main_arg1 : IVec S10x10x1024 32) : IVec S100x100x1024 1 :=
  let main_v0 : IVec S100x1024 32 := shapeCast S100x1024 main_arg1 shapeCasts_S10x10x1024_S100x1024
  let main_v1 : IVec S100 32 := iotaInDim S100 32 0
  let main_v2 : IVec S100x1x1 32 := broadcastInDim S100x1x1 ![0] bcast_S100_S100x1x1_0 main_v1
  let main_v3 : IVec S100 32 := iotaInDim S100 32 0
  let main_v4 : IVec S1x100x1 32 := broadcastInDim S1x100x1 ![1] bcast_S100_S1x100x1_1 main_v3
  let main_v5 : IVec S100x100x1 32 := broadcastInDim S100x100x1 ![0, 1, 2] bcast_S100x1x1_S100x100x1_0_1_2 main_v2
  let main_v6 : IVec S100x100x1 32 := broadcastInDim S100x100x1 ![0, 1, 2] bcast_S1x100x1_S100x100x1_0_1_2 main_v4
  let main_v7 : IVec S100x100x1 1 := cmpi .eq main_v5 main_v6
  let main_v8 : IVec S100x1x1024 32 := broadcastInDim S100x1x1024 ![0, 2] bcast_S100x1024_S100x1x1024_0_2 main_v0
  let main_v9 : IVec S1x100x1024 32 := broadcastInDim S1x100x1024 ![1, 2] bcast_S100x1024_S1x100x1024_1_2 main_v0
  let main_v10 : IVec S100x100x1024 32 := broadcastInDim S100x100x1024 ![0, 1, 2] bcast_S100x1x1024_S100x100x1024_0_1_2 main_v8
  let main_v11 : IVec S100x100x1024 32 := broadcastInDim S100x100x1024 ![0, 1, 2] bcast_S1x100x1024_S100x100x1024_0_1_2 main_v9
  let main_v12 : IVec S100x100x1024 1 := cmpi .ne main_v10 main_v11
  let main_v13 : IVec S100x100x1024 1 := broadcastInDim S100x100x1024 ![0, 1, 2] bcast_S100x100x1_S100x100x1024_0_1_2 main_v7
  let main_v14 : IVec S100x100x1024 1 := ori main_v13 main_v12
  let main_v15 : FVec F S100x1x1024 .f32 := shapeCast S100x1x1024 main_arg0 shapeCasts_S10x10x1024_S100x1x1024
  let main_cst : FVec F S_ .f32 := constant S_ .f32 0x7F800000#32
  let main_v16 : FVec F S100x1x1024 .f32 := broadcastInDim S100x1x1024 ![] bcast_S_S100x1x1024 main_cst
  let main_v17 : IVec S100x1x1024 1 := cmpf .olt main_v15 main_v16
  let main_v18 : IVec S100x100x1024 1 := broadcastInDim S100x100x1024 ![0, 1, 2] bcast_S100x1x1024_S100x100x1024_0_1_2 main_v17
  let main_v19 : IVec S100x100x1024 1 := andi main_v14 main_v18
  main_v19
-- ==== Pre_places_in_range.lean ====
abbrev S25x500x1024 : Shape := ⟨3, ![25, 500, 1024]⟩
abbrev S10x10x1024 : Shape := ⟨3, ![10, 10, 1024]⟩
abbrev S_ : Shape := ⟨0, ![]⟩

class Facts : Prop where
  bcast_S_S10x10x1024 : S_.BroadcastsInDim S10x10x1024 (![] : Fin 0 → Fin S10x10x1024.rank)

variable [Facts]

def fn {F : FTy → Type} [FloatOps F] (main_arg0 : FVec F S25x500x1024 .f32) (main_arg1 : IVec S10x10x1024 32) : IVec S10x10x1024 1 :=
  let main_c : IVec S_ 32 := constantI S_ 32 0#32
  let main_v0 : IVec S10x10x1024 32 := broadcastInDim S10x10x1024 ![] bcast_S_S10x10x1024 main_c
  let main_v1 : IVec S10x10x1024 1 := cmpi .sge main_arg1 main_v0
  let main_c_0 : IVec S_ 32 := constantI S_ 32 12800000#32
  let main_v2 : IVec S10x10x1024 32 := broadcastInDim S10x10x1024 ![] bcast_S_S10x10x1024 main_c_0
  let main_v3 : IVec S10x10x1024 1 := cmpi .slt main_arg1 main_v2
  let main_v4 : IVec S10x10x1024 1 := andi main_v1 main_v3
  main_v4
-- ==== Pre_rows_distinct.lean ====
abbrev S80x1024x128 : Shape := ⟨3, ![80, 1024, 128]⟩
abbrev S1024x128 : Shape := ⟨2, ![1024, 128]⟩
abbrev S80x1024 : Shape := ⟨2, ![80, 1024]⟩
abbrev S80 : Shape := ⟨1, ![80]⟩
abbrev S80x1x1 : Shape := ⟨3, ![80, 1, 1]⟩
abbrev S1x80x1 : Shape := ⟨3, ![1, 80, 1]⟩
abbrev S80x80x1 : Shape := ⟨3, ![80, 80, 1]⟩
abbrev S80x1x1024 : Shape := ⟨3, ![80, 1, 1024]⟩
abbrev S1x80x1024 : Shape := ⟨3, ![1, 80, 1024]⟩
abbrev S80x80x1024 : Shape := ⟨3, ![80, 80, 1024]⟩
abbrev S_ : Shape := ⟨0, ![]⟩
abbrev S1024 : Shape := ⟨1, ![1024]⟩
abbrev S1x1x1024 : Shape := ⟨3, ![1, 1, 1024]⟩

class Facts : Prop where
  bcast_S80_S80x1x1_0 : S80.BroadcastsInDim S80x1x1 (![0] : Fin 1 → Fin S80x1x1.rank)
  bcast_S80_S1x80x1_1 : S80.BroadcastsInDim S1x80x1 (![1] : Fin 1 → Fin S1x80x1.rank)
  bcast_S80x1x1_S80x80x1_0_1_2 : S80x1x1.BroadcastsInDim S80x80x1 (![0, 1, 2] : Fin 3 → Fin S80x80x1.rank)
  bcast_S1x80x1_S80x80x1_0_1_2 : S1x80x1.BroadcastsInDim S80x80x1 (![0, 1, 2] : Fin 3 → Fin S80x80x1.rank)
  bcast_S80x1024_S80x1x1024_0_2 : S80x1024.BroadcastsInDim S80x1x1024 (![0, 2] : Fin 2 → Fin S80x1x1024.rank)
  bcast_S80x1024_S1x80x1024_1_2 : S80x1024.BroadcastsInDim S1x80x1024 (![1, 2] : Fin 2 → Fin S1x80x1024.rank)
  bcast_S80x1x1024_S80x80x1024_0_1_2 : S80x1x1024.BroadcastsInDim S80x80x1024 (![0, 1, 2] : Fin 3 → Fin S80x80x1024.rank)
  bcast_S1x80x1024_S80x80x1024_0_1_2 : S1x80x1024.BroadcastsInDim S80x80x1024 (![0, 1, 2] : Fin 3 → Fin S80x80x1024.rank)
  bcast_S80x80x1_S80x80x1024_0_1_2 : S80x80x1.BroadcastsInDim S80x80x1024 (![0, 1, 2] : Fin 3 → Fin S80x80x1024.rank)
  reducesTo_S80x1024x128_S80x1024_d2 : S80x1024x128.ReducesTo [2] S80x1024
  h_S_ : 0 < S_.numel
  bcast_S_S80x1x1024 : S_.BroadcastsInDim S80x1x1024 (![] : Fin 0 → Fin S80x1x1024.rank)
  reducesTo_S1024x128_S1024_d1 : S1024x128.ReducesTo [1] S1024
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S80x1x1024_0_1_2 : S1x1x1024.BroadcastsInDim S80x1x1024 (![0, 1, 2] : Fin 3 → Fin S80x1x1024.rank)

variable [Facts]

def fn_part1 {F : FTy → Type} [FloatOps F] (main_v13 : IVec S80x80x1024 1) (main_v18 : IVec S80x1x1024 1) (main_v20 : FVec F S1024 .f32) : IVec S80x80x1024 1 :=
  let main_cst_2 : FVec F S_ .f32 := constant S_ .f32 0x7F800000#32
  let main_v21 : FVec F S1024 .f32 := broadcastInDim S1024 ![] bcast_S_S1024 main_cst_2
  let main_v22 : IVec S1024 1 := cmpf .olt main_v20 main_v21
  let main_v23 : IVec S1x1x1024 1 := broadcastInDim S1x1x1024 ![2] bcast_S1024_S1x1x1024_2 main_v22
  let main_v24 : IVec S80x1x1024 1 := broadcastInDim S80x1x1024 ![0, 1, 2] bcast_S1x1x1024_S80x1x1024_0_1_2 main_v23
  let main_v25 : IVec S80x1x1024 1 := andi main_v18 main_v24
  let main_v26 : IVec S80x80x1024 1 := broadcastInDim S80x80x1024 ![0, 1, 2] bcast_S80x1x1024_S80x80x1024_0_1_2 main_v25
  let main_v27 : IVec S80x80x1024 1 := andi main_v13 main_v26
  main_v27

def fn {F : FTy → Type} [FloatOps F] (main_arg0 : FVec F S80x1024x128 .f32) (main_arg1 : FVec F S1024x128 .f32) (main_arg2 : IVec S80x1024 32) : IVec S80x80x1024 1 :=
  let main_v0 : IVec S80 32 := iotaInDim S80 32 0
  let main_v1 : IVec S80x1x1 32 := broadcastInDim S80x1x1 ![0] bcast_S80_S80x1x1_0 main_v0
  let main_v2 : IVec S80 32 := iotaInDim S80 32 0
  let main_v3 : IVec S1x80x1 32 := broadcastInDim S1x80x1 ![1] bcast_S80_S1x80x1_1 main_v2
  let main_v4 : IVec S80x80x1 32 := broadcastInDim S80x80x1 ![0, 1, 2] bcast_S80x1x1_S80x80x1_0_1_2 main_v1
  let main_v5 : IVec S80x80x1 32 := broadcastInDim S80x80x1 ![0, 1, 2] bcast_S1x80x1_S80x80x1_0_1_2 main_v3
  let main_v6 : IVec S80x80x1 1 := cmpi .eq main_v4 main_v5
  let main_v7 : IVec S80x1x1024 32 := broadcastInDim S80x1x1024 ![0, 2] bcast_S80x1024_S80x1x1024_0_2 main_arg2
  let main_v8 : IVec S1x80x1024 32 := broadcastInDim S1x80x1024 ![1, 2] bcast_S80x1024_S1x80x1024_1_2 main_arg2
  let main_v9 : IVec S80x80x1024 32 := broadcastInDim S80x80x1024 ![0, 1, 2] bcast_S80x1x1024_S80x80x1024_0_1_2 main_v7
  let main_v10 : IVec S80x80x1024 32 := broadcastInDim S80x80x1024 ![0, 1, 2] bcast_S1x80x1024_S80x80x1024_0_1_2 main_v8
  let main_v11 : IVec S80x80x1024 1 := cmpi .ne main_v9 main_v10
  let main_v12 : IVec S80x80x1024 1 := broadcastInDim S80x80x1024 ![0, 1, 2] bcast_S80x80x1_S80x80x1024_0_1_2 main_v6
  let main_v13 : IVec S80x80x1024 1 := ori main_v12 main_v11
  let main_v14 : FVec F S80x1024x128 .f32 := Host.absf main_arg0
  let main_cst : FVec F S_ .f32 := constant S_ .f32 0xFF800000#32
  let main_v15 : FVec F S80x1024 .f32 := (fun x v => Host.reduce FloatOps.maximumf x v reducesTo_S80x1024x128_S80x1024_d2 h_S_) main_v14 main_cst
  let main_v16 : FVec F S80x1x1024 .f32 := broadcastInDim S80x1x1024 ![0, 2] bcast_S80x1024_S80x1x1024_0_2 main_v15
  let main_cst_0 : FVec F S_ .f32 := constant S_ .f32 0x7F800000#32
  let main_v17 : FVec F S80x1x1024 .f32 := broadcastInDim S80x1x1024 ![] bcast_S_S80x1x1024 main_cst_0
  let main_v18 : IVec S80x1x1024 1 := cmpf .olt main_v16 main_v17
  let main_v19 : FVec F S1024x128 .f32 := Host.absf main_arg1
  let main_cst_1 : FVec F S_ .f32 := constant S_ .f32 0xFF800000#32
  let main_v20 : FVec F S1024 .f32 := (fun x v => Host.reduce FloatOps.maximumf x v reducesTo_S1024x128_S1024_d1 h_S_) main_v19 main_cst_1
  fn_part1 (F := F) main_v13 main_v18 main_v20
-- ==== Pre_rows_in_range.lean ====
abbrev S1024x128 : Shape := ⟨2, ![1024, 128]⟩
abbrev S100000x128 : Shape := ⟨2, ![100000, 128]⟩
abbrev S1024x10 : Shape := ⟨2, ![1024, 10]⟩
abbrev S384x128 : Shape := ⟨2, ![384, 128]⟩
abbrev S384 : Shape := ⟨1, ![384]⟩
abbrev S128x128 : Shape := ⟨2, ![128, 128]⟩
abbrev S128 : Shape := ⟨1, ![128]⟩
abbrev S_ : Shape := ⟨0, ![]⟩

class Facts : Prop where
  bcast_S_S1024x10 : S_.BroadcastsInDim S1024x10 (![] : Fin 0 → Fin S1024x10.rank)

variable [Facts]

def fn {F : FTy → Type} [FloatOps F] (main_arg0 : FVec F S1024x128 .f32) (main_arg1 : FVec F S100000x128 .f32) (main_arg2 : FVec F S100000x128 .f32) (main_arg3 : IVec S1024x10 32) (main_arg4 : FVec F S384x128 .f32) (main_arg5 : FVec F S384 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) : IVec S1024x10 1 :=
  let main_c : IVec S_ 32 := constantI S_ 32 0#32
  let main_v0 : IVec S1024x10 32 := broadcastInDim S1024x10 ![] bcast_S_S1024x10 main_c
  let main_v1 : IVec S1024x10 1 := cmpi .sge main_arg3 main_v0
  let main_c_0 : IVec S_ 32 := constantI S_ 32 100000#32
  let main_v2 : IVec S1024x10 32 := broadcastInDim S1024x10 ![] bcast_S_S1024x10 main_c_0
  let main_v3 : IVec S1024x10 1 := cmpi .slt main_arg3 main_v2
  let main_v4 : IVec S1024x10 1 := andi main_v1 main_v3
  main_v4
-- ==== Pre_supers_below_infinity.lean ====
abbrev S25x50x1024 : Shape := ⟨3, ![25, 50, 1024]⟩
abbrev S_ : Shape := ⟨0, ![]⟩

class Facts : Prop where
  bcast_S_S25x50x1024 : S_.BroadcastsInDim S25x50x1024 (![] : Fin 0 → Fin S25x50x1024.rank)

variable [Facts]

def fn {F : FTy → Type} [FloatOps F] (main_arg0 : FVec F S25x50x1024 .f32) : IVec S25x50x1024 1 :=
  let main_cst : FVec F S_ .f32 := constant S_ .f32 0x7F800000#32
  let main_v0 : FVec F S25x50x1024 .f32 := broadcastInDim S25x50x1024 ![] bcast_S_S25x50x1024 main_cst
  let main_v1 : IVec S25x50x1024 1 := cmpf .olt main_arg0 main_v0
  main_v1
-- ==== Kernel.lean ====
abbrev S1024x128 : Shape := ⟨2, ![1024, 128]⟩
abbrev S100000x128 : Shape := ⟨2, ![100000, 128]⟩
abbrev S1024x10 : Shape := ⟨2, ![1024, 10]⟩
abbrev S384x128 : Shape := ⟨2, ![384, 128]⟩
abbrev S384 : Shape := ⟨1, ![384]⟩
abbrev S128x128 : Shape := ⟨2, ![128, 128]⟩
abbrev S128 : Shape := ⟨1, ![128]⟩
abbrev S10240 : Shape := ⟨1, ![10240]⟩
abbrev S10240x128 : Shape := ⟨2, ![10240, 128]⟩
abbrev S320 : Shape := ⟨1, ![320]⟩
abbrev S320x128 : Shape := ⟨2, ![320, 128]⟩
abbrev S_ : Shape := ⟨0, ![]⟩
abbrev S1x128 : Shape := ⟨2, ![1, 128]⟩
abbrev S256x128 : Shape := ⟨2, ![256, 128]⟩
abbrev S2560x128 : Shape := ⟨2, ![2560, 128]⟩
abbrev S256x10x128 : Shape := ⟨3, ![256, 10, 128]⟩
abbrev S256x16 : Shape := ⟨2, ![256, 16]⟩
abbrev S256x10x16 : Shape := ⟨3, ![256, 10, 16]⟩
abbrev S256x1x16 : Shape := ⟨3, ![256, 1, 16]⟩
abbrev S256x10 : Shape := ⟨2, ![256, 10]⟩
abbrev S256 : Shape := ⟨1, ![256]⟩
abbrev S256x1 : Shape := ⟨2, ![256, 1]⟩
abbrev S256x10x1 : Shape := ⟨3, ![256, 10, 1]⟩

abbrev nBuf : Table → Nat
  | .hbm => 36
  | .local .tc .vmem => 24
  | .local .scVector .vmem => 2
  | _ => 0

abbrev bufTy : (tb : Table) → Fin (nBuf tb) → BufTy
  | .hbm, ⟨0, _⟩ => ⟨S1024x128, .f32⟩
  | .hbm, ⟨1, _⟩ => ⟨S100000x128, .f32⟩
  | .hbm, ⟨2, _⟩ => ⟨S100000x128, .f32⟩
  | .hbm, ⟨3, _⟩ => ⟨S1024x10, .i32⟩
  | .hbm, ⟨4, _⟩ => ⟨S384x128, .f32⟩
  | .hbm, ⟨5, _⟩ => ⟨S384, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S10240, .i32⟩
  | .hbm, ⟨17, _⟩ => ⟨S10240x128, .f32⟩
  | .hbm, ⟨18, _⟩ => ⟨S10240x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1024x128, .f32⟩
  | .local .tc .vmem, ⟨0, _⟩ => ⟨S256x128, .f32⟩
  | .local .tc .vmem, ⟨1, _⟩ => ⟨S256x128, .f32⟩
  | .local .tc .vmem, ⟨2, _⟩ => ⟨S2560x128, .f32⟩
  | .local .tc .vmem, ⟨3, _⟩ => ⟨S2560x128, .f32⟩
  | .local .tc .vmem, ⟨4, _⟩ => ⟨S2560x128, .f32⟩
  | .local .tc .vmem, ⟨5, _⟩ => ⟨S2560x128, .f32⟩
  | .local .tc .vmem, ⟨6, _⟩ => ⟨S128x128, .f32⟩
  | .local .tc .vmem, ⟨7, _⟩ => ⟨S128x128, .f32⟩
  | .local .tc .vmem, ⟨8, _⟩ => ⟨S128x128, .f32⟩
  | .local .tc .vmem, ⟨9, _⟩ => ⟨S1x128, .f32⟩
  | .local .tc .vmem, ⟨10, _⟩ => ⟨S1x128, .f32⟩
  | .local .tc .vmem, ⟨11, _⟩ => ⟨S1x128, .f32⟩
  | .local .tc .vmem, ⟨12, _⟩ => ⟨S128x128, .f32⟩
  | .local .tc .vmem, ⟨13, _⟩ => ⟨S1x128, .f32⟩
  | .local .tc .vmem, ⟨14, _⟩ => ⟨S128x128, .f32⟩
  | .local .tc .vmem, ⟨15, _⟩ => ⟨S1x128, .f32⟩
  | .local .tc .vmem, ⟨16, _⟩ => ⟨S128x128, .f32⟩
  | .local .tc .vmem, ⟨17, _⟩ => ⟨S1x128, .f32⟩
  | .local .tc .vmem, ⟨18, _⟩ => ⟨S1x128, .f32⟩
  | .local .tc .vmem, ⟨19, _⟩ => ⟨S1x128, .f32⟩
  | .local .tc .vmem, ⟨20, _⟩ => ⟨S1x128, .f32⟩
  | .local .tc .vmem, ⟨21, _⟩ => ⟨S1x128, .f32⟩
  | .local .tc .vmem, ⟨22, _⟩ => ⟨S256x128, .f32⟩
  | .local .tc .vmem, ⟨23, _⟩ => ⟨S256x128, .f32⟩
  | .local .scVector .vmem, ⟨0, _⟩ => ⟨S320, .i32⟩
  | .local .scVector .vmem, ⟨1, _⟩ => ⟨S320x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_arg1_scv : Ref sig .scVector := ⟨.hbm, 1, rfl⟩
abbrev main_arg2_scv : Ref sig .scVector := ⟨.hbm, 2, rfl⟩
abbrev main_v0_scv : Ref sig .scVector := ⟨.hbm, 16, rfl⟩
abbrev main_v1_0_scv : Ref sig .scVector := ⟨.hbm, 17, rfl⟩
abbrev main_v1_1_scv : Ref sig .scVector := ⟨.hbm, 18, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg13_0 : Ref sig .tc := ⟨.vmem, 16, rfl⟩
abbrev cc1_stg14_0 : Ref sig .tc := ⟨.vmem, 17, rfl⟩
abbrev cc1_stg15_0 : Ref sig .tc := ⟨.vmem, 18, rfl⟩
abbrev cc1_stg16_0 : Ref sig .tc := ⟨.vmem, 19, rfl⟩
abbrev cc1_stg17_0 : Ref sig .tc := ⟨.vmem, 20, rfl⟩
abbrev cc1_stg18_0 : Ref sig .tc := ⟨.vmem, 21, rfl⟩
abbrev cc1_stg19_0 : Ref sig .tc := ⟨.vmem, 22, rfl⟩
abbrev cc1_stg19_1 : Ref sig .tc := ⟨.vmem, 23, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem19_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_7_r1 : BitVec 32 := 0#32
  ![v2.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2560x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2560x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 2 → Memref sig .tc .vmem S256x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x128 : Shape := ⟨2, ![1024, 128]⟩
abbrev S100000x128 : Shape := ⟨2, ![100000, 128]⟩
abbrev S1024x10 : Shape := ⟨2, ![1024, 10]⟩
abbrev S384x128 : Shape := ⟨2, ![384, 128]⟩
abbrev S384 : Shape := ⟨1, ![384]⟩
abbrev S128x128 : Shape := ⟨2, ![128, 128]⟩
abbrev S128 : Shape := ⟨1, ![128]⟩
abbrev S_ : Shape := ⟨0, ![]⟩
abbrev S1024x10x1 : Shape := ⟨3, ![1024, 10, 1]⟩
abbrev S1024x10x128 : Shape := ⟨3, ![1024, 10, 128]⟩
abbrev S1024x1x128 : Shape := ⟨3, ![1024, 1, 128]⟩
abbrev S1x1x128 : Shape := ⟨3, ![1, 1, 128]⟩
abbrev S1024x1x8x16 : Shape := ⟨4, ![1024, 1, 8, 16]⟩
abbrev S1024x8x1x16 : Shape := ⟨4, ![1024, 8, 1, 16]⟩
abbrev S1024x10x8x16 : Shape := ⟨4, ![1024, 10, 8, 16]⟩
abbrev S1024x8x10x16 : Shape := ⟨4, ![1024, 8, 10, 16]⟩
abbrev S1024x8x1x10 : Shape := ⟨4, ![1024, 8, 1, 10]⟩
abbrev S1024x8x1 : Shape := ⟨3, ![1024, 8, 1]⟩
abbrev S1024x8x1x1 : Shape := ⟨4, ![1024, 8, 1, 1]⟩
abbrev S1024x1 : Shape := ⟨2, ![1024, 1]⟩
abbrev S1024x1x1 : Shape := ⟨3, ![1024, 1, 1]⟩

abbrev nBuf : Space → Nat
  | .hbm => 197
  | .vmem => 0
  | .smem => 0
  | _ => 0

abbrev hbmTy0_0 (i : Nat) : BufTy := match i % 128 with
  | 0 => ⟨S1024x128, .f32⟩
  | 1 => ⟨S100000x128, .f32⟩
  | 2 => ⟨S100000x128, .f32⟩
  | 3 => ⟨S1024x10, .i32⟩
  | 4 => ⟨S384x128, .f32⟩
  | 5 => ⟨S384, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S_, .i32⟩
  | 17 => ⟨S1024x10, .i32⟩
  | 18 => ⟨S1024x10, .i1⟩
  | 19 => ⟨S_, .i32⟩
  | 20 => ⟨S1024x10, .i32⟩
  | 21 => ⟨S1024x10, .i32⟩
  | 22 => ⟨S1024x10, .i32⟩
  | 23 => ⟨S1024x10x1, .i32⟩
  | 24 => ⟨S1024x10x128, .f32⟩
  | 25 => ⟨S_, .i32⟩
  | 26 => ⟨S1024x10, .i32⟩
  | 27 => ⟨S1024x10, .i1⟩
  | 28 => ⟨S_, .i32⟩
  | 29 => ⟨S1024x10, .i32⟩
  | 30 => ⟨S1024x10, .i32⟩
  | 31 => ⟨S1024x10, .i32⟩
  | 32 => ⟨S1024x10x1, .i32⟩
  | 33 => ⟨S1024x10x128, .f32⟩
  | 34 => ⟨S1024x1x128, .f32⟩
  | 35 => ⟨S128x128, .f32⟩
  | 36 => ⟨S128x128, .f32⟩
  | 37 => ⟨S128x128, .f32⟩
  | 38 => ⟨S128, .f32⟩
  | 39 => ⟨S128, .f32⟩
  | 40 => ⟨S128, .f32⟩
  | 41 => ⟨S128x128, .f32⟩
  | 42 => ⟨S1024x1x128, .f32⟩
  | 43 => ⟨S1x1x128, .f32⟩
  | 44 => ⟨S1024x1x128, .f32⟩
  | 45 => ⟨S1024x1x128, .f32⟩
  | 46 => ⟨S128x128, .f32⟩
  | 47 => ⟨S1024x10x128, .f32⟩
  | 48 => ⟨S1x1x128, .f32⟩
  | 49 => ⟨S1024x10x128, .f32⟩
  | 50 => ⟨S1024x10x128, .f32⟩
  | 51 => ⟨S128x128, .f32⟩
  | 52 => ⟨S1024x10x128, .f32⟩
  | 53 => ⟨S1x1x128, .f32⟩
  | 54 => ⟨S1024x10x128, .f32⟩
  | 55 => ⟨S1024x10x128, .f32⟩
  | 56 => ⟨S1024x1x8x16, .f32⟩
  | 57 => ⟨S1024x8x1x16, .f32⟩
  | 58 => ⟨S1024x10x8x16, .f32⟩
  | 59 => ⟨S1024x8x10x16, .f32⟩
  | 60 => ⟨S1024x10x8x16, .f32⟩
  | 61 => ⟨S1024x8x10x16, .f32⟩
  | 62 => ⟨S1024x8x1x10, .f32⟩
  | 63 => ⟨S_, .f32⟩
  | 64 => ⟨S_, .f32⟩
  | 65 => ⟨S1024x8x1x10, .f32⟩
  | 66 => ⟨S1024x8x1x10, .f32⟩
  | 67 => ⟨S_, .f32⟩
  | 68 => ⟨S1024x8x1, .f32⟩
  | 69 => ⟨S_, .f32⟩
  | 70 => ⟨S1024x8x1, .f32⟩
  | 71 => ⟨S1024x8x1, .f32⟩
  | 72 => ⟨S1024x8x1x1, .f32⟩
  | 73 => ⟨S1024x8x1x10, .f32⟩
  | 74 => ⟨S1024x8x1x10, .f32⟩
  | 75 => ⟨S1024x8x1x10, .f32⟩
  | 76 => ⟨S_, .f32⟩
  | 77 => ⟨S1024x8x1, .f32⟩
  | 78 => ⟨S1024x8x1x1, .f32⟩
  | 79 => ⟨S1024x8x1x10, .f32⟩
  | 80 => ⟨S1024x8x1x10, .f32⟩
  | 81 => ⟨S1024x8x1x16, .f32⟩
  | 82 => ⟨S1024x1x8x16, .f32⟩
  | 83 => ⟨S1024x1x128, .f32⟩
  | 84 => ⟨S128x128, .f32⟩
  | 85 => ⟨S1024x1x128, .f32⟩
  | 86 => ⟨S1x1x128, .f32⟩
  | 87 => ⟨S1024x1x128, .f32⟩
  | 88 => ⟨S1024x1x128, .f32⟩
  | 89 => ⟨S1024x1x128, .f32⟩
  | 90 => ⟨S_, .f32⟩
  | 91 => ⟨S1024x1, .f32⟩
  | 92 => ⟨S1024x1x1, .f32⟩
  | 93 => ⟨S_, .f32⟩
  | 94 => ⟨S1024x1x1, .f32⟩
  | 95 => ⟨S1024x1x1, .f32⟩
  | 96 => ⟨S_, .i32⟩
  | 97 => ⟨S_, .f32⟩
  | 98 => ⟨S1024x1, .f32⟩
  | 99 => ⟨S1024x1x1, .f32⟩
  | 100 => ⟨S_, .f32⟩
  | 101 => ⟨S1024x1x1, .f32⟩
  | 102 => ⟨S1024x1x1, .f32⟩
  | 103 => ⟨S1024x1x128, .f32⟩
  | 104 => ⟨S1024x1x128, .f32⟩
  | 105 => ⟨S1024x1x128, .f32⟩
  | 106 => ⟨S_, .f32⟩
  | 107 => ⟨S_, .f32⟩
  | 108 => ⟨S_, .f32⟩
  | 109 => ⟨S_, .f32⟩
  | 110 => ⟨S1024x1, .f32⟩
  | 111 => ⟨S1024x1x1, .f32⟩
  | 112 => ⟨S1024x1x1, .f32⟩
  | 113 => ⟨S1024x1x1, .f32⟩
  | 114 => ⟨S_, .f32⟩
  | 115 => ⟨S_, .i1⟩
  | 116 => ⟨S_, .f32⟩
  | 117 => ⟨S_, .f32⟩
  | 118 => ⟨S1024x1x1, .f32⟩
  | 119 => ⟨S1024x1x1, .f32⟩
  | 120 => ⟨S1024x1x128, .f32⟩
  | 121 => ⟨S1024x1x128, .f32⟩
  | 122 => ⟨S_, .f32⟩
  | 123 => ⟨S1024x1x1, .f32⟩
  | 124 => ⟨S1024x1x1, .f32⟩
  | 125 => ⟨S1024x1x1, .f32⟩
  | 126 => ⟨S1024x1x128, .f32⟩
  | 127 => ⟨S1024x1x128, .f32⟩
  | _ => ⟨S1024x128, .f32⟩

abbrev hbmTy0_1 (i : Nat) : BufTy := match i % 128 with
  | 0 => ⟨S1x1x128, .f32⟩
  | 1 => ⟨S1024x1x128, .f32⟩
  | 2 => ⟨S1024x1x128, .f32⟩
  | 3 => ⟨S1x1x128, .f32⟩
  | 4 => ⟨S1024x1x128, .f32⟩
  | 5 => ⟨S1024x1x128, .f32⟩
  | 6 => ⟨S128x128, .f32⟩
  | 7 => ⟨S1024x1x128, .f32⟩
  | 8 => ⟨S1x1x128, .f32⟩
  | 9 => ⟨S1024x1x128, .f32⟩
  | 10 => ⟨S1024x1x128, .f32⟩
  | 11 => ⟨S_, .f32⟩
  | 12 => ⟨S1024x1x128, .f32⟩
  | 13 => ⟨S1024x1x128, .i1⟩
  | 14 => ⟨S_, .f32⟩
  | 15 => ⟨S1024x1x128, .f32⟩
  | 16 => ⟨S1024x1x128, .f32⟩
  | 17 => ⟨S1024x1x128, .f32⟩
  | 18 => ⟨S128x128, .f32⟩
  | 19 => ⟨S1024x1x128, .f32⟩
  | 20 => ⟨S1x1x128, .f32⟩
  | 21 => ⟨S1024x1x128, .f32⟩
  | 22 => ⟨S1024x1x128, .f32⟩
  | 23 => ⟨S1024x1x128, .f32⟩
  | 24 => ⟨S_, .f32⟩
  | 25 => ⟨S1024x1, .f32⟩
  | 26 => ⟨S1024x1x1, .f32⟩
  | 27 => ⟨S_, .f32⟩
  | 28 => ⟨S1024x1x1, .f32⟩
  | 29 => ⟨S1024x1x1, .f32⟩
  | 30 => ⟨S_, .i32⟩
  | 31 => ⟨S_, .f32⟩
  | 32 => ⟨S1024x1, .f32⟩
  | 33 => ⟨S1024x1x1, .f32⟩
  | 34 => ⟨S_, .f32⟩
  | 35 => ⟨S1024x1x1, .f32⟩
  | 36 => ⟨S1024x1x1, .f32⟩
  | 37 => ⟨S1024x1x128, .f32⟩
  | 38 => ⟨S1024x1x128, .f32⟩
  | 39 => ⟨S1024x1x128, .f32⟩
  | 40 => ⟨S_, .f32⟩
  | 41 => ⟨S_, .f32⟩
  | 42 => ⟨S_, .f32⟩
  | 43 => ⟨S_, .f32⟩
  | 44 => ⟨S1024x1, .f32⟩
  | 45 => ⟨S1024x1x1, .f32⟩
  | 46 => ⟨S1024x1x1, .f32⟩
  | 47 => ⟨S1024x1x1, .f32⟩
  | 48 => ⟨S_, .f32⟩
  | 49 => ⟨S_, .i1⟩
  | 50 => ⟨S_, .f32⟩
  | 51 => ⟨S_, .f32⟩
  | 52 => ⟨S1024x1x1, .f32⟩
  | 53 => ⟨S1024x1x1, .f32⟩
  | 54 => ⟨S1024x1x128, .f32⟩
  | 55 => ⟨S1024x1x128, .f32⟩
  | 56 => ⟨S_, .f32⟩
  | 57 => ⟨S1024x1x1, .f32⟩
  | 58 => ⟨S1024x1x1, .f32⟩
  | 59 => ⟨S1024x1x1, .f32⟩
  | 60 => ⟨S1024x1x128, .f32⟩
  | 61 => ⟨S1024x1x128, .f32⟩
  | 62 => ⟨S1x1x128, .f32⟩
  | 63 => ⟨S1024x1x128, .f32⟩
  | 64 => ⟨S1024x1x128, .f32⟩
  | 65 => ⟨S1x1x128, .f32⟩
  | 66 => ⟨S1024x1x128, .f32⟩
  | 67 => ⟨S1024x1x128, .f32⟩
  | 68 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_cst_4 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_5 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_6 : Ref sig .tc := ⟨.hbm, 90, rfl⟩
abbrev main_v66 : Ref sig .tc := ⟨.hbm, 91, rfl⟩
abbrev main_v67 : Ref sig .tc := ⟨.hbm, 92, rfl⟩
abbrev main_cst_7 : Ref sig .tc := ⟨.hbm, 93, rfl⟩
abbrev main_v68 : Ref sig .tc := ⟨.hbm, 94, rfl⟩
abbrev main_v69 : Ref sig .tc := ⟨.hbm, 95, rfl⟩
abbrev main_c_8 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_cst_0 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_cst_1 : Ref sig .tc := ⟨.hbm, 107, rfl⟩
abbrev main_call0_v8 : Ref sig .tc := ⟨.hbm, 108, rfl⟩
abbrev main_call0_cst_2 : Ref sig .tc := ⟨.hbm, 109, rfl⟩
abbrev main_call0_v9 : Ref sig .tc := ⟨.hbm, 110, rfl⟩
abbrev main_call0_v10 : Ref sig .tc := ⟨.hbm, 111, rfl⟩
abbrev main_call0_v11 : Ref sig .tc := ⟨.hbm, 112, rfl⟩
abbrev main_call0_v12 : Ref sig .tc := ⟨.hbm, 113, rfl⟩
abbrev main_call0_cst_3 : Ref sig .tc := ⟨.hbm, 114, rfl⟩
abbrev main_call0_v13 : Ref sig .tc := ⟨.hbm, 115, rfl⟩
abbrev main_call0_cst_4 : Ref sig .tc := ⟨.hbm, 116, rfl⟩
abbrev main_call0_call0_v0 : Ref sig .tc := ⟨.hbm, 117, rfl⟩
abbrev main_call0_call0_v1 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_9 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_10 : Ref sig .tc := ⟨.hbm, 139, rfl⟩
abbrev main_v89 : Ref sig .tc := ⟨.hbm, 140, rfl⟩
abbrev main_v90 : Ref sig .tc := ⟨.hbm, 141, rfl⟩
abbrev main_cst_11 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_12 : Ref sig .tc := ⟨.hbm, 152, rfl⟩
abbrev main_v100 : Ref sig .tc := ⟨.hbm, 153, rfl⟩
abbrev main_v101 : Ref sig .tc := ⟨.hbm, 154, rfl⟩
abbrev main_cst_13 : Ref sig .tc := ⟨.hbm, 155, rfl⟩
abbrev main_v102 : Ref sig .tc := ⟨.hbm, 156, rfl⟩
abbrev main_v103 : Ref sig .tc := ⟨.hbm, 157, rfl⟩
abbrev main_c_14 : Ref sig .tc := ⟨.hbm, 158, rfl⟩
abbrev main_call2_cst : Ref sig .tc := ⟨.hbm, 159, rfl⟩
abbrev main_call2_v0 : Ref sig .tc := ⟨.hbm, 160, rfl⟩
abbrev main_call2_v1 : Ref sig .tc := ⟨.hbm, 161, rfl⟩
abbrev main_call2_cst_0 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_call2_v5 : Ref sig .tc := ⟨.hbm, 166, rfl⟩
abbrev main_call2_v6 : Ref sig .tc := ⟨.hbm, 167, rfl⟩
abbrev main_call2_v7 : Ref sig .tc := ⟨.hbm, 168, rfl⟩
abbrev main_call2_cst_1 : Ref sig .tc := ⟨.hbm, 169, rfl⟩
abbrev main_call2_v8 : Ref sig .tc := ⟨.hbm, 170, rfl⟩
abbrev main_call2_cst_2 : Ref sig .tc := ⟨.hbm, 171, rfl⟩
abbrev main_call2_v9 : Ref sig .tc := ⟨.hbm, 172, rfl⟩
abbrev main_call2_v10 : Ref sig .tc := ⟨.hbm, 173, rfl⟩
abbrev main_call2_v11 : Ref sig .tc := ⟨.hbm, 174, rfl⟩
abbrev main_call2_v12 : Ref sig .tc := ⟨.hbm, 175, rfl⟩
abbrev main_call2_cst_3 : Ref sig .tc := ⟨.hbm, 176, rfl⟩
abbrev main_call2_v13 : Ref sig .tc := ⟨.hbm, 177, rfl⟩
abbrev main_call2_cst_4 : Ref sig .tc := ⟨.hbm, 178, rfl⟩
abbrev main_call2_call0_v0 : Ref sig .tc := ⟨.hbm, 179, rfl⟩
abbrev main_call2_call0_v1 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_cst_15 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩

abbrev nD : Nat := 1
abbrev τ : Topo := Topo.v7x

variable {F : FTy → Type} [FloatOps F]
-- ==== Gather.lean ====
abbrev S100000x128 : Shape := ⟨2, ![100000, 128]⟩
abbrev S80x1024 : Shape := ⟨2, ![80, 1024]⟩
abbrev S81920 : Shape := ⟨1, ![81920]⟩
abbrev S81920x128 : Shape := ⟨2, ![81920, 128]⟩
abbrev S512 : Shape := ⟨1, ![512]⟩
abbrev S512x128 : Shape := ⟨2, ![512, 128]⟩
abbrev S_ : Shape := ⟨0, ![]⟩
abbrev S80x1024x128 : Shape := ⟨3, ![80, 1024, 128]⟩

abbrev nBuf : Table → Nat
  | .hbm => 5
  | .local .scVector .vmem => 2
  | _ => 0

abbrev bufTy : (tb : Table) → Fin (nBuf tb) → BufTy
  | .hbm, ⟨0, _⟩ => ⟨S100000x128, .f32⟩
  | .hbm, ⟨1, _⟩ => ⟨S80x1024, .i32⟩
  | .hbm, ⟨2, _⟩ => ⟨S81920, .i32⟩
  | .hbm, ⟨3, _⟩ => ⟨S81920x128, .f32⟩
  | .hbm, ⟨4, _⟩ => ⟨S80x1024x128, .f32⟩
  | .local .scVector .vmem, ⟨0, _⟩ => ⟨S512, .i32⟩
  | .local .scVector .vmem, ⟨1, _⟩ => ⟨S512x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let v3 : BitVec 32 := Scalar.addi v2 c0_i32
  ![v3.toNat]
def k0_off2 (i : grid0.Coords) (c0_i32_4 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let v6 : BitVec 32 := Scalar.addi v2 c0_i32_4
  let c0_i32_25_r1 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S100000x128 : Shape := ⟨2, ![100000, 128]⟩
abbrev S80x1024 : Shape := ⟨2, ![80, 1024]⟩
abbrev S_ : Shape := ⟨0, ![]⟩
abbrev S80x1024x1 : Shape := ⟨3, ![80, 1024, 1]⟩
abbrev S80x1024x128 : Shape := ⟨3, ![80, 1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S80x1024, .i32⟩
  | .hbm, ⟨2, _⟩ => ⟨S_, .i32⟩
  | .hbm, ⟨3, _⟩ => ⟨S80x1024, .i32⟩
  | .hbm, ⟨4, _⟩ => ⟨S80x1024, .i1⟩
  | .hbm, ⟨5, _⟩ => ⟨S_, .i32⟩
  | .hbm, ⟨6, _⟩ => ⟨S80x1024, .i32⟩
  | .hbm, ⟨7, _⟩ => ⟨S80x1024, .i32⟩
  | .hbm, ⟨8, _⟩ => ⟨S80x1024, .i32⟩
  | .hbm, ⟨9, _⟩ => ⟨S80x1024x1, .i32⟩
  | .hbm, ⟨10, _⟩ => ⟨S80x1024x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Minima.lean ====
abbrev S25x500x1024 : Shape := ⟨3, ![25, 500, 1024]⟩
abbrev S10x10x1024 : Shape := ⟨3, ![10, 10, 1024]⟩
abbrev S12800000 : Shape := ⟨1, ![12800000]⟩
abbrev S102400 : Shape := ⟨1, ![102400]⟩
abbrev S3200 : Shape := ⟨1, ![3200]⟩
abbrev S_ : Shape := ⟨0, ![]⟩

abbrev nBuf : Table → Nat
  | .hbm => 6
  | .local .scVector .vmem => 2
  | _ => 0

abbrev bufTy : (tb : Table) → Fin (nBuf tb) → BufTy
  | .hbm, ⟨0, _⟩ => ⟨S25x500x1024, .f32⟩
  | .hbm, ⟨1, _⟩ => ⟨S10x10x1024, .i32⟩
  | .hbm, ⟨2, _⟩ => ⟨S12800000, .f32⟩
  | .hbm, ⟨3, _⟩ => ⟨S102400, .i32⟩
  | .hbm, ⟨4, _⟩ => ⟨S102400, .f32⟩
  | .hbm, ⟨5, _⟩ => ⟨S10x10x1024, .f32⟩
  | .local .scVector .vmem, ⟨0, _⟩ => ⟨S3200, .i32⟩
  | .local .scVector .vmem, ⟨1, _⟩ => ⟨S3200, .f32⟩
  | _, _ => ⟨S25x500x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== MinimaReferenceIdeal.lean ====
abbrev S25x500x1024 : Shape := ⟨3, ![25, 500, 1024]⟩
abbrev S10x10x1024 : Shape := ⟨3, ![10, 10, 1024]⟩
abbrev S12800000 : Shape := ⟨1, ![12800000]⟩
abbrev S_ : Shape := ⟨0, ![]⟩
abbrev S10x10x1024x1 : Shape := ⟨4, ![10, 10, 1024, 1]⟩

abbrev nBuf : Space → Nat
  | .hbm => 12
  | .vmem => 0
  | .smem => 0
  | _ => 0

abbrev bufTy : (tb : Table) → Fin (tcTables nBuf tb) → BufTy
  | .hbm, ⟨0, _⟩ => ⟨S25x500x1024, .f32⟩
  | .hbm, ⟨1, _⟩ => ⟨S10x10x1024, .i32⟩
  | .hbm, ⟨2, _⟩ => ⟨S12800000, .f32⟩
  | .hbm, ⟨3, _⟩ => ⟨S_, .i32⟩
  | .hbm, ⟨4, _⟩ => ⟨S10x10x1024, .i32⟩
  | .hbm, ⟨5, _⟩ => ⟨S10x10x1024, .i1⟩
  | .hbm, ⟨6, _⟩ => ⟨S_, .i32⟩
  | .hbm, ⟨7, _⟩ => ⟨S10x10x1024, .i32⟩
  | .hbm, ⟨8, _⟩ => ⟨S10x10x1024, .i32⟩
  | .hbm, ⟨9, _⟩ => ⟨S10x10x1024, .i32⟩
  | .hbm, ⟨10, _⟩ => ⟨S10x10x1024x1, .i32⟩
  | .hbm, ⟨11, _⟩ => ⟨S10x10x1024, .f32⟩
  | _, _ => ⟨S25x500x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Groups.lean ====
abbrev S100000x128 : Shape := ⟨2, ![100000, 128]⟩
abbrev S1024x128 : Shape := ⟨2, ![1024, 128]⟩
abbrev S25x500x1024 : Shape := ⟨3, ![25, 500, 1024]⟩
abbrev S25x50x1024 : Shape := ⟨3, ![25, 50, 1024]⟩
abbrev S4000x128 : Shape := ⟨2, ![4000, 128]⟩
abbrev S1x500x1024 : Shape := ⟨3, ![1, 500, 1024]⟩
abbrev S1x50x1024 : Shape := ⟨3, ![1, 50, 1024]⟩
abbrev S4000x1024 : Shape := ⟨2, ![4000, 1024]⟩
abbrev S4000 : Shape := ⟨1, ![4000]⟩
abbrev S4000x1 : Shape := ⟨2, ![4000, 1]⟩
abbrev S500x8x1024 : Shape := ⟨3, ![500, 8, 1024]⟩
abbrev S500x1024 : Shape := ⟨2, ![500, 1024]⟩
abbrev S50x10x1024 : Shape := ⟨3, ![50, 10, 1024]⟩
abbrev S50x1024 : Shape := ⟨2, ![50, 1024]⟩

abbrev nBuf : Space → Nat
  | .hbm => 4
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S1024x128, .f32⟩
  | .hbm, ⟨2, _⟩ => ⟨S25x500x1024, .f32⟩
  | .hbm, ⟨3, _⟩ => ⟨S25x50x1024, .f32⟩
  | .local _ .vmem, ⟨0, _⟩ => ⟨S4000x128, .f32⟩
  | .local _ .vmem, ⟨1, _⟩ => ⟨S4000x128, .f32⟩
  | .local _ .vmem, ⟨2, _⟩ => ⟨S1024x128, .f32⟩
  | .local _ .vmem, ⟨3, _⟩ => ⟨S1x500x1024, .f32⟩
  | .local _ .vmem, ⟨4, _⟩ => ⟨S1x500x1024, .f32⟩
  | .local _ .vmem, ⟨5, _⟩ => ⟨S1x50x1024, .f32⟩
  | .local _ .vmem, ⟨6, _⟩ => ⟨S1x50x1024, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x500x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x50x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GroupsReferenceIdeal.lean ====
abbrev S100000x128 : Shape := ⟨2, ![100000, 128]⟩
abbrev S1024x128 : Shape := ⟨2, ![1024, 128]⟩
abbrev S_ : Shape := ⟨0, ![]⟩
abbrev S100000 : Shape := ⟨1, ![100000]⟩
abbrev S100000x1 : Shape := ⟨2, ![100000, 1]⟩
abbrev S128x1024 : Shape := ⟨2, ![128, 1024]⟩
abbrev S100000x1024 : Shape := ⟨2, ![100000, 1024]⟩
abbrev S12500x8x1024 : Shape := ⟨3, ![12500, 8, 1024]⟩
abbrev S12500x1024 : Shape := ⟨2, ![12500, 1024]⟩
abbrev S1250x80x1024 : Shape := ⟨3, ![1250, 80, 1024]⟩
abbrev S1250x1024 : Shape := ⟨2, ![1250, 1024]⟩
abbrev S25x500x1024 : Shape := ⟨3, ![25, 500, 1024]⟩
abbrev S25x50x1024 : Shape := ⟨3, ![25, 50, 1024]⟩

abbrev nBuf : Space → Nat
  | .hbm => 21
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1024x128, .f32⟩
  | .hbm, ⟨2, _⟩ => ⟨S100000x128, .f32⟩
  | .hbm, ⟨3, _⟩ => ⟨S_, .f32⟩
  | .hbm, ⟨4, _⟩ => ⟨S100000, .f32⟩
  | .hbm, ⟨5, _⟩ => ⟨S100000x1, .f32⟩
  | .hbm, ⟨6, _⟩ => ⟨S128x1024, .f32⟩
  | .hbm, ⟨7, _⟩ => ⟨S100000x1024, .f32⟩
  | .hbm, ⟨8, _⟩ => ⟨S_, .f32⟩
  | .hbm, ⟨9, _⟩ => ⟨S100000x1024, .f32⟩
  | .hbm, ⟨10, _⟩ => ⟨S100000x1024, .f32⟩
  | .hbm, ⟨11, _⟩ => ⟨S100000x1024, .f32⟩
  | .hbm, ⟨12, _⟩ => ⟨S100000x1024, .f32⟩
  | .hbm, ⟨13, _⟩ => ⟨S12500x8x1024, .f32⟩
  | .hbm, ⟨14, _⟩ => ⟨S_, .f32⟩
  | .hbm, ⟨15, _⟩ => ⟨S12500x1024, .f32⟩
  | .hbm, ⟨16, _⟩ => ⟨S1250x80x1024, .f32⟩
  | .hbm, ⟨17, _⟩ => ⟨S_, .f32⟩
  | .hbm, ⟨18, _⟩ => ⟨S1250x1024, .f32⟩
  | .hbm, ⟨19, _⟩ => ⟨S25x500x1024, .f32⟩
  | .hbm, ⟨20, _⟩ => ⟨S25x50x1024, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Supers.lean ====
abbrev S25x50x1024 : Shape := ⟨3, ![25, 50, 1024]⟩
abbrev S10x10x1024 : Shape := ⟨3, ![10, 10, 1024]⟩
abbrev S1250x1024 : Shape := ⟨2, ![1250, 1024]⟩
abbrev S1024 : Shape := ⟨1, ![1024]⟩
abbrev S1x1024 : Shape := ⟨2, ![1, 1024]⟩
abbrev S10x1024 : Shape := ⟨2, ![10, 1024]⟩
abbrev S10x1x1024 : Shape := ⟨3, ![10, 1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S25x50x1024, .f32⟩
  | .hbm, ⟨1, _⟩ => ⟨S10x10x1024, .i32⟩
  | .hbm, ⟨2, _⟩ => ⟨S10x10x1024, .i32⟩
  | .local _ .vmem, ⟨0, _⟩ => ⟨S25x50x1024, .f32⟩
  | .local _ .vmem, ⟨1, _⟩ => ⟨S10x10x1024, .i32⟩
  | .local _ .vmem, ⟨2, _⟩ => ⟨S10x10x1024, .i32⟩
  | _, _ => ⟨S25x50x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S25x50x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x10x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x10x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SupersReferenceIdeal.lean ====
abbrev S25x50x1024 : Shape := ⟨3, ![25, 50, 1024]⟩
abbrev S1250 : Shape := ⟨1, ![1250]⟩
abbrev S1250x1 : Shape := ⟨2, ![1250, 1]⟩
abbrev S_ : Shape := ⟨0, ![]⟩
abbrev S1250x1024 : Shape := ⟨2, ![1250, 1024]⟩
abbrev S10x1024 : Shape := ⟨2, ![10, 1024]⟩
abbrev S10x1x1024 : Shape := ⟨3, ![10, 1, 1024]⟩
abbrev S10 : Shape := ⟨1, ![10]⟩
abbrev S1x10x1 : Shape := ⟨3, ![1, 10, 1]⟩
abbrev S10x10x1024 : Shape := ⟨3, ![10, 10, 1024]⟩
abbrev S1024 : Shape := ⟨1, ![1024]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S25x50x1024, .f32⟩
  | .hbm, ⟨1, _⟩ => ⟨S1250, .i32⟩
  | .hbm, ⟨2, _⟩ => ⟨S1250x1, .i32⟩
  | .hbm, ⟨3, _⟩ => ⟨S_, .i32⟩
  | .hbm, ⟨4, _⟩ => ⟨S1250x1024, .i32⟩
  | .hbm, ⟨5, _⟩ => ⟨S1250x1024, .i32⟩
  | .hbm, ⟨6, _⟩ => ⟨S1250x1024, .i32⟩
  | .hbm, ⟨7, _⟩ => ⟨S1250x1024, .f32⟩
  | .hbm, ⟨8, _⟩ => ⟨S1250x1024, .f32⟩
  | .hbm, ⟨9, _⟩ => ⟨S1250x1024, .i32⟩
  | .hbm, ⟨10, _⟩ => ⟨S10x1024, .i32⟩
  | .hbm, ⟨11, _⟩ => ⟨S10x1x1024, .i32⟩
  | .hbm, ⟨12, _⟩ => ⟨S_, .i32⟩
  | .hbm, ⟨13, _⟩ => ⟨S10x1x1024, .i32⟩
  | .hbm, ⟨14, _⟩ => ⟨S10x1x1024, .i32⟩
  | .hbm, ⟨15, _⟩ => ⟨S10, .i32⟩
  | .hbm, ⟨16, _⟩ => ⟨S1x10x1, .i32⟩
  | .hbm, ⟨17, _⟩ => ⟨S10x10x1024, .i32⟩
  | .hbm, ⟨18, _⟩ => ⟨S10x10x1024, .i32⟩
  | .hbm, ⟨19, _⟩ => ⟨S10x10x1024, .i32⟩
  | .hbm, ⟨20, _⟩ => ⟨S_, .i32⟩
  | .hbm, ⟨21, _⟩ => ⟨S10x10x1024, .i32⟩
  | .hbm, ⟨22, _⟩ => ⟨S10x10x1024, .i32⟩
  | .hbm, ⟨23, _⟩ => ⟨S1024, .i32⟩
  | .hbm, ⟨24, _⟩ => ⟨S1x1x1024, .i32⟩
  | .hbm, ⟨25, _⟩ => ⟨S10x10x1024, .i32⟩
  | .hbm, ⟨26, _⟩ => ⟨S10x10x1024, .i32⟩
  | _, _ => ⟨S25x50x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Rows.lean ====
abbrev S10x10x1024 : Shape := ⟨3, ![10, 10, 1024]⟩
abbrev S80x1024 : Shape := ⟨2, ![80, 1024]⟩
abbrev S100x1024 : Shape := ⟨2, ![100, 1024]⟩
abbrev S1024 : Shape := ⟨1, ![1024]⟩
abbrev S1x1024 : Shape := ⟨2, ![1, 1024]⟩
abbrev S10x1024 : Shape := ⟨2, ![10, 1024]⟩
abbrev S10x8x1024 : Shape := ⟨3, ![10, 8, 1024]⟩
abbrev S10x1x1024 : Shape := ⟨3, ![10, 1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S10x10x1024, .f32⟩
  | .hbm, ⟨1, _⟩ => ⟨S10x10x1024, .i32⟩
  | .hbm, ⟨2, _⟩ => ⟨S80x1024, .i32⟩
  | .local _ .vmem, ⟨0, _⟩ => ⟨S10x10x1024, .f32⟩
  | .local _ .vmem, ⟨1, _⟩ => ⟨S10x10x1024, .i32⟩
  | .local _ .vmem, ⟨2, _⟩ => ⟨S80x1024, .i32⟩
  | _, _ => ⟨S10x10x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S10x10x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x10x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RowsReferenceIdeal.lean ====
abbrev S10x10x1024 : Shape := ⟨3, ![10, 10, 1024]⟩
abbrev S100x1024 : Shape := ⟨2, ![100, 1024]⟩
abbrev S10x1024 : Shape := ⟨2, ![10, 1024]⟩
abbrev S10x1x1024 : Shape := ⟨3, ![10, 1, 1024]⟩
abbrev S_ : Shape := ⟨0, ![]⟩
abbrev S8 : Shape := ⟨1, ![8]⟩
abbrev S1x8x1 : Shape := ⟨3, ![1, 8, 1]⟩
abbrev S10x8x1024 : Shape := ⟨3, ![10, 8, 1024]⟩
abbrev S80x1024 : Shape := ⟨2, ![80, 1024]⟩

abbrev nBuf : Space → Nat
  | .hbm => 17
  | .vmem => 0
  | .smem => 0
  | _ => 0

abbrev bufTy : (tb : Table) → Fin (tcTables nBuf tb) → BufTy
  | .hbm, ⟨0, _⟩ => ⟨S10x10x1024, .f32⟩
  | .hbm, ⟨1, _⟩ => ⟨S10x10x1024, .i32⟩
  | .hbm, ⟨2, _⟩ => ⟨S100x1024, .f32⟩
  | .hbm, ⟨3, _⟩ => ⟨S100x1024, .i32⟩
  | .hbm, ⟨4, _⟩ => ⟨S100x1024, .f32⟩
  | .hbm, ⟨5, _⟩ => ⟨S100x1024, .i32⟩
  | .hbm, ⟨6, _⟩ => ⟨S10x1024, .i32⟩
  | .hbm, ⟨7, _⟩ => ⟨S10x1x1024, .i32⟩
  | .hbm, ⟨8, _⟩ => ⟨S_, .i32⟩
  | .hbm, ⟨9, _⟩ => ⟨S10x1x1024, .i32⟩
  | .hbm, ⟨10, _⟩ => ⟨S10x1x1024, .i32⟩
  | .hbm, ⟨11, _⟩ => ⟨S8, .i32⟩
  | .hbm, ⟨12, _⟩ => ⟨S1x8x1, .i32⟩
  | .hbm, ⟨13, _⟩ => ⟨S10x8x1024, .i32⟩
  | .hbm, ⟨14, _⟩ => ⟨S10x8x1024, .i32⟩
  | .hbm, ⟨15, _⟩ => ⟨S10x8x1024, .i32⟩
  | .hbm, ⟨16, _⟩ => ⟨S80x1024, .i32⟩
  | _, _ => ⟨S10x10x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Nearest.lean ====
abbrev S80x1024x128 : Shape := ⟨3, ![80, 1024, 128]⟩
abbrev S1024x128 : Shape := ⟨2, ![1024, 128]⟩
abbrev S80x1024 : Shape := ⟨2, ![80, 1024]⟩
abbrev S8x10x128 : Shape := ⟨3, ![8, 10, 128]⟩
abbrev S80x128x128 : Shape := ⟨3, ![80, 128, 128]⟩
abbrev S128x128 : Shape := ⟨2, ![128, 128]⟩
abbrev S80x128 : Shape := ⟨2, ![80, 128]⟩
abbrev S1x10x128 : Shape := ⟨3, ![1, 10, 128]⟩
abbrev S1x128x128 : Shape := ⟨3, ![1, 128, 128]⟩
abbrev S128 : Shape := ⟨1, ![128]⟩
abbrev S1x128 : Shape := ⟨2, ![1, 128]⟩
abbrev S10x128 : Shape := ⟨2, ![10, 128]⟩

abbrev nBuf : Space → Nat
  | .hbm => 4
  | .vmem => 8
  | .smem => 0
  | _ => 0

abbrev bufTy : (tb : Table) → Fin (tcTables nBuf tb) → BufTy
  | .hbm, ⟨0, _⟩ => ⟨S80x1024x128, .f32⟩
  | .hbm, ⟨1, _⟩ => ⟨S1024x128, .f32⟩
  | .hbm, ⟨2, _⟩ => ⟨S80x1024, .i32⟩
  | .hbm, ⟨3, _⟩ => ⟨S8x10x128, .i32⟩
  | .local _ .vmem, ⟨0, _⟩ => ⟨S80x128x128, .f32⟩
  | .local _ .vmem, ⟨1, _⟩ => ⟨S80x128x128, .f32⟩
  | .local _ .vmem, ⟨2, _⟩ => ⟨S128x128, .f32⟩
  | .local _ .vmem, ⟨3, _⟩ => ⟨S128x128, .f32⟩
  | .local _ .vmem, ⟨4, _⟩ => ⟨S80x128, .i32⟩
  | .local _ .vmem, ⟨5, _⟩ => ⟨S80x128, .i32⟩
  | .local _ .vmem, ⟨6, _⟩ => ⟨S1x10x128, .i32⟩
  | .local _ .vmem, ⟨7, _⟩ => ⟨S1x10x128, .i32⟩
  | _, _ => ⟨S80x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S80x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x10x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NearestReferenceIdeal.lean ====
abbrev S80x1024x128 : Shape := ⟨3, ![80, 1024, 128]⟩
abbrev S1024x128 : Shape := ⟨2, ![1024, 128]⟩
abbrev S80x1024 : Shape := ⟨2, ![80, 1024]⟩
abbrev S_ : Shape := ⟨0, ![]⟩
abbrev S1024 : Shape := ⟨1, ![1024]⟩
abbrev S1x1024 : Shape := ⟨2, ![1, 1024]⟩
abbrev S1024x80 : Shape := ⟨2, ![1024, 80]⟩
abbrev S10x1024 : Shape := ⟨2, ![10, 1024]⟩
abbrev S10x8x128 : Shape := ⟨3, ![10, 8, 128]⟩
abbrev S8x10x128 : Shape := ⟨3, ![8, 10, 128]⟩

abbrev nBuf : Space → Nat
  | .hbm => 23
  | .vmem => 0
  | .smem => 0
  | _ => 0

abbrev bufTy : (tb : Table) → Fin (tcTables nBuf tb) → BufTy
  | .hbm, ⟨0, _⟩ => ⟨S80x1024x128, .f32⟩
  | .hbm, ⟨1, _⟩ => ⟨S1024x128, .f32⟩
  | .hbm, ⟨2, _⟩ => ⟨S80x1024, .i32⟩
  | .hbm, ⟨3, _⟩ => ⟨S1024x128, .f32⟩
  | .hbm, ⟨4, _⟩ => ⟨S_, .f32⟩
  | .hbm, ⟨5, _⟩ => ⟨S1024, .f32⟩
  | .hbm, ⟨6, _⟩ => ⟨S80x1024x128, .f32⟩
  | .hbm, ⟨7, _⟩ => ⟨S_, .f32⟩
  | .hbm, ⟨8, _⟩ => ⟨S80x1024, .f32⟩
  | .hbm, ⟨9, _⟩ => ⟨S1x1024, .f32⟩
  | .hbm, ⟨10, _⟩ => ⟨S80x1024, .f32⟩
  | .hbm, ⟨11, _⟩ => ⟨S80x1024, .f32⟩
  | .hbm, ⟨12, _⟩ => ⟨S1024x80, .f32⟩
  | .hbm, ⟨13, _⟩ => ⟨S80x1024, .f32⟩
  | .hbm, ⟨14, _⟩ => ⟨S_, .f32⟩
  | .hbm, ⟨15, _⟩ => ⟨S80x1024, .f32⟩
  | .hbm, ⟨16, _⟩ => ⟨S80x1024, .f32⟩
  | .hbm, ⟨17, _⟩ => ⟨S80x1024, .f32⟩
  | .hbm, ⟨18, _⟩ => ⟨S80x1024, .f32⟩
  | .hbm, ⟨19, _⟩ => ⟨S80x1024, .i32⟩
  | .hbm, ⟨20, _⟩ => ⟨S10x1024, .i32⟩
  | .hbm, ⟨21, _⟩ => ⟨S10x8x128, .i32⟩
  | .hbm, ⟨22, _⟩ => ⟨S8x10x128, .i32⟩
  | _, _ => ⟨S80x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Spec.lean ====
/-
  One query's result as a function of its own vector, of its ten neighbours' rows and of the weights: the attention over
  the neighbours, the output projection, and the two normalised residual steps, over the extended reals.
-/
module

public import Idealize.ShloMosaic.Lib.Pointwise

@[expose] public section

noncomputable section

namespace Cert.Proof.Row

open Idealize.ShloMosaic

/-- A vector of 128 lanes. -/
abbrev Lanes := Fin 128 → EReal

/-- The numbers the programs hold as single precision words: 1/4, 128, the normalisation's 1e-5, the slope 0.01 and minus
    infinity. -/
abbrev quarter : EReal := Ideal.ofBits .f32 0x3E800000#32
abbrev count : EReal := Ideal.ofBits .f32 0x43000000#32
abbrev eps : EReal := Ideal.ofBits .f32 0x3727C5AC#32
abbrev slope : EReal := Ideal.ofBits .f32 0x3C23D70A#32

abbrev least : EReal := Ideal.ofBits .f32 0xFF800000#32

/-- `a Wᵀ + b`. -/
def affine (W : Fin 128 → Lanes) (b a : Lanes) : Lanes := fun j => (∑ d, a d * W j d) + b j

/-- Lane `e` of head `h`. -/
def lane (h : Fin 8) (e : Fin 16) : Fin 128 := ⟨h.val * 16 + e.val, by have := h.isLt; have := e.isLt; omega⟩

/-- Head `h`'s score of neighbour `t`: the inner product over the head's lanes, over the root of 16. -/
def score (q : Lanes) (k : Fin 10 → Lanes) (h : Fin 8) : Fin 10 → EReal := fun t => (∑ e, k t (lane h e) * q (lane h e)) * quarter

/-- The greatest of ten. -/
def best (s : Fin 10 → EReal) : EReal := Finset.univ.fold max least s

/-- The softmax of ten scores. -/
def soft (s : Fin 10 → EReal) : Fin 10 → EReal := fun t => Ideal.div (Ideal.exp (s t - best s)) (∑ t', Ideal.exp (s t' - best s))

/-- Head `h`'s output: the neighbours' values weighted. -/
def headOut (q : Lanes) (k v : Fin 10 → Lanes) (h : Fin 8) : Fin 16 → EReal := fun e => ∑ t, v t (lane h e) * soft (score q k h) t

/-- The eight heads' outputs side by side. -/
def heads (q : Lanes) (k v : Fin 10 → Lanes) : Lanes := fun j =>
  headOut q k v ⟨j.val / 16, by have := j.isLt; omega⟩ ⟨j.val % 16, Nat.mod_lt _ (by decide)⟩

/-- The mean of a vector's lanes. -/
def mean (x : Lanes) : EReal := Ideal.div (∑ d, x d) count

/-- Their variance. -/
def var (x : Lanes) : EReal := Ideal.div (∑ d, (x d - mean x) * (x d - mean x)) count

/-- The vector normalised, scaled and moved. -/
def layerNorm (g b x : Lanes) : Lanes := fun j => Ideal.div (x j - mean x) (Ideal.sqrt (var x + eps)) * g j + b j

/-- The identity on numbers at least zero, a hundredth of it below. -/
def leaky (y : EReal) : EReal := Scalar.select (Ideal.cmp .oge y 0) y (slope * y)

/-- The attention step: the query plus the projected heads. -/
def attended (Wq Wk Wv Wo : Fin 128 → Lanes) (bq bk bv bo : Lanes) (x : Lanes) (kn vn : Fin 10 → Lanes) : Lanes := fun j =>
  x j + affine Wo bo (heads (affine Wq bq x) (fun t => affine Wk bk (kn t)) (fun t => affine Wv bv (vn t))) j

/-- The feed-forward step on a normalised vector. -/
def forward (W1 W2 : Fin 128 → Lanes) (b1 b2 y : Lanes) : Lanes := fun j => y j + affine W2 b2 (fun d => leaky (affine W1 b1 y d)) j

/-- The whole row. -/
def row (Wq Wk Wv Wo W1 W2 : Fin 128 → Lanes) (bq bk bv bo b1 b2 g1 c1 g2 c2 : Lanes) (x : Lanes) (kn vn : Fin 10 → Lanes) : Lanes :=
  layerNorm g2 c2 (forward W1 W2 b1 b2 (layerNorm g1 c1 (attended Wq Wk Wv Wo bq bk bv bo x kn vn)))

end Cert.Proof.Row

end
-- ==== Proof.Tile.lean ====
/-
  The SparseCore call: one task per (SparseCore, tile) pair. Each task copies its 320 row numbers into its index
  scratch, streams the 320 rows they name out of the first table into its row scratch and from there to its 320 rows
  of the first output, and does the same with the second table and the second output. The run is proved once, at a
  symbolic pair of coordinates, with the value: row `r` of an output is row `idx[r]` of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program as the launch theorem sees it -/

/-- The labels of the pipelined kernels. -/
abbrev ΛP : Labels := Pipeline.Sig Λ₀ (Fin 1) fun p => (pcfgs (F := F) p).Adm
/-- The SparseCore calls. -/
abbrev K : SparseCore.Cfg τ sig (ΛP (F := F)) 1 := sc (F := F)
/-- The body table below the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and unscoped, and no array is shared among tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the pipelines' rounds, the transfers' counters. -/
abbrev UH : Type := URounds (GSem nD τ sig) ℕ
abbrev UP : Type := URounds (GSem nD τ sig) Unit
abbrev UU : Type := UH × UP × Counters

local notation "𝕄" => MT nD τ sig (HIx 1) (Elt F) ℕ UU ℕ

/-! ## The arrays and the memrefs of a task -/

abbrev kLoc (d : Dev nD) : Loc nD τ sig := (SparseCore.T d).loc main_arg1
abbrev vLoc (d : Dev nD) : Loc nD τ sig := (SparseCore.T d).loc main_arg2
abbrev iLoc (d : Dev nD) : Loc nD τ sig := (SparseCore.T d).loc main_v0
abbrev pLoc (d : Dev nD) : Loc nD τ sig := (SparseCore.T d).loc main_v1_0
abbrev qLoc (d : Dev nD) : Loc nD τ sig := (SparseCore.T d).loc main_v1_1

abbrev kV : Memref sig Kind.scVector Space.hbm S100000x128 EltTy.f32 := Memref.whole main_arg1_scv
abbrev vV : Memref sig Kind.scVector Space.hbm S100000x128 EltTy.f32 := Memref.whole main_arg2_scv
abbrev iV : Memref sig Kind.scVector Space.hbm S10240 EltTy.i32 := Memref.whole main_v0_scv
abbrev pV : Memref sig Kind.scVector Space.hbm S10240x128 EltTy.f32 := Memref.whole main_v1_0_scv
abbrev qV : Memref sig Kind.scVector Space.hbm S10240x128 EltTy.f32 := Memref.whole main_v1_1_scv
abbrev sV : Memref sig Kind.scVector Space.vmem S320 EltTy.i32 := Memref.whole cc0_scratch0
abbrev rV : Memref sig Kind.scVector Space.vmem S320x128 EltTy.f32 := Memref.whole cc0_scratch1

abbrev cV (L : grid0.Coords) : Fin τ.nSC := (L 0).castLE hcore0
abbrev jV (L : grid0.Coords) : Fin τ.nSub := (L 1).castLE hsub0

/-- The task's number: tiles numbered first, SparseCores within a tile. -/
def wid (L : grid0.Coords) : Fin 32 := ⟨(L 1).val * 2 + (L 0).val, by have h0 : (L 0).val < 2 := (L 0).isLt; have h1 : (L 1).val < 16 := (L 1).isLt; omega⟩

theorem off1_val : ∀ L : grid0.Coords, k0_off1 L 0 = (wid L).val * 320 := by decide +kernel
theorem off2_val0 : ∀ L : grid0.Coords, k0_off2 L 0 = (wid L).val * 320 := by decide +kernel
theorem off2_val1 : ∀ L : grid0.Coords, k0_off2 L 1 = 0 := by decide +kernel

/-- The task's 320 entries of the index list, its 320 rows of an output, all of a table. -/
abbrev iRowK (L : grid0.Coords) : Memref sig .scVector .hbm S320 .i32 := iV.slice (Rect.unit (s := S10240) (k0_off1 L) S320.size (k0_off1_inb L)) (fun _ => rfl)
abbrev oRect (L : grid0.Coords) : Rect S10240x128 := Rect.unit (s := S10240x128) (k0_off2 L) S320x128.size (k0_off2_inb L)
abbrev pRowK (L : grid0.Coords) : Memref sig .scVector .hbm S320x128 .f32 := pV.slice (oRect L) (fun _ => rfl)
abbrev qRowK (L : grid0.Coords) : Memref sig .scVector .hbm S320x128 .f32 := qV.slice (oRect L) (fun _ => rfl)
abbrev kAllK : Memref sig .scVector .hbm S100000x128 .f32 := kV.slice (Rect.unit (s := S100000x128) ![0, 0] S100000x128.size inb_S100000x128_S100000x128_0_0) (fun _ => rfl)
abbrev vAllK : Memref sig .scVector .hbm S100000x128 .f32 := vV.slice (Rect.unit (s := S100000x128) ![0, 0] S100000x128.size inb_S100000x128_S100000x128_0_0) (fun _ => rfl)

/-! ## The rows an output is split into -/

theorem odiv : 32 ∣ S10240x128.size 0 := ⟨320, rfl⟩
abbrev orow (w : Fin 32) : Rect S10240x128 := Rect.part (s := S10240x128) (a₀ := 0) odiv w

theorem oRect_eq (L : grid0.Coords) : oRect L = orow (wid L) := by
  unfold oRect orow Rect.part Rect.block
  congr 1 <;> funext a
  · match a with
    | 0 => rw [off2_val0]; simp [Shape.partIx, Shape.partSize]
    | 1 => rw [off2_val1]; simp [Shape.partIx, Shape.partSize]
  · match a with
    | 0 => simp [Shape.partSize]
    | 1 => simp [Shape.partSize]

theorem set_pRowK (L : grid0.Coords) : (pRowK L).view.set = (orow (wid L)).set := by
  show ((View.whole (main_v1_0_scv : Ref sig .scVector)).slice (oRect L)).set = _
  rw [View.set_slice, oRect_eq]; exact Finset.map_refl
theorem set_qRowK (L : grid0.Coords) : (qRowK L).view.set = (orow (wid L)).set := by
  show ((View.whole (main_v1_1_scv : Ref sig .scVector)).slice (oRect L)).set = _
  rw [View.set_slice, oRect_eq]; exact Finset.map_refl

/-- The share task `w` holds of an array every task reads. -/
abbrev tq (w : Fin 32) : PosShare TreeShare := Transfers.dealOf fullShare Finset.univ w

/-! ## The value -/

/-- The rows of `tbl` named by the list `ix` (a number past the last row read as the last row). -/
def gath (tbl : S100000x128.Idx → Elt F .f32) (ix : S10240.Idx → BitVec 32) : S10240x128.Idx → Elt F .f32 :=
  fun j => tbl (ix2 (⟨min (ix (ix1 (j 0))).toNat 99999, by omega⟩ : Fin 100000) (j 1))

variable [FloatOps F]

/-- What a task is handed, and what it hands back. -/
abbrev tileIn (A B : (d : Dev nD) → S100000x128.Idx → Elt F .f32) (ix : (d : Dev nD) → S10240.Idx → BitVec 32) (d : Dev nD) (w : Fin 32) : sProp 𝕄 :=
  iprop((kLoc d ↦{tq w} (A d : Buf (Elt F) (kLoc d))) ∗ (vLoc d ↦{tq w} (B d : Buf (Elt F) (vLoc d))) ∗ (iLoc d ↦{tq w} (ix d : Buf (Elt F) (iLoc d)))
    ∗ (∃ f, pLoc d ↦[(orow w).set]{fullShare} f) ∗ (∃ f, qLoc d ↦[(orow w).set]{fullShare} f))
abbrev tileOut (A B : (d : Dev nD) → S100000x128.Idx → Elt F .f32) (ix : (d : Dev nD) → S10240.Idx → BitVec 32) (d : Dev nD) (w : Fin 32) : sProp 𝕄 :=
  iprop((kLoc d ↦{tq w} (A d : Buf (Elt F) (kLoc d))) ∗ (vLoc d ↦{tq w} (B d : Buf (Elt F) (vLoc d))) ∗ (iLoc d ↦{tq w} (ix d : Buf (Elt F) (iLoc d)))
    ∗ (pLoc d ↦[(orow w).set]{fullShare} (gath (A d) (ix d) : Buf (Elt F) (pLoc d)))
    ∗ (qLoc d ↦[(orow w).set]{fullShare} (gath (B d) (ix d) : Buf (Elt F) (qLoc d))))

section Tile

variable (A B : (d : Dev nD) → S100000x128.Idx → Elt F .f32) (ix : (d : Dev nD) → S10240.Idx → BitVec 32) (d : Dev nD) (L : grid0.Coords)

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)
abbrev cGcell (d : Dev nD) (c : Fin τ.nSC) (i : Fin τ.nSub) : GSem nD τ sig := (V d c i, .dma cc0_scratch2.sem)

/-- The task's four cells out of its scoped semaphores. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cGcell d (cV L) (jV L)) 0
          ∗ bigSep (((((ownCells (V d (cV L) (jV L))).erase (cAcell d (cV L) (jV L))).erase (cBcell d (cV L) (jV L))).erase (cCcell d (cV L) (jV L))).erase (cGcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩),
    SparseCore.bigSep_erase' (Finset.mem_erase.mpr ⟨by simp [cCcell, cGcell]; decide, Finset.mem_erase.mpr ⟨by simp [cBcell, cGcell]; decide, Finset.mem_erase.mpr ⟨by simp [cAcell, cGcell]; decide,
      (mem_ownCells (g := cGcell d (cV L) (jV L))).mpr ⟨rfl, by show (SemLoc.dma cc0_scratch2.sem : SemLoc sig).isScoped .scVector = true; decide⟩⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the index copy lands in the scratch names rows of the table. -/
theorem inb_list (hix : ∀ d j, (ix d j).toNat < 100000) (fs : Buf (Elt F) ((V d (cV L) (jV L)).loc cc0_scratch0)) (pay : S320.Idx → Elt F .i32)
    (hpay : pay = (iRowK L).view.read (Elt F) (ix d)) :
    ∀ x, (sV.view.read (Elt F) (View.write (Elt F) sV.view fs pay Finset.univ) x).toNat < S100000x128.size gathers_S100000x128_S320x128.axis := by
  subst hpay; intro x
  rw [View.write_whole_univ]
  simp only [Memref.view_whole, View.read_whole]
  rw [show ∀ j, (iRowK L).view.read (Elt F) (ix d) j = ix d ((iRowK L).view.emb j) from fun j => (View.read_apply _ _).trans (cast_eq _ _)]
  exact hix d _

/-- Where entry `x` of the task's part of the list sits. -/
theorem emb_iRowK (x : S320.Idx) : (iRowK L).view.emb x = ix1 (⟨(wid L).val * 320 + (x 0).val, by have := (wid L).isLt; have h0 : (x 0).val < 320 := (x 0).isLt; omega⟩ : Fin 10240) := by
  funext a
  match a with
  | 0 => exact Fin.ext (by show k0_off1 L 0 + 1 * (x 0).val = _; rw [off1_val, one_mul]; rfl)

/-- Where element `x` of the task's rows of an output sits. -/
theorem emb_oRect (x : S320x128.Idx) : (oRect L).emb x = ix2 (⟨(wid L).val * 320 + (x 0).val, by have := (wid L).isLt; have h0 : (x 0).val < 320 := (x 0).isLt; omega⟩ : Fin 10240) (⟨(x 1).val, (x 1).isLt⟩ : Fin 128) := by
  funext a
  match a with
  | 0 => exact Fin.ext (by show k0_off2 L 0 + 1 * (x 0).val = _; rw [off2_val0, one_mul])
  | 1 => exact Fin.ext (by show k0_off2 L 1 + 1 * (x 1).val = _; rw [off2_val1, one_mul, Nat.zero_add])

/-- The streamed rows are the named rows of the table. -/
theorem gathered_apply (d : Dev nD) (tbl : S100000x128.Idx → Elt F .f32) (l : S10240.Idx → BitVec 32) (src : S320.Idx → Elt F .i32) (hsrc : src = (iRowK L).view.read (Elt F) (l : Buf (Elt F) (iLoc d)))
    (tb : S100000x128.Idx → Elt F .f32) (htb : tb = tbl) (h : ∀ x, (src x).toNat < S100000x128.size gathers_S100000x128_S320x128.axis) (x : S320x128.Idx) :
    SparseCore.gatherPayload gathers_S100000x128_S320x128 tb (SparseCore.rows src rfl h) x = gath tbl l ((oRect L).emb x) := by
  subst hsrc htb
  unfold SparseCore.gatherPayload gath
  refine congrArg tb ?_
  have hx0 : (x 0).val < 320 := (x 0).isLt
  have hrow : (S320.rowMajor.symm ((x 0).cast rfl : Fin S320.numel)) = ix1 (⟨(x 0).val, hx0⟩ : Fin 320) := by
    rw [Equiv.symm_apply_eq]; exact Fin.ext (by exact (Shape.rowMajor_val_one (d := S320.size) (ix1 (⟨(x 0).val, hx0⟩ : Fin 320))).symm)
  funext a
  match a with
  | 0 =>
    refine Fin.ext ?_
    have hw : (SparseCore.rows ((iRowK L).view.read (Elt F) (l : Buf (Elt F) (iLoc d))) rfl h (x 0)).val
        = (l (ix1 (⟨(wid L).val * 320 + (x 0).val, by have := (wid L).isLt; omega⟩ : Fin 10240))).toNat := by
      show (((iRowK L).view.read (Elt F) (l : Buf (Elt F) (iLoc d))) (S320.rowMajor.symm ((x 0).cast rfl))).toNat = _
      rw [hrow, ← emb_iRowK L (ix1 ⟨(x 0).val, hx0⟩)]
      exact congrArg BitVec.toNat ((View.read_apply _ _).trans (cast_eq _ _))
    have hlt := (SparseCore.rows ((iRowK L).view.read (Elt F) (l : Buf (Elt F) (iLoc d))) rfl h (x 0)).isLt
    have h1 := congrArg Fin.val (Shape.Gathers.idx_axis gathers_S100000x128_S320x128 (SparseCore.rows ((iRowK L).view.read (Elt F) (l : Buf (Elt F) (iLoc d))) rfl h) x)
    refine h1.trans (hw.trans ?_)
    rw [emb_oRect]
    exact (min_eq_left (by have h2 : _ < 100000 := hw ▸ hlt; exact Nat.le_of_lt_succ h2)).symm
  | 1 =>
    refine Fin.ext ?_
    refine (Shape.Gathers.idx_of_ne gathers_S100000x128_S320x128 _ x 1 (by decide)).trans ?_
    rw [emb_oRect]; rfl

/-- The task's rows of the output, once the scratch's rows have been copied there. -/
theorem pRow_filled (tbl : S100000x128.Idx → Elt F .f32) (l : S10240.Idx → BitVec 32) (f : Buf (Elt F) (pLoc d)) (pay : S320x128.Idx → Elt F .f32)
    (h : ∀ x, pay x = gath tbl l ((oRect L).emb x)) :
    (((pRowK L).view.loc (V d (cV L) (jV L)) ↦[(pRowK L).view.set]{fullShare} (pRowK L).view.writes (Elt F) f [⟨Rect.whole S320x128, pay⟩]) : sProp 𝕄)
      = pLoc d ↦[(orow (wid L)).set]{fullShare} (gath tbl l : Buf (Elt F) (pLoc d)) := by
  rw [← set_pRowK]
  refine pointsTo_congr fun i hi => ?_
  obtain ⟨x, -, rfl⟩ := Finset.mem_map.mp hi
  have hr := congrFun (View.read_writes_whole (pRowK L).view f pay) x
  rw [View.read_apply, h] at hr
  exact hr

/-- The task's rows of the output, once the scratch's rows have been copied there. -/
theorem qRow_filled (tbl : S100000x128.Idx → Elt F .f32) (l : S10240.Idx → BitVec 32) (f : Buf (Elt F) (qLoc d)) (pay : S320x128.Idx → Elt F .f32)
    (h : ∀ x, pay x = gath tbl l ((oRect L).emb x)) :
    (((qRowK L).view.loc (V d (cV L) (jV L)) ↦[(qRowK L).view.set]{fullShare} (qRowK L).view.writes (Elt F) f [⟨Rect.whole S320x128, pay⟩]) : sProp 𝕄)
      = qLoc d ↦[(orow (wid L)).set]{fullShare} (gath tbl l : Buf (Elt F) (qLoc d)) := by
  rw [← set_qRowK]
  refine pointsTo_congr fun i hi => ?_
  obtain ⟨x, -, rfl⟩ := Finset.mem_map.mp hi
  have hr := congrFun (View.read_writes_whole (qRowK L).view f pay) x
  rw [View.read_apply, h] at hr
  exact hr

/-- Reading all of the table gives the table. -/
theorem read_kAllK (f : Buf (Elt F) (kLoc d)) : (kAllK.view.read (Elt F) f : S100000x128.Idx → Elt F .f32) = f := by
  funext x
  rw [View.read_apply]
  refine (cast_eq _ _).trans (congrArg f ?_)
  funext a
  match a with
  | 0 => exact Fin.ext (by show 0 + 1 * (x 0).val = _; rw [one_mul, Nat.zero_add])
  | 1 => exact Fin.ext (by show 0 + 1 * (x 1).val = _; rw [one_mul, Nat.zero_add])
theorem read_vAllK (f : Buf (Elt F) (vLoc d)) : (vAllK.view.read (Elt F) f : S100000x128.Idx → Elt F .f32) = f := read_kAllK d f

/-- What the copy out of the row scratch carries. -/
theorem carried_apply (tbl tb : S100000x128.Idx → Elt F .f32) (htb : tb = tbl) (l : S10240.Idx → BitVec 32) (fs : Buf (Elt F) ((V d (cV L) (jV L)).loc cc0_scratch0))
    (fr : Buf (Elt F) ((V d (cV L) (jV L)).loc cc0_scratch1))
    (h : ∀ x, (sV.view.read (Elt F) (View.write (Elt F) sV.view fs ((iRowK L).view.read (Elt F) (l : Buf (Elt F) (iLoc d))) Finset.univ) x).toNat
      < S100000x128.size gathers_S100000x128_S320x128.axis) (x : S320x128.Idx) :
    rV.view.read (Elt F) (View.write (Elt F) rV.view fr (SparseCore.gatherPayload gathers_S100000x128_S320x128 tb
      (SparseCore.rows (sV.view.read (Elt F) (View.write (Elt F) sV.view fs ((iRowK L).view.read (Elt F) (l : Buf (Elt F) (iLoc d))) Finset.univ)) rfl h)) Finset.univ) x
      = gath tbl l ((oRect L).emb x) := by
  rw [View.read_write_univ]
  exact gathered_apply L d tbl l _ (View.read_write_univ _ _) tb htb h x

set_option maxHeartbeats 4000000 in
/-- The task on the tile at `L`: from its shares of the tables and of the list and its rows of the outputs, it runs to
    the outputs' rows at the rows the list names. -/
theorem tile_body (hF : (K (F := F)).Facts) (hix : ∀ d j, (ix d j).toNat < 100000) (O : CellTallies nD τ sig (HIx 1)) (W : Waits sig (HIx 1)) (hO : ∀ g, O g none = 0) :
    iprop(levAts (K (F := F)).L (K (F := F)).lev ∗ emp
        ∗ tileIn A B ix d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__g3_body L kV (Memref.isWhole_whole _) vV (Memref.isWhole_whole _) iV (Memref.isWhole_whole _) pV (Memref.isWhole_whole _) qV (Memref.isWhole_whole _)
            sV (Memref.isWhole_whole _) rV (Memref.isWhole_whole _) cc0_scratch2 cc0_scoped0 cc0_scoped1 cc0_scoped2)
          fun _ => iprop(tileOut A B ix d (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__g3_body_eq_skeleton]; unfold cc0__g3_body_skel
  rw [(K (F := F)).scopedBufs_V hF d (cV L) (jV L), SparseCore.Cfg.scopedSems0_V (Val := Elt F) d (cV L) (jV L), ownSems0_V, ownBufs_V]
  iintro ⟨#Hlv, -, ⟨Hk, Hv, Hi, ⟨%fp, Hp⟩, ⟨%fq, Hq⟩⟩, ⟨⟨%fs, Hs⟩, ⟨%fr, Hr⟩, Hbufs⟩, ⟨HsemA, HsemB, HsemC, HsemG, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  have hrs : rV.view.set = Finset.univ := View.set_whole _
  have hss : sV.view.set = Finset.univ := View.set_whole _
  ihave Hp' := (Entails.of_eq (show (pLoc d ↦[(orow (wid L)).set]{fullShare} fp : sProp 𝕄)
      = (pRowK L).view.loc (V d (cV L) (jV L)) ↦[(pRowK L).view.set]{fullShare} fp by rw [set_pRowK])) $$ Hp
  ihave Hq' := (Entails.of_eq (show (qLoc d ↦[(orow (wid L)).set]{fullShare} fq : sProp 𝕄)
      = (qRowK L).view.loc (V d (cV L) (jV L)) ↦[(qRowK L).view.set]{fullShare} fq by rw [set_qRowK])) $$ Hq
  ihave Hi2 := (pointsTo_split_subset (ℓ := iLoc d) (q := tq (wid L)) (f := ix d) (S := Finset.univ) (Finset.subset_univ (iRowK L).view.set)).1 $$ Hi
  icases Hi2 with ⟨Hi', Hir⟩
  ihave Hk2 := (pointsTo_split_subset (ℓ := kLoc d) (q := tq (wid L)) (f := A d) (S := Finset.univ) (Finset.subset_univ kAllK.view.set)).1 $$ Hk
  icases Hk2 with ⟨Hk', Hkr⟩
  ihave Hv2 := (pointsTo_split_subset (ℓ := vLoc d) (q := tq (wid L)) (f := B d) (S := Finset.univ) (Finset.subset_univ vAllK.view.set)).1 $$ Hv
  icases Hv2 with ⟨Hv', Hvr⟩
  ihave Hi1 := (Entails.of_eq (show (iLoc d ↦[(iRowK L).view.set]{tq (wid L)} (ix d : Buf (Elt F) (iLoc d)) : sProp 𝕄)
      = (iRowK L).view.loc (V d (cV L) (jV L)) ↦[(iRowK L).view.set]{tq (wid L)} (ix d) from rfl)) $$ Hi'
  ihave Hs' := (Entails.of_eq (show ((V d (cV L) (jV L)).loc cc0_scratch0 ↦{fullShare} fs : sProp 𝕄)
      = sV.view.loc (V d (cV L) (jV L)) ↦{fullShare} fs from rfl)) $$ Hs
  ihave Hr' := (Entails.of_eq (show ((V d (cV L) (jV L)).loc cc0_scratch1 ↦{fullShare} fr : sProp 𝕄)
      = rV.view.loc (V d (cV L) (jV L)) ↦{fullShare} fr from rfl)) $$ Hr
  sl_exec
  have hN : ∀ h : S100000x128.Gathers 0 S320x128, ∑ j, (rV.slice (S320x128.rowRect h.axis' j) (S320x128.stride_rowRect h.axis' j)).view.dmaCredit
      = rV.view.dmaCredit := by decide +kernel
  ihave Hr1 := (Entails.of_eq (show (rV.view.loc (V d (cV L) (jV L)) ↦{fullShare} fr : sProp 𝕄)
      = rV.view.loc (V d (cV L) (jV L)) ↦[rV.view.set]{fullShare} fr by rw [hrs])) $$ Hr'
  ihave Hs1 := (Entails.of_eq (show (sV.view.loc (V d (cV L) (jV L)) ↦{fullShare} View.write (Elt F) sV.view fs (tile_body.sl.dma0 ix d L) Finset.univ : sProp 𝕄)
      = sV.view.loc (V d (cV L) (jV L)) ↦[sV.view.set]{fullShare} View.write (Elt F) sV.view fs (tile_body.sl.dma0 ix d L) Finset.univ
      by rw [hss])) $$ Hs'
  iapply (SparseCore.wp_indirectGatherLocal countersEmb 𝒱₀ (V d (cV L) (jV L)) none (hg := gathers_S100000x128_S320x128) (default : HIx 1)
      rV.view.dmaCredit (hN _) (by decide) (inb_list ix d L hix fs _ rfl)) $$ [Hk' Hr1 Hs1 HsemG]
  · isplitl [Hk']; · iexact Hk'
    isplitl [Hr1]; · iexact Hr1
    isplitl [Hs1]; · iexact Hs1
    iexact HsemG
  iintro Hfl
  sl_exec
  iapply (Transfers.wp_waitLocalO countersEmb 𝒱₀ (V d (cV L) (jV L)) none (default : HIx 1) (rfl : rV.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr2, Hk', Hs2⟩, HsemG, HO⟩
  ihave Hr3 := (Entails.of_eq (show (rV.view.loc (V d (cV L) (jV L)) ↦[rV.view.set]{fullShare} _ : sProp 𝕄)
      = rV.view.loc (V d (cV L) (jV L)) ↦{fullShare} _ by rw [hrs])) $$ Hr2
  sl_exec
  ihave Hr4 := (Entails.of_eq (show (rV.view.loc (V d (cV L) (jV L)) ↦{fullShare} _ : sProp 𝕄)
      = rV.view.loc (V d (cV L) (jV L)) ↦[rV.view.set]{fullShare} _ by rw [hrs])) $$ Hr3
  iapply (SparseCore.wp_indirectGatherLocal countersEmb 𝒱₀ (V d (cV L) (jV L)) none (hg := gathers_S100000x128_S320x128) (default : HIx 1)
      rV.view.dmaCredit (hN _) (by decide) (inb_list ix d L hix fs _ rfl)) $$ [Hv' Hr4 Hs2 HsemG]
  · isplitl [Hv']; · iexact Hv'
    isplitl [Hr4]; · iexact Hr4
    isplitl [Hs2]; · iexact Hs2
    iexact HsemG
  iintro Hfl
  sl_exec
  iapply (Transfers.wp_waitLocalO countersEmb 𝒱₀ (V d (cV L) (jV L)) none (default : HIx 1) (rfl : rV.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr5, Hv', Hs3⟩, HsemG, HO⟩
  ihave Hr6 := (Entails.of_eq (show (rV.view.loc (V d (cV L) (jV L)) ↦[rV.view.set]{fullShare} _ : sProp 𝕄)
      = rV.view.loc (V d (cV L) (jV L)) ↦{fullShare} _ by rw [hrs])) $$ Hr5
  sl_exec
  sl_step
  ihave Hs4 := (Entails.of_eq (show (sV.view.loc (V d (cV L) (jV L)) ↦[sV.view.set]{fullShare} _ : sProp 𝕄)
      = sV.view.loc (V d (cV L) (jV L)) ↦{fullShare} _ by rw [hss])) $$ Hs3
  ihave Hp1 := (Entails.of_eq (pRow_filled d L (A d) (ix d) fp (tile_body.sl.dma0_1 A ix d L hix fs fr) (fun x => carried_apply d L (A d) _ (read_kAllK d (A d)) (ix d) fs fr (inb_list ix d L hix fs _ rfl) x))) $$ Hp'
  ihave Hq1 := (Entails.of_eq (qRow_filled d L (B d) (ix d) fq (tile_body.sl.dma0_2 A B ix d L hix fs fr) (fun x => carried_apply d L (B d) _ (read_vAllK d (B d)) (ix d) fs _ (inb_list ix d L hix fs _ rfl) x))) $$ Hq'
  isplitl [Hk' Hkr Hv' Hvr Hir Hp1 Hq1]
  · isplitl [Hk' Hkr]
    · iapply (pointsTo_split_subset (ℓ := kLoc d) (q := tq (wid L)) (f := A d) (S := Finset.univ) (Finset.subset_univ kAllK.view.set)).2
      isplitl [Hk']; · iexact Hk'
      iexact Hkr
    isplitl [Hv' Hvr]
    · iapply (pointsTo_split_subset (ℓ := vLoc d) (q := tq (wid L)) (f := B d) (S := Finset.univ) (Finset.subset_univ vAllK.view.set)).2
      isplitl [Hv']; · iexact Hv'
      iexact Hvr
    isplitl [Hir]; · iexact Hir
    isplitl [Hp1]; · iexact Hp1
    iexact Hq1
  isplitl [Hs4 Hr6 Hbufs]
  · isplitl [Hs4]; · iexists _; iexact Hs4
    isplitl [Hr6]; · iexists _; iexact Hr6
    iexact Hbufs
  isplitl [HsemA HsemB HsemC HsemG Hsems]
  · isplitl [HsemA]; · iexact HsemA
    isplitl [HsemB]; · iexact HsemB
    isplitl [HsemC]; · iexact HsemC
    isplitl [HsemG]; · iexact HsemG
    iexact Hsems
  iexists _
  isplitr [HO]
  swap
  · iexact HO
  · ipureintro
    intro p hp
    simp only [Finset.mem_insert] at hp
    rcases hp with rfl | rfl | rfl | rfl | rfl | hp
    · exact Or.inr rfl
    · exact Or.inr rfl
    · exact Or.inr rfl
    · exact Or.inr rfl
    · exact Or.inr rfl
    · exact Or.inl hp

end Tile

end Cert.Proof.KernelIdeal

end
-- ==== Proof.K5.lean ====
/-
  The TensorCore call: its body run once, at symbolic staging buffers, with what it stores as a function of what it
  loads; the proof data of the pipeline around it; and the call as a step of the caller, from any contents of the
  arrays to those contents with the result's array at what the written-back blocks make of it.
-/
module

public import proofs.«01_k».proof.Proof.Tile
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionsLoop
public import Idealize.ShloMosaic.Lib.Pipeline.FrameBody
public import Idealize.ShloMosaic.Lib.Pipeline.Value
public import Idealize.ShloMosaic.Lib.LaneScatter.Tiles

@[expose] public section

noncomputable section

namespace Cert.Proof.KernelIdeal

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-! ## What the body computes -/

/-- The projected queries, keys and values of a block. -/
def k5q (x1 : Vec F S256x128 .f32) (x4 : Vec F S128x128 .f32) (x7 : Vec F S1x128 .f32) : FVec F S256x128 .f32 := k1_pay2 x1 x4 x7
def k5k (x2 : Vec F S2560x128 .f32) (x5 : Vec F S128x128 .f32) (x8 : Vec F S1x128 .f32) : FVec F S256x10x128 .f32 := k1_pay3 x2 x5 x8
def k5v (x3 : Vec F S2560x128 .f32) (x6 : Vec F S128x128 .f32) (x9 : Vec F S1x128 .f32) : FVec F S256x10x128 .f32 := k1_pay4 x3 x6 x9

/-- The block after the attention, its output projection and the first residual sum (`r`: 20), its mean (23) and the
    squared deviations' sum (24). -/
def k5att {α : Type} (f : Vec F S256x128 .f32 → FVec F S256x10x128 .f32 → FVec F S256x10x128 .f32 → FVec F S256x16 .f32 → FVec F S256x16 .f32 → FVec F S256x16 .f32 →
      FVec F S256x16 .f32 → FVec F S256x16 .f32 → FVec F S256x16 .f32 → FVec F S256x16 .f32 → FVec F S256x16 .f32 → Vec F S128x128 .f32 → Vec F S1x128 .f32 → α)
    (x1 : Vec F S256x128 .f32) (x2 : Vec F S2560x128 .f32) (x3 : Vec F S2560x128 .f32) (x4 : Vec F S128x128 .f32) (x5 : Vec F S128x128 .f32) (x6 : Vec F S128x128 .f32) (x7 : Vec F S1x128 .f32) (x8 : Vec F S1x128 .f32) (x9 : Vec F S1x128 .f32) (x10 : Vec F S128x128 .f32) (x11 : Vec F S1x128 .f32) : α :=
  f x1 (k5k x2 x5 x8) (k5v x3 x6 x9)
    (k1_pay8 (k1_pay5 x3 x6 x9) (k1_pay6 x1 x2 x4 x7 x5 x8) k1_pay7)
    (k1_pay9 (k5q x1 x4 x7) (k5k x2 x5 x8) (k5v x3 x6 x9))
    (k1_pay12 (k1_pay10 (k5v x3 x6 x9)) (k1_pay11 (k5q x1 x4 x7) (k5k x2 x5 x8)))
    (k1_pay13 (k5q x1 x4 x7) (k5k x2 x5 x8) (k5v x3 x6 x9))
    (k1_pay16 (k1_pay14 (k5v x3 x6 x9)) (k1_pay15 (k5q x1 x4 x7) (k5k x2 x5 x8)))
    (k1_pay17 (k5q x1 x4 x7) (k5k x2 x5 x8) (k5v x3 x6 x9))
    (k1_pay18 (k5q x1 x4 x7) (k5k x2 x5 x8) (k5v x3 x6 x9))
    (k1_pay19 (k5q x1 x4 x7)) x10 x11

/-- What the body stores. -/
def k5out (x1 : Vec F S256x128 .f32) (x2 : Vec F S2560x128 .f32) (x3 : Vec F S2560x128 .f32) (x4 : Vec F S128x128 .f32) (x5 : Vec F S128x128 .f32) (x6 : Vec F S128x128 .f32) (x7 : Vec F S1x128 .f32) (x8 : Vec F S1x128 .f32) (x9 : Vec F S1x128 .f32) (x10 : Vec F S128x128 .f32) (x11 : Vec F S1x128 .f32) (x12 : Vec F S128x128 .f32) (x13 : Vec F S1x128 .f32) (x14 : Vec F S128x128 .f32) (x15 : Vec F S1x128 .f32) (x16 : Vec F S1x128 .f32) (x17 : Vec F S1x128 .f32) (x18 : Vec F S1x128 .f32) (x19 : Vec F S1x128 .f32) : FVec F S256x128 .f32 :=
  k1_pay1
    (k1_pay25 (k5att k1_pay20 x1 x2 x3 x4 x5 x6 x7 x8 x9 x10 x11) (k1_pay21 x16) (k1_pay22 x17) (k5att k1_pay23 x1 x2 x3 x4 x5 x6 x7 x8 x9 x10 x11)
      (k5att k1_pay24 x1 x2 x3 x4 x5 x6 x7 x8 x9 x10 x11) x12 x13 x14 x15)
    (k1_pay26 x18) (k1_pay27 x19)
    (k1_pay28 (k5att k1_pay20 x1 x2 x3 x4 x5 x6 x7 x8 x9 x10 x11) (k1_pay21 x16) (k1_pay22 x17) (k5att k1_pay23 x1 x2 x3 x4 x5 x6 x7 x8 x9 x10 x11)
      (k5att k1_pay24 x1 x2 x3 x4 x5 x6 x7 x8 x9 x10 x11) x12 x13 x14 x15)

/-! ## The body's run -/

/-- A load of all of a memref's shape reads what the memref holds. -/
theorem readAt_all {sp : Space} {s : Shape} {e : EltTy} (M : Memref sig .tc sp s e) (f : M.view.ty.Contents (Elt F)) {off : Fin s.rank → ℕ} (h : off = fun _ => 0)
    (inb : ∀ a, off a + s.size a ≤ s.size a) : M.view.readAt (Elt F) (Rect.unit off s.size inb).toLoadRect f = M.view.read (Elt F) f := by
  rw [View.readAt_eq_ld, View.ld_unit_zero h]

theorem off00 : (![0, 0] : Fin 2 → ℕ) = fun _ => 0 := by decide

set_option maxHeartbeats 400000 in
/-- The body at any staging buffers: from the inputs' blocks `x1 … x19` it stores `k5out` of them. -/
theorem k5_run (c : Dev nD) (i : grid1.Coords)
    (M1 : Memref sig .tc .vmem S256x128 .f32) (h1 : M1.IsWhole) (M2 : Memref sig .tc .vmem S2560x128 .f32) (h2 : M2.IsWhole) (M3 : Memref sig .tc .vmem S2560x128 .f32) (h3 : M3.IsWhole) (M4 : Memref sig .tc .vmem S128x128 .f32) (h4 : M4.IsWhole) (M5 : Memref sig .tc .vmem S128x128 .f32) (h5 : M5.IsWhole) (M6 : Memref sig .tc .vmem S128x128 .f32) (h6 : M6.IsWhole) (M7 : Memref sig .tc .vmem S1x128 .f32) (h7 : M7.IsWhole) (M8 : Memref sig .tc .vmem S1x128 .f32) (h8 : M8.IsWhole) (M9 : Memref sig .tc .vmem S1x128 .f32) (h9 : M9.IsWhole) (M10 : Memref sig .tc .vmem S128x128 .f32) (h10 : M10.IsWhole) (M11 : Memref sig .tc .vmem S1x128 .f32) (h11 : M11.IsWhole) (M12 : Memref sig .tc .vmem S128x128 .f32) (h12 : M12.IsWhole) (M13 : Memref sig .tc .vmem S1x128 .f32) (h13 : M13.IsWhole) (M14 : Memref sig .tc .vmem S128x128 .f32) (h14 : M14.IsWhole) (M15 : Memref sig .tc .vmem S1x128 .f32) (h15 : M15.IsWhole) (M16 : Memref sig .tc .vmem S1x128 .f32) (h16 : M16.IsWhole) (M17 : Memref sig .tc .vmem S1x128 .f32) (h17 : M17.IsWhole) (M18 : Memref sig .tc .vmem S1x128 .f32) (h18 : M18.IsWhole) (M19 : Memref sig .tc .vmem S1x128 .f32) (h19 : M19.IsWhole) (M20 : Memref sig .tc .vmem S256x128 .f32) (h20 : M20.IsWhole)
    (f1 : Buf (Elt F) (M1.view.loc (c : Thread nD τ))) (f2 : Buf (Elt F) (M2.view.loc (c : Thread nD τ))) (f3 : Buf (Elt F) (M3.view.loc (c : Thread nD τ))) (f4 : Buf (Elt F) (M4.view.loc (c : Thread nD τ))) (f5 : Buf (Elt F) (M5.view.loc (c : Thread nD τ))) (f6 : Buf (Elt F) (M6.view.loc (c : Thread nD τ))) (f7 : Buf (Elt F) (M7.view.loc (c : Thread nD τ))) (f8 : Buf (Elt F) (M8.view.loc (c : Thread nD τ))) (f9 : Buf (Elt F) (M9.view.loc (c : Thread nD τ))) (f10 : Buf (Elt F) (M10.view.loc (c : Thread nD τ))) (f11 : Buf (Elt F) (M11.view.loc (c : Thread nD τ))) (f12 : Buf (Elt F) (M12.view.loc (c : Thread nD τ))) (f13 : Buf (Elt F) (M13.view.loc (c : Thread nD τ))) (f14 : Buf (Elt F) (M14.view.loc (c : Thread nD τ))) (f15 : Buf (Elt F) (M15.view.loc (c : Thread nD τ))) (f16 : Buf (Elt F) (M16.view.loc (c : Thread nD τ))) (f17 : Buf (Elt F) (M17.view.loc (c : Thread nD τ))) (f18 : Buf (Elt F) (M18.view.loc (c : Thread nD τ))) (f19 : Buf (Elt F) (M19.view.loc (c : Thread nD τ))) (f20 : Buf (Elt F) (M20.view.loc (c : Thread nD τ))) (E : Set ℕ) (Q : PUnit → sProp 𝕄) :
    iprop((M1.view.loc (c : Thread nD τ) ↦[M1.view.set]{fullShare} f1) ∗ (M2.view.loc (c : Thread nD τ) ↦[M2.view.set]{fullShare} f2) ∗ (M3.view.loc (c : Thread nD τ) ↦[M3.view.set]{fullShare} f3) ∗ (M4.view.loc (c : Thread nD τ) ↦[M4.view.set]{fullShare} f4) ∗ (M5.view.loc (c : Thread nD τ) ↦[M5.view.set]{fullShare} f5) ∗ (M6.view.loc (c : Thread nD τ) ↦[M6.view.set]{fullShare} f6) ∗ (M7.view.loc (c : Thread nD τ) ↦[M7.view.set]{fullShare} f7) ∗ (M8.view.loc (c : Thread nD τ) ↦[M8.view.set]{fullShare} f8) ∗ (M9.view.loc (c : Thread nD τ) ↦[M9.view.set]{fullShare} f9) ∗ (M10.view.loc (c : Thread nD τ) ↦[M10.view.set]{fullShare} f10) ∗ (M11.view.loc (c : Thread nD τ) ↦[M11.view.set]{fullShare} f11) ∗ (M12.view.loc (c : Thread nD τ) ↦[M12.view.set]{fullShare} f12) ∗ (M13.view.loc (c : Thread nD τ) ↦[M13.view.set]{fullShare} f13) ∗ (M14.view.loc (c : Thread nD τ) ↦[M14.view.set]{fullShare} f14) ∗ (M15.view.loc (c : Thread nD τ) ↦[M15.view.set]{fullShare} f15) ∗ (M16.view.loc (c : Thread nD τ) ↦[M16.view.set]{fullShare} f16) ∗ (M17.view.loc (c : Thread nD τ) ↦[M17.view.set]{fullShare} f17) ∗ (M18.view.loc (c : Thread nD τ) ↦[M18.view.set]{fullShare} f18) ∗ (M19.view.loc (c : Thread nD τ) ↦[M19.view.set]{fullShare} f19) ∗ (M20.view.loc (c : Thread nD τ) ↦[M20.view.set]{fullShare} f20)
      ∗ (iprop((M1.view.loc (c : Thread nD τ) ↦[M1.view.set]{fullShare} f1) ∗ (M2.view.loc (c : Thread nD τ) ↦[M2.view.set]{fullShare} f2) ∗ (M3.view.loc (c : Thread nD τ) ↦[M3.view.set]{fullShare} f3) ∗ (M4.view.loc (c : Thread nD τ) ↦[M4.view.set]{fullShare} f4) ∗ (M5.view.loc (c : Thread nD τ) ↦[M5.view.set]{fullShare} f5) ∗ (M6.view.loc (c : Thread nD τ) ↦[M6.view.set]{fullShare} f6) ∗ (M7.view.loc (c : Thread nD τ) ↦[M7.view.set]{fullShare} f7) ∗ (M8.view.loc (c : Thread nD τ) ↦[M8.view.set]{fullShare} f8) ∗ (M9.view.loc (c : Thread nD τ) ↦[M9.view.set]{fullShare} f9) ∗ (M10.view.loc (c : Thread nD τ) ↦[M10.view.set]{fullShare} f10) ∗ (M11.view.loc (c : Thread nD τ) ↦[M11.view.set]{fullShare} f11) ∗ (M12.view.loc (c : Thread nD τ) ↦[M12.view.set]{fullShare} f12) ∗ (M13.view.loc (c : Thread nD τ) ↦[M13.view.set]{fullShare} f13) ∗ (M14.view.loc (c : Thread nD τ) ↦[M14.view.set]{fullShare} f14) ∗ (M15.view.loc (c : Thread nD τ) ↦[M15.view.set]{fullShare} f15) ∗ (M16.view.loc (c : Thread nD τ) ↦[M16.view.set]{fullShare} f16) ∗ (M17.view.loc (c : Thread nD τ) ↦[M17.view.set]{fullShare} f17) ∗ (M18.view.loc (c : Thread nD τ) ↦[M18.view.set]{fullShare} f18) ∗ (M19.view.loc (c : Thread nD τ) ↦[M19.view.set]{fullShare} f19)
          ∗ (∃ g, ⌜M20.view.read (Elt F) g = k5out (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M12.view.read (Elt F) f12) (M13.view.read (Elt F) f13) (M14.view.read (Elt F) f14) (M15.view.read (Elt F) f15) (M16.view.read (Elt F) f16) (M17.view.read (Elt F) f17) (M18.view.read (Elt F) f18) (M19.view.read (Elt F) f19)⌝
              ∗ M20.view.loc (c : Thread nD τ) ↦[M20.view.set]{fullShare} g)) -∗ Q ⟨⟩))
    ⊢ wp frame (wpE (defs₀ (F := F)) 𝒱₀ (c : Thread nD τ) none) E (cc1__k5_body i M1 h1 M2 h2 M3 h3 M4 h4 M5 h5 M6 h6 M7 h7 M8 h8 M9 h9 M10 h10 M11 h11 M12 h12 M13 h13 M14 h14 M15 h15 M16 h16 M17 h17 M18 h18 M19 h19 M20 h20) Q := by
  simp only [cc1__k5_body_eq_skeleton]; unfold cc1__k5_body_skel
  simp only [k1_part1_eq_skeleton, k1_part2_eq_skeleton, k1_part3_eq_skeleton, k1_part4_eq_skeleton, k1_part5_eq_skeleton, k1_part6_eq_skeleton]
  unfold k1_part1_skel k1_part2_skel k1_part3_skel k1_part4_skel k1_part5_skel k1_part6_skel
  iintro ⟨H1, H2, H3, H4, H5, H6, H7, H8, H9, H10, H11, H12, H13, H14, H15, H16, H17, H18, H19, H20, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexists _; isplitr
  swap; · iexact H20
  ipureintro
  refine (LaneScatter.read_whole_store (Val := Elt F) M20.view f20 (off := ![0, 0]) (fun a => by rw [off00]) inb_S256x128_S256x128_0_0 _).trans ?_
  dsimp only
  unfold k5out k5att k5q k5k k5v
  simp only [readAt_all M1 f1 off00 inb_S256x128_S256x128_0_0, readAt_all M2 f2 off00 inb_S2560x128_S2560x128_0_0, readAt_all M3 f3 off00 inb_S2560x128_S2560x128_0_0, readAt_all M4 f4 off00 inb_S128x128_S128x128_0_0, readAt_all M5 f5 off00 inb_S128x128_S128x128_0_0, readAt_all M6 f6 off00 inb_S128x128_S128x128_0_0, readAt_all M7 f7 off00 inb_S1x128_S1x128_0_0, readAt_all M8 f8 off00 inb_S1x128_S1x128_0_0, readAt_all M9 f9 off00 inb_S1x128_S1x128_0_0, readAt_all M10 f10 off00 inb_S128x128_S128x128_0_0, readAt_all M11 f11 off00 inb_S1x128_S1x128_0_0, readAt_all M12 f12 off00 inb_S128x128_S128x128_0_0, readAt_all M13 f13 off00 inb_S1x128_S1x128_0_0, readAt_all M14 f14 off00 inb_S128x128_S128x128_0_0, readAt_all M15 f15 off00 inb_S1x128_S1x128_0_0, readAt_all M16 f16 off00 inb_S1x128_S1x128_0_0, readAt_all M17 f17 off00 inb_S1x128_S1x128_0_0, readAt_all M18 f18 off00 inb_S1x128_S1x128_0_0, readAt_all M19 f19 off00 inb_S1x128_S1x128_0_0]

/-! ## The proof data, at the contents the call is entered from -/

section Region

variable (V : (c : Dev nD) → (b : Ref sig .tc) → Buf (Elt F) ((c : Thread nD τ).loc b)) (O : Dev nD → CellTallies nD τ sig (HIx 1)) (lvl : ℕ)

/-- Window `w`'s block at point `t`: the array read through the window's view. -/
abbrev iblk (c : Dev nD) (w : Fin 20) (t : Fin cfg1.N) : ((cfg1.win w).xblock (cfg1.grid.coords t)).Idx → Elt F (cfg1.win w).elt :=
  ((cfg1.win w).blk t).view.read (Elt F) (V c (Pipeline.arrRef spec1 w))

/-- What point `t` stores: `k5out` of the blocks there. -/
abbrev k5blk (c : Dev nD) (t : Fin cfg1.N) : S256x128.Idx → Elt F .f32 :=
  k5out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t)

/-- The proof data: the arrays at `V`; after point `t` every input's buffer at its block, the result's at `k5blk`; what the
    caller owes the SparseCores owed throughout, its recorded waits at level `lvl` or below. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => k5blk V c t
    | ⟨_ + 20, h⟩ => absurd h (Nat.not_lt.mpr (Nat.le_add_left 20 _))
  Φ _ := Pipeline.scopedRest (Ix := HIx 1) (Name := ℕ) (U := UU) (Lvl := ℕ) (Val := Elt F) spec1 c
  q _ := fullShare
  owed _ := O c
  recorded _ := {p | (K (F := F)).lev (T c, p.1) p.2 ≤ lvl}

/-- The proof data of every pipeline: there is the one. -/
def pdats : (p : Fin 1) → (c : Dev nD) → Dat τ (Elt F) (HIx 1) ℕ UU ℕ (cfgs p) c
  | ⟨0, _⟩ => fun c => dat V O lvl c

/-- Input window 0's buffer holds its block whenever the body runs. -/
theorem before_0 (c : Dev nD) (t : Fin cfg1.N) (d : (cfg1.win 0).block.Idx → Elt F (cfg1.win 0).elt) : (dat V O lvl c).before 0 t d = iblk V c 0 t :=
  (Pipeline.Dat.before_in_eq_fetched (dat V O lvl c) 0 rfl (fun _ => rfl) (fun _ _ _ => rfl) (fun _ => rfl) t d).trans rfl
/-- Input window 1's buffer holds its block whenever the body runs. -/
theorem before_1 (c : Dev nD) (t : Fin cfg1.N) (d : (cfg1.win 1).block.Idx → Elt F (cfg1.win 1).elt) : (dat V O lvl c).before 1 t d = iblk V c 1 t :=
  (Pipeline.Dat.before_in_eq_fetched (dat V O lvl c) 1 rfl (fun _ => rfl) (fun _ _ _ => rfl) (fun _ => rfl) t d).trans rfl
/-- Input window 2's buffer holds its block whenever the body runs. -/
theorem before_2 (c : Dev nD) (t : Fin cfg1.N) (d : (cfg1.win 2).block.Idx → Elt F (cfg1.win 2).elt) : (dat V O lvl c).before 2 t d = iblk V c 2 t :=
  (Pipeline.Dat.before_in_eq_fetched (dat V O lvl c) 2 rfl (fun _ => rfl) (fun _ _ _ => rfl) (fun _ => rfl) t d).trans rfl
/-- Input window 3's buffer holds its block whenever the body runs. -/
theorem before_3 (c : Dev nD) (t : Fin cfg1.N) (d : (cfg1.win 3).block.Idx → Elt F (cfg1.win 3).elt) : (dat V O lvl c).before 3 t d = iblk V c 3 t :=
  (Pipeline.Dat.before_in_eq_fetched (dat V O lvl c) 3 rfl (fun _ => rfl) (fun _ _ _ => rfl) (fun _ => rfl) t d).trans rfl
/-- Input window 4's buffer holds its block whenever the body runs. -/
theorem before_4 (c : Dev nD) (t : Fin cfg1.N) (d : (cfg1.win 4).block.Idx → Elt F (cfg1.win 4).elt) : (dat V O lvl c).before 4 t d = iblk V c 4 t :=
  (Pipeline.Dat.before_in_eq_fetched (dat V O lvl c) 4 rfl (fun _ => rfl) (fun _ _ _ => rfl) (fun _ => rfl) t d).trans rfl
/-- Input window 5's buffer holds its block whenever the body runs. -/
theorem before_5 (c : Dev nD) (t : Fin cfg1.N) (d : (cfg1.win 5).block.Idx → Elt F (cfg1.win 5).elt) : (dat V O lvl c).before 5 t d = iblk V c 5 t :=
  (Pipeline.Dat.before_in_eq_fetched (dat V O lvl c) 5 rfl (fun _ => rfl) (fun _ _ _ => rfl) (fun _ => rfl) t d).trans rfl
/-- Input window 6's buffer holds its block whenever the body runs. -/
theorem before_6 (c : Dev nD) (t : Fin cfg1.N) (d : (cfg1.win 6).block.Idx → Elt F (cfg1.win 6).elt) : (dat V O lvl c).before 6 t d = iblk V c 6 t :=
  (Pipeline.Dat.before_in_eq_fetched (dat V O lvl c) 6 rfl (fun _ => rfl) (fun _ _ _ => rfl) (fun _ => rfl) t d).trans rfl
/-- Input window 7's buffer holds its block whenever the body runs. -/
theorem before_7 (c : Dev nD) (t : Fin cfg1.N) (d : (cfg1.win 7).block.Idx → Elt F (cfg1.win 7).elt) : (dat V O lvl c).before 7 t d = iblk V c 7 t :=
  (Pipeline.Dat.before_in_eq_fetched (dat V O lvl c) 7 rfl (fun _ => rfl) (fun _ _ _ => rfl) (fun _ => rfl) t d).trans rfl
/-- Input window 8's buffer holds its block whenever the body runs. -/
theorem before_8 (c : Dev nD) (t : Fin cfg1.N) (d : (cfg1.win 8).block.Idx → Elt F (cfg1.win 8).elt) : (dat V O lvl c).before 8 t d = iblk V c 8 t :=
  (Pipeline.Dat.before_in_eq_fetched (dat V O lvl c) 8 rfl (fun _ => rfl) (fun _ _ _ => rfl) (fun _ => rfl) t d).trans rfl
/-- Input window 9's buffer holds its block whenever the body runs. -/
theorem before_9 (c : Dev nD) (t : Fin cfg1.N) (d : (cfg1.win 9).block.Idx → Elt F (cfg1.win 9).elt) : (dat V O lvl c).before 9 t d = iblk V c 9 t :=
  (Pipeline.Dat.before_in_eq_fetched (dat V O lvl c) 9 rfl (fun _ => rfl) (fun _ _ _ => rfl) (fun _ => rfl) t d).trans rfl
/-- Input window 10's buffer holds its block whenever the body runs. -/
theorem before_10 (c : Dev nD) (t : Fin cfg1.N) (d : (cfg1.win 10).block.Idx → Elt F (cfg1.win 10).elt) : (dat V O lvl c).before 10 t d = iblk V c 10 t :=
  (Pipeline.Dat.before_in_eq_fetched (dat V O lvl c) 10 rfl (fun _ => rfl) (fun _ _ _ => rfl) (fun _ => rfl) t d).trans rfl
/-- Input window 11's buffer holds its block whenever the body runs. -/
theorem before_11 (c : Dev nD) (t : Fin cfg1.N) (d : (cfg1.win 11).block.Idx → Elt F (cfg1.win 11).elt) : (dat V O lvl c).before 11 t d = iblk V c 11 t :=
  (Pipeline.Dat.before_in_eq_fetched (dat V O lvl c) 11 rfl (fun _ => rfl) (fun _ _ _ => rfl) (fun _ => rfl) t d).trans rfl
/-- Input window 12's buffer holds its block whenever the body runs. -/
theorem before_12 (c : Dev nD) (t : Fin cfg1.N) (d : (cfg1.win 12).block.Idx → Elt F (cfg1.win 12).elt) : (dat V O lvl c).before 12 t d = iblk V c 12 t :=
  (Pipeline.Dat.before_in_eq_fetched (dat V O lvl c) 12 rfl (fun _ => rfl) (fun _ _ _ => rfl) (fun _ => rfl) t d).trans rfl
/-- Input window 13's buffer holds its block whenever the body runs. -/
theorem before_13 (c : Dev nD) (t : Fin cfg1.N) (d : (cfg1.win 13).block.Idx → Elt F (cfg1.win 13).elt) : (dat V O lvl c).before 13 t d = iblk V c 13 t :=
  (Pipeline.Dat.before_in_eq_fetched (dat V O lvl c) 13 rfl (fun _ => rfl) (fun _ _ _ => rfl) (fun _ => rfl) t d).trans rfl
/-- Input window 14's buffer holds its block whenever the body runs. -/
theorem before_14 (c : Dev nD) (t : Fin cfg1.N) (d : (cfg1.win 14).block.Idx → Elt F (cfg1.win 14).elt) : (dat V O lvl c).before 14 t d = iblk V c 14 t :=
  (Pipeline.Dat.before_in_eq_fetched (dat V O lvl c) 14 rfl (fun _ => rfl) (fun _ _ _ => rfl) (fun _ => rfl) t d).trans rfl
/-- Input window 15's buffer holds its block whenever the body runs. -/
theorem before_15 (c : Dev nD) (t : Fin cfg1.N) (d : (cfg1.win 15).block.Idx → Elt F (cfg1.win 15).elt) : (dat V O lvl c).before 15 t d = iblk V c 15 t :=
  (Pipeline.Dat.before_in_eq_fetched (dat V O lvl c) 15 rfl (fun _ => rfl) (fun _ _ _ => rfl) (fun _ => rfl) t d).trans rfl
/-- Input window 16's buffer holds its block whenever the body runs. -/
theorem before_16 (c : Dev nD) (t : Fin cfg1.N) (d : (cfg1.win 16).block.Idx → Elt F (cfg1.win 16).elt) : (dat V O lvl c).before 16 t d = iblk V c 16 t :=
  (Pipeline.Dat.before_in_eq_fetched (dat V O lvl c) 16 rfl (fun _ => rfl) (fun _ _ _ => rfl) (fun _ => rfl) t d).trans rfl
/-- Input window 17's buffer holds its block whenever the body runs. -/
theorem before_17 (c : Dev nD) (t : Fin cfg1.N) (d : (cfg1.win 17).block.Idx → Elt F (cfg1.win 17).elt) : (dat V O lvl c).before 17 t d = iblk V c 17 t :=
  (Pipeline.Dat.before_in_eq_fetched (dat V O lvl c) 17 rfl (fun _ => rfl) (fun _ _ _ => rfl) (fun _ => rfl) t d).trans rfl
/-- Input window 18's buffer holds its block whenever the body runs. -/
theorem before_18 (c : Dev nD) (t : Fin cfg1.N) (d : (cfg1.win 18).block.Idx → Elt F (cfg1.win 18).elt) : (dat V O lvl c).before 18 t d = iblk V c 18 t :=
  (Pipeline.Dat.before_in_eq_fetched (dat V O lvl c) 18 rfl (fun _ => rfl) (fun _ _ _ => rfl) (fun _ => rfl) t d).trans rfl

set_option maxHeartbeats 400000 in
/-- The pipeline's obligation: at every point the body takes the buffers from what it finds there to what the proof data say. -/
theorem body_obligation (c : Dev nD) : Pipeline.BodyObligation (dat V O lvl c) (defs₀ (F := F)) 𝒱₀ (default : HIx 1) Set.univ := fun t => by
  rw [bigSep_W1, bigSep_W1]
  rw [show (dat V O lvl c).owesAt (default : HIx 1) t.succ = (dat V O lvl c).owesAt (default : HIx 1) t.castSucc from rfl,
    show (dat V O lvl c).Φ t.succ = (dat V O lvl c).Φ t.castSucc from rfl]
  simp only [before_0, before_1, before_2, before_3, before_4, before_5, before_6, before_7, before_8, before_9, before_10, before_11, before_12, before_13, before_14, before_15, before_16, before_17, before_18]
  unfold owns
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩⟩
  iapply (k5_run c (cfg1.grid.coords t) ((cfg1.win 0).stage (cfg1.slots t 0)) (hstage1_0 ((cfg1.slots t 0).cast nbuf1_0)) ((cfg1.win 1).stage (cfg1.slots t 1)) (hstage1_1 ((cfg1.slots t 1).cast nbuf1_1)) ((cfg1.win 2).stage (cfg1.slots t 2)) (hstage1_2 ((cfg1.slots t 2).cast nbuf1_2)) ((cfg1.win 3).stage (cfg1.slots t 3)) (hstage1_3 ((cfg1.slots t 3).cast nbuf1_3)) ((cfg1.win 4).stage (cfg1.slots t 4)) (hstage1_4 ((cfg1.slots t 4).cast nbuf1_4)) ((cfg1.win 5).stage (cfg1.slots t 5)) (hstage1_5 ((cfg1.slots t 5).cast nbuf1_5)) ((cfg1.win 6).stage (cfg1.slots t 6)) (hstage1_6 ((cfg1.slots t 6).cast nbuf1_6)) ((cfg1.win 7).stage (cfg1.slots t 7)) (hstage1_7 ((cfg1.slots t 7).cast nbuf1_7)) ((cfg1.win 8).stage (cfg1.slots t 8)) (hstage1_8 ((cfg1.slots t 8).cast nbuf1_8)) ((cfg1.win 9).stage (cfg1.slots t 9)) (hstage1_9 ((cfg1.slots t 9).cast nbuf1_9)) ((cfg1.win 10).stage (cfg1.slots t 10)) (hstage1_10 ((cfg1.slots t 10).cast nbuf1_10)) ((cfg1.win 11).stage (cfg1.slots t 11)) (hstage1_11 ((cfg1.slots t 11).cast nbuf1_11)) ((cfg1.win 12).stage (cfg1.slots t 12)) (hstage1_12 ((cfg1.slots t 12).cast nbuf1_12)) ((cfg1.win 13).stage (cfg1.slots t 13)) (hstage1_13 ((cfg1.slots t 13).cast nbuf1_13)) ((cfg1.win 14).stage (cfg1.slots t 14)) (hstage1_14 ((cfg1.slots t 14).cast nbuf1_14)) ((cfg1.win 15).stage (cfg1.slots t 15)) (hstage1_15 ((cfg1.slots t 15).cast nbuf1_15)) ((cfg1.win 16).stage (cfg1.slots t 16)) (hstage1_16 ((cfg1.slots t 16).cast nbuf1_16)) ((cfg1.win 17).stage (cfg1.slots t 17)) (hstage1_17 ((cfg1.slots t 17).cast nbuf1_17)) ((cfg1.win 18).stage (cfg1.slots t 18)) (hstage1_18 ((cfg1.slots t 18).cast nbuf1_18)) ((cfg1.win 19).stage (cfg1.slots t 19)) (hstage1_19 ((cfg1.slots t 19).cast nbuf1_19)) f0 f1 f2 f3 f4 f5 f6 f7 f8 f9 f10 f11 f12 f13 f14 f15 f16 f17 f18 f19 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H0, H1, H2, H3, H4, H5, H6, H7, H8, H9, H10, H11, H12, H13, H14, H15, H16, H17, H18, ⟨%g, %hg, H19⟩⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  isplitl [H8]; · iexists f8; isplitr; swap; (· iexact H8); ipureintro; exact hf8
  isplitl [H9]; · iexists f9; isplitr; swap; (· iexact H9); ipureintro; exact hf9
  isplitl [H10]; · iexists f10; isplitr; swap; (· iexact H10); ipureintro; exact hf10
  isplitl [H11]; · iexists f11; isplitr; swap; (· iexact H11); ipureintro; exact hf11
  isplitl [H12]; · iexists f12; isplitr; swap; (· iexact H12); ipureintro; exact hf12
  isplitl [H13]; · iexists f13; isplitr; swap; (· iexact H13); ipureintro; exact hf13
  isplitl [H14]; · iexists f14; isplitr; swap; (· iexact H14); ipureintro; exact hf14
  isplitl [H15]; · iexists f15; isplitr; swap; (· iexact H15); ipureintro; exact hf15
  isplitl [H16]; · iexists f16; isplitr; swap; (· iexact H16); ipureintro; exact hf16
  isplitl [H17]; · iexists f17; isplitr; swap; (· iexact H17); ipureintro; exact hf17
  isplitl [H18]; · iexists f18; isplitr; swap; (· iexact H18); ipureintro; exact hf18
  iexists g; isplitr
  swap; · iexact H19
  ipureintro
  rw [hf0, hf1, hf2, hf3, hf4, hf5, hf6, hf7, hf8, hf9, hf10, hf11, hf12, hf13, hf14, hf15, hf16, hf17, hf18] at hg
  exact hg

end Region

end Cert.Proof.KernelIdeal

end
-- ==== Proof.KVal.lean ====
/-
  What the TensorCore call's body computes, row by row: its output block at row `r` is the row function of the input
  blocks' rows.
-/
module

public import proofs.«01_k».proof.Proof.Spec
public import proofs.«01_k».proof.Proof.K5

@[expose] public section

set_option maxRecDepth 16384

noncomputable section

namespace Cert.Proof.KernelIdeal

open Cert.KernelIdeal Cert.KernelIdeal.Gen
open Idealize.ShloMosaic
open Cert.Proof.Row

abbrev Arr (s : Shape) := s.Idx → Elt Ideal .f32

/-- The projected queries. -/
theorem k5q_apply (x1 : Arr S256x128) (x4 : Arr S128x128) (x7 : Arr S1x128) (r : Fin 256) (j : Fin 128) :
    k5q (F := Ideal) x1 x4 x7 (ix2 r j) = affine (fun a d => x4 (ix2 a d)) (fun a => x7 (ix2 0 a)) (fun d => x1 (ix2 r d)) j := by
  unfold k5q affine
  pointwise [k1_pay2]

/-- The projected keys, ten to a query. -/
theorem k5k_apply (x2 : Arr S2560x128) (x5 : Arr S128x128) (x8 : Arr S1x128) (r : Fin 256) (t : Fin 10) (j : Fin 128) :
    k5k (F := Ideal) x2 x5 x8 (ix3 r t j)
      = affine (fun a d => x5 (ix2 a d)) (fun a => x8 (ix2 0 a)) (fun d => x2 (ix2 ⟨r.val * 10 + t.val, by have := r.isLt; have := t.isLt; omega⟩ d)) j := by
  unfold k5k affine
  pointwise [k1_pay3]

/-- The projected values. -/
theorem k5v_apply (x2 : Arr S2560x128) (x5 : Arr S128x128) (x8 : Arr S1x128) (r : Fin 256) (t : Fin 10) (j : Fin 128) :
    k5v (F := Ideal) x2 x5 x8 (ix3 r t j)
      = affine (fun a d => x5 (ix2 a d)) (fun a => x8 (ix2 0 a)) (fun d => x2 (ix2 ⟨r.val * 10 + t.val, by have := r.isLt; have := t.isLt; omega⟩ d)) j := by
  unfold k5v affine
  pointwise [k1_pay4]

/-- Head 1. -/
theorem head1_apply (q : Arr S256x128) (k v : Arr S256x10x128) (r : Fin 256) (e : Fin 16) :
    k1_pay9 (F := Ideal) q k v (ix2 r e) = headOut (fun d => q (ix2 r d)) (fun t d => k (ix3 r t d)) (fun t d => v (ix3 r t d)) 1 e := by
  unfold headOut soft best score lane
  pointwise [k1_pay9]

/-- Head 3. -/
theorem head3_apply (q : Arr S256x128) (k v : Arr S256x10x128) (r : Fin 256) (e : Fin 16) :
    k1_pay13 (F := Ideal) q k v (ix2 r e) = headOut (fun d => q (ix2 r d)) (fun t d => k (ix3 r t d)) (fun t d => v (ix3 r t d)) 3 e := by
  unfold headOut soft best score lane
  pointwise [k1_pay13]

/-- Head 5. -/
theorem head5_apply (q : Arr S256x128) (k v : Arr S256x10x128) (r : Fin 256) (e : Fin 16) :
    k1_pay17 (F := Ideal) q k v (ix2 r e) = headOut (fun d => q (ix2 r d)) (fun t d => k (ix3 r t d)) (fun t d => v (ix3 r t d)) 5 e := by
  unfold headOut soft best score lane
  pointwise [k1_pay17]

/-- Head 6. -/
theorem head6_apply (q : Arr S256x128) (k v : Arr S256x10x128) (r : Fin 256) (e : Fin 16) :
    k1_pay18 (F := Ideal) q k v (ix2 r e) = headOut (fun d => q (ix2 r d)) (fun t d => k (ix3 r t d)) (fun t d => v (ix3 r t d)) 6 e := by
  unfold headOut soft best score lane
  pointwise [k1_pay18]

/-- Head 2. -/
theorem head2_apply (q : Arr S256x128) (k v : Arr S256x10x128) (r : Fin 256) (e : Fin 16) :
    k1_pay12 (F := Ideal) (k1_pay10 v) (k1_pay11 q k) (ix2 r e) = headOut (fun d => q (ix2 r d)) (fun t d => k (ix3 r t d)) (fun t d => v (ix3 r t d)) 2 e := by
  unfold headOut soft best score lane
  pointwise [k1_pay12, k1_pay10, k1_pay11]

/-- Head 4. -/
theorem head4_apply (q : Arr S256x128) (k v : Arr S256x10x128) (r : Fin 256) (e : Fin 16) :
    k1_pay16 (F := Ideal) (k1_pay14 v) (k1_pay15 q k) (ix2 r e) = headOut (fun d => q (ix2 r d)) (fun t d => k (ix3 r t d)) (fun t d => v (ix3 r t d)) 4 e := by
  unfold headOut soft best score lane
  pointwise [k1_pay16, k1_pay14, k1_pay15]

/-- Head 0, its first steps on the blocks themselves. -/
theorem head0_apply (x1 : Arr S256x128) (x2 x3 : Arr S2560x128) (x4 x5 x6 : Arr S128x128) (x7 x8 x9 : Arr S1x128) (r : Fin 256) (e : Fin 16) :
    k1_pay8 (F := Ideal) (k1_pay5 x3 x6 x9) (k1_pay6 x1 x2 x4 x7 x5 x8) k1_pay7 (ix2 r e)
      = headOut (fun d => k5q x1 x4 x7 (ix2 r d)) (fun t d => k5k x2 x5 x8 (ix3 r t d)) (fun t d => k5v x3 x6 x9 (ix3 r t d)) 0 e := by
  show k1_pay8 (F := Ideal) (extractStridedSlice S256x10x16 ![0, 0, 0] (k5v x3 x6 x9) slices_S256x10x128_o0_0_0_S256x10x16)
    (multiReduction (F := Ideal) .add [2] S256x10 (mulf (extractStridedSlice S256x10x16 ![0, 0, 0] (k5k x2 x5 x8) slices_S256x10x128_o0_0_0_S256x10x16)
      (broadcastTo S256x10x16 (shapeCast S256x1x16 (extractStridedSlice S256x16 ![0, 0] (k5q x1 x4 x7) slices_S256x128_o0_0_S256x16) shapeCasts_S256x16_S256x1x16) broadcasts_S256x1x16_S256x10x16))
      0x00000000#32 reduces_S256x10x16_S256x10 (.inl rfl) rfl) k1_pay7 (ix2 r e) = _
  generalize k5q x1 x4 x7 = q
  generalize k5k x2 x5 x8 = k
  generalize k5v x3 x6 x9 = v
  unfold headOut soft best score lane
  pointwise [k1_pay8, k1_pay7]

/-- A lane of the heads side by side is its own head's. -/
theorem heads_at (q : Lanes) (k v : Fin 10 → Lanes) (h : Fin 8) (d : Fin 128) (e : Fin 16) (hd : d.val = h.val * 16 + e.val) :
    heads q k v d = headOut q k v h e := by
  have := e.isLt
  unfold heads
  congr 1 <;> refine Fin.ext ?_ <;> simp only <;> omega

/-- Eight heads' outputs concatenated. -/
theorem concat_heads (q : Fin 256 → Lanes) (k v : Fin 256 → Fin 10 → Lanes) (o0 o1 o2 o3 o4 o5 o6 o7 : Arr S256x16)
    (h0 : ∀ r e, o0 (ix2 r e) = headOut (q r) (k r) (v r) 0 e) (h1 : ∀ r e, o1 (ix2 r e) = headOut (q r) (k r) (v r) 1 e)
    (h2 : ∀ r e, o2 (ix2 r e) = headOut (q r) (k r) (v r) 2 e) (h3 : ∀ r e, o3 (ix2 r e) = headOut (q r) (k r) (v r) 3 e)
    (h4 : ∀ r e, o4 (ix2 r e) = headOut (q r) (k r) (v r) 4 e) (h5 : ∀ r e, o5 (ix2 r e) = headOut (q r) (k r) (v r) 5 e)
    (h6 : ∀ r e, o6 (ix2 r e) = headOut (q r) (k r) (v r) 6 e) (h7 : ∀ r e, o7 (ix2 r e) = headOut (q r) (k r) (v r) 7 e) :
    (concatenate S256x128 1 [⟨S256x16, o0⟩, ⟨S256x16, o1⟩, ⟨S256x16, o2⟩, ⟨S256x16, o3⟩, ⟨S256x16, o4⟩, ⟨S256x16, o5⟩, ⟨S256x16, o6⟩, ⟨S256x16, o7⟩]
        concatenates_S256x16_S256x16_S256x16_S256x16_S256x16_S256x16_S256x16_S256x16_S256x128_d1 : Arr S256x128)
      = fun i => heads (q (i 0)) (k (i 0)) (v (i 0)) (i 1) := by
  funext i
  idx_vars i
  pointwise []
  simp only [h0, h1, h2, h3, h4, h5, h6, h7]
  split_ifs <;> (refine (heads_at _ _ _ _ _ _ ?_).symm; simp <;> omega)

/-- The attention step's block: the query plus the projected heads. -/
theorem att_apply (x1 q : Arr S256x128) (k v : Arr S256x10x128) (o0 o1 o2 o3 o4 o5 o6 : Arr S256x16) (x10 : Arr S128x128) (x11 : Arr S1x128)
    (h0 : ∀ r e, o0 (ix2 r e) = headOut (fun d => q (ix2 r d)) (fun t d => k (ix3 r t d)) (fun t d => v (ix3 r t d)) 0 e)
    (h1 : ∀ r e, o1 (ix2 r e) = headOut (fun d => q (ix2 r d)) (fun t d => k (ix3 r t d)) (fun t d => v (ix3 r t d)) 1 e)
    (h2 : ∀ r e, o2 (ix2 r e) = headOut (fun d => q (ix2 r d)) (fun t d => k (ix3 r t d)) (fun t d => v (ix3 r t d)) 2 e)
    (h3 : ∀ r e, o3 (ix2 r e) = headOut (fun d => q (ix2 r d)) (fun t d => k (ix3 r t d)) (fun t d => v (ix3 r t d)) 3 e)
    (h4 : ∀ r e, o4 (ix2 r e) = headOut (fun d => q (ix2 r d)) (fun t d => k (ix3 r t d)) (fun t d => v (ix3 r t d)) 4 e)
    (h5 : ∀ r e, o5 (ix2 r e) = headOut (fun d => q (ix2 r d)) (fun t d => k (ix3 r t d)) (fun t d => v (ix3 r t d)) 5 e)
    (h6 : ∀ r e, o6 (ix2 r e) = headOut (fun d => q (ix2 r d)) (fun t d => k (ix3 r t d)) (fun t d => v (ix3 r t d)) 6 e)
    (r : Fin 256) (j : Fin 128) :
    k1_pay20 (F := Ideal) x1 k v o0 o1 o2 o3 o4 o5 o6 (k1_pay19 q) x10 x11 (ix2 r j)
      = x1 (ix2 r j) + affine (fun a d => x10 (ix2 a d)) (fun a => x11 (ix2 0 a))
          (heads (fun d => q (ix2 r d)) (fun t d => k (ix3 r t d)) (fun t d => v (ix3 r t d))) j := by
  unfold k1_pay20
  dsimp only
  rw [concat_heads (fun r d => q (ix2 r d)) (fun r t d => k (ix3 r t d)) (fun r t d => v (ix3 r t d)) o0 o1 o2 o3 o4 o5 o6 _ h0 h1 h2 h3 h4 h5 h6]
  · unfold affine
    pointwise []
  · intro r e
    unfold headOut soft best score lane
    pointwise [k1_pay19]

/-- The row's mean before the first normalisation. -/
theorem mean_apply (x1 : Arr S256x128) (k v : Arr S256x10x128) (o0 o1 o2 o3 o4 o5 o6 o7 : Arr S256x16) (x10 : Arr S128x128) (x11 : Arr S1x128) (r : Fin 256) :
    k1_pay23 (F := Ideal) x1 k v o0 o1 o2 o3 o4 o5 o6 o7 x10 x11 (ix2 r 0)
      = mean fun d => k1_pay20 (F := Ideal) x1 k v o0 o1 o2 o3 o4 o5 o6 o7 x10 x11 (ix2 r d) := by
  unfold mean
  pointwise [k1_pay23]

/-- The sum of squares the first normalisation takes its variance from. -/
theorem sq_apply (x1 : Arr S256x128) (k v : Arr S256x10x128) (o0 o1 o2 o3 o4 o5 o6 o7 : Arr S256x16) (x10 : Arr S128x128) (x11 : Arr S1x128) (r : Fin 256) :
    Ideal.div (k1_pay24 (F := Ideal) x1 k v o0 o1 o2 o3 o4 o5 o6 o7 x10 x11 (ix1 r)) count
      = var fun d => k1_pay20 (F := Ideal) x1 k v o0 o1 o2 o3 o4 o5 o6 o7 x10 x11 (ix2 r d) := by
  unfold var
  simp only [← mean_apply]
  pointwise [k1_pay24]

/-- The first normalisation and the feed-forward step. -/
theorem forward_apply (A : Arr S256x128) (m : Arr S256x1) (s : Arr S256) (g c b1 b2 : Arr S1x128) (W1 W2 : Arr S128x128) (r : Fin 256) (j : Fin 128)
    (hm : m (ix2 r 0) = mean fun d => A (ix2 r d)) (hs : Ideal.div (s (ix1 r)) count = var fun d => A (ix2 r d)) :
    k1_pay25 (F := Ideal) A g c m s W1 b1 W2 b2 (ix2 r j)
      = forward (fun a d => W1 (ix2 a d)) (fun a d => W2 (ix2 a d)) (fun a => b1 (ix2 0 a)) (fun a => b2 (ix2 0 a))
          (layerNorm (fun a => g (ix2 0 a)) (fun a => c (ix2 0 a)) fun d => A (ix2 r d)) j := by
  unfold forward affine leaky layerNorm
  rw [← hm, ← hs]
  pointwise [k1_pay25]

/-- The second normalisation. -/
theorem last_apply (A : Arr S256x128) (m : Arr S256x1) (g c : Arr S1x128) (r : Fin 256) (j : Fin 128) (hm : m (ix2 r 0) = mean fun d => A (ix2 r d)) :
    k1_pay1 (F := Ideal) A g c m (ix2 r j) = layerNorm (fun a => g (ix2 0 a)) (fun a => c (ix2 0 a)) (fun d => A (ix2 r d)) j := by
  unfold layerNorm var
  rw [← hm]
  pointwise [k1_pay1]

theorem pay28_apply (A : Arr S256x128) (m : Arr S256x1) (s : Arr S256) (g c b1 b2 : Arr S1x128) (W1 W2 : Arr S128x128) (r : Fin 256) :
    k1_pay28 (F := Ideal) A g c m s W1 b1 W2 b2 (ix2 r 0) = mean fun d => k1_pay25 (F := Ideal) A g c m s W1 b1 W2 b2 (ix2 r d) := by
  unfold mean
  pointwise [k1_pay28]

theorem same21 (x : Arr S1x128) : k1_pay21 (F := Ideal) x = x := by funext i; idx_vars i; pointwise [k1_pay21]
theorem same22 (x : Arr S1x128) : k1_pay22 (F := Ideal) x = x := by funext i; idx_vars i; pointwise [k1_pay22]
theorem same26 (x : Arr S1x128) : k1_pay26 (F := Ideal) x = x := by funext i; idx_vars i; pointwise [k1_pay26]
theorem same27 (x : Arr S1x128) : k1_pay27 (F := Ideal) x = x := by funext i; idx_vars i; pointwise [k1_pay27]

/-- The body's block, row by row. -/
theorem k5out_apply (x1 : Arr S256x128) (x2 x3 : Arr S2560x128) (x4 x5 x6 : Arr S128x128) (x7 x8 x9 : Arr S1x128) (x10 : Arr S128x128) (x11 : Arr S1x128)
    (x12 : Arr S128x128) (x13 : Arr S1x128) (x14 : Arr S128x128) (x15 x16 x17 x18 x19 : Arr S1x128) (r : Fin 256) (j : Fin 128) :
    k5out (F := Ideal) x1 x2 x3 x4 x5 x6 x7 x8 x9 x10 x11 x12 x13 x14 x15 x16 x17 x18 x19 (ix2 r j)
      = row (fun a d => x4 (ix2 a d)) (fun a d => x5 (ix2 a d)) (fun a d => x6 (ix2 a d)) (fun a d => x10 (ix2 a d)) (fun a d => x12 (ix2 a d)) (fun a d => x14 (ix2 a d))
          (fun a => x7 (ix2 0 a)) (fun a => x8 (ix2 0 a)) (fun a => x9 (ix2 0 a)) (fun a => x11 (ix2 0 a)) (fun a => x13 (ix2 0 a)) (fun a => x15 (ix2 0 a))
          (fun a => x16 (ix2 0 a)) (fun a => x17 (ix2 0 a)) (fun a => x18 (ix2 0 a)) (fun a => x19 (ix2 0 a))
          (fun d => x1 (ix2 r d)) (fun t d => x2 (ix2 ⟨r.val * 10 + t.val, by have := r.isLt; have := t.isLt; omega⟩ d))
          (fun t d => x3 (ix2 ⟨r.val * 10 + t.val, by have := r.isLt; have := t.isLt; omega⟩ d)) j := by
  unfold k5out k5att row
  rw [same21, same22, same26, same27]
  rw [last_apply _ _ _ _ r j (pay28_apply ..)]
  congr 1
  funext d
  rw [forward_apply _ _ _ _ _ _ _ _ _ r d (mean_apply ..) (sq_apply ..)]
  congr 2
  funext d
  rw [att_apply _ _ _ _ _ _ _ _ _ _ _ _ _ (fun r e => head0_apply ..) (fun r e => head1_apply ..) (fun r e => head2_apply ..) (fun r e => head3_apply ..) (fun r e => head4_apply ..) (fun r e => head5_apply ..) (fun r e => head6_apply ..)]
  unfold attended
  simp only [k5q_apply, k5k_apply, k5v_apply]

end Cert.Proof.KernelIdeal

end
-- ==== Proof.Region.lean ====
/-
  The TensorCore call as a step of its caller: from every array at a valuation to every array at that valuation with
  the call's result replaced, whatever the caller owes the SparseCores meanwhile.
-/
module

public import proofs.«01_k».proof.Proof.K5
public import Idealize.ShloMosaic.Lib.Pipeline.FrameTail

@[expose] public section

noncomputable section

namespace Cert.Proof.KernelIdeal

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-- No pipeline has a prefetched table. -/
abbrev adm : (p : Fin 1) → (pcfgs (F := F) p).Adm := fun p => (cfgs p).toPCfg_adm

/-- A valuation of the device's buffers, read at the TensorCore's references. -/
abbrev atRefs (W : Dev nD → Valuation τ sig (Elt F)) : (c : Dev nD) → (b : Ref sig .tc) → Buf (Elt F) ((c : Thread nD τ).loc b) :=
  fun c b => W c (Proc.devRef .tc b)

variable (W : Dev nD → Valuation τ sig (Elt F)) (O : Dev nD → CellTallies nD τ sig (HIx 1)) (lvl : ℕ)

/-- The valuation the call leaves: its result's array overwritten by what is written back, every other buffer as it was. -/
def afterK5 (c : Dev nD) : Valuation τ sig (Elt F) := Pipeline.afterRegion (dat (atRefs W) O lvl c) (W c)

set_option backward.isDefEq.respectTransparency.types false in
/-- The call as a segment of its caller. -/
def reg (hO : ∀ c g, O c g none = 0) :
    Pipeline.RegionSeg (pcfgs (F := F)) adm (pdats (atRefs W) O lvl) (default : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation (atRefs W) O lvl c).loose
  hwaits c := Pipeline.cellsWaits_intro _ _ _ _ _ fun w s t => (K (F := F)).mayWait_none _ (hO c)
  pre c := iprop(StableHlo.held (c : Thread nD τ) (Pipeline.ucRefs τ sig) (W c) ∗ ∃ R, ⌜(K (F := F)).WBelow (T c) R lvl⌝ ∗ owes (c : Thread nD τ) (O c) R)
  post c := iprop(StableHlo.held (c : Thread nD τ) (Pipeline.ucRefs τ sig) (afterK5 W O lvl c) ∗ ∃ R, ⌜(K (F := F)).WBelow (T c) R lvl⌝ ∗ owes (c : Thread nD τ) (O c) R)
  X _ := BI.emp
  Y _ := BI.emp
  Z c := Pipeline.unscopedRest (Ix := HIx 1) (Name := ℕ) (U := UU) (Lvl := ℕ) spec1 c (atRefs W c)
  hentry c := by
    rw [Pipeline.ownSems0_none, ← Pipeline.unscopedBufs_held]
    have hsplit := Pipeline.arrays_of_unscopedBufs (p := 0) (pcfgs (F := F)) adm (pdats (atRefs W) O lvl) launch1.win launch1.arr_whole c
      ((pdats (atRefs W) O lvl 0 c).share_full fun _ => rfl) (atRefs W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%R, %hR, HO⟩; iexists R; isplitr
      · ipureintro; exact fun p hp => Or.inl (hR p hp)
      iexact HO
    isplitr; · iempintro
    iexact Hrest
  hin c := by
    rw [show (pdats (atRefs W) O lvl 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats (atRefs W) O lvl 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats (atRefs W) O lvl) ((pdats (atRefs W) O lvl 0 c).share_full fun _ => rfl) (atRefs W c) (atRefs (afterK5 W O lvl) c) ((pdats (atRefs W) O lvl 0 c).arrAt · cfg1.N)
      (fun w => (Pipeline.afterRegion_arr (dat (atRefs W) O lvl c) (W c) launch1.win.arr_inj w).symm)
      (fun b hb => Pipeline.afterRegion_of_not_arr (dat (atRefs W) O lvl c) (W c) fun w h => hb (h ▸ Finset.mem_image.mpr ⟨w, Finset.mem_univ _, rfl⟩))
    rw [← Pipeline.unscopedBufs_held]
    iintro ⟨Ha, HO, -, Hrest⟩
    imodintro
    isplitl [Ha Hrest]
    · iapply hjoin; isplitl [Ha] <;> iassumption
    unfold Pipeline.Dat.owesAt Pipeline.owesWithin
    icases HO with ⟨%R, %hR, HO⟩; iexists R; isplitr
    · ipureintro
      intro p hp
      rcases hR hp with h | ⟨w, s, h⟩
      · exact h
      · have h2 : p.2 = none := by rw [h]; rfl
        rw [h2, SparseCore.Cfg.lev_none]; exact Nat.zero_le _
    iexact HO

end Cert.Proof.KernelIdeal

end
-- ==== Proof.Launch.lean ====
/-
  The SparseCore call as the launch sees it: what the handshakes carry, the tasks' obligation, and how the five arrays
  are dealt to the 32 tasks and come back with every row of the two outputs gathered.
-/
module

public import proofs.«01_k».proof.Proof.Region
public import Idealize.ShloMosaic.Lib.SparseCore.Quiescent

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The handshakes' rounds, and the pipelines', in the certificate's ghost state. -/
abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

variable (A B : (d : Dev nD) → S100000x128.Idx → Elt F .f32) (ix : (d : Dev nD) → S10240.Idx → BitVec 32)

/-- The number of the task on SparseCore `c`, tile `i`. -/
def taskOf (c : Fin ((K (F := F)).nCore 0)) (i : Fin ((K (F := F)).nSub 0)) : Fin 32 :=
  ⟨i.val * 2 + c.val, by have h0 : c.val < 2 := c.isLt; have h1 : i.val < 16 := i.isLt; omega⟩

/-- What the handshakes carry: a core's 16 tasks' shares there, and their results back. -/
def P : (K (F := F)).Pay (nD := nD) (Val := Elt F) (Name := ℕ) (U := UU) where
  st := fun q d => match q with | 0 => fun c => bigSep Finset.univ fun i => tileIn A B ix d (taskOf c i)
  dn := fun q d => match q with | 0 => fun c => bigSep Finset.univ fun i => tileOut A B ix d (taskOf c i)
  go := fun q d => match q with | 0 => fun c i => tileIn A B ix d (taskOf c i)
  td := fun q d => match q with | 0 => fun c i => tileOut A B ix d (taskOf c i)
  x := fun _ _ => iprop(emp)

instance P_storable : (P (F := F) A B ix).IsStorable where
  st q d c := match q with | 0 => by show BI.Storable _ (bigSep Finset.univ fun i => tileIn A B ix d (taskOf c i)); infer_instance
  dn q d c := match q with | 0 => by show BI.Storable _ (bigSep Finset.univ fun i => tileOut A B ix d (taskOf c i)); infer_instance
  go q d c i := match q with | 0 => by show BI.Storable _ (tileIn A B ix d (taskOf c i)); infer_instance
  td q d c i := match q with | 0 => by show BI.Storable _ (tileOut A B ix d (taskOf c i)); infer_instance

/-- A core's operands are its tasks' and its results theirs. -/
theorem vecSplit : (K (F := F)).VecSplit' (P A B ix) 0 := by
  intro d c
  show (bigSep Finset.univ fun i => tileIn A B ix d (taskOf c i)) ⊢ |={Set.univ}=> iprop(
    (bigSep Finset.univ fun i => tileIn A B ix d (taskOf c i))
      ∗ ((bigSep Finset.univ fun i => tileOut A B ix d (taskOf c i)) -∗ bigSep Finset.univ fun i => tileOut A B ix d (taskOf c i)))
  iintro H; imodintro
  isplitl [H]; · iexact H
  iintro H; iexact H

/-! ## The tasks' obligation -/

/-- The two grid coordinates of a task. -/
abbrev coordsV (c : Fin (grid0.bound 0)) (s : Fin (grid0.bound 1)) : grid0.Coords :=
  fun | 0 => c | 1 => s | ⟨_ + 2, h⟩ => absurd h (Nat.not_lt.2 (Nat.le_add_left _ _))

/-- A task's own waits are at the index of no call. -/
theorem obl_post {R S₁ S₂ : sProp 𝕄} {thr : Thread nD τ} {O : CellTallies nD τ sig (HIx 1)} {W : Waits sig (HIx 1)} :
    iprop(R ∗ S₁ ∗ S₂ ∗ ∃ W', ⌜∀ p ∈ W', p ∈ W ∨ p.2 = none⌝ ∗ owes thr O W')
      ⊢ iprop(R ∗ S₁ ∗ S₂ ∗ ∃ W', ⌜∀ p ∈ W', p ∈ W ∨ (p.2 = none ∨ p.2 = some (0 : Fin 1))⌝ ∗ owes thr O W') := by
  iintro ⟨HR, H1, H2, ⟨%W', %hW, HO⟩⟩
  isplitl [HR]; · iexact HR
  isplitl [H1]; · iexact H1
  isplitl [H2]; · iexact H2
  iexists W'; isplitr
  · ipureintro; exact fun p hp => (hW p hp).imp id Or.inl
  iexact HO

theorem defs₀_vector (c : Fin τ.nSC) (s : Fin τ.nSub) :
    defs₀ (F := F) (.scVector c s) 0 ()
      = SparseCore.onTile hcore0 hsub0 (fun c s => cc0__g3_body (coordsV c s) kV (Memref.isWhole_whole _) vV (Memref.isWhole_whole _) iV (Memref.isWhole_whole _) pV (Memref.isWhole_whole _) qV (Memref.isWhole_whole _) sV (Memref.isWhole_whole _) rV (Memref.isWhole_whole _) cc0_scratch2 cc0_scoped0 cc0_scoped1 cc0_scoped2) ⟨⟩ c s := rfl

/-- Every task runs from its share to its results. -/
theorem tileObl (hix : ∀ d j, (ix d j).toNat < 100000) : (K (F := F)).TileObl (D (F := F)) 𝒱 (P A B ix) v₀ 0 := by
  intro d c i O W hO _ _
  simp only [show (P A B ix).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A B ix d (coordsV ⟨_, hci.1⟩ ⟨_, hci.2⟩) facts hix O W hO).trans (wp_mono frame _ _ fun _ => obl_post)

/-! ## Dealing the arrays to the 32 tasks -/

theorem orows_disjoint : ∀ i ∈ (Finset.univ : Finset (Fin 32)), ∀ j ∈ (Finset.univ : Finset (Fin 32)), i ≠ j → Disjoint (orow i).set (orow j).set :=
  fun _ _ _ _ h => Rect.part_disjoint odiv h
theorem orows_cover : (Finset.univ : Finset (Fin 32)).biUnion (fun w => (orow w).set) = Finset.univ := Rect.biUnion_part odiv

/-- An output held whole is its 32 tasks' rows. -/
theorem pRows (d : Dev nD) (f : Buf (Elt F) (pLoc d)) :
    (pLoc d ↦{fullShare} f : sProp 𝕄) = bigSep Finset.univ fun w : Fin 32 => pLoc d ↦[(orow w).set]{fullShare} f := by
  rw [← pointsTo_biUnion Finset.univ (ℓ := pLoc d) (fun w : Fin 32 => (orow w).set) orows_disjoint, orows_cover]; try rfl
theorem qRows (d : Dev nD) (f : Buf (Elt F) (qLoc d)) :
    (qLoc d ↦{fullShare} f : sProp 𝕄) = bigSep Finset.univ fun w : Fin 32 => qLoc d ↦[(orow w).set]{fullShare} f := by
  rw [← pointsTo_biUnion Finset.univ (ℓ := qLoc d) (fun w : Fin 32 => (orow w).set) orows_disjoint, orows_cover]; try rfl

/-- Cores and tiles number the tasks. -/
def taskEquiv : Fin ((K (F := F)).nCore 0) × Fin ((K (F := F)).nSub 0) ≃ Fin 32 where
  toFun p := taskOf p.1 p.2
  invFun w := (⟨w.val % 2, Nat.mod_lt _ (by decide)⟩, ⟨w.val / 2, by have := w.isLt; show w.val / 2 < 16; omega⟩)
  left_inv p := by
    have h0 : p.1.val < 2 := p.1.isLt
    refine Prod.ext (Fin.ext ?_) (Fin.ext ?_)
    · show (p.2.val * 2 + p.1.val) % 2 = p.1.val; omega
    · show (p.2.val * 2 + p.1.val) / 2 = p.2.val; omega
  right_inv w := Fin.ext (by show w.val / 2 * 2 + w.val % 2 = w.val; omega)

theorem bigSep_tasks (Φ : Fin 32 → sProp 𝕄) :
    (bigSep Finset.univ fun c : Fin ((K (F := F)).nCore 0) => bigSep Finset.univ fun i : Fin ((K (F := F)).nSub 0) => Φ (taskOf c i)) = bigSep Finset.univ Φ := by
  rw [bigSep_univ_equiv (taskEquiv (F := F)) Φ, bigSep_univ_prod]; rfl

/-- The call's operands, from the five arrays held whole. -/
theorem deal (d : Dev nD) (f : Buf (Elt F) (pLoc d)) (g : Buf (Elt F) (qLoc d)) :
    iprop((kLoc d ↦{fullShare} (A d : Buf (Elt F) (kLoc d))) ∗ (vLoc d ↦{fullShare} (B d : Buf (Elt F) (vLoc d))) ∗ (iLoc d ↦{fullShare} (ix d : Buf (Elt F) (iLoc d)))
        ∗ (pLoc d ↦{fullShare} f) ∗ (qLoc d ↦{fullShare} g))
      ⊢ (bigSep Finset.univ fun c => (P A B ix).st 0 d c : sProp 𝕄) := by
  show _ ⊢ bigSep Finset.univ fun c => bigSep Finset.univ fun i => tileIn A B ix d (taskOf c i)
  rw [bigSep_tasks (F := F) (fun w => tileIn A B ix d w), bigSep_sep', bigSep_sep', bigSep_sep', bigSep_sep', pRows, qRows,
    Transfers.pointsTo_deal (ℓ := kLoc d) (Finset.univ : Finset (Fin 32)) ⟨0, Finset.mem_univ _⟩ fullShare,
    Transfers.pointsTo_deal (ℓ := vLoc d) (Finset.univ : Finset (Fin 32)) ⟨0, Finset.mem_univ _⟩ fullShare,
    Transfers.pointsTo_deal (ℓ := iLoc d) (Finset.univ : Finset (Fin 32)) ⟨0, Finset.mem_univ _⟩ fullShare]
  have hp : (bigSep Finset.univ fun w : Fin 32 => iprop(pLoc d ↦[(orow w).set]{fullShare} f) : sProp 𝕄)
      ⊢ bigSep Finset.univ fun w : Fin 32 => iprop(∃ f', pLoc d ↦[(orow w).set]{fullShare} f') :=
    bigSep_mono fun w _ => exists_intro (Φ := fun f' : Buf (Elt F) (pLoc d) => iprop(pLoc d ↦[(orow w).set]{fullShare} f')) f
  have hq : (bigSep Finset.univ fun w : Fin 32 => iprop(qLoc d ↦[(orow w).set]{fullShare} g) : sProp 𝕄)
      ⊢ bigSep Finset.univ fun w : Fin 32 => iprop(∃ f', qLoc d ↦[(orow w).set]{fullShare} f') :=
    bigSep_mono fun w _ => exists_intro (Φ := fun f' : Buf (Elt F) (qLoc d) => iprop(qLoc d ↦[(orow w).set]{fullShare} f')) g
  iintro ⟨H1, H2, H3, H4, H5⟩
  isplitl [H1]; · iexact H1
  isplitl [H2]; · iexact H2
  isplitl [H3]; · iexact H3
  isplitl [H4]
  · iapply hp; iexact H4
  iapply hq; iexact H5

/-- The call's results: the arrays whole again, the outputs at the gathered rows. -/
theorem undeal (d : Dev nD) :
    (bigSep Finset.univ fun c => (P A B ix).dn 0 d c : sProp 𝕄)
      ⊢ iprop((kLoc d ↦{fullShare} (A d : Buf (Elt F) (kLoc d))) ∗ (vLoc d ↦{fullShare} (B d : Buf (Elt F) (vLoc d))) ∗ (iLoc d ↦{fullShare} (ix d : Buf (Elt F) (iLoc d)))
        ∗ (pLoc d ↦{fullShare} (gath (A d) (ix d) : Buf (Elt F) (pLoc d))) ∗ (qLoc d ↦{fullShare} (gath (B d) (ix d) : Buf (Elt F) (qLoc d)))) := by
  show (bigSep Finset.univ fun c => bigSep Finset.univ fun i => tileOut A B ix d (taskOf c i)) ⊢ _
  rw [bigSep_tasks (F := F) (fun w => tileOut A B ix d w), bigSep_sep', bigSep_sep', bigSep_sep', bigSep_sep', pRows, qRows,
    Transfers.pointsTo_deal (ℓ := kLoc d) (Finset.univ : Finset (Fin 32)) ⟨0, Finset.mem_univ _⟩ fullShare,
    Transfers.pointsTo_deal (ℓ := vLoc d) (Finset.univ : Finset (Fin 32)) ⟨0, Finset.mem_univ _⟩ fullShare,
    Transfers.pointsTo_deal (ℓ := iLoc d) (Finset.univ : Finset (Fin 32)) ⟨0, Finset.mem_univ _⟩ fullShare]

/-! ## The launch element of the certificate's ghost state -/

def u₀ : UU := (initOf (K (F := F)).hsCells (K (F := F)).hsToks, initOf (Pipeline.cells cfgs cellOf_inj) (Pipeline.launchToks cfgs cellOf_inj), 1)

/-- What the launch deals device `d`'s TensorCore for its pipelines' cells. -/
abbrev G (d : Dev nD) : sProp 𝕄 :=
  iprop((bigSep Finset.univ fun p => Pipeline.cellsGhost cfgs (EP (F := F)) p d) ∗ bigSep Finset.univ fun p => Pipeline.toksInit cfgs (EP (F := F)) p d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P A B ix).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HR⟩
  have hsp : (BI.own ((embR : Emb (UP × Counters) 𝕄) (initOf (Pipeline.cells cfgs cellOf_inj) (Pipeline.launchToks cfgs cellOf_inj), (1 : Counters))) : sProp 𝕄)
      ⊢ iprop(BI.own ((EP : Emb UP 𝕄) (initOf (Pipeline.cells cfgs cellOf_inj) (Pipeline.launchToks cfgs cellOf_inj))) ∗ BI.own ((embR : Emb (UP × Counters) 𝕄) (1, (1 : Counters)))) :=
    BI.own_op_elim ((embR : Emb (UP × Counters) 𝕄).op_of_mem (Prod.mk_mem_op (URA.mem_op_one _) (URA.mem_op_one _)))
  ihave H2 := hsp $$ HR
  icases H2 with ⟨HP, -⟩
  imod (Pipeline.fund_ghost cfgs (EP (F := F)) cellOf_inj) $$ HP with ⟨Hc, Ht⟩
  imodintro
  isplitl [HH]; · iexact HH
  isplitl [Hc Ht]
  · rw [bigSep_sep']; isplitl [Hc] <;> iassumption
  have hx : (iprop(emp) : sProp 𝕄) ⊢ bigSep Finset.univ fun thr : Thread nD τ => bigSep Finset.univ fun q : Fin 1 => (P (F := F) A B ix).x q thr := by
    rw [show (bigSep Finset.univ fun thr : Thread nD τ => bigSep Finset.univ fun q : Fin 1 => (P (F := F) A B ix).x q thr) = bigSep Finset.univ fun _ => BI.emp from
      bigSep_congr fun _ _ => bigSep_univ_of_subsingleton (0 : Fin 1), bigSep_emp_const]
    exact .rfl
  iapply hx; iempintro

end Cert.Proof.KernelIdeal

end
-- ==== Proof.Run.lean ====
/-
  The whole program from its launch to its end: every argument as it was, and the result at the value the
  TensorCore call writes back, over the gathered rows.
-/
module

public import proofs.«01_k».proof.Proof.Launch

@[expose] public section

noncomputable section

namespace Cert.Proof.KernelIdeal

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations -/

/-- Before the SparseCore call: the indices in one row. -/
def ops0 : List (HloOp τ sig (Elt F)) := [StableHlo.reshape main_arg3 main_v0 (rfl : (.i32 : EltTy) = .i32) shapeCasts_S1024x10_S10240]

/-- Between the two calls: the projections' weights and biases cut apart, the vectors as rows. -/
def ops1 : List (HloOp τ sig (Elt F)) := [
  StableHlo.unary main_arg4 main_v2 ((extractStridedSlice S128x128 ![0, 0] · slices_S384x128_S128x128_0_0) : (⟨S384x128, .f32⟩ : BufTy).Contents (Elt F) → (⟨S128x128, .f32⟩ : BufTy).Contents (Elt F)),
  StableHlo.unary main_arg4 main_v3 ((extractStridedSlice S128x128 ![128, 0] · slices_S384x128_S128x128_128_0) : (⟨S384x128, .f32⟩ : BufTy).Contents (Elt F) → (⟨S128x128, .f32⟩ : BufTy).Contents (Elt F)),
  StableHlo.unary main_arg4 main_v4 ((extractStridedSlice S128x128 ![256, 0] · slices_S384x128_S128x128_256_0) : (⟨S384x128, .f32⟩ : BufTy).Contents (Elt F) → (⟨S128x128, .f32⟩ : BufTy).Contents (Elt F)),
  StableHlo.unary main_arg5 main_v5 ((extractStridedSlice S128 ![0] · slices_S384_S128_0) : (⟨S384, .f32⟩ : BufTy).Contents (Elt F) → (⟨S128, .f32⟩ : BufTy).Contents (Elt F)),
  StableHlo.reshape main_v5 main_v6 (rfl : (.f32 : EltTy) = .f32) shapeCasts_S128_S1x128,
  StableHlo.unary main_arg5 main_v7 ((extractStridedSlice S128 ![128] · slices_S384_S128_128) : (⟨S384, .f32⟩ : BufTy).Contents (Elt F) → (⟨S128, .f32⟩ : BufTy).Contents (Elt F)),
  StableHlo.reshape main_v7 main_v8 (rfl : (.f32 : EltTy) = .f32) shapeCasts_S128_S1x128,
  StableHlo.unary main_arg5 main_v9 ((extractStridedSlice S128 ![256] · slices_S384_S128_256) : (⟨S384, .f32⟩ : BufTy).Contents (Elt F) → (⟨S128, .f32⟩ : BufTy).Contents (Elt F)),
  StableHlo.reshape main_v9 main_v10 (rfl : (.f32 : EltTy) = .f32) shapeCasts_S128_S1x128,
  StableHlo.reshape main_arg7 main_v11 (rfl : (.f32 : EltTy) = .f32) shapeCasts_S128_S1x128,
  StableHlo.reshape main_arg9 main_v12 (rfl : (.f32 : EltTy) = .f32) shapeCasts_S128_S1x128,
  StableHlo.reshape main_arg11 main_v13 (rfl : (.f32 : EltTy) = .f32) shapeCasts_S128_S1x128,
  StableHlo.reshape main_arg12 main_v14 (rfl : (.f32 : EltTy) = .f32) shapeCasts_S128_S1x128,
  StableHlo.reshape main_arg13 main_v15 (rfl : (.f32 : EltTy) = .f32) shapeCasts_S128_S1x128,
  StableHlo.reshape main_arg14 main_v16 (rfl : (.f32 : EltTy) = .f32) shapeCasts_S128_S1x128,
  StableHlo.reshape main_arg15 main_v17 (rfl : (.f32 : EltTy) = .f32) shapeCasts_S128_S1x128]

/-- The references the operations between the calls write. -/
abbrev writes1 : List (Ref sig .tc) :=
  [main_v2, main_v3, main_v4, main_v5, main_v6, main_v7, main_v8, main_v9, main_v10, main_v11, main_v12, main_v13, main_v14, main_v15, main_v16, main_v17]

/-- The program is its operations around the two calls. -/
theorem main_eq (d : Dev nD) : main (F := F) d = (StableHlo.seq ops0 >>= fun _ => ((K (F := F)).run d 0 >>= fun _ => (StableHlo.seq ops1 >>= fun _ =>
    (SparseCore.liftProg (Prog.lift (.customCall (Pipeline.entry 0) ())) >>= fun _ => pure ⟨⟩)))) := rfl

/-! ## The valuations between the steps -/

/-- Before the SparseCore call. -/
def val1 (d : Dev nD) : Valuation τ sig (Elt F) := StableHlo.after ops0 (StableHlo.launchContents m d)
abbrev tblK (d : Dev nD) : S100000x128.Idx → Elt F .f32 := m (kLoc d)
abbrev tblV (d : Dev nD) : S100000x128.Idx → Elt F .f32 := m (vLoc d)
/-- The indices the SparseCore call reads. -/
def rows (d : Dev nD) : S10240.Idx → BitVec 32 := val1 m d (Proc.devRef .tc main_v0)
/-- After it: both outputs at the gathered rows. -/
def val2 (d : Dev nD) : Valuation τ sig (Elt F) :=
  Function.update (Function.update (val1 m d) (Proc.devRef .tc main_v1_0) (gath (tblK m d) (rows m d))) (Proc.devRef .tc main_v1_1) (gath (tblV m d) (rows m d))
/-- Before the TensorCore call. -/
def val3 (d : Dev nD) : Valuation τ sig (Elt F) := StableHlo.after ops1 (val2 m d)
/-- At the end. -/
def val4 (d : Dev nD) : Valuation τ sig (Elt F) := afterK5 (val3 m) (fun _ => 0) 8 d

/-! ## The SparseCore call's five arrays among all -/

abbrev five : Finset (DevRef τ sig) :=
  {Proc.devRef .tc main_arg1, Proc.devRef .tc main_arg2, Proc.devRef .tc main_v0, Proc.devRef .tc main_v1_0, Proc.devRef .tc main_v1_1}

theorem five_sub : five ⊆ Pipeline.ucRefs τ sig := by decide +kernel

theorem held_five (d : Dev nD) (W : Valuation τ sig (Elt F)) :
    (StableHlo.held (d : Thread nD τ) five W : sProp 𝕄)
      = iprop((kLoc d ↦{fullShare} W (Proc.devRef .tc main_arg1)) ∗ (vLoc d ↦{fullShare} W (Proc.devRef .tc main_arg2)) ∗ (iLoc d ↦{fullShare} W (Proc.devRef .tc main_v0))
        ∗ (pLoc d ↦{fullShare} W (Proc.devRef .tc main_v1_0)) ∗ (qLoc d ↦{fullShare} W (Proc.devRef .tc main_v1_1))) := by
  unfold StableHlo.held
  rw [SparseCore.bigSep_insert' (by decide), SparseCore.bigSep_insert' (by decide), SparseCore.bigSep_insert' (by decide), SparseCore.bigSep_insert' (by decide), bigSep_singleton]

/-- The SparseCore call's operands out of every array. -/
theorem take (d : Dev nD) :
    (StableHlo.held (d : Thread nD τ) (Pipeline.ucRefs τ sig) (val1 m d) : sProp 𝕄)
      ⊢ iprop((bigSep Finset.univ fun c => (P (tblK m) (tblV m) (rows m)).st 0 d c) ∗ StableHlo.held (d : Thread nD τ) (Pipeline.ucRefs τ sig \ five) (val1 m d)) := by
  rw [StableHlo.held_sub_split _ five_sub, held_five]
  exact sep_mono_left (deal (tblK m) (tblV m) (rows m) d (val1 m d (Proc.devRef .tc main_v1_0)) (val1 m d (Proc.devRef .tc main_v1_1)))

/-- Its results back among every array. -/
theorem give (d : Dev nD) :
    iprop((bigSep Finset.univ fun c => (P (tblK m) (tblV m) (rows m)).dn 0 d c) ∗ StableHlo.held (d : Thread nD τ) (Pipeline.ucRefs τ sig \ five) (val1 m d))
      ⊢ (StableHlo.held (d : Thread nD τ) (Pipeline.ucRefs τ sig) (val2 m d) : sProp 𝕄) := by
  rw [StableHlo.held_sub_split _ five_sub (val2 m d), held_five]
  have hrest : (StableHlo.held (d : Thread nD τ) (Pipeline.ucRefs τ sig \ five) (val1 m d) : sProp 𝕄) = StableHlo.held (d : Thread nD τ) (Pipeline.ucRefs τ sig \ five) (val2 m d) := by
    refine StableHlo.held_congr _ fun b hb => ?_
    have hb' := (Finset.mem_sdiff.mp hb).2
    unfold val2
    rw [Function.update_of_ne (by rintro rfl; exact hb' (by decide)), Function.update_of_ne (by rintro rfl; exact hb' (by decide))]
  rw [← hrest]
  exact sep_mono_left (undeal (tblK m) (tblV m) (rows m) d)

/-! ## The TensorCore's thread -/

theorem ops0_sub : ∀ op ∈ ops0 (F := F), op.bufs ⊆ Pipeline.ucRefs τ sig := by
  intro op h; simp only [ops0, List.mem_cons, List.not_mem_nil, or_false] at h; rcases h with rfl
  exact Pipeline.sub_ucRefs _ (StableHlo.reshape_bufs_sub ..)
theorem ops1_sub : ∀ op ∈ ops1 (F := F), op.bufs ⊆ Pipeline.ucRefs τ sig := by
  intro op h; simp only [ops1, List.mem_cons, List.not_mem_nil, or_false] at h
  rcases h with rfl|rfl|rfl|rfl|rfl|rfl|rfl|rfl|rfl|rfl|rfl|rfl|rfl|rfl|rfl|rfl <;>
    first | exact Pipeline.sub_ucRefs _ (StableHlo.unary_bufs_sub ..) | exact Pipeline.sub_ucRefs _ (StableHlo.reshape_bufs_sub ..)
theorem ops0_fresh : ∀ op ∈ ops0 (F := F), op.fresh = ∅ := by
  intro op h; simp only [ops0, List.mem_cons, List.not_mem_nil, or_false] at h; rcases h with rfl; rfl
theorem ops1_fresh : ∀ op ∈ ops1 (F := F), op.fresh = ∅ := by
  intro op h; simp only [ops1, List.mem_cons, List.not_mem_nil, or_false] at h
  rcases h with rfl|rfl|rfl|rfl|rfl|rfl|rfl|rfl|rfl|rfl|rfl|rfl|rfl|rfl|rfl|rfl <;> rfl

abbrev FIN (d : Dev nD) : sProp 𝕄 := StableHlo.held (d : Thread nD τ) (Pipeline.ucRefs τ sig) (val4 m d)

/-- The SparseCore call as a step of the TensorCore's thread. -/
theorem step_sc (κ : GSem nD τ sig → ℕ) (d : Dev nD) (Φ : PUnit → sProp 𝕄) :
    iprop((K (F := F)).ctx EH (P (tblK m) (tblV m) (rows m)) κ ∗ (K (F := F)).tcSt EH d 0 ∗ StableHlo.held (d : Thread nD τ) (Pipeline.ucRefs τ sig) (val1 m d)
        ∗ ((iprop((K (F := F)).tcSt EH d 1 ∗ StableHlo.held (d : Thread nD τ) (Pipeline.ucRefs τ sig) (val2 m d))) -∗ Φ ⟨⟩))
      ⊢ wp frame (wpE ((K (F := F)).defs (D (F := F))) 𝒱 (T d) none) Set.univ ((K (F := F)).run d 0) Φ := by
  iintro ⟨Hctx, Hst, Hh, Hk⟩
  ihave H := (take m d) $$ Hh
  icases H with ⟨Hin, Hrest⟩
  iapply ((K (F := F)).wp_run (D (F := F)) 𝒱 (EH := EH) (P := P (tblK m) (tblV m) (rows m)) κ d 0)
  isplitl [Hctx]; · iexact Hctx
  isplitl [Hst]; · iexact Hst
  isplitl [Hin]; · iexact Hin
  iintro ⟨Hst, Hdn⟩
  iapply Hk
  isplitl [Hst]; · iexact Hst
  iapply (give m d)
  isplitl [Hdn] <;> iassumption

theorem reg_pre (d : Dev nD) : (reg (F := F) (val3 m) (fun _ => 0) 8 fun _ _ => rfl).pre d
    = iprop(StableHlo.held (d : Thread nD τ) (Pipeline.ucRefs τ sig) (val3 m d) ∗ ∃ R, ⌜(K (F := F)).WBelow (T d) R 8⌝ ∗ owes (d : Thread nD τ) 0 R) := rfl
theorem reg_post (d : Dev nD) : (reg (F := F) (val3 m) (fun _ => 0) 8 fun _ _ => rfl).post d
    = iprop(FIN m d ∗ ∃ R, ⌜(K (F := F)).WBelow (T d) R 8⌝ ∗ owes (d : Thread nD τ) 0 R) := rfl

/-- The TensorCore call as a step of the TensorCore's thread. -/
theorem step_tc [∀ e, Nonempty (Elt F e)] (d : Dev nD) (Φ : PUnit → sProp 𝕄) :
    iprop(boundary (d : Thread nD τ) ∗ (StableHlo.held (d : Thread nD τ) (Pipeline.ucRefs τ sig) (val3 m d) ∗ ∃ R, ⌜(K (F := F)).WBelow (T d) R 8⌝ ∗ owes (d : Thread nD τ) 0 R)
        ∗ levAts (K (F := F)).L (K (F := F)).lev ∗ G (F := F) d
        ∗ ((boundary (d : Thread nD τ) ∗ (FIN m d ∗ ∃ R, ⌜(K (F := F)).WBelow (T d) R 8⌝ ∗ owes (d : Thread nD τ) 0 R)) -∗ Φ ⟨⟩))
      ⊢ wp frame (wpE ((K (F := F)).defs (D (F := F))) 𝒱 (T d) none) Set.univ (SparseCore.liftProg (Prog.lift (.customCall (Pipeline.entry 0) ()))) Φ := by
  refine BI.Entails.trans ?_ ((K (F := F)).wp_liftProg (D (F := F)) 𝒱 (T d) Set.univ none _ Φ)
  show _ ⊢ wp frame (wpE (D (F := F)) 𝒱 (T d) none) Set.univ (.op (.customCall (Pipeline.entry 0) ()) fun u => .ret u) Φ
  unfold G
  rw [bigSep_univ_of_subsingleton (0 : Fin 1), bigSep_univ_of_subsingleton (0 : Fin 1)]
  iintro ⟨Hb, Hpre, #Hlv, ⟨Hc, Ht⟩, Hk⟩
  iapply (Pipeline.RegionSeg.wp pcfgs adm (pdats (atRefs (val3 m)) (fun _ => 0) 8) (default : HIx 1) cellOf_inj EP defs₀ 𝒱₀ (K (F := F)).L (K (F := F)).lev
    (reg (val3 m) (fun _ => 0) 8 fun _ _ => rfl) d none (fun _ h => nomatch h) (fun u => .ret u) Φ)
  isplitl [Hk]
  · iintro ⟨Hb, Hpost⟩
    rw [wp_ret]; imodintro
    iapply Hk; isplitl [Hb]; · iexact Hb
    iapply (Entails.of_eq (reg_post m d)); iexact Hpost
  isplitl [Hb]; · iexact Hb
  isplitl [Hpre]; · iapply (Entails.of_eq (reg_pre m d).symm); iexact Hpre
  isplitr; · iexact Hlv
  isplitl [Hc] <;> iassumption

/-- The arrays at the launch, as one valuation. -/
theorem unscoped_eq (d : Dev nD) :
    (unscopedBufs d (fun b => m ((SparseCore.T d : Thread nD τ).loc b)) : sProp 𝕄) = StableHlo.held (d : Thread nD τ) (Pipeline.ucRefs τ sig) (StableHlo.launchContents m d) :=
  Pipeline.unscopedBufs_held d (StableHlo.launchContents m d)

/-- The program on a device's TensorCore. -/
theorem hmain [∀ e, Nonempty (Elt F e)] (κ : GSem nD τ sig → ℕ) (d : Dev nD) :
    iprop((K (F := F)).ctx EH (P (tblK m) (tblV m) (rows m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, unscoped_eq]
  iintro ⟨#Hctx, Hst, ⟨Hb, Hh, Hts, -⟩, HG⟩
  iapply (StableHlo.wp_seq 𝒱 none Set.univ d (Pipeline.ucRefs τ sig) _ ops0 ops0_sub ops0_fresh (StableHlo.launchContents m d)) $$ [Hb Hh]
  · isplitl [Hb] <;> iassumption
  iintro ⟨Hb, Hh⟩
  rw [wp_bind]
  iapply (step_sc m κ d)
  isplitr; · iexact Hctx
  isplitl [Hst]; · iexact Hst
  isplitl [Hh]; · iexact Hh
  iintro ⟨Hst, Hh⟩
  iapply (StableHlo.wp_seq 𝒱 none Set.univ d (Pipeline.ucRefs τ sig) _ ops1 ops1_sub ops1_fresh (val2 m d)) $$ [Hb Hh]
  · isplitl [Hb] <;> iassumption
  iintro ⟨Hb, Hh⟩
  rw [wp_bind]
  unfold SparseCore.Cfg.tcSt
  rw [(K (F := F)).Otc_end d (le_refl 1)]
  icases Hst with ⟨HO, Hst⟩
  ihave Hlv := (SparseCore.Cfg.ctx_levAts κ) $$ Hctx
  iapply (step_tc m d)
  isplitl [Hb]; · iexact Hb
  isplitl [Hh HO]
  · isplitl [Hh]; · iexact Hh
    iexact HO
  isplitl [Hlv]; · iexact Hlv
  isplitl [HG]; · iexact HG
  iintro ⟨Hb, ⟨Hfin, HO⟩⟩
  rw [wp_pure]; imodintro
  isplitl [HO Hst]
  · isplitl [HO] <;> iassumption
  isplitl [Hfin]; · iexact Hfin
  isplitl [Hb] <;> iassumption

/-! ## The run -/

/-- Every array's contents at the end. -/
def fq (d : Dev nD) (s' : Phys nD τ sig (Elt F)) : Prop := ∀ b ∈ Pipeline.ucRefs τ sig, s'.mem.mem (d, b) = val4 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

def QC : PUnit × MemSt nD τ sig (Elt F) → Prop := fun r => (∀ d : Dev nD, ∀ b ∈ Pipeline.ucRefs τ sig, r.2.mem (d, b) = val4 m d b) ∧ r.2.sem = fun _ => 0

/-- From any launch memory whose indices are in range, every execution ends with every array at `val4` and every
    semaphore at zero. -/
theorem run_main [∀ e, Nonempty (Elt F e)] (hix : ∀ d j, (rows m d j).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tblK m) (tblV m) (rows m)) (A := ∅) facts v₀
    (fun q hq => match q with | 0 => nomatch hq)
    (fun q _ => match q with | 0 => tileObl _ _ _ hix)
    (fun q _ => match q with | 0 => SparseCore.Cfg.VecSplit.of_plain (vecSplit _ _ _))
    m ρ main (G (F := F)) (FIN m) (u₀ (F := F)) (sep_elim_left.trans (hu₀ _ _ _)) (hmain m ρ) (fq m) (hfin m) (QC m) (fun _ h hz => ⟨h, hz⟩)

end Cert.Proof.KernelIdeal

end
-- ==== Proof.Frame.lean ====
/-
  What the run leaves of the arguments, and that the precondition puts every index inside the tables.
-/
module

public import proofs.«01_k».proof.Defs
public import proofs.«01_k».proof.Proof.Gen.Pre_rows_in_range
public import Idealize.ShloMosaic.Lib.WordArith
public import proofs.«01_k».proof.Proof.Run

@[expose] public section

noncomputable section

namespace Cert.Proof.KernelIdeal

open Cert.KernelIdeal Cert.KernelIdeal.Gen

open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ)

/-! ## Reading the final valuation -/

theorem ops0_writes : (ops0 (F := F)).Forall fun op => op.writes ⊆ (([main_v0] : List (Ref sig .tc)).map (Proc.devRef (τ := τ) .tc)).toFinset := by
  exact StableHlo.forall_writes_sub_of_map rfl

theorem ops1_writes : (ops1 (F := F)).Forall fun op => op.writes ⊆ (writes1.map (Proc.devRef (τ := τ) .tc)).toFinset := by
  exact StableHlo.forall_writes_sub_of_map rfl

/-- A buffer written neither by the first operations nor by the SparseCore call nor by the operations between. -/
theorem val3_of_not_written (d : Dev nD) {b : Ref sig .tc} (h0 : b ∉ ([main_v0] : List (Ref sig .tc))) (h1 : b ∉ writes1)
    (hp : b ≠ main_v1_0) (hq : b ≠ main_v1_1) : val3 m d (Proc.devRef .tc b) = m ((d.tc : Thread nD τ).loc b) := by
  unfold val3 val2 val1
  rw [StableHlo.after_of_writes_sub (W := writes1) ops1 _ ops1_writes h1,
    Function.update_of_ne (fun e => hq (Proc.devRef_injective _ e)), Function.update_of_ne (fun e => hp (Proc.devRef_injective _ e)),
    StableHlo.after_of_writes_sub (W := [main_v0]) ops0 _ ops0_writes h0]

/-- The TensorCore call leaves every buffer but its result as it found it. -/
theorem val4_of_ne (d : Dev nD) {b : Ref sig .tc} (hb : b ≠ main_v18) : val4 m d (Proc.devRef .tc b) = val3 m d (Proc.devRef .tc b) := by
  unfold val4 afterK5
  by_cases h : ∃ w, b = Pipeline.arrRef spec1 w
  · obtain ⟨w, rfl⟩ := h
    rw [Pipeline.afterRegion_arr _ _ launch1.win.arr_inj w]
    have hw : (cfg1.win w).isOut = false := by
      revert hb; revert w; decide +kernel
    exact Dat.arrAt_in (cfg := cfg1) (dat (atRefs (val3 m)) (fun _ => 0) 8 d) w hw _
  · exact Pipeline.afterRegion_of_not_arr _ _ fun w e => h ⟨w, e⟩

/-- Every argument ends as it began. -/
theorem val4_arg (d : Dev nD) {b : Ref sig .tc}
    (hb : b ∉ ([main_v0, main_v1_0, main_v1_1, main_v18] : List (Ref sig .tc)) ++ writes1) :
    val4 m d (Proc.devRef .tc b) = m ((d.tc : Thread nD τ).loc b) := by
  simp only [List.mem_append, List.mem_cons, List.not_mem_nil, or_false, not_or] at hb
  obtain ⟨⟨h0, hp, hq, hv⟩, hw⟩ := hb
  rw [val4_of_ne m d hv, val3_of_not_written m d (by simpa using h0) (by simpa using hw) hp hq]

/-- The same of a run's final memory. -/
theorem QC.arg {r : PUnit × MemSt nD τ sig (Elt F)} (h : QC m r) (d : Dev nD) {b : Ref sig .tc} (hu : Proc.devRef .tc b ∈ Pipeline.ucRefs τ sig)
    (hb : b ∉ ([main_v0, main_v1_0, main_v1_1, main_v18] : List (Ref sig .tc)) ++ writes1) :
    r.2.mem ((d.tc : Thread nD τ).loc b) = m ((d.tc : Thread nD τ).loc b) :=
  (h.1 d _ hu).trans (val4_arg m d hb)

/-- All sixteen arguments. -/
theorem QC.args {r : PUnit × MemSt nD τ sig (Elt F)} (h : QC m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6)
    ∧ r.2.mem ((d.tc : Thread nD τ).loc main_arg7) = m ((d.tc : Thread nD τ).loc main_arg7)
    ∧ r.2.mem ((d.tc : Thread nD τ).loc main_arg8) = m ((d.tc : Thread nD τ).loc main_arg8)
    ∧ r.2.mem ((d.tc : Thread nD τ).loc main_arg9) = m ((d.tc : Thread nD τ).loc main_arg9)
    ∧ r.2.mem ((d.tc : Thread nD τ).loc main_arg10) = m ((d.tc : Thread nD τ).loc main_arg10)
    ∧ r.2.mem ((d.tc : Thread nD τ).loc main_arg11) = m ((d.tc : Thread nD τ).loc main_arg11)
    ∧ r.2.mem ((d.tc : Thread nD τ).loc main_arg12) = m ((d.tc : Thread nD τ).loc main_arg12)
    ∧ r.2.mem ((d.tc : Thread nD τ).loc main_arg13) = m ((d.tc : Thread nD τ).loc main_arg13)
    ∧ r.2.mem ((d.tc : Thread nD τ).loc main_arg14) = m ((d.tc : Thread nD τ).loc main_arg14)
    ∧ r.2.mem ((d.tc : Thread nD τ).loc main_arg15) = m ((d.tc : Thread nD τ).loc main_arg15) := by
  refine ⟨?_, ?_, ?_, ?_, ?_, ?_, ?_, ?_, ?_, ?_, ?_, ?_, ?_, ?_, ?_, ?_⟩ <;> exact h.arg m d (by decide +kernel) (by decide)

/-! ## The indices -/

/-- A word at least zero and below 100000, as signed comparisons say it, is below 100000. -/
theorem lt_of_cmp (v : BitVec 32) (e : IntOp.andi (IntOp.cmpi .sge v 0#32) (IntOp.cmpi .slt v 100000#32) = 1#1) : v.toNat < 100000 := by
  simp only [IntOp.cmpi, WordArith.andi_ofBool, WordArith.ofBool_eq_one_iff, Bool.and_eq_true, BitVec.sle_eq_decide, BitVec.slt_eq_decide, decide_eq_true_eq,
    BitVec.toInt_eq_toNat_cond, BitVec.toNat_ofNat, Nat.reducePow, Nat.reduceMod] at e
  omega

/-- The precondition, element by element. -/
theorem lt_of_pre {x0 : S1024x128.Idx → F .f32} {x1 x2 : S100000x128.Idx → F .f32} {x3 : S1024x10.Idx → BitVec 32} {x4 : S384x128.Idx → F .f32}
    {x5 : S384.Idx → F .f32} {x6 x8 x10 : S128x128.Idx → F .f32} {x7 x9 x11 x12 x13 x14 x15 : S128.Idx → F .f32}
    (h : Pre_rows_in_range.fn (F := F) x0 x1 x2 x3 x4 x5 x6 x7 x8 x9 x10 x11 x12 x13 x14 x15 = fun _ => 1#1) (j : S1024x10.Idx) : (x3 j).toNat < 100000 := by
  have e := congrFun h j
  simp only [Pre_rows_in_range.fn, andi, cmpi, broadcastInDim, constantI] at e
  exact lt_of_cmp _ e

/-- The call's row of indices holds the argument's, query by query. -/
theorem rows_eq (d : Dev nD) : rows m d = shapeCast S10240 (m ((d.tc : Thread nD τ).loc main_arg3) : S1024x10.Idx → BitVec 32) shapeCasts_S1024x10_S10240 := by
  unfold rows val1 ops0
  rw [StableHlo.after_cons, StableHlo.after_nil]
  rfl

/-- Every index below 100000, from the same of the argument. -/
theorem rows_lt (h : ∀ (d : Dev nD) (j : S1024x10.Idx), (m ((d.tc : Thread nD τ).loc main_arg3) j : BitVec 32).toNat < 100000) (d : Dev nD) (j : S10240.Idx) : (rows m d j).toNat < 100000 := by
  rw [rows_eq]
  exact h d _

end Cert.Proof.KernelIdeal

end
-- ==== Proof.RVal.lean ====
/-
  The reference's stages read row by row, up to the row function.
-/
module

public import proofs.«01_k».proof.Proof.Spec
public import proofs.«01_k».proof.Proof.Gen.ReferenceIdeal.Read
public import Idealize.ShloMosaic.Lib.WordArith

@[expose] public section

set_option maxRecDepth 16384

noncomputable section

namespace Cert.Proof.Ref

open Cert.ReferenceIdeal Cert.ReferenceIdeal.Gen Cert.ReferenceIdeal.Read
open Idealize.ShloMosaic
open Cert.Proof.Row

abbrev Arr (s : Shape) := s.Idx → Elt Ideal .f32
abbrev Ints (s : Shape) := s.Idx → BitVec 32

/-- The printed gather: row of the clamped signed index. -/
theorem gather_apply {α : Type} (x : S100000x128.Idx → α) (idx : IVec S1024x10x1 32) (i : Fin 1024) (t : Fin 10) (y : Fin 128) :
    Host.gather gather_S100000x128_S1024x10x1_S1024x10x128_2_0_n_n_0_2_1128 x idx (ix3 i t y)
      = x (ix2 ⟨min (idx (ix3 i t 0)).toInt.toNat 99999, by omega⟩ y) := by
  unfold Host.gather
  refine congrArg x (funext fun a => Fin.ext ?_)
  match a with
  | ⟨0, _⟩ =>
    show min (idx _).toInt.toNat 99999 + 0 + 0 = min (idx (ix3 i t 0)).toInt.toNat 99999
    refine congrArg (fun z => min (BitVec.toInt (idx z)).toNat 99999) (funext fun b => ?_)
    match b with
    | ⟨0, _⟩ => rfl
    | ⟨1, _⟩ => rfl
    | ⟨2, _⟩ => rfl
  | ⟨1, _⟩ =>
    show 0 + 0 + y.val = y.val
    omega

/-- A signed index at least zero is not wrapped, and reads as its number. -/
theorem wrap_toInt (v : BitVec 32) (h : v.toNat < 100000) :
    (Scalar.select (IntOp.cmpi .slt v 0#32) (IntOp.addi v 100000#32) v).toInt.toNat = v.toNat := by
  have h0 : IntOp.cmpi .slt v 0#32 = 0#1 := by
    simp only [IntOp.cmpi, BitVec.slt_eq_decide, BitVec.toInt_eq_toNat_cond, BitVec.toNat_ofNat]
    rw [decide_eq_false (by omega)]
    rfl
  rw [h0, show Scalar.select 0#1 (IntOp.addi v 100000#32) v = v from rfl, BitVec.toInt_eq_toNat_cond, if_pos (by omega)]
  omega

/-- The table row a word names. -/
def pick (v : BitVec 32) : Fin 100000 := ⟨min v.toNat 99999, by omega⟩

variable (x0 : Arr S1024x128) (x1 x2 : Arr S100000x128) (x3 : Ints S1024x10) (x4 : Arr S384x128) (x5 : Arr S384)
variable (x6 x8 x10 : Arr S128x128) (x7 x9 x11 x12 x13 x14 x15 : Arr S128)

/-- A neighbour's row of the first table. -/
theorem v6_apply (h : ∀ i, (x3 i).toNat < 100000) (i : Fin 1024) (t : Fin 10) (y : Fin 128) :
    val_main_v6 (F := Ideal) x1 x3 (ix3 i t y) = x1 (ix2 (pick (x3 (ix2 i t))) y) := by
  unfold val_main_v6
  rw [gather_apply]
  refine congrArg (fun z => x1 (ix2 z y)) (Fin.ext ?_)
  have e : val_main_v5 (F := Ideal) x3 (ix3 i t 0) = Scalar.select (IntOp.cmpi .slt (x3 (ix2 i t)) 0#32) (IntOp.addi (x3 (ix2 i t)) 100000#32) (x3 (ix2 i t)) := by
    pointwise [val_main_v5, val_main_v4, val_main_v3, val_main_v2, val_main_v1, val_main_v0, val_main_c, val_main_c_0]
  show min (val_main_v5 (F := Ideal) x3 (ix3 i t 0)).toInt.toNat 99999 = min (x3 (ix2 i t)).toNat 99999
  rw [e, wrap_toInt _ (h _)]

/-- The same of the second. -/
theorem v13_apply (h : ∀ i, (x3 i).toNat < 100000) (i : Fin 1024) (t : Fin 10) (y : Fin 128) :
    val_main_v13 (F := Ideal) x2 x3 (ix3 i t y) = x2 (ix2 (pick (x3 (ix2 i t))) y) := v6_apply x2 x3 h i t y

/-- The three projections' weights and biases, cut from their arrays. -/
abbrev wq (a : Fin 128) : Lanes := fun d => x4 (ix2 ⟨a.val, by omega⟩ d)
abbrev wk (a : Fin 128) : Lanes := fun d => x4 (ix2 ⟨128 + a.val, by omega⟩ d)
abbrev wv (a : Fin 128) : Lanes := fun d => x4 (ix2 ⟨256 + a.val, by omega⟩ d)
abbrev bq : Lanes := fun a => x5 (ix1 ⟨a.val, by omega⟩)
abbrev bk : Lanes := fun a => x5 (ix1 ⟨128 + a.val, by omega⟩)
abbrev bv : Lanes := fun a => x5 (ix1 ⟨256 + a.val, by omega⟩)

/-- The projected query. -/
theorem v25_apply (i : Fin 1024) (j : Fin 128) :
    val_main_v25 (F := Ideal) x0 x4 x5 (ix3 i 0 j) = affine (wq x4) (bq x5) (fun d => x0 (ix2 i d)) j := by
  unfold affine
  pointwise [val_main_v25, val_main_v24, val_main_v23, val_main_v22, val_main_v21, val_main_v14, val_main_v15, val_main_v18]

/-- The projected keys. -/
theorem v30_apply (h : ∀ i, (x3 i).toNat < 100000) (i : Fin 1024) (t : Fin 10) (j : Fin 128) :
    val_main_v30 (F := Ideal) x1 x3 x4 x5 (ix3 i t j) = affine (wk x4) (bk x5) (fun d => x1 (ix2 (pick (x3 (ix2 i t))) d)) j := by
  unfold affine
  simp only [← v6_apply x1 x3 h]
  pointwise [val_main_v30, val_main_v29, val_main_v28, val_main_v27, val_main_v26, val_main_v16, val_main_v19]

/-- The projected values. -/
theorem v35_apply (h : ∀ i, (x3 i).toNat < 100000) (i : Fin 1024) (t : Fin 10) (j : Fin 128) :
    val_main_v35 (F := Ideal) x2 x3 x4 x5 (ix3 i t j) = affine (wv x4) (bv x5) (fun d => x2 (ix2 (pick (x3 (ix2 i t))) d)) j := by
  unfold affine
  simp only [← v13_apply x2 x3 h]
  pointwise [val_main_v35, val_main_v34, val_main_v33, val_main_v32, val_main_v31, val_main_v17, val_main_v20]

/-- Dividing by the root of sixteen is multiplying by a quarter. -/
theorem div_root (x : EReal) : Ideal.div x (Ideal.sqrt (Ideal.ofBits .f32 0x41800000#32)) = x * quarter := by
  have h16 : Ideal.ofBits .f32 0x41800000#32 = ((16 : ℝ) : EReal) := by
    simp [Ideal.ofBits, Ideal.ieee, -EReal.coe_mul]; norm_num
  have hq : quarter = ((1 / 4 : ℝ) : EReal) := by
    simp [quarter, Ideal.ofBits, Ideal.ieee, -EReal.coe_mul]; norm_num
  have h4 : Real.sqrt 16 = 4 := by rw [show (16 : ℝ) = 4 ^ 2 by norm_num, Real.sqrt_sq (by norm_num)]
  rw [h16, Ideal.sqrt_coe, if_neg (by norm_num), h4, Ideal.div_coe (by norm_num), hq]

/-- Minus infinity is the least. -/
theorem least_eq : least = ⊥ := by simp [least, Ideal.ofBits, Ideal.ieee]

/-- No correction. -/
theorem none_taken : (FloatOps.sitofp .f32 (0#32 : BitVec 32) : Ideal .f32) = (0 : EReal) := by
  show (((0#32 : BitVec 32).toInt : ℝ) : EReal) = 0
  simp

/-- The number of lanes is positive. -/
theorem count_pos : (0 : EReal) < Ideal.ofBits .f32 0x43000000#32 := by
  have h : Ideal.ofBits .f32 0x43000000#32 = ((128 : ℝ) : EReal) := by
    simp [Ideal.ofBits, Ideal.ieee, -EReal.coe_mul]; norm_num
  rw [h]; exact_mod_cast (by norm_num : (0 : ℝ) < 128)

/-- The lane of a head and a place within it. -/
theorem lane_split (j : Fin 128) (h1 : j.val / 16 < 8) (h2 : j.val % 16 < 16) : lane ⟨j.val / 16, h1⟩ ⟨j.val % 16, h2⟩ = j :=
  Fin.ext (Nat.div_add_mod' j.val 16)

/-- A head's scores before the softmax. -/
theorem v45_apply (i : Fin 1024) (g : Fin 8) (t : Fin 10) :
    val_main_v45 (F := Ideal) x0 x1 x3 x4 x5 (ix4 i g 0 t)
      = score (fun d => val_main_v25 (F := Ideal) x0 x4 x5 (ix3 i 0 d)) (fun t d => val_main_v30 (F := Ideal) x1 x3 x4 x5 (ix3 i t d)) g t := by
  unfold score lane
  pointwise [val_main_v45, val_main_v44, val_main_v43, val_main_cst, val_main_v42, val_main_v37, val_main_v36, val_main_v39, val_main_v38]
  rw [div_root]
  exact congrArg (· * quarter) (Finset.sum_congr rfl fun _ _ => mul_comm _ _)

/-- The greatest score, once more compared with minus infinity. -/
theorem v48_apply (i : Fin 1024) (g : Fin 8) :
    val_main_v48 (F := Ideal) x0 x1 x3 x4 x5 (ix3 i g 0) = best fun t => val_main_v45 (F := Ideal) x0 x1 x3 x4 x5 (ix4 i g 0 t) := by
  unfold best
  pointwise [val_main_v48, val_main_v47, val_main_cst_4, val_main_v46, val_main_cst_3]
  rw [show Ideal.ofBits .f32 0xFF800000#32 = ⊥ from least_eq]
  exact max_eq_right bot_le

/-- The softmax. -/
theorem v56_apply (i : Fin 1024) (g : Fin 8) (t : Fin 10) :
    val_main_v56 (F := Ideal) x0 x1 x3 x4 x5 (ix4 i g 0 t) = soft (fun t => val_main_v45 (F := Ideal) x0 x1 x3 x4 x5 (ix4 i g 0 t)) t := by
  unfold soft
  rw [← v48_apply]
  pointwise [val_main_v56, val_main_v55, val_main_v54, val_main_v53, val_main_cst_5, val_main_v52, val_main_v51, val_main_v50, val_main_v49]

/-- The heads side by side. -/
theorem v59_apply (i : Fin 1024) (j : Fin 128) :
    val_main_v59 (F := Ideal) x0 x1 x2 x3 x4 x5 (ix3 i 0 j)
      = heads (fun d => val_main_v25 (F := Ideal) x0 x4 x5 (ix3 i 0 d)) (fun t d => val_main_v30 (F := Ideal) x1 x3 x4 x5 (ix3 i t d))
          (fun t d => val_main_v35 (F := Ideal) x2 x3 x4 x5 (ix3 i t d)) j := by
  unfold heads headOut
  rw [lane_split, show score (fun d => val_main_v25 (F := Ideal) x0 x4 x5 (ix3 i 0 d)) (fun t d => val_main_v30 (F := Ideal) x1 x3 x4 x5 (ix3 i t d)) ⟨j.val / 16, by omega⟩
    = fun t => val_main_v45 (F := Ideal) x0 x1 x3 x4 x5 (ix4 i ⟨j.val / 16, by omega⟩ 0 t) from funext fun t => (v45_apply x0 x1 x3 x4 x5 i _ t).symm]
  simp only [← v56_apply]
  pointwise [val_main_v59, val_main_v58, val_main_v57, val_main_v41, val_main_v40]
  exact Finset.sum_congr rfl fun _ _ => mul_comm _ _

/-- The attention step. -/
theorem v65_apply (h : ∀ i, (x3 i).toNat < 100000) (i : Fin 1024) (j : Fin 128) :
    val_main_v65 (F := Ideal) x0 x1 x2 x3 x4 x5 x6 x7 (ix3 i 0 j)
      = attended (wq x4) (wk x4) (wv x4) (fun a d => x6 (ix2 a d)) (bq x5) (bk x5) (bv x5) (fun a => x7 (ix1 a)) (fun d => x0 (ix2 i d))
          (fun t d => x1 (ix2 (pick (x3 (ix2 i t))) d)) (fun t d => x2 (ix2 (pick (x3 (ix2 i t))) d)) j := by
  unfold attended
  rw [show affine (wq x4) (bq x5) (fun d => x0 (ix2 i d)) = fun d => val_main_v25 (F := Ideal) x0 x4 x5 (ix3 i 0 d) from
      funext fun d => (v25_apply x0 x4 x5 i d).symm]
  rw [show (fun t => affine (wk x4) (bk x5) (fun d => x1 (ix2 (pick (x3 (ix2 i t))) d))) = fun t d => val_main_v30 (F := Ideal) x1 x3 x4 x5 (ix3 i t d) from
      funext fun t => funext fun d => (v30_apply x1 x3 x4 x5 h i t d).symm]
  rw [show (fun t => affine (wv x4) (bv x5) (fun d => x2 (ix2 (pick (x3 (ix2 i t))) d))) = fun t d => val_main_v35 (F := Ideal) x2 x3 x4 x5 (ix3 i t d) from
      funext fun t => funext fun d => (v35_apply x2 x3 x4 x5 h i t d).symm]
  rw [show heads (fun d => val_main_v25 (F := Ideal) x0 x4 x5 (ix3 i 0 d)) (fun t d => val_main_v30 (F := Ideal) x1 x3 x4 x5 (ix3 i t d))
      (fun t d => val_main_v35 (F := Ideal) x2 x3 x4 x5 (ix3 i t d)) = fun j => val_main_v59 (F := Ideal) x0 x1 x2 x3 x4 x5 (ix3 i 0 j) from
      funext fun d => (v59_apply x0 x1 x2 x3 x4 x5 i d).symm]
  unfold affine
  pointwise [val_main_v65, val_main_v64, val_main_v63, val_main_v62, val_main_v61, val_main_v60, val_main_v14]

/-- The first mean. -/
theorem v69_apply (i : Fin 1024) :
    val_main_v69 (F := Ideal) x0 x1 x2 x3 x4 x5 x6 x7 (ix3 i 0 0) = mean fun d => val_main_v65 (F := Ideal) x0 x1 x2 x3 x4 x5 x6 x7 (ix3 i 0 d) := by
  unfold mean
  pointwise [val_main_v69, val_main_v68, val_main_cst_7, val_main_v67, val_main_v66, val_main_cst_6]

/-- The first variance. -/
theorem v70_apply (i : Fin 1024) :
    val_main_v70 (F := Ideal) x0 x1 x2 x3 x4 x5 x6 x7 (ix3 i 0 0) = var fun d => val_main_v65 (F := Ideal) x0 x1 x2 x3 x4 x5 x6 x7 (ix3 i 0 d) := by
  unfold var mean
  pointwise [val_main_v70, val_main_call0_v13, val_main_call0_cst_3, val_main_call0_v8, val_main_call0_v7, val_main_c_8, val_main_call0_cst_1, val_main_call0_v12,
    val_main_call0_v11, val_main_call0_v10, val_main_call0_v9, val_main_call0_cst_2, val_main_call0_v6, val_main_call0_v5, val_main_call0_v4, val_main_call0_v3,
    val_main_call0_v2, val_main_call0_cst_0, val_main_call0_v1, val_main_call0_v0, val_main_call0_cst]
  rw [none_taken, sub_zero, if_pos count_pos]

/-- The first normalisation. -/
theorem v83_apply (i : Fin 1024) (j : Fin 128) :
    val_main_v83 (F := Ideal) x0 x1 x2 x3 x4 x5 x6 x7 x12 x13 (ix3 i 0 j)
      = layerNorm (fun a => x12 (ix1 a)) (fun a => x13 (ix1 a)) (fun d => val_main_v65 (F := Ideal) x0 x1 x2 x3 x4 x5 x6 x7 (ix3 i 0 d)) j := by
  unfold layerNorm
  rw [← v69_apply, ← v70_apply]
  pointwise [val_main_v83, val_main_v82, val_main_v81, val_main_v80, val_main_v79, val_main_v78, val_main_v77, val_main_v76, val_main_v75, val_main_v74,
    val_main_v73, val_main_cst_9, val_main_v72, val_main_v71]

/-- The feed-forward step. -/
theorem v99_apply (i : Fin 1024) (j : Fin 128) :
    val_main_v99 (F := Ideal) x0 x1 x2 x3 x4 x5 x6 x7 x8 x9 x10 x11 x12 x13 (ix3 i 0 j)
      = forward (fun a d => x8 (ix2 a d)) (fun a d => x10 (ix2 a d)) (fun a => x9 (ix1 a)) (fun a => x11 (ix1 a))
          (fun d => val_main_v83 (F := Ideal) x0 x1 x2 x3 x4 x5 x6 x7 x12 x13 (ix3 i 0 d)) j := by
  unfold forward affine leaky
  pointwise [val_main_v99, val_main_v98, val_main_v97, val_main_v96, val_main_v95, val_main_v94, val_main_v93, val_main_v92, val_main_v91, val_main_v90,
    val_main_cst_11, val_main_v89, val_main_cst_10, val_main_v88, val_main_v87, val_main_v86, val_main_v85, val_main_v84]

/-- The second mean. -/
theorem v103_apply (i : Fin 1024) :
    val_main_v103 (F := Ideal) x0 x1 x2 x3 x4 x5 x6 x7 x8 x9 x10 x11 x12 x13 (ix3 i 0 0) = mean fun d => val_main_v99 (F := Ideal) x0 x1 x2 x3 x4 x5 x6 x7 x8 x9 x10 x11 x12 x13 (ix3 i 0 d) := by
  unfold mean
  pointwise [val_main_v103, val_main_v102, val_main_cst_13, val_main_v101, val_main_v100, val_main_cst_12]

/-- The second variance. -/
theorem v104_apply (i : Fin 1024) :
    val_main_v104 (F := Ideal) x0 x1 x2 x3 x4 x5 x6 x7 x8 x9 x10 x11 x12 x13 (ix3 i 0 0) = var fun d => val_main_v99 (F := Ideal) x0 x1 x2 x3 x4 x5 x6 x7 x8 x9 x10 x11 x12 x13 (ix3 i 0 d) := by
  unfold var mean
  pointwise [val_main_v104, val_main_call2_v13, val_main_call2_cst_3, val_main_call2_v8, val_main_call2_v7, val_main_c_14, val_main_call2_cst_1, val_main_call2_v12,
    val_main_call2_v11, val_main_call2_v10, val_main_call2_v9, val_main_call2_cst_2, val_main_call2_v6, val_main_call2_v5, val_main_call2_v4, val_main_call2_v3,
    val_main_call2_v2, val_main_call2_cst_0, val_main_call2_v1, val_main_call2_v0, val_main_call2_cst]
  rw [none_taken, sub_zero, if_pos count_pos]

/-- The second normalisation, which is the result. -/
theorem v118_norm (i : Fin 1024) (j : Fin 128) :
    val_main_v118 (F := Ideal) x0 x1 x2 x3 x4 x5 x6 x7 x8 x9 x10 x11 x12 x13 x14 x15 (ix2 i j)
      = layerNorm (fun a => x14 (ix1 a)) (fun a => x15 (ix1 a)) (fun d => val_main_v99 (F := Ideal) x0 x1 x2 x3 x4 x5 x6 x7 x8 x9 x10 x11 x12 x13 (ix3 i 0 d)) j := by
  unfold layerNorm
  rw [← v103_apply, ← v104_apply]
  pointwise [val_main_v118, val_main_v117, val_main_v116, val_main_v115, val_main_v114, val_main_v113, val_main_v112, val_main_v111, val_main_v110, val_main_v109,
    val_main_v108, val_main_v107, val_main_cst_15, val_main_v106, val_main_v105]

/-- A row of the reference's result is the row function of the query and the rows its indices name. -/
theorem v118_apply (h : ∀ i, (x3 i).toNat < 100000) (i : Fin 1024) (j : Fin 128) :
    val_main_v118 (F := Ideal) x0 x1 x2 x3 x4 x5 x6 x7 x8 x9 x10 x11 x12 x13 x14 x15 (ix2 i j)
      = row (wq x4) (wk x4) (wv x4) (fun a d => x6 (ix2 a d)) (fun a d => x8 (ix2 a d)) (fun a d => x10 (ix2 a d)) (bq x5) (bk x5) (bv x5)
          (fun a => x7 (ix1 a)) (fun a => x9 (ix1 a)) (fun a => x11 (ix1 a)) (fun a => x12 (ix1 a)) (fun a => x13 (ix1 a)) (fun a => x14 (ix1 a)) (fun a => x15 (ix1 a))
          (fun d => x0 (ix2 i d)) (fun t d => x1 (ix2 (pick (x3 (ix2 i t))) d)) (fun t d => x2 (ix2 (pick (x3 (ix2 i t))) d)) j := by
  unfold row
  rw [v118_norm]
  refine congrArg (fun f => layerNorm _ _ f j) (funext fun d => ?_)
  rw [v99_apply]
  refine congrArg (fun f => forward _ _ _ _ f d) (funext fun d => ?_)
  rw [v83_apply]
  exact congrArg (fun f => layerNorm _ _ f d) (funext fun d => v65_apply x0 x1 x2 x3 x4 x5 x6 x7 h i d)

end Cert.Proof.Ref

end
-- ==== Proof.Out.lean ====
/-
  The array the program leaves as its result: each row the row function of the query and the rows its
  indices name.
-/
module

public import proofs.«01_k».proof.Proof.KVal
public import proofs.«01_k».proof.Proof.Frame
public import proofs.«01_k».proof.Proof.RVal
public import Idealize.ShloMosaic.Lib.StableHlo.ReadAt

@[expose] public section

set_option maxRecDepth 16384

noncomputable section

namespace Cert.Proof.KernelIdeal

open Cert.KernelIdeal Cert.KernelIdeal.Gen

open Idealize.ShloMosaic
open Idealize.ShloMosaic.TcCoe
open Idealize.ShloMosaic.StableHlo
open Idealize.ShloMosaic.Pipeline (Dat)
open Cert.Proof.Row

variable (m : (ℓ : Loc nD τ sig) → Buf (Elt Ideal) ℓ)

/-! ## What the TensorCore call reads -/

/-- A buffer neither the SparseCore call nor an operation before it writes. -/
theorem val2_of_not_written (d : Dev nD) {b : Ref sig .tc} (h0 : b ∉ ([main_v0] : List (Ref sig .tc)))
    (hp : b ≠ main_v1_0) (hq : b ≠ main_v1_1) : val2 m d (Proc.devRef .tc b) = m ((d.tc : Thread nD τ).loc b) := by
  unfold val2 val1
  rw [Function.update_of_ne (fun e => hq (Proc.devRef_injective _ e)), Function.update_of_ne (fun e => hp (Proc.devRef_injective _ e)),
    StableHlo.after_of_writes_sub (W := [main_v0]) ops0 _ ops0_writes h0]

/-- The queries' weights: rows 0 to 127 of the projection. -/
theorem read_v2 (d : Dev nD) (a e : Fin 128) : (val3 m d (Proc.devRef .tc main_v2) : S128x128.Idx → Elt Ideal .f32) (ix2 a e)
    = (m ((d.tc : Thread nD τ).loc main_arg4) : S384x128.Idx → Elt Ideal .f32) (ix2 ⟨a.val, by omega⟩ e) := by
  rw [← val2_of_not_written m d (b := main_arg4) (by decide) (by decide) (by decide)]
  unfold val3 ops1
  after_reads_at

/-- The keys' weights: rows 128 to 255 of the projection. -/
theorem read_v3 (d : Dev nD) (a e : Fin 128) : (val3 m d (Proc.devRef .tc main_v3) : S128x128.Idx → Elt Ideal .f32) (ix2 a e)
    = (m ((d.tc : Thread nD τ).loc main_arg4) : S384x128.Idx → Elt Ideal .f32) (ix2 ⟨128 + a.val, by omega⟩ e) := by
  rw [← val2_of_not_written m d (b := main_arg4) (by decide) (by decide) (by decide)]
  unfold val3 ops1
  after_reads_at

/-- The values' weights: rows 256 to 383 of the projection. -/
theorem read_v4 (d : Dev nD) (a e : Fin 128) : (val3 m d (Proc.devRef .tc main_v4) : S128x128.Idx → Elt Ideal .f32) (ix2 a e)
    = (m ((d.tc : Thread nD τ).loc main_arg4) : S384x128.Idx → Elt Ideal .f32) (ix2 ⟨256 + a.val, by omega⟩ e) := by
  rw [← val2_of_not_written m d (b := main_arg4) (by decide) (by decide) (by decide)]
  unfold val3 ops1
  after_reads_at

/-- The queries' bias. -/
theorem read_v6 (d : Dev nD) (a : Fin 128) : (val3 m d (Proc.devRef .tc main_v6) : S1x128.Idx → Elt Ideal .f32) (ix2 0 a)
    = (m ((d.tc : Thread nD τ).loc main_arg5) : S384.Idx → Elt Ideal .f32) (ix1 ⟨a.val, by omega⟩) := by
  rw [← val2_of_not_written m d (b := main_arg5) (by decide) (by decide) (by decide)]
  unfold val3 ops1
  after_reads_at

/-- The keys' bias. -/
theorem read_v8 (d : Dev nD) (a : Fin 128) : (val3 m d (Proc.devRef .tc main_v8) : S1x128.Idx → Elt Ideal .f32) (ix2 0 a)
    = (m ((d.tc : Thread nD τ).loc main_arg5) : S384.Idx → Elt Ideal .f32) (ix1 ⟨128 + a.val, by omega⟩) := by
  rw [← val2_of_not_written m d (b := main_arg5) (by decide) (by decide) (by decide)]
  unfold val3 ops1
  after_reads_at

/-- The values' bias. -/
theorem read_v10 (d : Dev nD) (a : Fin 128) : (val3 m d (Proc.devRef .tc main_v10) : S1x128.Idx → Elt Ideal .f32) (ix2 0 a)
    = (m ((d.tc : Thread nD τ).loc main_arg5) : S384.Idx → Elt Ideal .f32) (ix1 ⟨256 + a.val, by omega⟩) := by
  rw [← val2_of_not_written m d (b := main_arg5) (by decide) (by decide) (by decide)]
  unfold val3 ops1
  after_reads_at

/-- Argument 7 as a row. -/
theorem read_v11 (d : Dev nD) (a : Fin 128) : (val3 m d (Proc.devRef .tc main_v11) : S1x128.Idx → Elt Ideal .f32) (ix2 0 a)
    = (m ((d.tc : Thread nD τ).loc main_arg7) : S128.Idx → Elt Ideal .f32) (ix1 a) := by
  rw [← val2_of_not_written m d (b := main_arg7) (by decide) (by decide) (by decide)]
  unfold val3 ops1
  after_reads_at

/-- Argument 9 as a row. -/
theorem read_v12 (d : Dev nD) (a : Fin 128) : (val3 m d (Proc.devRef .tc main_v12) : S1x128.Idx → Elt Ideal .f32) (ix2 0 a)
    = (m ((d.tc : Thread nD τ).loc main_arg9) : S128.Idx → Elt Ideal .f32) (ix1 a) := by
  rw [← val2_of_not_written m d (b := main_arg9) (by decide) (by decide) (by decide)]
  unfold val3 ops1
  after_reads_at

/-- Argument 11 as a row. -/
theorem read_v13 (d : Dev nD) (a : Fin 128) : (val3 m d (Proc.devRef .tc main_v13) : S1x128.Idx → Elt Ideal .f32) (ix2 0 a)
    = (m ((d.tc : Thread nD τ).loc main_arg11) : S128.Idx → Elt Ideal .f32) (ix1 a) := by
  rw [← val2_of_not_written m d (b := main_arg11) (by decide) (by decide) (by decide)]
  unfold val3 ops1
  after_reads_at

/-- Argument 12 as a row. -/
theorem read_v14 (d : Dev nD) (a : Fin 128) : (val3 m d (Proc.devRef .tc main_v14) : S1x128.Idx → Elt Ideal .f32) (ix2 0 a)
    = (m ((d.tc : Thread nD τ).loc main_arg12) : S128.Idx → Elt Ideal .f32) (ix1 a) := by
  rw [← val2_of_not_written m d (b := main_arg12) (by decide) (by decide) (by decide)]
  unfold val3 ops1
  after_reads_at

/-- Argument 13 as a row. -/
theorem read_v15 (d : Dev nD) (a : Fin 128) : (val3 m d (Proc.devRef .tc main_v15) : S1x128.Idx → Elt Ideal .f32) (ix2 0 a)
    = (m ((d.tc : Thread nD τ).loc main_arg13) : S128.Idx → Elt Ideal .f32) (ix1 a) := by
  rw [← val2_of_not_written m d (b := main_arg13) (by decide) (by decide) (by decide)]
  unfold val3 ops1
  after_reads_at

/-- Argument 14 as a row. -/
theorem read_v16 (d : Dev nD) (a : Fin 128) : (val3 m d (Proc.devRef .tc main_v16) : S1x128.Idx → Elt Ideal .f32) (ix2 0 a)
    = (m ((d.tc : Thread nD τ).loc main_arg14) : S128.Idx → Elt Ideal .f32) (ix1 a) := by
  rw [← val2_of_not_written m d (b := main_arg14) (by decide) (by decide) (by decide)]
  unfold val3 ops1
  after_reads_at

/-- Argument 15 as a row. -/
theorem read_v17 (d : Dev nD) (a : Fin 128) : (val3 m d (Proc.devRef .tc main_v17) : S1x128.Idx → Elt Ideal .f32) (ix2 0 a)
    = (m ((d.tc : Thread nD τ).loc main_arg15) : S128.Idx → Elt Ideal .f32) (ix1 a) := by
  rw [← val2_of_not_written m d (b := main_arg15) (by decide) (by decide) (by decide)]
  unfold val3 ops1
  after_reads_at

/-- Neighbour number `t` of query `i` among the indices the SparseCore call reads. -/
theorem rows_apply (d : Dev nD) (i : Fin 1024) (t : Fin 10) : rows m d (ix1 ⟨i.val * 10 + t.val, by omega⟩)
    = (m ((d.tc : Thread nD τ).loc main_arg3) : S1024x10.Idx → BitVec 32) (ix2 i t) := by
  rw [rows_eq]
  pointwise []

/-- The gathered keys. -/
theorem read_k (d : Dev nD) (n : Fin 10240) (e : Fin 128) : (val3 m d (Proc.devRef .tc main_v1_0) : S10240x128.Idx → Elt Ideal .f32) (ix2 n e)
    = tblK m d (ix2 ⟨min (rows m d (ix1 n)).toNat 99999, by omega⟩ e) := by
  unfold val3
  rw [StableHlo.after_of_writes_sub (W := writes1) ops1 _ ops1_writes (by decide)]
  unfold val2
  rw [Function.update_of_ne (by decide), Function.update_self]
  rfl

/-- The gathered values. -/
theorem read_v (d : Dev nD) (n : Fin 10240) (e : Fin 128) : (val3 m d (Proc.devRef .tc main_v1_1) : S10240x128.Idx → Elt Ideal .f32) (ix2 n e)
    = tblV m d (ix2 ⟨min (rows m d (ix1 n)).toNat 99999, by omega⟩ e) := by
  unfold val3
  rw [StableHlo.after_of_writes_sub (W := writes1) ops1 _ ops1_writes (by decide)]
  unfold val2
  rw [Function.update_self]
  rfl

/-! ## The blocks at a grid point -/

variable (W : Dev nD → Valuation τ sig (Elt Ideal)) (d : Dev nD) (t : Fin cfg1.N)

/-- Block 0: 256 rows from row `256 t`. -/
theorem blk0 (r : Fin 256) (e : Fin 128) : iblk (F := Ideal) (atRefs W) d 0 t (ix2 r e)
    = (W d (Proc.devRef .tc main_arg0) : S1024x128.Idx → Elt Ideal .f32) (ix2 ⟨t.val * 256 + r.val, by have h : t.val < 4 := t.isLt; omega⟩ e) := by
  have h0 : ∀ t : Fin cfg1.N, win1_0.index t 0 = t.val := by decide +kernel
  have h1 : ∀ t : Fin cfg1.N, win1_0.index t 1 = 0 := by decide +kernel
  refine congrArg (W d (Proc.devRef .tc main_arg0)) (funext fun a => Fin.ext ?_)
  match a with
  | ⟨0, _⟩ => exact (Pipeline.Window.rect_emb_val win1_0 t (ix2 r e) 0).trans (by rw [h0 t]; rfl)
  | ⟨1, _⟩ => exact Pipeline.Window.rect_emb_val_of_index_zero win1_0 t 1 (h1 t) (ix2 r e)

/-- Block 1: 2560 rows from row `2560 t`. -/
theorem blk1 (r : Fin 2560) (e : Fin 128) : iblk (F := Ideal) (atRefs W) d 1 t (ix2 r e)
    = (W d (Proc.devRef .tc main_v1_0) : S10240x128.Idx → Elt Ideal .f32) (ix2 ⟨t.val * 2560 + r.val, by have h : t.val < 4 := t.isLt; omega⟩ e) := by
  have h0 : ∀ t : Fin cfg1.N, win1_1.index t 0 = t.val := by decide +kernel
  have h1 : ∀ t : Fin cfg1.N, win1_1.index t 1 = 0 := by decide +kernel
  refine congrArg (W d (Proc.devRef .tc main_v1_0)) (funext fun a => Fin.ext ?_)
  match a with
  | ⟨0, _⟩ => exact (Pipeline.Window.rect_emb_val win1_1 t (ix2 r e) 0).trans (by rw [h0 t]; rfl)
  | ⟨1, _⟩ => exact Pipeline.Window.rect_emb_val_of_index_zero win1_1 t 1 (h1 t) (ix2 r e)

/-- Block 2: 2560 rows from row `2560 t`. -/
theorem blk2 (r : Fin 2560) (e : Fin 128) : iblk (F := Ideal) (atRefs W) d 2 t (ix2 r e)
    = (W d (Proc.devRef .tc main_v1_1) : S10240x128.Idx → Elt Ideal .f32) (ix2 ⟨t.val * 2560 + r.val, by have h : t.val < 4 := t.isLt; omega⟩ e) := by
  have h0 : ∀ t : Fin cfg1.N, win1_2.index t 0 = t.val := by decide +kernel
  have h1 : ∀ t : Fin cfg1.N, win1_2.index t 1 = 0 := by decide +kernel
  refine congrArg (W d (Proc.devRef .tc main_v1_1)) (funext fun a => Fin.ext ?_)
  match a with
  | ⟨0, _⟩ => exact (Pipeline.Window.rect_emb_val win1_2 t (ix2 r e) 0).trans (by rw [h0 t]; rfl)
  | ⟨1, _⟩ => exact Pipeline.Window.rect_emb_val_of_index_zero win1_2 t 1 (h1 t) (ix2 r e)

/-- Block 3 is its array. -/
theorem blk3 : (iblk (F := Ideal) (atRefs W) d 3 t : S128x128.Idx → Elt Ideal .f32) = (W d (Proc.devRef .tc main_v2) : S128x128.Idx → Elt Ideal .f32) := by
  have h : ∀ (t : Fin cfg1.N) a, win1_3.index t a = 0 := by decide +kernel
  exact funext fun i => congrArg (W d (Proc.devRef .tc main_v2)) (funext fun a => Fin.ext
    (Pipeline.Window.rect_emb_val_of_index_zero win1_3 t a (h t a) i))

/-- Block 4 is its array. -/
theorem blk4 : (iblk (F := Ideal) (atRefs W) d 4 t : S128x128.Idx → Elt Ideal .f32) = (W d (Proc.devRef .tc main_v3) : S128x128.Idx → Elt Ideal .f32) := by
  have h : ∀ (t : Fin cfg1.N) a, win1_4.index t a = 0 := by decide +kernel
  exact funext fun i => congrArg (W d (Proc.devRef .tc main_v3)) (funext fun a => Fin.ext
    (Pipeline.Window.rect_emb_val_of_index_zero win1_4 t a (h t a) i))

/-- Block 5 is its array. -/
theorem blk5 : (iblk (F := Ideal) (atRefs W) d 5 t : S128x128.Idx → Elt Ideal .f32) = (W d (Proc.devRef .tc main_v4) : S128x128.Idx → Elt Ideal .f32) := by
  have h : ∀ (t : Fin cfg1.N) a, win1_5.index t a = 0 := by decide +kernel
  exact funext fun i => congrArg (W d (Proc.devRef .tc main_v4)) (funext fun a => Fin.ext
    (Pipeline.Window.rect_emb_val_of_index_zero win1_5 t a (h t a) i))

/-- Block 6 is its array. -/
theorem blk6 : (iblk (F := Ideal) (atRefs W) d 6 t : S1x128.Idx → Elt Ideal .f32) = (W d (Proc.devRef .tc main_v6) : S1x128.Idx → Elt Ideal .f32) := by
  have h : ∀ (t : Fin cfg1.N) a, win1_6.index t a = 0 := by decide +kernel
  exact funext fun i => congrArg (W d (Proc.devRef .tc main_v6)) (funext fun a => Fin.ext
    (Pipeline.Window.rect_emb_val_of_index_zero win1_6 t a (h t a) i))

/-- Block 7 is its array. -/
theorem blk7 : (iblk (F := Ideal) (atRefs W) d 7 t : S1x128.Idx → Elt Ideal .f32) = (W d (Proc.devRef .tc main_v8) : S1x128.Idx → Elt Ideal .f32) := by
  have h : ∀ (t : Fin cfg1.N) a, win1_7.index t a = 0 := by decide +kernel
  exact funext fun i => congrArg (W d (Proc.devRef .tc main_v8)) (funext fun a => Fin.ext
    (Pipeline.Window.rect_emb_val_of_index_zero win1_7 t a (h t a) i))

/-- Block 8 is its array. -/
theorem blk8 : (iblk (F := Ideal) (atRefs W) d 8 t : S1x128.Idx → Elt Ideal .f32) = (W d (Proc.devRef .tc main_v10) : S1x128.Idx → Elt Ideal .f32) := by
  have h : ∀ (t : Fin cfg1.N) a, win1_8.index t a = 0 := by decide +kernel
  exact funext fun i => congrArg (W d (Proc.devRef .tc main_v10)) (funext fun a => Fin.ext
    (Pipeline.Window.rect_emb_val_of_index_zero win1_8 t a (h t a) i))

/-- Block 9 is its array. -/
theorem blk9 : (iblk (F := Ideal) (atRefs W) d 9 t : S128x128.Idx → Elt Ideal .f32) = (W d (Proc.devRef .tc main_arg6) : S128x128.Idx → Elt Ideal .f32) := by
  have h : ∀ (t : Fin cfg1.N) a, win1_9.index t a = 0 := by decide +kernel
  exact funext fun i => congrArg (W d (Proc.devRef .tc main_arg6)) (funext fun a => Fin.ext
    (Pipeline.Window.rect_emb_val_of_index_zero win1_9 t a (h t a) i))

/-- Block 10 is its array. -/
theorem blk10 : (iblk (F := Ideal) (atRefs W) d 10 t : S1x128.Idx → Elt Ideal .f32) = (W d (Proc.devRef .tc main_v11) : S1x128.Idx → Elt Ideal .f32) := by
  have h : ∀ (t : Fin cfg1.N) a, win1_10.index t a = 0 := by decide +kernel
  exact funext fun i => congrArg (W d (Proc.devRef .tc main_v11)) (funext fun a => Fin.ext
    (Pipeline.Window.rect_emb_val_of_index_zero win1_10 t a (h t a) i))

/-- Block 11 is its array. -/
theorem blk11 : (iblk (F := Ideal) (atRefs W) d 11 t : S128x128.Idx → Elt Ideal .f32) = (W d (Proc.devRef .tc main_arg8) : S128x128.Idx → Elt Ideal .f32) := by
  have h : ∀ (t : Fin cfg1.N) a, win1_11.index t a = 0 := by decide +kernel
  exact funext fun i => congrArg (W d (Proc.devRef .tc main_arg8)) (funext fun a => Fin.ext
    (Pipeline.Window.rect_emb_val_of_index_zero win1_11 t a (h t a) i))

/-- Block 12 is its array. -/
theorem blk12 : (iblk (F := Ideal) (atRefs W) d 12 t : S1x128.Idx → Elt Ideal .f32) = (W d (Proc.devRef .tc main_v12) : S1x128.Idx → Elt Ideal .f32) := by
  have h : ∀ (t : Fin cfg1.N) a, win1_12.index t a = 0 := by decide +kernel
  exact funext fun i => congrArg (W d (Proc.devRef .tc main_v12)) (funext fun a => Fin.ext
    (Pipeline.Window.rect_emb_val_of_index_zero win1_12 t a (h t a) i))

/-- Block 13 is its array. -/
theorem blk13 : (iblk (F := Ideal) (atRefs W) d 13 t : S128x128.Idx → Elt Ideal .f32) = (W d (Proc.devRef .tc main_arg10) : S128x128.Idx → Elt Ideal .f32) := by
  have h : ∀ (t : Fin cfg1.N) a, win1_13.index t a = 0 := by decide +kernel
  exact funext fun i => congrArg (W d (Proc.devRef .tc main_arg10)) (funext fun a => Fin.ext
    (Pipeline.Window.rect_emb_val_of_index_zero win1_13 t a (h t a) i))

/-- Block 14 is its array. -/
theorem blk14 : (iblk (F := Ideal) (atRefs W) d 14 t : S1x128.Idx → Elt Ideal .f32) = (W d (Proc.devRef .tc main_v13) : S1x128.Idx → Elt Ideal .f32) := by
  have h : ∀ (t : Fin cfg1.N) a, win1_14.index t a = 0 := by decide +kernel
  exact funext fun i => congrArg (W d (Proc.devRef .tc main_v13)) (funext fun a => Fin.ext
    (Pipeline.Window.rect_emb_val_of_index_zero win1_14 t a (h t a) i))

/-- Block 15 is its array. -/
theorem blk15 : (iblk (F := Ideal) (atRefs W) d 15 t : S1x128.Idx → Elt Ideal .f32) = (W d (Proc.devRef .tc main_v14) : S1x128.Idx → Elt Ideal .f32) := by
  have h : ∀ (t : Fin cfg1.N) a, win1_15.index t a = 0 := by decide +kernel
  exact funext fun i => congrArg (W d (Proc.devRef .tc main_v14)) (funext fun a => Fin.ext
    (Pipeline.Window.rect_emb_val_of_index_zero win1_15 t a (h t a) i))

/-- Block 16 is its array. -/
theorem blk16 : (iblk (F := Ideal) (atRefs W) d 16 t : S1x128.Idx → Elt Ideal .f32) = (W d (Proc.devRef .tc main_v15) : S1x128.Idx → Elt Ideal .f32) := by
  have h : ∀ (t : Fin cfg1.N) a, win1_16.index t a = 0 := by decide +kernel
  exact funext fun i => congrArg (W d (Proc.devRef .tc main_v15)) (funext fun a => Fin.ext
    (Pipeline.Window.rect_emb_val_of_index_zero win1_16 t a (h t a) i))

/-- Block 17 is its array. -/
theorem blk17 : (iblk (F := Ideal) (atRefs W) d 17 t : S1x128.Idx → Elt Ideal .f32) = (W d (Proc.devRef .tc main_v16) : S1x128.Idx → Elt Ideal .f32) := by
  have h : ∀ (t : Fin cfg1.N) a, win1_17.index t a = 0 := by decide +kernel
  exact funext fun i => congrArg (W d (Proc.devRef .tc main_v16)) (funext fun a => Fin.ext
    (Pipeline.Window.rect_emb_val_of_index_zero win1_17 t a (h t a) i))

/-- Block 18 is its array. -/
theorem blk18 : (iblk (F := Ideal) (atRefs W) d 18 t : S1x128.Idx → Elt Ideal .f32) = (W d (Proc.devRef .tc main_v17) : S1x128.Idx → Elt Ideal .f32) := by
  have h : ∀ (t : Fin cfg1.N) a, win1_18.index t a = 0 := by decide +kernel
  exact funext fun i => congrArg (W d (Proc.devRef .tc main_v17)) (funext fun a => Fin.ext
    (Pipeline.Window.rect_emb_val_of_index_zero win1_18 t a (h t a) i))

/-! ## The result -/

/-- The result's array: at `(i, j)` the row function of query `i` and the rows its ten indices name. -/
def outArr (d : Dev nD) : S1024x128.Idx → EReal := fun y =>
  let x0 : S1024x128.Idx → EReal := m ((d.tc : Thread nD τ).loc main_arg0)
  let x3 : S1024x10.Idx → BitVec 32 := m ((d.tc : Thread nD τ).loc main_arg3)
  let x4 : S384x128.Idx → EReal := m ((d.tc : Thread nD τ).loc main_arg4)
  let x5 : S384.Idx → EReal := m ((d.tc : Thread nD τ).loc main_arg5)
  let x6 : S128x128.Idx → EReal := m ((d.tc : Thread nD τ).loc main_arg6)
  let x7 : S128.Idx → EReal := m ((d.tc : Thread nD τ).loc main_arg7)
  let x8 : S128x128.Idx → EReal := m ((d.tc : Thread nD τ).loc main_arg8)
  let x9 : S128.Idx → EReal := m ((d.tc : Thread nD τ).loc main_arg9)
  let x10 : S128x128.Idx → EReal := m ((d.tc : Thread nD τ).loc main_arg10)
  let x11 : S128.Idx → EReal := m ((d.tc : Thread nD τ).loc main_arg11)
  let x12 : S128.Idx → EReal := m ((d.tc : Thread nD τ).loc main_arg12)
  let x13 : S128.Idx → EReal := m ((d.tc : Thread nD τ).loc main_arg13)
  let x14 : S128.Idx → EReal := m ((d.tc : Thread nD τ).loc main_arg14)
  let x15 : S128.Idx → EReal := m ((d.tc : Thread nD τ).loc main_arg15)
  row (Ref.wq x4) (Ref.wk x4) (Ref.wv x4) (fun a d => x6 (ix2 a d)) (fun a d => x8 (ix2 a d)) (fun a d => x10 (ix2 a d)) (Ref.bq x5) (Ref.bk x5) (Ref.bv x5)
    (fun a => x7 (ix1 a)) (fun a => x9 (ix1 a)) (fun a => x11 (ix1 a)) (fun a => x12 (ix1 a)) (fun a => x13 (ix1 a)) (fun a => x14 (ix1 a)) (fun a => x15 (ix1 a))
    (fun e => x0 (ix2 (y 0) e)) (fun t e => tblK m d (ix2 (Ref.pick (x3 (ix2 (y 0) t))) e)) (fun t e => tblV m d (ix2 (Ref.pick (x3 (ix2 (y 0) t))) e)) (y 1)

/-- The ten neighbour rows of a query in a block of gathered keys. -/
theorem blk1_rows (r : Fin 256) (n : Fin 10) (e : Fin 128) (h : r.val * 10 + n.val < 2560) (h' : t.val * 256 + r.val < 1024) :
    iblk (F := Ideal) (atRefs (val3 m)) d 1 t (ix2 ⟨r.val * 10 + n.val, h⟩ e)
      = tblK m d (ix2 (Ref.pick ((m ((d.tc : Thread nD τ).loc main_arg3) : S1024x10.Idx → BitVec 32) (ix2 ⟨t.val * 256 + r.val, h'⟩ n))) e) := by
  rw [blk1, read_k, ← rows_apply m d ⟨t.val * 256 + r.val, h'⟩ n]
  have hi : (⟨t.val * 2560 + (r.val * 10 + n.val), by omega⟩ : Fin 10240) = ⟨(t.val * 256 + r.val) * 10 + n.val, by omega⟩ := Fin.ext (by show _ = _; simp only; omega)
  rw [hi]
  rfl

/-- The ten neighbour rows of a query in a block of gathered values. -/
theorem blk2_rows (r : Fin 256) (n : Fin 10) (e : Fin 128) (h : r.val * 10 + n.val < 2560) (h' : t.val * 256 + r.val < 1024) :
    iblk (F := Ideal) (atRefs (val3 m)) d 2 t (ix2 ⟨r.val * 10 + n.val, h⟩ e)
      = tblV m d (ix2 (Ref.pick ((m ((d.tc : Thread nD τ).loc main_arg3) : S1024x10.Idx → BitVec 32) (ix2 ⟨t.val * 256 + r.val, h'⟩ n))) e) := by
  rw [blk2, read_v, ← rows_apply m d ⟨t.val * 256 + r.val, h'⟩ n]
  have hi : (⟨t.val * 2560 + (r.val * 10 + n.val), by omega⟩ : Fin 10240) = ⟨(t.val * 256 + r.val) * 10 + n.val, by omega⟩ := Fin.ext (by show _ = _; simp only; omega)
  rw [hi]
  rfl

/-- A buffer no step before the TensorCore call writes. -/
theorem read_arg {b : Ref sig .tc} (h0 : b ∉ ([main_v0] : List (Ref sig .tc))) (h1 : b ∉ writes1) (hp : b ≠ main_v1_0) (hq : b ≠ main_v1_1) :
    val3 m d (Proc.devRef .tc b) = m ((d.tc : Thread nD τ).loc b) := val3_of_not_written m d h0 h1 hp hq

/-- The row function of equal arguments. -/
theorem row_congr {Wq Wk Wv Wo W1 W2 Wq' Wk' Wv' Wo' W1' W2' : Fin 128 → Lanes} {bq bk bv bo b1 b2 g1 c1 g2 c2 x bq' bk' bv' bo' b1' b2' g1' c1' g2' c2' x' : Lanes}
    {kn vn kn' vn' : Fin 10 → Lanes}
    (e0 : Wq = Wq') (e1 : Wk = Wk') (e2 : Wv = Wv') (e3 : Wo = Wo') (e4 : W1 = W1') (e5 : W2 = W2') (e6 : bq = bq') (e7 : bk = bk') (e8 : bv = bv') (e9 : bo = bo') (e10 : b1 = b1') (e11 : b2 = b2') (e12 : g1 = g1') (e13 : c1 = c1') (e14 : g2 = g2') (e15 : c2 = c2') (e16 : x = x') (e17 : kn = kn') (e18 : vn = vn') (j : Fin 128) :
    row Wq Wk Wv Wo W1 W2 bq bk bv bo b1 b2 g1 c1 g2 c2 x kn vn j = row Wq' Wk' Wv' Wo' W1' W2' bq' bk' bv' bo' b1' b2' g1' c1' g2' c2' x' kn' vn' j := by
  subst e0 e1 e2 e3 e4 e5 e6 e7 e8 e9 e10 e11 e12 e13 e14 e15 e16 e17 e18; rfl

/-- What grid point `t` stores, at an index. -/
theorem k5blk_apply (r : Fin 256) (j : Fin 128) (h' : t.val * 256 + r.val < 1024) :
    k5blk (F := Ideal) (atRefs (val3 m)) d t (ix2 r j) = outArr m d (ix2 ⟨t.val * 256 + r.val, h'⟩ j) := by
  refine (k5out_apply _ _ _ _ _ _ _ _ _ _ _ _ _ _ _ _ _ _ _ r j).trans ?_
  refine row_congr ?_ ?_ ?_ ?_ ?_ ?_ ?_ ?_ ?_ ?_ ?_ ?_ ?_ ?_ ?_ ?_ ?_ ?_ ?_ j
  · exact funext fun a => funext fun e => (congrFun (blk3 (val3 m) d t) (ix2 a e)).trans (read_v2 m d a e)
  · exact funext fun a => funext fun e => (congrFun (blk4 (val3 m) d t) (ix2 a e)).trans (read_v3 m d a e)
  · exact funext fun a => funext fun e => (congrFun (blk5 (val3 m) d t) (ix2 a e)).trans (read_v4 m d a e)
  · exact funext fun a => funext fun e => (congrFun (blk9 (val3 m) d t) (ix2 a e)).trans
      (congrFun (read_arg m d (b := main_arg6) (by decide) (by decide) (by decide) (by decide)) (ix2 a e))
  · exact funext fun a => funext fun e => (congrFun (blk11 (val3 m) d t) (ix2 a e)).trans
      (congrFun (read_arg m d (b := main_arg8) (by decide) (by decide) (by decide) (by decide)) (ix2 a e))
  · exact funext fun a => funext fun e => (congrFun (blk13 (val3 m) d t) (ix2 a e)).trans
      (congrFun (read_arg m d (b := main_arg10) (by decide) (by decide) (by decide) (by decide)) (ix2 a e))
  · exact funext fun a => (congrFun (blk6 (val3 m) d t) (ix2 0 a)).trans (read_v6 m d a)
  · exact funext fun a => (congrFun (blk7 (val3 m) d t) (ix2 0 a)).trans (read_v8 m d a)
  · exact funext fun a => (congrFun (blk8 (val3 m) d t) (ix2 0 a)).trans (read_v10 m d a)
  · exact funext fun a => (congrFun (blk10 (val3 m) d t) (ix2 0 a)).trans (read_v11 m d a)
  · exact funext fun a => (congrFun (blk12 (val3 m) d t) (ix2 0 a)).trans (read_v12 m d a)
  · exact funext fun a => (congrFun (blk14 (val3 m) d t) (ix2 0 a)).trans (read_v13 m d a)
  · exact funext fun a => (congrFun (blk15 (val3 m) d t) (ix2 0 a)).trans (read_v14 m d a)
  · exact funext fun a => (congrFun (blk16 (val3 m) d t) (ix2 0 a)).trans (read_v15 m d a)
  · exact funext fun a => (congrFun (blk17 (val3 m) d t) (ix2 0 a)).trans (read_v16 m d a)
  · exact funext fun a => (congrFun (blk18 (val3 m) d t) (ix2 0 a)).trans (read_v17 m d a)
  · exact funext fun e => (blk0 (val3 m) d t r e).trans
      (congrFun (read_arg m d (b := main_arg0) (by decide) (by decide) (by decide) (by decide)) (ix2 ⟨t.val * 256 + r.val, h'⟩ e))
  · exact funext fun n => funext fun e => blk1_rows m d t r n e _ h'
  · exact funext fun n => funext fun e => blk2_rows m d t r n e _ h'

/-- The program's result. -/
theorem val4_out : val4 m d (Proc.devRef .tc main_v18) = outArr m d := by
  unfold val4 afterK5
  refine (Pipeline.afterRegion_arr (dat (atRefs (val3 m)) (fun _ => 0) 8 d) (val3 m d) launch1.win.arr_inj 19).trans ?_
  refine Dat.arrAt_eq_of_covers _ 19 _ (by decide +kernel) fun t hf y => ?_
  have h0 : ∀ t : Fin cfg1.N, win1_19.index t 0 = t.val := by decide +kernel
  have h1 : ∀ t : Fin cfg1.N, win1_19.index t 1 = 0 := by decide +kernel
  have ht : t.val < 4 := t.isLt
  have hr : (y 0).val < 256 := (y 0).isLt
  have hy : y = (ix2 (⟨(y 0).val, hr⟩ : Fin 256) (y 1) : S256x128.Idx) := funext fun a => match a with
    | ⟨0, _⟩ => rfl
    | ⟨1, _⟩ => rfl
  have he : ((cfg1.win 19).blk t).view.emb y = (ix2 ⟨t.val * 256 + (y 0).val, by omega⟩ (y 1) : S1024x128.Idx) := funext fun a => Fin.ext (match a with
    | ⟨0, _⟩ => (Pipeline.Window.rect_emb_val win1_19 t y 0).trans (by rw [h0 t]; rfl)
    | ⟨1, _⟩ => Pipeline.Window.rect_emb_val_of_index_zero win1_19 t 1 (h1 t) y)
  refine Eq.trans ?_ (congrArg (outArr m d) he.symm)
  exact (congrArg (k5blk (F := Ideal) (atRefs (val3 m)) d t) hy).trans (k5blk_apply m d t _ _ _)

end Cert.Proof.KernelIdeal

end
-- ==== Proof.GBase.lean ====
/-
  The program around the SparseCore call that gathers the candidates' rows, as the launch theorem sees it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.GatherIdeal
public import proofs.«01_k».proof.Proof.Gen.GatherIdeal.Skeleton

@[expose] public section

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program as the launch theorem sees it -/

/-- The labels of the pipelined kernels. -/
abbrev ΛP : Labels := Pipeline.Sig Λ₀ (Fin 0) fun p => (pcfgs (F := F) p).Adm
/-- The SparseCore calls. -/
abbrev K : SparseCore.Cfg τ sig (ΛP (F := F)) 1 := sc (F := F)
/-- The body table below the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and unscoped, and no array is shared among tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the transfers' counters. -/
abbrev UH : Type := URounds (GSem nD τ sig) ℕ
abbrev UU : Type := UH × Counters

end Cert.Proof.GatherIdeal

end
-- ==== Proof.GTile.lean ====
/-
  The SparseCore call that gathers the candidates' rows: one task per (SparseCore, tile) pair. Each task works through
  its 2560 row numbers in five pieces of 512: it copies the piece's numbers into its index scratch, streams the rows
  they name into its row scratch and copies those to the piece's rows of the output. One piece is proved once, at a
  symbolic task and a symbolic piece, with the value: row `r` of the output is row `idx[r]` of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.GatherIdeal
public import proofs.«01_k».proof.Proof.Gen.GatherIdeal.Skeleton
public import proofs.«01_k».proof.Proof.GBase

@[expose] public section

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

/-! ## The arrays and the memrefs of a task -/

abbrev kLoc (d : Dev nD) : Loc nD τ sig := (SparseCore.T d).loc main_arg0
abbrev iLoc (d : Dev nD) : Loc nD τ sig := (SparseCore.T d).loc main_v0
abbrev oLoc (d : Dev nD) : Loc nD τ sig := (SparseCore.T d).loc main_v1

abbrev kV : Memref sig Kind.scVector Space.hbm S100000x128 EltTy.f32 := Memref.whole main_arg0_scv
abbrev iV : Memref sig Kind.scVector Space.hbm S81920 EltTy.i32 := Memref.whole main_v0_scv
abbrev oV : Memref sig Kind.scVector Space.hbm S81920x128 EltTy.f32 := Memref.whole main_v1_scv
abbrev sV : Memref sig Kind.scVector Space.vmem S512 EltTy.i32 := Memref.whole cc0_scratch0
abbrev rV : Memref sig Kind.scVector Space.vmem S512x128 EltTy.f32 := Memref.whole cc0_scratch1

abbrev cV (L : grid0.Coords) : Fin τ.nSC := (L 0).castLE hcore0
abbrev jV (L : grid0.Coords) : Fin τ.nSub := (L 1).castLE hsub0

/-- The task's number: tiles numbered first, SparseCores within a tile. -/
def wid (L : grid0.Coords) : Fin 32 := ⟨(L 1).val * 2 + (L 0).val, by have h0 : (L 0).val < 2 := (L 0).isLt; have h1 : (L 1).val < 16 := (L 1).isLt; omega⟩

/-- The number of the task's piece `r` among the 160 pieces of all tasks. -/
def piece (w : Fin 32) (r : Fin 5) : Fin 160 := ⟨w.val * 5 + r.val, by have := w.isLt; have := r.isLt; omega⟩

theorem off1_val : ∀ (L : grid0.Coords) (r : Fin 5), k0_off1 L (BitVec.ofNat 32 (512 * r.val)) 0 = (piece (wid L) r).val * 512 := by decide +kernel
theorem off2_val0 : ∀ (L : grid0.Coords) (r : Fin 5), k0_off2 L (BitVec.ofNat 32 (512 * r.val)) 0 = (piece (wid L) r).val * 512 := by decide +kernel
theorem off2_val1 : ∀ (L : grid0.Coords) (r : Fin 5), k0_off2 L (BitVec.ofNat 32 (512 * r.val)) 1 = 0 := by decide +kernel

/-- Piece `r` of the task's entries of the list, the rows of the output it fills, all of the table. -/
abbrev iRowK (L : grid0.Coords) (r : Fin 5) : Memref sig .scVector .hbm S512 .i32 := iV.slice (Rect.unit (s := S81920) (k0_off1 L (BitVec.ofNat 32 (512 * r.val))) S512.size (k0_off1_inb L r)) (fun _ => rfl)
abbrev oRect (L : grid0.Coords) (r : Fin 5) : Rect S81920x128 := Rect.unit (s := S81920x128) (k0_off2 L (BitVec.ofNat 32 (512 * r.val))) S512x128.size (k0_off2_inb L r)
abbrev oRowK (L : grid0.Coords) (r : Fin 5) : Memref sig .scVector .hbm S512x128 .f32 := oV.slice (oRect L r) (fun _ => rfl)
abbrev kAllK : Memref sig .scVector .hbm S100000x128 .f32 := kV.slice (Rect.unit (s := S100000x128) ![0, 0] S100000x128.size inb_S100000x128_S100000x128_0_0) (fun _ => rfl)

/-! ## The rows the output is split into -/

theorem odiv : 160 ∣ S81920x128.size 0 := ⟨512, rfl⟩
abbrev orow (w : Fin 160) : Rect S81920x128 := Rect.part (s := S81920x128) (a₀ := 0) odiv w

theorem oRect_eq (L : grid0.Coords) (r : Fin 5) : oRect L r = orow (piece (wid L) r) := by
  unfold oRect orow Rect.part Rect.block
  congr 1 <;> funext a
  · match a with
    | 0 => rw [off2_val0]; simp [Shape.partIx, Shape.partSize]
    | 1 => rw [off2_val1]; simp [Shape.partIx, Shape.partSize]
  · match a with
    | 0 => simp [Shape.partSize]
    | 1 => simp [Shape.partSize]

theorem set_oRowK (L : grid0.Coords) (r : Fin 5) : (oRowK L r).view.set = (orow (piece (wid L) r)).set := by
  show ((View.whole (main_v1_scv : Ref sig .scVector)).slice (oRect L r)).set = _
  rw [View.set_slice, oRect_eq]; exact Finset.map_refl

/-- The share task `w` holds of an array every task reads. -/
abbrev tq (w : Fin 32) : PosShare TreeShare := Transfers.dealOf fullShare Finset.univ w

/-! ## The value -/

/-- The rows of `tbl` named by the list `ix` (a number past the last row read as the last row). -/
def gath (tbl : S100000x128.Idx → Elt F .f32) (ix : S81920.Idx → BitVec 32) : S81920x128.Idx → Elt F .f32 :=
  fun j => tbl (ix2 (⟨min (ix (ix1 (j 0))).toNat 99999, by omega⟩ : Fin 100000) (j 1))

variable [FloatOps F]

/-- A piece of the output before its rows are filled, and after. -/
abbrev empty (d : Dev nD) (w : Fin 32) (r : Fin 5) : sProp 𝕄 := iprop(∃ f, oLoc d ↦[(orow (piece w r)).set]{fullShare} f)
abbrev filled (A : (d : Dev nD) → S100000x128.Idx → Elt F .f32) (ix : (d : Dev nD) → S81920.Idx → BitVec 32) (d : Dev nD) (w : Fin 32) (r : Fin 5) : sProp 𝕄 :=
  oLoc d ↦[(orow (piece w r)).set]{fullShare} (gath (A d) (ix d) : Buf (Elt F) (oLoc d))

/-- What a task is handed, and what it hands back. -/
abbrev tileIn (A : (d : Dev nD) → S100000x128.Idx → Elt F .f32) (ix : (d : Dev nD) → S81920.Idx → BitVec 32) (d : Dev nD) (w : Fin 32) : sProp 𝕄 :=
  iprop((kLoc d ↦{tq w} (A d : Buf (Elt F) (kLoc d))) ∗ (iLoc d ↦{tq w} (ix d : Buf (Elt F) (iLoc d))) ∗ bigSep Finset.univ fun r : Fin 5 => empty d w r)
abbrev tileOut (A : (d : Dev nD) → S100000x128.Idx → Elt F .f32) (ix : (d : Dev nD) → S81920.Idx → BitVec 32) (d : Dev nD) (w : Fin 32) : sProp 𝕄 :=
  iprop((kLoc d ↦{tq w} (A d : Buf (Elt F) (kLoc d))) ∗ (iLoc d ↦{tq w} (ix d : Buf (Elt F) (iLoc d))) ∗ bigSep Finset.univ fun r : Fin 5 => filled A ix d w r)

/-- Five pieces, one by one. -/
theorem five_pieces (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

section Tile

variable (A : (d : Dev nD) → S100000x128.Idx → Elt F .f32) (ix : (d : Dev nD) → S81920.Idx → BitVec 32) (d : Dev nD) (L : grid0.Coords)

/-- Three cells of the task's own out of all of them. -/
theorem ownSems0_three (a b c : SemLoc sig) (ha : a.isScoped .scVector = true) (hb : b.isScoped .scVector = true) (hc : c.isScoped .scVector = true)
    (hba : b ≠ a) (hca : c ≠ a) (hcb : c ≠ b) :
    (ownSems0 (V d (cV L) (jV L)) : sProp 𝕄)
      = iprop(semVal ((V d (cV L) (jV L)), a) 0 ∗ semVal ((V d (cV L) (jV L)), b) 0 ∗ semVal ((V d (cV L) (jV L)), c) 0
          ∗ bigSep ((((ownCells (V d (cV L) (jV L))).erase ((V d (cV L) (jV L)), a)).erase ((V d (cV L) (jV L)), b)).erase ((V d (cV L) (jV L)), c)) fun g => semVal g 0) := by
  unfold SparseCore.Cfg.ownSems0
  rw [SparseCore.bigSep_erase' ((mem_ownCells (g := ((V d (cV L) (jV L)), a))).mpr ⟨rfl, ha⟩),
    SparseCore.bigSep_erase' (Finset.mem_erase.mpr ⟨fun e => hba (congrArg Prod.snd e), (mem_ownCells (g := ((V d (cV L) (jV L)), b))).mpr ⟨rfl, hb⟩⟩),
    SparseCore.bigSep_erase' (Finset.mem_erase.mpr ⟨fun e => hcb (congrArg Prod.snd e), Finset.mem_erase.mpr ⟨fun e => hca (congrArg Prod.snd e),
      (mem_ownCells (g := ((V d (cV L) (jV L)), c))).mpr ⟨rfl, hc⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the index copy lands in the scratch names rows of the table. -/
theorem inb_list (r : Fin 5) (hix : ∀ d j, (ix d j).toNat < 100000) (fs : Buf (Elt F) ((V d (cV L) (jV L)).loc cc0_scratch0)) (pay : S512.Idx → Elt F .i32)
    (hpay : pay = (iRowK L r).view.read (Elt F) (ix d)) :
    ∀ x, (sV.view.read (Elt F) (View.write (Elt F) sV.view fs pay Finset.univ) x).toNat < S100000x128.size gathers_S100000x128_S512x128.axis := by
  subst hpay; intro x
  rw [View.write_whole_univ]
  simp only [Memref.view_whole, View.read_whole]
  rw [show ∀ j, (iRowK L r).view.read (Elt F) (ix d) j = ix d ((iRowK L r).view.emb j) from fun j => (View.read_apply _ _).trans (cast_eq _ _)]
  exact hix d _

/-- Where entry `x` of a piece of the task's part of the list sits. -/
theorem emb_iRowK (r : Fin 5) (x : S512.Idx) : (iRowK L r).view.emb x = ix1 (⟨(piece (wid L) r).val * 512 + (x 0).val, by have := (piece (wid L) r).isLt; have h0 : (x 0).val < 512 := (x 0).isLt; omega⟩ : Fin 81920) := by
  funext a
  match a with
  | 0 => exact Fin.ext (by show k0_off1 L (BitVec.ofNat 32 (512 * r.val)) 0 + 1 * (x 0).val = _; rw [off1_val, one_mul]; rfl)

/-- Where element `x` of a piece of the task's rows of the output sits. -/
theorem emb_oRect (r : Fin 5) (x : S512x128.Idx) : (oRect L r).emb x = ix2 (⟨(piece (wid L) r).val * 512 + (x 0).val, by have := (piece (wid L) r).isLt; have h0 : (x 0).val < 512 := (x 0).isLt; omega⟩ : Fin 81920) (⟨(x 1).val, (x 1).isLt⟩ : Fin 128) := by
  funext a
  match a with
  | 0 => exact Fin.ext (by show k0_off2 L (BitVec.ofNat 32 (512 * r.val)) 0 + 1 * (x 0).val = _; rw [off2_val0, one_mul])
  | 1 => exact Fin.ext (by show k0_off2 L (BitVec.ofNat 32 (512 * r.val)) 1 + 1 * (x 1).val = _; rw [off2_val1, one_mul, Nat.zero_add])

/-- The streamed rows are the named rows of the table. -/
theorem gathered_apply (r : Fin 5) (d : Dev nD) (tbl : S100000x128.Idx → Elt F .f32) (l : S81920.Idx → BitVec 32) (src : S512.Idx → Elt F .i32) (hsrc : src = (iRowK L r).view.read (Elt F) (l : Buf (Elt F) (iLoc d)))
    (tb : S100000x128.Idx → Elt F .f32) (htb : tb = tbl) (h : ∀ x, (src x).toNat < S100000x128.size gathers_S100000x128_S512x128.axis) (x : S512x128.Idx) :
    SparseCore.gatherPayload gathers_S100000x128_S512x128 tb (SparseCore.rows src rfl h) x = gath tbl l ((oRect L r).emb x) := by
  subst hsrc htb
  unfold SparseCore.gatherPayload gath
  refine congrArg tb ?_
  have hx0 : (x 0).val < 512 := (x 0).isLt
  have hrow : (S512.rowMajor.symm ((x 0).cast rfl : Fin S512.numel)) = ix1 (⟨(x 0).val, hx0⟩ : Fin 512) := by
    rw [Equiv.symm_apply_eq]; exact Fin.ext (by exact (Shape.rowMajor_val_one (d := S512.size) (ix1 (⟨(x 0).val, hx0⟩ : Fin 512))).symm)
  funext a
  match a with
  | 0 =>
    refine Fin.ext ?_
    have hw : (SparseCore.rows ((iRowK L r).view.read (Elt F) (l : Buf (Elt F) (iLoc d))) rfl h (x 0)).val
        = (l (ix1 (⟨(piece (wid L) r).val * 512 + (x 0).val, by have := (piece (wid L) r).isLt; omega⟩ : Fin 81920))).toNat := by
      show (((iRowK L r).view.read (Elt F) (l : Buf (Elt F) (iLoc d))) (S512.rowMajor.symm ((x 0).cast rfl))).toNat = _
      rw [hrow, ← emb_iRowK L r (ix1 ⟨(x 0).val, hx0⟩)]
      exact congrArg BitVec.toNat ((View.read_apply _ _).trans (cast_eq _ _))
    have hlt := (SparseCore.rows ((iRowK L r).view.read (Elt F) (l : Buf (Elt F) (iLoc d))) rfl h (x 0)).isLt
    have h1 := congrArg Fin.val (Shape.Gathers.idx_axis gathers_S100000x128_S512x128 (SparseCore.rows ((iRowK L r).view.read (Elt F) (l : Buf (Elt F) (iLoc d))) rfl h) x)
    refine h1.trans (hw.trans ?_)
    rw [emb_oRect]
    exact (min_eq_left (by have h2 : _ < 100000 := hw ▸ hlt; exact Nat.le_of_lt_succ h2)).symm
  | 1 =>
    refine Fin.ext ?_
    refine (Shape.Gathers.idx_of_ne gathers_S100000x128_S512x128 _ x 1 (by decide)).trans ?_
    rw [emb_oRect]; rfl

/-- The task's rows of the output, once the scratch's rows have been copied there. -/
theorem oRow_filled (r : Fin 5) (tbl : S100000x128.Idx → Elt F .f32) (l : S81920.Idx → BitVec 32) (f : Buf (Elt F) (oLoc d)) (pay : S512x128.Idx → Elt F .f32)
    (h : ∀ x, pay x = gath tbl l ((oRect L r).emb x)) :
    (((oRowK L r).view.loc (V d (cV L) (jV L)) ↦[(oRowK L r).view.set]{fullShare} (oRowK L r).view.writes (Elt F) f [⟨Rect.whole S512x128, pay⟩]) : sProp 𝕄)
      = oLoc d ↦[(orow (piece (wid L) r)).set]{fullShare} (gath tbl l : Buf (Elt F) (oLoc d)) := by
  rw [← set_oRowK]
  refine pointsTo_congr fun i hi => ?_
  obtain ⟨x, -, rfl⟩ := Finset.mem_map.mp hi
  have hr := congrFun (View.read_writes_whole (oRowK L r).view f pay) x
  rw [View.read_apply, h] at hr
  exact hr

/-- Reading all of the table gives the table. -/
theorem read_kAllK (f : Buf (Elt F) (kLoc d)) : (kAllK.view.read (Elt F) f : S100000x128.Idx → Elt F .f32) = f := by
  funext x
  rw [View.read_apply]
  refine (cast_eq _ _).trans (congrArg f ?_)
  funext a
  match a with
  | 0 => exact Fin.ext (by show 0 + 1 * (x 0).val = _; rw [one_mul, Nat.zero_add])
  | 1 => exact Fin.ext (by show 0 + 1 * (x 1).val = _; rw [one_mul, Nat.zero_add])

/-- What the copy out of the row scratch carries. -/
theorem carried_apply (r : Fin 5) (tbl tb : S100000x128.Idx → Elt F .f32) (htb : tb = tbl) (l : S81920.Idx → BitVec 32) (fs : Buf (Elt F) ((V d (cV L) (jV L)).loc cc0_scratch0))
    (fr : Buf (Elt F) ((V d (cV L) (jV L)).loc cc0_scratch1))
    (h : ∀ x, (sV.view.read (Elt F) (View.write (Elt F) sV.view fs ((iRowK L r).view.read (Elt F) (l : Buf (Elt F) (iLoc d))) Finset.univ) x).toNat
      < S100000x128.size gathers_S100000x128_S512x128.axis) (x : S512x128.Idx) :
    rV.view.read (Elt F) (View.write (Elt F) rV.view fr (SparseCore.gatherPayload gathers_S100000x128_S512x128 tb
      (SparseCore.rows (sV.view.read (Elt F) (View.write (Elt F) sV.view fs ((iRowK L r).view.read (Elt F) (l : Buf (Elt F) (iLoc d))) Finset.univ)) rfl h)) Finset.univ) x
      = gath tbl l ((oRect L r).emb x) := by
  rw [View.read_write_univ]
  exact gathered_apply L r d tbl l _ (View.read_write_univ _ _) tb htb h x

/-- Piece `r` of the task: its entries of the list in, the rows they name streamed, those rows out. -/
def step (r : Fin 5) (sA sB : DmaSems sig S_) : Prog (TpuEff nD τ sig (Elt F) Λ₀ (.scVector (cV L) (jV L))) PUnit := do
  Prog.lift (.enqueueDma (iRowK L r) (.here sV) (.dma sA.sem) (View.wordExact_bits rfl) (Memref.isWhole_whole cc0_scratch0).wordExact ⟨Or.inl rfl, trivial⟩)
  Prog.lift (.waitDma2 sA.sem (iRowK L r) sV (View.wordExact_bits rfl) (Memref.isWhole_whole cc0_scratch0).wordExact)
  SparseCore.enqueueIndirectGather rfl kAllK rV gathers_S100000x128_S512x128 sV rfl cc0_scratch2.sem (View.wordExact_bits rfl) rfl (Or.inl rfl)
  SparseCore.waitIndirectGather cc0_scratch2.sem kAllK rV (View.wordExact_bits rfl) (Memref.isWhole_whole cc0_scratch1).wordExact
  Prog.lift (.enqueueDma rV (.here (oRowK L r)) (.dma sB.sem) (Memref.isWhole_whole cc0_scratch1).wordExact (View.wordExact_bits rfl) ⟨Or.inl rfl, trivial⟩)
  Prog.lift (.waitDma2 sB.sem rV (oRowK L r) (Memref.isWhole_whole cc0_scratch1).wordExact (View.wordExact_bits rfl))
  pure ⟨⟩

/-- What a piece needs and leaves, beside its rows of the output. -/
abbrev keep (O : CellTallies nD τ sig (HIx 1)) (W : Waits sig (HIx 1)) : sProp 𝕄 :=
  iprop((kLoc d ↦{tq (wid L)} (A d : Buf (Elt F) (kLoc d))) ∗ (iLoc d ↦{tq (wid L)} (ix d : Buf (Elt F) (iLoc d)))
    ∗ (∃ f, (V d (cV L) (jV L)).loc cc0_scratch0 ↦{fullShare} f) ∗ (∃ f, (V d (cV L) (jV L)).loc cc0_scratch1 ↦{fullShare} f)
    ∗ ownSems0 (V d (cV L) (jV L)) ∗ ∃ W', ⌜∀ p ∈ W', p ∈ W ∨ p.2 = none⌝ ∗ owes (V d (cV L) (jV L)) O W')

set_option maxHeartbeats 4000000 in
/-- One piece runs, and fills its rows of the output. -/
theorem step_wp (hF : (K (F := F)).Facts) (hix : ∀ d j, (ix d j).toNat < 100000) (O : CellTallies nD τ sig (HIx 1)) (W : Waits sig (HIx 1)) (hO : ∀ g, O g none = 0)
    (r : Fin 5) (sA sB : DmaSems sig S_) (hA : (SemLoc.dma sA.sem : SemLoc sig).isScoped .scVector = true) (hB : (SemLoc.dma sB.sem : SemLoc sig).isScoped .scVector = true)
    (hBA : (SemLoc.dma sB.sem : SemLoc sig) ≠ .dma sA.sem) (hGA : (SemLoc.dma cc0_scratch2.sem : SemLoc sig) ≠ .dma sA.sem) (hGB : (SemLoc.dma cc0_scratch2.sem : SemLoc sig) ≠ .dma sB.sem)
    (Φ : PUnit → sProp 𝕄) :
    iprop(levAts (K (F := F)).L (K (F := F)).lev ∗ keep A ix d L O W ∗ empty d (wid L) r ∗ (iprop(keep A ix d L O W ∗ filled A ix d (wid L) r) -∗ Φ ⟨⟩))
      ⊢ wp frame (wpE (defs₀ (F := F)) 𝒱₀ (V d (cV L) (jV L)) none) Set.univ (step L r sA sB) Φ := by
  unfold step keep
  rw [ownSems0_three d L (.dma sA.sem) (.dma sB.sem) (.dma cc0_scratch2.sem) hA hB (by decide) hBA hGA hGB]
  iintro ⟨#Hlv, ⟨Hk, Hi, ⟨%fs, Hs⟩, ⟨%fr, Hr⟩, ⟨HsemA, HsemB, HsemG, Hsems⟩, ⟨%W₁, %hW₁, HO⟩⟩, ⟨%fp, Hp⟩, HΦ⟩
  ihave Hmw := (show levAts (K (F := F)).L (K (F := F)).lev ⊢ Transfers.MayWaits (V d (cV L) (jV L)) (default : HIx 1) O from
    (K (F := F)).mayWaits_none (thr := V d (cV L) (jV L)) hO) $$ Hlv
  have hrs : rV.view.set = Finset.univ := View.set_whole _
  have hss : sV.view.set = Finset.univ := View.set_whole _
  ihave Hp' := (Entails.of_eq (show (oLoc d ↦[(orow (piece (wid L) r)).set]{fullShare} fp : sProp 𝕄)
      = (oRowK L r).view.loc (V d (cV L) (jV L)) ↦[(oRowK L r).view.set]{fullShare} fp by rw [set_oRowK])) $$ Hp
  ihave Hi2 := (pointsTo_split_subset (ℓ := iLoc d) (q := tq (wid L)) (f := ix d) (S := Finset.univ) (Finset.subset_univ (iRowK L r).view.set)).1 $$ Hi
  icases Hi2 with ⟨Hi', Hir⟩
  ihave Hk2 := (pointsTo_split_subset (ℓ := kLoc d) (q := tq (wid L)) (f := A d) (S := Finset.univ) (Finset.subset_univ kAllK.view.set)).1 $$ Hk
  icases Hk2 with ⟨Hk', Hkr⟩
  ihave Hi1 := (Entails.of_eq (show (iLoc d ↦[(iRowK L r).view.set]{tq (wid L)} (ix d : Buf (Elt F) (iLoc d)) : sProp 𝕄)
      = (iRowK L r).view.loc (V d (cV L) (jV L)) ↦[(iRowK L r).view.set]{tq (wid L)} (ix d) from rfl)) $$ Hi'
  ihave Hs' := (Entails.of_eq (show ((V d (cV L) (jV L)).loc cc0_scratch0 ↦{fullShare} fs : sProp 𝕄)
      = sV.view.loc (V d (cV L) (jV L)) ↦{fullShare} fs from rfl)) $$ Hs
  ihave Hr' := (Entails.of_eq (show ((V d (cV L) (jV L)).loc cc0_scratch1 ↦{fullShare} fr : sProp 𝕄)
      = rV.view.loc (V d (cV L) (jV L)) ↦{fullShare} fr from rfl)) $$ Hr
  sl_exec
  have hN : ∀ h : S100000x128.Gathers 0 S512x128, ∑ j, (rV.slice (S512x128.rowRect h.axis' j) (S512x128.stride_rowRect h.axis' j)).view.dmaCredit
      = rV.view.dmaCredit := by decide +kernel
  ihave Hr1 := (Entails.of_eq (show (rV.view.loc (V d (cV L) (jV L)) ↦{fullShare} fr : sProp 𝕄)
      = rV.view.loc (V d (cV L) (jV L)) ↦[rV.view.set]{fullShare} fr by rw [hrs])) $$ Hr'
  ihave Hs1 := (Entails.of_eq (show (sV.view.loc (V d (cV L) (jV L)) ↦{fullShare} View.write (Elt F) sV.view fs (step_wp.sl.dma0 ix d L r) Finset.univ : sProp 𝕄)
      = sV.view.loc (V d (cV L) (jV L)) ↦[sV.view.set]{fullShare} View.write (Elt F) sV.view fs (step_wp.sl.dma0 ix d L r) Finset.univ
      by rw [hss])) $$ Hs'
  iapply (SparseCore.wp_indirectGatherLocal countersEmb 𝒱₀ (V d (cV L) (jV L)) none (hg := gathers_S100000x128_S512x128) (default : HIx 1)
      rV.view.dmaCredit (hN _) (by decide) (inb_list ix d L r hix fs _ rfl)) $$ [Hk' Hr1 Hs1 HsemG]
  · isplitl [Hk']; · iexact Hk'
    isplitl [Hr1]; · iexact Hr1
    isplitl [Hs1]; · iexact Hs1
    iexact HsemG
  iintro Hfl
  sl_exec
  iapply (Transfers.wp_waitLocalO countersEmb 𝒱₀ (V d (cV L) (jV L)) none (default : HIx 1) (rfl : rV.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr2, Hk', Hs2⟩, HsemG, HO⟩
  ihave Hr3 := (Entails.of_eq (show (rV.view.loc (V d (cV L) (jV L)) ↦[rV.view.set]{fullShare} _ : sProp 𝕄)
      = rV.view.loc (V d (cV L) (jV L)) ↦{fullShare} _ by rw [hrs])) $$ Hr2
  sl_exec
  sl_step
  ihave Hs4 := (Entails.of_eq (show (sV.view.loc (V d (cV L) (jV L)) ↦[sV.view.set]{fullShare} _ : sProp 𝕄)
      = sV.view.loc (V d (cV L) (jV L)) ↦{fullShare} _ by rw [hss])) $$ Hs2
  ihave Hp1 := (Entails.of_eq (oRow_filled d L r (A d) (ix d) fp (step_wp.sl.dma0_1 A ix d L hix r fs fr) (fun x => carried_apply d L r (A d) _ (read_kAllK d (A d)) (ix d) fs fr (inb_list ix d L r hix fs _ rfl) x))) $$ Hp'
  iapply HΦ
  isplitr [Hp1]
  swap
  · iexact Hp1
  isplitl [Hk' Hkr]
  · iapply (pointsTo_split_subset (ℓ := kLoc d) (q := tq (wid L)) (f := A d) (S := Finset.univ) (Finset.subset_univ kAllK.view.set)).2
    isplitl [Hk']; · iexact Hk'
    iexact Hkr
  isplitl [Hir]; · iexact Hir
  isplitl [Hs4]; · iexists _; iexact Hs4
  isplitl [Hr3]; · iexists _; iexact Hr3
  isplitl [HsemA HsemB HsemG Hsems]
  · isplitl [HsemA]; · iexact HsemA
    isplitl [HsemB]; · iexact HsemB
    isplitl [HsemG]; · iexact HsemG
    iexact Hsems
  iexists _
  isplitr [HO]
  swap
  · iexact HO
  · ipureintro
    intro p hp
    simp only [Finset.mem_insert] at hp
    rcases hp with rfl | rfl | rfl | hp
    · exact Or.inr rfl
    · exact Or.inr rfl
    · exact Or.inr rfl
    · exact hW₁ p hp

set_option maxRecDepth 65536 in
/-- The task is its five pieces. -/
theorem body_eq :
    cc0__g2_body (F := F) L kV (Memref.isWhole_whole _) iV (Memref.isWhole_whole _) oV (Memref.isWhole_whole _) sV (Memref.isWhole_whole _) rV (Memref.isWhole_whole _)
        cc0_scratch2 cc0_scoped0 cc0_scoped1 cc0_scoped2 cc0_scoped3 cc0_scoped4 cc0_scoped5 cc0_scoped6 cc0_scoped7 cc0_scoped8 cc0_scoped9
      = (step L 0 cc0_scoped0 cc0_scoped1 >>= fun _ => step L 1 cc0_scoped2 cc0_scoped3 >>= fun _ => step L 2 cc0_scoped4 cc0_scoped5 >>= fun _ =>
          step L 3 cc0_scoped6 cc0_scoped7 >>= fun _ => step L 4 cc0_scoped8 cc0_scoped9) := rfl

/-- The task on the tile at `L`: from its shares of the table and of the list and its rows of the output, it runs to
    the output's rows at the rows the list names. -/
theorem tile_body (hF : (K (F := F)).Facts) (hix : ∀ d j, (ix d j).toNat < 100000) (O : CellTallies nD τ sig (HIx 1)) (W : Waits sig (HIx 1)) (hO : ∀ g, O g none = 0) :
    iprop(levAts (K (F := F)).L (K (F := F)).lev ∗ emp
        ∗ tileIn A ix d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__g2_body L kV (Memref.isWhole_whole _) iV (Memref.isWhole_whole _) oV (Memref.isWhole_whole _) sV (Memref.isWhole_whole _) rV (Memref.isWhole_whole _)
            cc0_scratch2 cc0_scoped0 cc0_scoped1 cc0_scoped2 cc0_scoped3 cc0_scoped4 cc0_scoped5 cc0_scoped6 cc0_scoped7 cc0_scoped8 cc0_scoped9)
          fun _ => iprop(tileOut A ix d (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownBufs_V, body_eq]
  unfold tileIn tileOut
  rw [five_pieces (fun r => empty d (wid L) r), five_pieces (fun r => filled A ix d (wid L) r)]
  iintro ⟨#Hlv, -, ⟨Hk, Hi, H0, H1, H2, H3, H4⟩, ⟨Hs, Hr, Hbufs⟩, Hsems, HO⟩
  rw [wp_bind]
  iapply (step_wp A ix d L hF hix O W hO 0 cc0_scoped0 cc0_scoped1 (by decide) (by decide) (by decide) (by decide) (by decide))
  isplitr; · iexact Hlv
  isplitl [Hk Hi Hs Hr Hsems HO]
  · isplitl [Hk]; · iexact Hk
    isplitl [Hi]; · iexact Hi
    isplitl [Hs]; · iexact Hs
    isplitl [Hr]; · iexact Hr
    isplitl [Hsems]; · iexact Hsems
    iexists W; isplitr
    · ipureintro; exact fun p hp => Or.inl hp
    iexact HO
  isplitl [H0]; · iexact H0
  iintro ⟨Hkeep, H0⟩
  rw [wp_bind]
  iapply (step_wp A ix d L hF hix O W hO 1 cc0_scoped2 cc0_scoped3 (by decide) (by decide) (by decide) (by decide) (by decide))
  isplitr; · iexact Hlv
  isplitl [Hkeep]; · iexact Hkeep
  isplitl [H1]; · iexact H1
  iintro ⟨Hkeep, H1⟩
  rw [wp_bind]
  iapply (step_wp A ix d L hF hix O W hO 2 cc0_scoped4 cc0_scoped5 (by decide) (by decide) (by decide) (by decide) (by decide))
  isplitr; · iexact Hlv
  isplitl [Hkeep]; · iexact Hkeep
  isplitl [H2]; · iexact H2
  iintro ⟨Hkeep, H2⟩
  rw [wp_bind]
  iapply (step_wp A ix d L hF hix O W hO 3 cc0_scoped6 cc0_scoped7 (by decide) (by decide) (by decide) (by decide) (by decide))
  isplitr; · iexact Hlv
  isplitl [Hkeep]; · iexact Hkeep
  isplitl [H3]; · iexact H3
  iintro ⟨Hkeep, H3⟩
  iapply (step_wp A ix d L hF hix O W hO 4 cc0_scoped8 cc0_scoped9 (by decide) (by decide) (by decide) (by decide) (by decide))
  isplitr; · iexact Hlv
  isplitl [Hkeep]; · iexact Hkeep
  isplitl [H4]; · iexact H4
  iintro ⟨⟨Hk, Hi, Hs, Hr, Hsems, HO⟩, H4⟩
  isplitl [Hk Hi H0 H1 H2 H3 H4]
  · isplitl [Hk]; · iexact Hk
    isplitl [Hi]; · iexact Hi
    isplitl [H0]; · iexact H0
    isplitl [H1]; · iexact H1
    isplitl [H2]; · iexact H2
    isplitl [H3]; · iexact H3
    iexact H4
  isplitl [Hs Hr Hbufs]
  · isplitl [Hs]; · iexact Hs
    isplitl [Hr]; · iexact Hr
    iexact Hbufs
  isplitl [Hsems]; · iexact Hsems
  iexact HO

end Tile

end Cert.Proof.GatherIdeal

end
-- ==== Proof.GLaunch.lean ====
/-
  The SparseCore call as the launch sees it: what the handshakes carry, the tasks' obligation, and how the three
  arrays are dealt to the 32 tasks and come back with every row of the output gathered.
-/
module

public import proofs.«01_k».proof.Proof.GTile
public import Idealize.ShloMosaic.Lib.SparseCore.Quiescent

@[expose] public section

noncomputable section

namespace Cert.Proof.GatherIdeal

open Cert.GatherIdeal Cert.GatherIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The handshakes' rounds in the certificate's ghost state. -/
abbrev EH : Emb UH (MT nD τ sig (HIx 1) (Elt F) ℕ UU ℕ) := embL

variable (A : (d : Dev nD) → S100000x128.Idx → Elt F .f32) (ix : (d : Dev nD) → S81920.Idx → BitVec 32)

/-- The number of the task on SparseCore `c`, tile `i`. -/
def taskOf (c : Fin ((K (F := F)).nCore 0)) (i : Fin ((K (F := F)).nSub 0)) : Fin 32 :=
  ⟨i.val * 2 + c.val, by have h0 : c.val < 2 := c.isLt; have h1 : i.val < 16 := i.isLt; omega⟩

/-- What the handshakes carry: a core's 16 tasks' shares there, and their results back. -/
def P : (K (F := F)).Pay (nD := nD) (Val := Elt F) (Name := ℕ) (U := UU) where
  st := fun q d => match q with | 0 => fun c => bigSep Finset.univ fun i => tileIn A ix d (taskOf c i)
  dn := fun q d => match q with | 0 => fun c => bigSep Finset.univ fun i => tileOut A ix d (taskOf c i)
  go := fun q d => match q with | 0 => fun c i => tileIn A ix d (taskOf c i)
  td := fun q d => match q with | 0 => fun c i => tileOut A ix d (taskOf c i)
  x := fun _ _ => iprop(emp)

instance P_storable : (P (F := F) A ix).IsStorable where
  st q d c := match q with | 0 => by show BI.Storable _ (bigSep Finset.univ fun i => tileIn A ix d (taskOf c i)); infer_instance
  dn q d c := match q with | 0 => by show BI.Storable _ (bigSep Finset.univ fun i => tileOut A ix d (taskOf c i)); infer_instance
  go q d c i := match q with | 0 => by show BI.Storable _ (tileIn A ix d (taskOf c i)); infer_instance
  td q d c i := match q with | 0 => by show BI.Storable _ (tileOut A ix d (taskOf c i)); infer_instance

/-- A core's operands are its tasks' and its results theirs. -/
theorem vecSplit : (K (F := F)).VecSplit' (P A ix) 0 := by
  intro d c
  show (bigSep Finset.univ fun i => tileIn A ix d (taskOf c i)) ⊢ |={Set.univ}=> iprop(
    (bigSep Finset.univ fun i => tileIn A ix d (taskOf c i))
      ∗ ((bigSep Finset.univ fun i => tileOut A ix d (taskOf c i)) -∗ bigSep Finset.univ fun i => tileOut A ix d (taskOf c i)))
  iintro H; imodintro
  isplitl [H]; · iexact H
  iintro H; iexact H

/-! ## The tasks' obligation -/

/-- The two grid coordinates of a task. -/
abbrev coordsV (c : Fin (grid0.bound 0)) (s : Fin (grid0.bound 1)) : grid0.Coords :=
  fun | 0 => c | 1 => s | ⟨_ + 2, h⟩ => absurd h (Nat.not_lt.2 (Nat.le_add_left _ _))

/-- A task's own waits are at the index of no call. -/
theorem obl_post {R S₁ S₂ : sProp 𝕄} {thr : Thread nD τ} {O : CellTallies nD τ sig (HIx 1)} {W : Waits sig (HIx 1)} :
    iprop(R ∗ S₁ ∗ S₂ ∗ ∃ W', ⌜∀ p ∈ W', p ∈ W ∨ p.2 = none⌝ ∗ owes thr O W')
      ⊢ iprop(R ∗ S₁ ∗ S₂ ∗ ∃ W', ⌜∀ p ∈ W', p ∈ W ∨ (p.2 = none ∨ p.2 = some (0 : Fin 1))⌝ ∗ owes thr O W') := by
  iintro ⟨HR, H1, H2, ⟨%W', %hW, HO⟩⟩
  isplitl [HR]; · iexact HR
  isplitl [H1]; · iexact H1
  isplitl [H2]; · iexact H2
  iexists W'; isplitr
  · ipureintro; exact fun p hp => (hW p hp).imp id Or.inl
  iexact HO

theorem defs₀_vector (c : Fin τ.nSC) (s : Fin τ.nSub) :
    defs₀ (F := F) (.scVector c s) 0 ()
      = SparseCore.onTile hcore0 hsub0 (fun c s => cc0__g2_body (coordsV c s) kV (Memref.isWhole_whole _) iV (Memref.isWhole_whole _) oV (Memref.isWhole_whole _) sV (Memref.isWhole_whole _) rV (Memref.isWhole_whole _) cc0_scratch2 cc0_scoped0 cc0_scoped1 cc0_scoped2 cc0_scoped3 cc0_scoped4 cc0_scoped5 cc0_scoped6 cc0_scoped7 cc0_scoped8 cc0_scoped9) ⟨⟩ c s := rfl

/-- Every task runs from its share to its results. -/
theorem tileObl (hix : ∀ d j, (ix d j).toNat < 100000) : (K (F := F)).TileObl (D (F := F)) 𝒱 (P A ix) v₀ 0 := by
  intro d c i O W hO _ _
  simp only [show (P A ix).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A ix d (coordsV ⟨_, hci.1⟩ ⟨_, hci.2⟩) facts hix O W hO).trans (wp_mono frame _ _ fun _ => obl_post)

/-! ## Dealing the arrays to the 32 tasks -/

theorem orows_disjoint : ∀ i ∈ (Finset.univ : Finset (Fin 160)), ∀ j ∈ (Finset.univ : Finset (Fin 160)), i ≠ j → Disjoint (orow i).set (orow j).set :=
  fun _ _ _ _ h => Rect.part_disjoint odiv h
theorem orows_cover : (Finset.univ : Finset (Fin 160)).biUnion (fun w => (orow w).set) = Finset.univ := Rect.biUnion_part odiv

/-- Tasks and their pieces number the 160 pieces. -/
def pieceEquiv : Fin 32 × Fin 5 ≃ Fin 160 where
  toFun p := piece p.1 p.2
  invFun w := (⟨w.val / 5, by have := w.isLt; omega⟩, ⟨w.val % 5, Nat.mod_lt _ (by decide)⟩)
  left_inv p := by
    have h1 := p.2.isLt
    refine Prod.ext (Fin.ext ?_) (Fin.ext ?_)
    · show (p.1.val * 5 + p.2.val) / 5 = p.1.val; omega
    · show (p.1.val * 5 + p.2.val) % 5 = p.2.val; omega
  right_inv w := Fin.ext (by show w.val / 5 * 5 + w.val % 5 = w.val; omega)

/-- The output held whole is its 32 tasks' pieces. -/
theorem oRows (d : Dev nD) (f : Buf (Elt F) (oLoc d)) :
    (oLoc d ↦{fullShare} f : sProp 𝕄) = bigSep Finset.univ fun w : Fin 32 => bigSep Finset.univ fun r : Fin 5 => oLoc d ↦[(orow (piece w r)).set]{fullShare} f := by
  have h0 : (oLoc d ↦{fullShare} f : sProp 𝕄) = bigSep Finset.univ fun w : Fin 160 => oLoc d ↦[(orow w).set]{fullShare} f := by
    rw [← pointsTo_biUnion Finset.univ (ℓ := oLoc d) (fun w : Fin 160 => (orow w).set) orows_disjoint, orows_cover]; try rfl
  have h1 := bigSep_univ_equiv pieceEquiv (fun w : Fin 160 => (oLoc d ↦[(orow w).set]{fullShare} f : sProp 𝕄))
  have h2 := bigSep_univ_prod (fun p : Fin 32 × Fin 5 => (oLoc d ↦[(orow (piece p.1 p.2)).set]{fullShare} f : sProp 𝕄))
  exact h0.trans (h1.trans h2)

/-- Cores and tiles number the tasks. -/
def taskEquiv : Fin ((K (F := F)).nCore 0) × Fin ((K (F := F)).nSub 0) ≃ Fin 32 where
  toFun p := taskOf p.1 p.2
  invFun w := (⟨w.val % 2, Nat.mod_lt _ (by decide)⟩, ⟨w.val / 2, by have := w.isLt; show w.val / 2 < 16; omega⟩)
  left_inv p := by
    have h0 : p.1.val < 2 := p.1.isLt
    refine Prod.ext (Fin.ext ?_) (Fin.ext ?_)
    · show (p.2.val * 2 + p.1.val) % 2 = p.1.val; omega
    · show (p.2.val * 2 + p.1.val) / 2 = p.2.val; omega
  right_inv w := Fin.ext (by show w.val / 2 * 2 + w.val % 2 = w.val; omega)

theorem bigSep_tasks (Φ : Fin 32 → sProp 𝕄) :
    (bigSep Finset.univ fun c : Fin ((K (F := F)).nCore 0) => bigSep Finset.univ fun i : Fin ((K (F := F)).nSub 0) => Φ (taskOf c i)) = bigSep Finset.univ Φ := by
  rw [bigSep_univ_equiv (taskEquiv (F := F)) Φ, bigSep_univ_prod]; rfl

/-- The call's operands, from the three arrays held whole. -/
theorem deal (d : Dev nD) (f : Buf (Elt F) (oLoc d)) :
    iprop((kLoc d ↦{fullShare} (A d : Buf (Elt F) (kLoc d))) ∗ (iLoc d ↦{fullShare} (ix d : Buf (Elt F) (iLoc d))) ∗ (oLoc d ↦{fullShare} f))
      ⊢ (bigSep Finset.univ fun c => (P A ix).st 0 d c : sProp 𝕄) := by
  show _ ⊢ bigSep Finset.univ fun c => bigSep Finset.univ fun i => tileIn A ix d (taskOf c i)
  rw [bigSep_tasks (F := F) (fun w => tileIn A ix d w), bigSep_sep', bigSep_sep', oRows,
    Transfers.pointsTo_deal (ℓ := kLoc d) (Finset.univ : Finset (Fin 32)) ⟨0, Finset.mem_univ _⟩ fullShare,
    Transfers.pointsTo_deal (ℓ := iLoc d) (Finset.univ : Finset (Fin 32)) ⟨0, Finset.mem_univ _⟩ fullShare]
  have hp : (bigSep Finset.univ fun w : Fin 32 => bigSep Finset.univ fun r : Fin 5 => iprop(oLoc d ↦[(orow (piece w r)).set]{fullShare} f) : sProp 𝕄)
      ⊢ bigSep Finset.univ fun w : Fin 32 => bigSep Finset.univ fun r : Fin 5 => empty d w r :=
    bigSep_mono fun w _ => bigSep_mono fun r _ => exists_intro (Φ := fun f' : Buf (Elt F) (oLoc d) => iprop(oLoc d ↦[(orow (piece w r)).set]{fullShare} f')) f
  iintro ⟨H1, H2, H3⟩
  isplitl [H1]; · iexact H1
  isplitl [H2]; · iexact H2
  iapply hp; iexact H3

/-- The call's results: the arrays whole again, the output at the gathered rows. -/
theorem undeal (d : Dev nD) :
    (bigSep Finset.univ fun c => (P A ix).dn 0 d c : sProp 𝕄)
      ⊢ iprop((kLoc d ↦{fullShare} (A d : Buf (Elt F) (kLoc d))) ∗ (iLoc d ↦{fullShare} (ix d : Buf (Elt F) (iLoc d)))
        ∗ (oLoc d ↦{fullShare} (gath (A d) (ix d) : Buf (Elt F) (oLoc d)))) := by
  show (bigSep Finset.univ fun c => bigSep Finset.univ fun i => tileOut A ix d (taskOf c i)) ⊢ _
  rw [bigSep_tasks (F := F) (fun w => tileOut A ix d w), bigSep_sep', bigSep_sep', oRows,
    Transfers.pointsTo_deal (ℓ := kLoc d) (Finset.univ : Finset (Fin 32)) ⟨0, Finset.mem_univ _⟩ fullShare,
    Transfers.pointsTo_deal (ℓ := iLoc d) (Finset.univ : Finset (Fin 32)) ⟨0, Finset.mem_univ _⟩ fullShare]

/-! ## The launch element of the certificate's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A ix).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have he : (iprop(emp) : sProp 𝕄) ⊢ bigSep Finset.univ fun _ : Dev nD => iprop(emp) := Entails.of_eq (bigSep_emp_const _).symm
  have hx : (iprop(emp) : sProp 𝕄) ⊢ bigSep Finset.univ fun thr : Thread nD τ => bigSep Finset.univ fun q : Fin 1 => (P (F := F) A ix).x q thr := by
    rw [show (bigSep Finset.univ fun thr : Thread nD τ => bigSep Finset.univ fun q : Fin 1 => (P (F := F) A ix).x q thr) = bigSep Finset.univ fun _ => BI.emp from
      bigSep_congr fun _ _ => bigSep_univ_of_subsingleton (0 : Fin 1), bigSep_emp_const]
    exact .rfl
  isplitr
  · iapply he; iempintro
  iapply hx; iempintro

end Cert.Proof.GatherIdeal

end
-- ==== Proof.GRun.lean ====
/-
  The gather's program from its launch to its end: its arguments as they were, and its result the gathered rows; and
  that the precondition puts every row number inside the table.
-/
module

public import proofs.«01_k».proof.Proof.Gen.Pre_candidates_in_range
public import Idealize.ShloMosaic.Lib.WordArith
public import Idealize.ShloMosaic.Lib.Pipeline.Frame
public import proofs.«01_k».proof.Proof.GLaunch

@[expose] public section

noncomputable section

namespace Cert.Proof.GatherIdeal

open Cert.GatherIdeal Cert.GatherIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations -/

/-- Before the SparseCore call: the row numbers in one row. -/
def ops0 : List (HloOp τ sig (Elt F)) := [StableHlo.reshape main_arg1 main_v0 (rfl : (.i32 : EltTy) = .i32) shapeCasts_S80x1024_S81920]

/-- After it: the rows by candidate and query. -/
def ops1 : List (HloOp τ sig (Elt F)) := [StableHlo.reshape main_v1 main_v2 (rfl : (.f32 : EltTy) = .f32) shapeCasts_S81920x128_S80x1024x128]

/-- The program is its operations around the call. -/
theorem main_eq (d : Dev nD) : main (F := F) d = (StableHlo.seq ops0 >>= fun _ => ((K (F := F)).run d 0 >>= fun _ => (StableHlo.seq ops1 >>= fun _ => pure ⟨⟩))) := rfl

/-! ## The valuations between the steps -/

/-- Before the SparseCore call. -/
def val1 (d : Dev nD) : Valuation τ sig (Elt F) := StableHlo.after ops0 (StableHlo.launchContents m d)
abbrev tblK (d : Dev nD) : S100000x128.Idx → Elt F .f32 := m (kLoc d)
/-- The row numbers the SparseCore call reads. -/
def rows (d : Dev nD) : S81920.Idx → BitVec 32 := val1 m d (Proc.devRef .tc main_v0)
/-- After it: the output at the gathered rows. -/
def val2 (d : Dev nD) : Valuation τ sig (Elt F) :=
  Function.update (val1 m d) (Proc.devRef .tc main_v1) (gath (tblK m d) (rows m d))
/-- At the end. -/
def val3 (d : Dev nD) : Valuation τ sig (Elt F) := StableHlo.after ops1 (val2 m d)

/-! ## The SparseCore call's three arrays among all -/

abbrev three : Finset (DevRef τ sig) := {Proc.devRef .tc main_arg0, Proc.devRef .tc main_v0, Proc.devRef .tc main_v1}

theorem three_sub : three ⊆ Pipeline.ucRefs τ sig := by decide +kernel

theorem held_three (d : Dev nD) (W : Valuation τ sig (Elt F)) :
    (StableHlo.held (d : Thread nD τ) three W : sProp 𝕄)
      = iprop((kLoc d ↦{fullShare} W (Proc.devRef .tc main_arg0)) ∗ (iLoc d ↦{fullShare} W (Proc.devRef .tc main_v0))
        ∗ (oLoc d ↦{fullShare} W (Proc.devRef .tc main_v1))) := by
  unfold StableHlo.held
  rw [SparseCore.bigSep_insert' (by decide), SparseCore.bigSep_insert' (by decide), bigSep_singleton]

/-- The SparseCore call's operands out of every array. -/
theorem take (d : Dev nD) :
    (StableHlo.held (d : Thread nD τ) (Pipeline.ucRefs τ sig) (val1 m d) : sProp 𝕄)
      ⊢ iprop((bigSep Finset.univ fun c => (P (tblK m) (rows m)).st 0 d c) ∗ StableHlo.held (d : Thread nD τ) (Pipeline.ucRefs τ sig \ three) (val1 m d)) := by
  rw [StableHlo.held_sub_split _ three_sub, held_three]
  exact sep_mono_left (deal (tblK m) (rows m) d (val1 m d (Proc.devRef .tc main_v1)))

/-- Its result back among every array. -/
theorem give (d : Dev nD) :
    iprop((bigSep Finset.univ fun c => (P (tblK m) (rows m)).dn 0 d c) ∗ StableHlo.held (d : Thread nD τ) (Pipeline.ucRefs τ sig \ three) (val1 m d))
      ⊢ (StableHlo.held (d : Thread nD τ) (Pipeline.ucRefs τ sig) (val2 m d) : sProp 𝕄) := by
  rw [StableHlo.held_sub_split _ three_sub (val2 m d), held_three]
  have hrest : (StableHlo.held (d : Thread nD τ) (Pipeline.ucRefs τ sig \ three) (val1 m d) : sProp 𝕄) = StableHlo.held (d : Thread nD τ) (Pipeline.ucRefs τ sig \ three) (val2 m d) := by
    refine StableHlo.held_congr _ fun b hb => ?_
    have hb' := (Finset.mem_sdiff.mp hb).2
    unfold val2
    rw [Function.update_of_ne (by rintro rfl; exact hb' (by decide))]
  rw [← hrest]
  exact sep_mono_left (undeal (tblK m) (rows m) d)

/-! ## The TensorCore's thread -/

theorem ops0_sub : ∀ op ∈ ops0 (F := F), op.bufs ⊆ Pipeline.ucRefs τ sig := by
  intro op h; simp only [ops0, List.mem_cons, List.not_mem_nil, _root_.or_false] at h; rcases h with rfl
  exact Pipeline.sub_ucRefs _ (StableHlo.reshape_bufs_sub ..)
theorem ops1_sub : ∀ op ∈ ops1 (F := F), op.bufs ⊆ Pipeline.ucRefs τ sig := by
  intro op h; simp only [ops1, List.mem_cons, List.not_mem_nil, _root_.or_false] at h; rcases h with rfl
  exact Pipeline.sub_ucRefs _ (StableHlo.reshape_bufs_sub ..)
theorem ops0_fresh : ∀ op ∈ ops0 (F := F), op.fresh = ∅ := by
  intro op h; simp only [ops0, List.mem_cons, List.not_mem_nil, _root_.or_false] at h; rcases h with rfl; rfl
theorem ops1_fresh : ∀ op ∈ ops1 (F := F), op.fresh = ∅ := by
  intro op h; simp only [ops1, List.mem_cons, List.not_mem_nil, _root_.or_false] at h; rcases h with rfl; rfl

abbrev FIN (d : Dev nD) : sProp 𝕄 := StableHlo.held (d : Thread nD τ) (Pipeline.ucRefs τ sig) (val3 m d)

/-- The SparseCore call as a step of the TensorCore's thread. -/
theorem step_sc (κ : GSem nD τ sig → ℕ) (d : Dev nD) (Φ : PUnit → sProp 𝕄) :
    iprop((K (F := F)).ctx EH (P (tblK m) (rows m)) κ ∗ (K (F := F)).tcSt EH d 0 ∗ StableHlo.held (d : Thread nD τ) (Pipeline.ucRefs τ sig) (val1 m d)
        ∗ ((iprop((K (F := F)).tcSt EH d 1 ∗ StableHlo.held (d : Thread nD τ) (Pipeline.ucRefs τ sig) (val2 m d))) -∗ Φ ⟨⟩))
      ⊢ wp frame (wpE ((K (F := F)).defs (D (F := F))) 𝒱 (T d) none) Set.univ ((K (F := F)).run d 0) Φ := by
  iintro ⟨Hctx, Hst, Hh, Hk⟩
  ihave H := (take m d) $$ Hh
  icases H with ⟨Hin, Hrest⟩
  iapply ((K (F := F)).wp_run (D (F := F)) 𝒱 (EH := EH) (P := P (tblK m) (rows m)) κ d 0)
  isplitl [Hctx]; · iexact Hctx
  isplitl [Hst]; · iexact Hst
  isplitl [Hin]; · iexact Hin
  iintro ⟨Hst, Hdn⟩
  iapply Hk
  isplitl [Hst]; · iexact Hst
  iapply (give m d)
  isplitl [Hdn] <;> iassumption

/-- The arrays at the launch, as one valuation. -/
theorem unscoped_eq (d : Dev nD) :
    (unscopedBufs d (fun b => m ((SparseCore.T d : Thread nD τ).loc b)) : sProp 𝕄) = StableHlo.held (d : Thread nD τ) (Pipeline.ucRefs τ sig) (StableHlo.launchContents m d) :=
  Pipeline.unscopedBufs_held d (StableHlo.launchContents m d)

/-- The program on a device's TensorCore. -/
theorem hmain [∀ e, Nonempty (Elt F e)] (κ : GSem nD τ sig → ℕ) (d : Dev nD) :
    iprop((K (F := F)).ctx EH (P (tblK m) (rows m)) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, unscoped_eq]
  iintro ⟨#Hctx, Hst, ⟨Hb, Hh, Hts, -⟩, -⟩
  iapply (StableHlo.wp_seq 𝒱 none Set.univ d (Pipeline.ucRefs τ sig) _ ops0 ops0_sub ops0_fresh (StableHlo.launchContents m d)) $$ [Hb Hh]
  · isplitl [Hb] <;> iassumption
  iintro ⟨Hb, Hh⟩
  rw [wp_bind]
  iapply (step_sc m κ d)
  isplitr; · iexact Hctx
  isplitl [Hst]; · iexact Hst
  isplitl [Hh]; · iexact Hh
  iintro ⟨Hst, Hh⟩
  iapply (StableHlo.wp_seq 𝒱 none Set.univ d (Pipeline.ucRefs τ sig) _ ops1 ops1_sub ops1_fresh (val2 m d)) $$ [Hb Hh]
  · isplitl [Hb] <;> iassumption
  iintro ⟨Hb, Hh⟩
  rw [wp_pure]; imodintro
  isplitl [Hst]; · iexact Hst
  isplitl [Hh]; · iexact Hh
  isplitl [Hb] <;> iassumption

/-! ## The run -/

/-- Every array's contents at the end. -/
def fq (d : Dev nD) (s' : Phys nD τ sig (Elt F)) : Prop := ∀ b ∈ Pipeline.ucRefs τ sig, s'.mem.mem (d, b) = val3 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

def QC : PUnit × MemSt nD τ sig (Elt F) → Prop := fun r => (∀ d : Dev nD, ∀ b ∈ Pipeline.ucRefs τ sig, r.2.mem (d, b) = val3 m d b) ∧ r.2.sem = fun _ => 0

/-- From any launch memory whose row numbers are in range, every execution ends with every array at `val3` and every
    semaphore at zero. -/
theorem run_main [∀ e, Nonempty (Elt F e)] (hix : ∀ d j, (rows m d j).toNat < 100000) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (tblK m) (rows m)) (A := ∅) facts v₀
    (fun q hq => match q with | 0 => nomatch hq)
    (fun q _ => match q with | 0 => tileObl _ _ hix)
    (fun q _ => match q with | 0 => SparseCore.Cfg.VecSplit.of_plain (vecSplit _ _))
    m ρ main (fun _ => iprop(emp)) (FIN m) (u₀ (F := F)) (sep_elim_left.trans (hu₀ _ _)) (hmain m ρ) (fq m) (hfin m) (QC m) (fun _ h hz => ⟨h, hz⟩)

/-! ## The arguments at the end, and the row numbers -/

theorem ops0_writes : (ops0 (F := F)).Forall fun op => op.writes ⊆ (([main_v0] : List (Ref sig .tc)).map (Proc.devRef (τ := τ) .tc)).toFinset := by
  exact StableHlo.forall_writes_sub_of_map rfl
theorem ops1_writes : (ops1 (F := F)).Forall fun op => op.writes ⊆ (([main_v2] : List (Ref sig .tc)).map (Proc.devRef (τ := τ) .tc)).toFinset := by
  exact StableHlo.forall_writes_sub_of_map rfl

/-- A buffer no step writes ends as it began. -/
theorem val3_arg (d : Dev nD) {b : Ref sig .tc} (h0 : b ∉ ([main_v0] : List (Ref sig .tc))) (h1 : b ∉ ([main_v2] : List (Ref sig .tc)))
    (ho : b ≠ main_v1) : val3 m d (Proc.devRef .tc b) = m ((d.tc : Thread nD τ).loc b) := by
  unfold val3 val2 val1
  rw [StableHlo.after_of_writes_sub (W := [main_v2]) ops1 _ ops1_writes h1,
    Function.update_of_ne (fun e => ho (Proc.devRef_injective _ e)),
    StableHlo.after_of_writes_sub (W := [main_v0]) ops0 _ ops0_writes h0]

/-- Both arguments, at the end of a run. -/
theorem QC.args {r : PUnit × MemSt nD τ sig (Elt F)} (h : QC m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1) := by
  exact ⟨(h.1 d (Proc.devRef .tc main_arg0) (by decide +kernel)).trans (val3_arg m d (by decide) (by decide) (by decide)),
    (h.1 d (Proc.devRef .tc main_arg1) (by decide +kernel)).trans (val3_arg m d (by decide) (by decide) (by decide))⟩

/-- A word at least zero and below 100000, as signed comparisons say it, is below 100000. -/
theorem lt_of_cmp (v : BitVec 32) (e : IntOp.andi (IntOp.cmpi .sge v 0#32) (IntOp.cmpi .slt v 100000#32) = 1#1) : v.toNat < 100000 := by
  simp only [IntOp.cmpi, WordArith.andi_ofBool, WordArith.ofBool_eq_one_iff, Bool.and_eq_true, BitVec.sle_eq_decide, BitVec.slt_eq_decide, decide_eq_true_eq,
    BitVec.toInt_eq_toNat_cond, BitVec.toNat_ofNat, Nat.reducePow, Nat.reduceMod] at e
  omega

/-- The precondition, element by element. -/
theorem lt_of_pre {x0 : S100000x128.Idx → F .f32} {x1 : S80x1024.Idx → BitVec 32}
    (h : Pre_candidates_in_range.fn (F := F) x0 x1 = fun _ => 1#1) (j : S80x1024.Idx) : (x1 j).toNat < 100000 := by
  have e := congrFun h j
  simp only [Pre_candidates_in_range.fn, andi, cmpi, broadcastInDim, constantI] at e
  exact lt_of_cmp _ e

/-- The call's row of numbers holds the argument's, candidate by candidate. -/
theorem rows_eq (d : Dev nD) : rows m d = shapeCast S81920 (m ((d.tc : Thread nD τ).loc main_arg1) : S80x1024.Idx → BitVec 32) shapeCasts_S80x1024_S81920 := by
  unfold rows val1 ops0
  rw [StableHlo.after_cons, StableHlo.after_nil]
  rfl

/-- Every number below 100000, from the same of the argument. -/
theorem rows_lt (h : ∀ (d : Dev nD) (j : S80x1024.Idx), (m ((d.tc : Thread nD τ).loc main_arg1) j : BitVec 32).toNat < 100000) (d : Dev nD) (j : S81920.Idx) : (rows m d j).toNat < 100000 := by
  rw [rows_eq]
  exact h d _

end Cert.Proof.GatherIdeal

end
-- ==== Proof.GVal.lean ====
/-
  The gather's result against the reference's indexing: element `(c, b, y)` of either is entry `y` of the table row that
  candidate `c` of query `b` names.
-/
module

public import proofs.«01_k».proof.Proof.RVal
public import proofs.«01_k».proof.Proof.GRun
public import Idealize.ShloMosaic.Lib.StableHlo.ReadAt
public import proofs.«01_k».proof.Proof.Gen.GatherReferenceIdeal.Read

@[expose] public section

set_option maxRecDepth 16384

noncomputable section

namespace Cert.Proof.GatherIdeal

open Idealize.ShloMosaic
open Cert.Proof.Ref (pick wrap_toInt)

namespace Ref

open Cert.GatherReferenceIdeal Cert.GatherReferenceIdeal.Gen Cert.GatherReferenceIdeal.Read

/-- The reference's gather: row of the clamped signed number. -/
theorem gather_apply {α : Type} (x : S100000x128.Idx → α) (idx : IVec S80x1024x1 32) (c : Fin 80) (b : Fin 1024) (y : Fin 128) :
    Host.gather gather_S100000x128_S80x1024x1_S80x1024x128_2_0_n_n_0_2_1128 x idx (ix3 c b y)
      = x (ix2 ⟨min (idx (ix3 c b 0)).toInt.toNat 99999, by omega⟩ y) := by
  unfold Host.gather
  refine congrArg x (funext fun a => Fin.ext ?_)
  match a with
  | ⟨0, _⟩ =>
    show min (idx _).toInt.toNat 99999 + 0 + 0 = min (idx (ix3 c b 0)).toInt.toNat 99999
    refine congrArg (fun z => min (BitVec.toInt (idx z)).toNat 99999) (funext fun k => ?_)
    match k with
    | ⟨0, _⟩ => rfl
    | ⟨1, _⟩ => rfl
    | ⟨2, _⟩ => rfl
  | ⟨1, _⟩ =>
    show 0 + 0 + y.val = y.val
    omega

/-- The reference's result: the row each candidate names. -/
theorem v6_apply (x0 : S100000x128.Idx → Elt Ideal .f32) (x1 : S80x1024.Idx → BitVec 32) (h : ∀ i, (x1 i).toNat < 100000) (c : Fin 80) (b : Fin 1024) (y : Fin 128) :
    val_main_v6 (F := Ideal) x0 x1 (ix3 c b y) = x0 (ix2 (pick (x1 (ix2 c b))) y) := by
  unfold val_main_v6
  rw [gather_apply]
  refine congrArg (fun z => x0 (ix2 z y)) (Fin.ext ?_)
  have e : val_main_v5 (F := Ideal) x1 (ix3 c b 0) = Scalar.select (IntOp.cmpi .slt (x1 (ix2 c b)) 0#32) (IntOp.addi (x1 (ix2 c b)) 100000#32) (x1 (ix2 c b)) := by
    pointwise [val_main_v5, val_main_v4, val_main_v3, val_main_v2, val_main_v1, val_main_v0, val_main_c, val_main_c_0]
  show min (val_main_v5 (F := Ideal) x1 (ix3 c b 0)).toInt.toNat 99999 = min (x1 (ix2 c b)).toNat 99999
  rw [e, wrap_toInt _ (h _)]

end Ref

open Cert.GatherIdeal Cert.GatherIdeal.Gen

variable (m : (ℓ : Loc nD τ sig) → Buf (Elt Ideal) ℓ)

/-- Candidate `c` of query `b` among the numbers the SparseCore call reads. -/
theorem rows_apply (d : Dev nD) (c : Fin 80) (b : Fin 1024) : rows m d (ix1 ⟨c.val * 1024 + b.val, by omega⟩)
    = (m ((d.tc : Thread nD τ).loc main_arg1) : S80x1024.Idx → BitVec 32) (ix2 c b) := by
  rw [rows_eq]
  pointwise []

/-- The result of a run, at an index. -/
theorem val3_apply (d : Dev nD) (c : Fin 80) (b : Fin 1024) (y : Fin 128) :
    (val3 m d (Proc.devRef .tc main_v2) : S80x1024x128.Idx → Elt Ideal .f32) (ix3 c b y)
      = tblK m d (ix2 (pick ((m ((d.tc : Thread nD τ).loc main_arg1) : S80x1024.Idx → BitVec 32) (ix2 c b))) y) := by
  have h1 : (val3 m d (Proc.devRef .tc main_v2) : S80x1024x128.Idx → Elt Ideal .f32)
      = shapeCast S80x1024x128 (gath (tblK m d) (rows m d) : S81920x128.Idx → Elt Ideal .f32) shapeCasts_S81920x128_S80x1024x128 := by
    unfold val3 ops1
    rw [StableHlo.after_cons, StableHlo.after_nil]
    rfl
  have h2 : shapeCast S80x1024x128 (gath (tblK m d) (rows m d) : S81920x128.Idx → Elt Ideal .f32) shapeCasts_S81920x128_S80x1024x128 (ix3 c b y)
      = gath (F := Ideal) (tblK m d) (rows m d) (ix2 ⟨c.val * 1024 + b.val, by omega⟩ y) := by
    pointwise []
  rw [h1, h2, ← rows_apply m d c b]
  rfl

end Cert.Proof.GatherIdeal

end
-- ==== Proof.MBase.lean ====
/-
  The program around the SparseCore call that reads group minima by place, as the launch theorem sees it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.MinimaIdeal
public import proofs.«01_k».proof.Proof.Gen.MinimaIdeal.Skeleton

@[expose] public section

noncomputable section

namespace Cert.Proof.MinimaIdeal

open Cert.MinimaIdeal Cert.MinimaIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program as the launch theorem sees it -/

/-- The labels of the pipelined kernels. -/
abbrev ΛP : Labels := Pipeline.Sig Λ₀ (Fin 0) fun p => (pcfgs (F := F) p).Adm
/-- The SparseCore calls. -/
abbrev K : SparseCore.Cfg τ sig (ΛP (F := F)) 1 := sc (F := F)
/-- The body table below the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and unscoped, and no array is shared among tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the transfers' counters. -/
abbrev UH : Type := URounds (GSem nD τ sig) ℕ
abbrev UU : Type := UH × Counters

end Cert.Proof.MinimaIdeal

end
-- ==== Proof.MTile.lean ====
/-
  The SparseCore call that reads group minima by place: one task per (SparseCore, tile) pair. Each task copies its 3200
  places into its index scratch, streams the words they name into its other scratch and copies those to its part of the
  output. Proved once, at a symbolic task, with the value: word `j` of the output is word `ix[j]` of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.MinimaIdeal
public import proofs.«01_k».proof.Proof.Gen.MinimaIdeal.Skeleton
public import proofs.«01_k».proof.Proof.MBase

@[expose] public section

noncomputable section

namespace Cert.Proof.MinimaIdeal

open Cert.MinimaIdeal Cert.MinimaIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

/-! ## The arrays and the memrefs of a task -/

abbrev kLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

abbrev kV : Memref sig Kind.scVector Space.hbm S12800000 EltTy.f32 := Memref.whole main_v0_scv
abbrev iV : Memref sig Kind.scVector Space.hbm S102400 EltTy.i32 := Memref.whole main_v1_scv
abbrev oV : Memref sig Kind.scVector Space.hbm S102400 EltTy.f32 := Memref.whole main_v2_scv
abbrev sV : Memref sig Kind.scVector Space.vmem S3200 EltTy.i32 := Memref.whole cc0_scratch0
abbrev rV : Memref sig Kind.scVector Space.vmem S3200 EltTy.f32 := Memref.whole cc0_scratch1

abbrev cV (L : grid0.Coords) : Fin τ.nSC := (L 0).castLE hcore0
abbrev jV (L : grid0.Coords) : Fin τ.nSub := (L 1).castLE hsub0

/-- The task's number: tiles numbered first, SparseCores within a tile. -/
def wid (L : grid0.Coords) : Fin 32 := ⟨(L 1).val * 2 + (L 0).val, by have h0 : (L 0).val < 2 := (L 0).isLt; have h1 : (L 1).val < 16 := (L 1).isLt; omega⟩

theorem off1_val : ∀ (L : grid0.Coords), k0_off1 L 0 = (wid L).val * 3200 := by decide +kernel

/-- The task's part of the list, the part of the output it fills, all of the table. -/
abbrev iRowK (L : grid0.Coords) : Memref sig .scVector .hbm S3200 .i32 := iV.slice (Rect.unit (s := S102400) (k0_off1 L) S3200.size (k0_off1_inb L)) (fun _ => rfl)
abbrev oRect (L : grid0.Coords) : Rect S102400 := Rect.unit (s := S102400) (k0_off1 L) S3200.size (k0_off1_inb L)
abbrev oRowK (L : grid0.Coords) : Memref sig .scVector .hbm S3200 .f32 := oV.slice (oRect L) (fun _ => rfl)
abbrev kAllK : Memref sig .scVector .hbm S12800000 .f32 := kV.slice (Rect.unit (s := S12800000) ![0] S12800000.size inb_S12800000_S12800000_0) (fun _ => rfl)

/-! ## The rows the output is split into -/

theorem odiv : 32 ∣ S102400.size 0 := ⟨3200, rfl⟩
abbrev orow (w : Fin 32) : Rect S102400 := Rect.part (s := S102400) (a₀ := 0) odiv w

theorem oRect_eq (L : grid0.Coords) : oRect L = orow (wid L) := by
  unfold oRect orow Rect.part Rect.block
  congr 1 <;> funext a
  · match a with
    | 0 => rw [off1_val]; simp [Shape.partIx, Shape.partSize]
  · match a with
    | 0 => simp [Shape.partSize]

theorem set_oRowK (L : grid0.Coords) : (oRowK L).view.set = (orow (wid L)).set := by
  show ((View.whole (main_v2_scv : Ref sig .scVector)).slice (oRect L)).set = _
  rw [View.set_slice, oRect_eq]; exact Finset.map_refl

/-- The share task `w` holds of an array every task reads. -/
abbrev tq (w : Fin 32) : PosShare TreeShare := Transfers.dealOf fullShare Finset.univ w

/-! ## The value -/

/-- The entries of `tbl` named by the list `ix` (a number past the last entry read as the last). -/
def gath (tbl : S12800000.Idx → Elt F .f32) (ix : S102400.Idx → BitVec 32) : S102400.Idx → Elt F .f32 :=
  fun j => tbl (ix1 (⟨min (ix (ix1 (j 0))).toNat 12799999, by omega⟩ : Fin 12800000))

variable [FloatOps F]

/-- A piece of the output before its rows are filled, and after. -/
abbrev empty (d : Dev nD) (w : Fin 32) : sProp 𝕄 := iprop(∃ f, oLoc d ↦[(orow w).set]{fullShare} f)
abbrev filled (A : (d : Dev nD) → S12800000.Idx → Elt F .f32) (ix : (d : Dev nD) → S102400.Idx → BitVec 32) (d : Dev nD) (w : Fin 32) : sProp 𝕄 :=
  oLoc d ↦[(orow w).set]{fullShare} (gath (A d) (ix d) : Buf (Elt F) (oLoc d))

/-- What a task is handed, and what it hands back. -/
abbrev tileIn (A : (d : Dev nD) → S12800000.Idx → Elt F .f32) (ix : (d : Dev nD) → S102400.Idx → BitVec 32) (d : Dev nD) (w : Fin 32) : sProp 𝕄 :=
  iprop((kLoc d ↦{tq w} (A d : Buf (Elt F) (kLoc d))) ∗ (iLoc d ↦{tq w} (ix d : Buf (Elt F) (iLoc d))) ∗ empty d w)
abbrev tileOut (A : (d : Dev nD) → S12800000.Idx → Elt F .f32) (ix : (d : Dev nD) → S102400.Idx → BitVec 32) (d : Dev nD) (w : Fin 32) : sProp 𝕄 :=
  iprop((kLoc d ↦{tq w} (A d : Buf (Elt F) (kLoc d))) ∗ (iLoc d ↦{tq w} (ix d : Buf (Elt F) (iLoc d))) ∗ filled A ix d w)

section Tile

variable (A : (d : Dev nD) → S12800000.Idx → Elt F .f32) (ix : (d : Dev nD) → S102400.Idx → BitVec 32) (d : Dev nD) (L : grid0.Coords)

/-- Three cells of the task's own out of all of them. -/
theorem ownSems0_three (a b c : SemLoc sig) (ha : a.isScoped .scVector = true) (hb : b.isScoped .scVector = true) (hc : c.isScoped .scVector = true)
    (hba : b ≠ a) (hca : c ≠ a) (hcb : c ≠ b) :
    (ownSems0 (V d (cV L) (jV L)) : sProp 𝕄)
      = iprop(semVal ((V d (cV L) (jV L)), a) 0 ∗ semVal ((V d (cV L) (jV L)), b) 0 ∗ semVal ((V d (cV L) (jV L)), c) 0
          ∗ bigSep ((((ownCells (V d (cV L) (jV L))).erase ((V d (cV L) (jV L)), a)).erase ((V d (cV L) (jV L)), b)).erase ((V d (cV L) (jV L)), c)) fun g => semVal g 0) := by
  unfold SparseCore.Cfg.ownSems0
  rw [SparseCore.bigSep_erase' ((mem_ownCells (g := ((V d (cV L) (jV L)), a))).mpr ⟨rfl, ha⟩),
    SparseCore.bigSep_erase' (Finset.mem_erase.mpr ⟨fun e => hba (congrArg Prod.snd e), (mem_ownCells (g := ((V d (cV L) (jV L)), b))).mpr ⟨rfl, hb⟩⟩),
    SparseCore.bigSep_erase' (Finset.mem_erase.mpr ⟨fun e => hcb (congrArg Prod.snd e), Finset.mem_erase.mpr ⟨fun e => hca (congrArg Prod.snd e),
      (mem_ownCells (g := ((V d (cV L) (jV L)), c))).mpr ⟨rfl, hc⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the index copy lands in the scratch names rows of the table. -/
theorem inb_list (hix : ∀ d j, (ix d j).toNat < 12800000) (fs : Buf (Elt F) ((V d (cV L) (jV L)).loc cc0_scratch0)) (pay : S3200.Idx → Elt F .i32)
    (hpay : pay = (iRowK L).view.read (Elt F) (ix d)) :
    ∀ x, (sV.view.read (Elt F) (View.write (Elt F) sV.view fs pay Finset.univ) x).toNat < S12800000.size gathers_S12800000_S3200.axis := by
  subst hpay; intro x
  rw [View.write_whole_univ]
  simp only [Memref.view_whole, View.read_whole]
  rw [show ∀ j, (iRowK L).view.read (Elt F) (ix d) j = ix d ((iRowK L).view.emb j) from fun j => (View.read_apply _ _).trans (cast_eq _ _)]
  exact hix d _

/-- Where entry `x` of the task's part of the list, and of the output, sits. -/
theorem emb_iRowK (x : S3200.Idx) : (iRowK L).view.emb x = ix1 (⟨(wid L).val * 3200 + (x 0).val, by have := (wid L).isLt; have h0 : (x 0).val < 3200 := (x 0).isLt; omega⟩ : Fin 102400) := by
  funext a
  match a with
  | 0 => exact Fin.ext (by show k0_off1 L 0 + 1 * (x 0).val = _; rw [off1_val, one_mul]; rfl)
theorem emb_oRect (x : S3200.Idx) : (oRect L).emb x = ix1 (⟨(wid L).val * 3200 + (x 0).val, by have := (wid L).isLt; have h0 : (x 0).val < 3200 := (x 0).isLt; omega⟩ : Fin 102400) := by
  funext a
  match a with
  | 0 => exact Fin.ext (by show k0_off1 L 0 + 1 * (x 0).val = _; rw [off1_val, one_mul])

/-- The streamed rows are the named rows of the table. -/
theorem gathered_apply (d : Dev nD) (tbl : S12800000.Idx → Elt F .f32) (l : S102400.Idx → BitVec 32) (src : S3200.Idx → Elt F .i32) (hsrc : src = (iRowK L).view.read (Elt F) (l : Buf (Elt F) (iLoc d)))
    (tb : S12800000.Idx → Elt F .f32) (htb : tb = tbl) (h : ∀ x, (src x).toNat < S12800000.size gathers_S12800000_S3200.axis) (x : S3200.Idx) :
    SparseCore.gatherPayload gathers_S12800000_S3200 tb (SparseCore.rows src rfl h) x = gath tbl l ((oRect L).emb x) := by
  subst hsrc htb
  unfold SparseCore.gatherPayload gath
  refine congrArg tb ?_
  have hx0 : (x 0).val < 3200 := (x 0).isLt
  have hrow : (S3200.rowMajor.symm ((x 0).cast rfl : Fin S3200.numel)) = ix1 (⟨(x 0).val, hx0⟩ : Fin 3200) := by
    rw [Equiv.symm_apply_eq]; exact Fin.ext (by exact (Shape.rowMajor_val_one (d := S3200.size) (ix1 (⟨(x 0).val, hx0⟩ : Fin 3200))).symm)
  funext a
  match a with
  | 0 =>
    refine Fin.ext ?_
    have hw : (SparseCore.rows ((iRowK L).view.read (Elt F) (l : Buf (Elt F) (iLoc d))) rfl h (x 0)).val
        = (l (ix1 (⟨(wid L).val * 3200 + (x 0).val, by have := (wid L).isLt; omega⟩ : Fin 102400))).toNat := by
      show (((iRowK L).view.read (Elt F) (l : Buf (Elt F) (iLoc d))) (S3200.rowMajor.symm ((x 0).cast rfl))).toNat = _
      rw [hrow, ← emb_iRowK L (ix1 ⟨(x 0).val, hx0⟩)]
      exact congrArg BitVec.toNat ((View.read_apply _ _).trans (cast_eq _ _))
    have hlt := (SparseCore.rows ((iRowK L).view.read (Elt F) (l : Buf (Elt F) (iLoc d))) rfl h (x 0)).isLt
    have h1 := congrArg Fin.val (Shape.Gathers.idx_axis gathers_S12800000_S3200 (SparseCore.rows ((iRowK L).view.read (Elt F) (l : Buf (Elt F) (iLoc d))) rfl h) x)
    refine h1.trans (hw.trans ?_)
    rw [emb_oRect]
    exact (min_eq_left (by have h2 : _ < 12800000 := hw ▸ hlt; exact Nat.le_of_lt_succ h2)).symm

/-- Reading the task's part of the output, at an index. -/
theorem read_oRowK (f : Buf (Elt F) (oLoc d)) (x : S3200.Idx) : (oRowK L).view.read (Elt F) f x = (f : S102400.Idx → Elt F .f32) ((oRect L).emb x) :=
  (View.read_apply _ _).trans (cast_eq _ _)

/-- Writing `pay` to the task's part of the output leaves there what `pay` is. -/
theorem writes_oRowK (gv : Buf (Elt F) (oLoc d)) (f : Buf (Elt F) (oLoc d)) (pay : S3200.Idx → Elt F .f32)
    (h : ∀ x, pay x = (gv : S102400.Idx → Elt F .f32) ((oRect L).emb x)) (x : S3200.Idx) :
    ((oRowK L).view.writes (Elt F) f [⟨Rect.whole S3200, pay⟩] : S102400.Idx → Elt F .f32) ((oRect L).emb x) = (gv : S102400.Idx → Elt F .f32) ((oRect L).emb x) :=
  (read_oRowK d L _ x).symm.trans ((congrFun (View.read_writes_whole (oRowK L).view f pay) x).trans (h x))

/-- Two contents of the output that agree on the task's part hold that part alike. -/
theorem oRow_congr (gv : Buf (Elt F) (oLoc d)) (f : Buf (Elt F) (oLoc d))
    (h : ∀ x, (f : S102400.Idx → Elt F .f32) ((oRect L).emb x) = (gv : S102400.Idx → Elt F .f32) ((oRect L).emb x)) :
    (((oRowK L).view.loc (V d (cV L) (jV L)) ↦[(oRowK L).view.set]{fullShare} f) : sProp 𝕄)
      = oLoc d ↦[(orow (wid L)).set]{fullShare} gv := by
  rw [← set_oRowK]
  refine pointsTo_congr fun i hi => ?_
  obtain ⟨x, -, rfl⟩ := Finset.mem_map.mp hi
  exact h x

/-- The task's part of the output, once the scratch has been copied there. -/
theorem oRow_filled (gv : Buf (Elt F) (oLoc d)) (f : Buf (Elt F) (oLoc d)) (pay : S3200.Idx → Elt F .f32)
    (h : ∀ x, pay x = (gv : S102400.Idx → Elt F .f32) ((oRect L).emb x)) :
    (((oRowK L).view.loc (V d (cV L) (jV L)) ↦[(oRowK L).view.set]{fullShare} (oRowK L).view.writes (Elt F) f [⟨Rect.whole S3200, pay⟩]) : sProp 𝕄)
      = oLoc d ↦[(orow (wid L)).set]{fullShare} gv := oRow_congr d L gv _ (writes_oRowK d L gv f pay h)

/-- Reading all of the table gives the table. -/
theorem read_kAllK (f : Buf (Elt F) (kLoc d)) : (kAllK.view.read (Elt F) f : S12800000.Idx → Elt F .f32) = f := by
  funext x
  rw [View.read_apply]
  refine (cast_eq _ _).trans (congrArg f ?_)
  funext a
  match a with
  | 0 => exact Fin.ext (by show 0 + 1 * (x 0).val = _; rw [one_mul, Nat.zero_add])

/-- What the copy out of the row scratch carries. -/
theorem carried_apply (tbl tb : S12800000.Idx → Elt F .f32) (htb : tb = tbl) (l : S102400.Idx → BitVec 32) (fs : Buf (Elt F) ((V d (cV L) (jV L)).loc cc0_scratch0))
    (fr : Buf (Elt F) ((V d (cV L) (jV L)).loc cc0_scratch1))
    (h : ∀ x, (sV.view.read (Elt F) (View.write (Elt F) sV.view fs ((iRowK L).view.read (Elt F) (l : Buf (Elt F) (iLoc d))) Finset.univ) x).toNat
      < S12800000.size gathers_S12800000_S3200.axis) (x : S3200.Idx) :
    rV.view.read (Elt F) (View.write (Elt F) rV.view fr (SparseCore.gatherPayload gathers_S12800000_S3200 tb
      (SparseCore.rows (sV.view.read (Elt F) (View.write (Elt F) sV.view fs ((iRowK L).view.read (Elt F) (l : Buf (Elt F) (iLoc d))) Finset.univ)) rfl h)) Finset.univ) x
      = gath tbl l ((oRect L).emb x) := by
  rw [View.read_write_univ]
  exact gathered_apply L d tbl l _ (View.read_write_univ _ _) tb htb h x

/-- The task's run: its entries of the list in, the words they name streamed, those words out. -/
def step (sA sB : DmaSems sig S_) : Prog (TpuEff nD τ sig (Elt F) Λ₀ (.scVector (cV L) (jV L))) PUnit := do
  Prog.lift (.enqueueDma (iRowK L) (.here sV) (.dma sA.sem) (View.wordExact_bits rfl) (Memref.isWhole_whole cc0_scratch0).wordExact ⟨Or.inl rfl, trivial⟩)
  Prog.lift (.waitDma2 sA.sem (iRowK L) sV (View.wordExact_bits rfl) (Memref.isWhole_whole cc0_scratch0).wordExact)
  SparseCore.enqueueIndirectGather rfl kAllK rV gathers_S12800000_S3200 sV rfl cc0_scratch2.sem (View.wordExact_bits rfl) rfl (Or.inl rfl)
  SparseCore.waitIndirectGather cc0_scratch2.sem kAllK rV (View.wordExact_bits rfl) (Memref.isWhole_whole cc0_scratch1).wordExact
  Prog.lift (.enqueueDma rV (.here (oRowK L)) (.dma sB.sem) (Memref.isWhole_whole cc0_scratch1).wordExact (View.wordExact_bits rfl) ⟨Or.inl rfl, trivial⟩)
  Prog.lift (.waitDma2 sB.sem rV (oRowK L) (Memref.isWhole_whole cc0_scratch1).wordExact (View.wordExact_bits rfl))
  pure ⟨⟩

/-- What a piece needs and leaves, beside its rows of the output. -/
abbrev keep (O : CellTallies nD τ sig (HIx 1)) (W : Waits sig (HIx 1)) : sProp 𝕄 :=
  iprop((kLoc d ↦{tq (wid L)} (A d : Buf (Elt F) (kLoc d))) ∗ (iLoc d ↦{tq (wid L)} (ix d : Buf (Elt F) (iLoc d)))
    ∗ (∃ f, (V d (cV L) (jV L)).loc cc0_scratch0 ↦{fullShare} f) ∗ (∃ f, (V d (cV L) (jV L)).loc cc0_scratch1 ↦{fullShare} f)
    ∗ ownSems0 (V d (cV L) (jV L)) ∗ ∃ W', ⌜∀ p ∈ W', p ∈ W ∨ p.2 = none⌝ ∗ owes (V d (cV L) (jV L)) O W')

set_option maxHeartbeats 4000000 in
/-- One piece runs, and fills its rows of the output. -/
theorem step_wp (hF : (K (F := F)).Facts) (hix : ∀ d j, (ix d j).toNat < 12800000) (O : CellTallies nD τ sig (HIx 1)) (W : Waits sig (HIx 1)) (hO : ∀ g, O g none = 0)
    (sA sB : DmaSems sig S_) (hA : (SemLoc.dma sA.sem : SemLoc sig).isScoped .scVector = true) (hB : (SemLoc.dma sB.sem : SemLoc sig).isScoped .scVector = true)
    (hBA : (SemLoc.dma sB.sem : SemLoc sig) ≠ .dma sA.sem) (hGA : (SemLoc.dma cc0_scratch2.sem : SemLoc sig) ≠ .dma sA.sem) (hGB : (SemLoc.dma cc0_scratch2.sem : SemLoc sig) ≠ .dma sB.sem)
    (Φ : PUnit → sProp 𝕄) :
    iprop(levAts (K (F := F)).L (K (F := F)).lev ∗ keep A ix d L O W ∗ empty d (wid L) ∗ (iprop(keep A ix d L O W ∗ filled A ix d (wid L)) -∗ Φ ⟨⟩))
      ⊢ wp frame (wpE (defs₀ (F := F)) 𝒱₀ (V d (cV L) (jV L)) none) Set.univ (step L sA sB) Φ := by
  unfold step keep
  rw [ownSems0_three d L (.dma sA.sem) (.dma sB.sem) (.dma cc0_scratch2.sem) hA hB (by decide) hBA hGA hGB]
  iintro ⟨#Hlv, ⟨Hk, Hi, ⟨%fs, Hs⟩, ⟨%fr, Hr⟩, ⟨HsemA, HsemB, HsemG, Hsems⟩, ⟨%W₁, %hW₁, HO⟩⟩, ⟨%fp, Hp⟩, HΦ⟩
  ihave Hmw := (show levAts (K (F := F)).L (K (F := F)).lev ⊢ Transfers.MayWaits (V d (cV L) (jV L)) (default : HIx 1) O from
    (K (F := F)).mayWaits_none (thr := V d (cV L) (jV L)) hO) $$ Hlv
  have hrs : rV.view.set = Finset.univ := View.set_whole _
  have hss : sV.view.set = Finset.univ := View.set_whole _
  ihave Hp' := (Entails.of_eq (show (oLoc d ↦[(orow (wid L)).set]{fullShare} fp : sProp 𝕄)
      = (oRowK L).view.loc (V d (cV L) (jV L)) ↦[(oRowK L).view.set]{fullShare} fp by rw [set_oRowK])) $$ Hp
  ihave Hi2 := (pointsTo_split_subset (ℓ := iLoc d) (q := tq (wid L)) (f := ix d) (S := Finset.univ) (Finset.subset_univ (iRowK L).view.set)).1 $$ Hi
  icases Hi2 with ⟨Hi', Hir⟩
  ihave Hk2 := (pointsTo_split_subset (ℓ := kLoc d) (q := tq (wid L)) (f := A d) (S := Finset.univ) (Finset.subset_univ kAllK.view.set)).1 $$ Hk
  icases Hk2 with ⟨Hk', Hkr⟩
  ihave Hi1 := (Entails.of_eq (show (iLoc d ↦[(iRowK L).view.set]{tq (wid L)} (ix d : Buf (Elt F) (iLoc d)) : sProp 𝕄)
      = (iRowK L).view.loc (V d (cV L) (jV L)) ↦[(iRowK L).view.set]{tq (wid L)} (ix d) from rfl)) $$ Hi'
  ihave Hs' := (Entails.of_eq (show ((V d (cV L) (jV L)).loc cc0_scratch0 ↦{fullShare} fs : sProp 𝕄)
      = sV.view.loc (V d (cV L) (jV L)) ↦{fullShare} fs from rfl)) $$ Hs
  ihave Hr' := (Entails.of_eq (show ((V d (cV L) (jV L)).loc cc0_scratch1 ↦{fullShare} fr : sProp 𝕄)
      = rV.view.loc (V d (cV L) (jV L)) ↦{fullShare} fr from rfl)) $$ Hr
  sl_exec
  have hN : ∀ h : S12800000.Gathers 0 S3200, ∑ j, (rV.slice (S3200.rowRect h.axis' j) (S3200.stride_rowRect h.axis' j)).view.dmaCredit
      = rV.view.dmaCredit := by decide +kernel
  ihave Hr1 := (Entails.of_eq (show (rV.view.loc (V d (cV L) (jV L)) ↦{fullShare} fr : sProp 𝕄)
      = rV.view.loc (V d (cV L) (jV L)) ↦[rV.view.set]{fullShare} fr by rw [hrs])) $$ Hr'
  ihave Hs1 := (Entails.of_eq (show (sV.view.loc (V d (cV L) (jV L)) ↦{fullShare} View.write (Elt F) sV.view fs (step_wp.sl.dma0 ix d L) Finset.univ : sProp 𝕄)
      = sV.view.loc (V d (cV L) (jV L)) ↦[sV.view.set]{fullShare} View.write (Elt F) sV.view fs (step_wp.sl.dma0 ix d L) Finset.univ
      by rw [hss])) $$ Hs'
  iapply (SparseCore.wp_indirectGatherLocal countersEmb 𝒱₀ (V d (cV L) (jV L)) none (hg := gathers_S12800000_S3200) (default : HIx 1)
      rV.view.dmaCredit (hN _) (by decide) (inb_list ix d L hix fs _ rfl)) $$ [Hk' Hr1 Hs1 HsemG]
  · isplitl [Hk']; · iexact Hk'
    isplitl [Hr1]; · iexact Hr1
    isplitl [Hs1]; · iexact Hs1
    iexact HsemG
  iintro Hfl
  sl_exec
  iapply (Transfers.wp_waitLocalO countersEmb 𝒱₀ (V d (cV L) (jV L)) none (default : HIx 1) (rfl : rV.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr2, Hk', Hs2⟩, HsemG, HO⟩
  ihave Hr3 := (Entails.of_eq (show (rV.view.loc (V d (cV L) (jV L)) ↦[rV.view.set]{fullShare} _ : sProp 𝕄)
      = rV.view.loc (V d (cV L) (jV L)) ↦{fullShare} _ by rw [hrs])) $$ Hr2
  sl_exec
  sl_step
  ihave Hs4 := (Entails.of_eq (show (sV.view.loc (V d (cV L) (jV L)) ↦[sV.view.set]{fullShare} _ : sProp 𝕄)
      = sV.view.loc (V d (cV L) (jV L)) ↦{fullShare} _ by rw [hss])) $$ Hs2
  ihave Hp1 := (Entails.of_eq (oRow_filled d L (gath (A d) (ix d) : Buf (Elt F) (oLoc d)) fp (step_wp.sl.dma0_1 A ix d L hix fs fr) (fun x => carried_apply d L (A d) _ (read_kAllK d (A d)) (ix d) fs fr (inb_list ix d L hix fs _ rfl) x))) $$ Hp'
  iapply HΦ
  isplitr [Hp1]
  swap
  · iexact Hp1
  isplitl [Hk' Hkr]
  · iapply (pointsTo_split_subset (ℓ := kLoc d) (q := tq (wid L)) (f := A d) (S := Finset.univ) (Finset.subset_univ kAllK.view.set)).2
    isplitl [Hk']; · iexact Hk'
    iexact Hkr
  isplitl [Hir]; · iexact Hir
  isplitl [Hs4]; · iexists _; iexact Hs4
  isplitl [Hr3]; · iexists _; iexact Hr3
  isplitl [HsemA HsemB HsemG Hsems]
  · isplitl [HsemA]; · iexact HsemA
    isplitl [HsemB]; · iexact HsemB
    isplitl [HsemG]; · iexact HsemG
    iexact Hsems
  iexists _
  isplitr [HO]
  swap
  · iexact HO
  · ipureintro
    intro p hp
    simp only [Finset.mem_insert] at hp
    rcases hp with rfl | rfl | rfl | hp
    · exact Or.inr rfl
    · exact Or.inr rfl
    · exact Or.inr rfl
    · exact hW₁ p hp

set_option maxRecDepth 65536 in
/-- The task is that one piece. -/
theorem body_eq :
    cc0__g1e_body (F := F) L kV (Memref.isWhole_whole _) iV (Memref.isWhole_whole _) oV (Memref.isWhole_whole _) sV (Memref.isWhole_whole _) rV (Memref.isWhole_whole _)
        cc0_scratch2 cc0_scoped0 cc0_scoped1
      = step L cc0_scoped0 cc0_scoped1 := rfl

/-- The task on the tile at `L`: from its shares of the table and of the list and its part of the output, it runs to
    the output's part at the entries the list names. -/
theorem tile_body (hF : (K (F := F)).Facts) (hix : ∀ d j, (ix d j).toNat < 12800000) (O : CellTallies nD τ sig (HIx 1)) (W : Waits sig (HIx 1)) (hO : ∀ g, O g none = 0) :
    iprop(levAts (K (F := F)).L (K (F := F)).lev ∗ emp
        ∗ tileIn A ix d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__g1e_body L kV (Memref.isWhole_whole _) iV (Memref.isWhole_whole _) oV (Memref.isWhole_whole _) sV (Memref.isWhole_whole _) rV (Memref.isWhole_whole _)
            cc0_scratch2 cc0_scoped0 cc0_scoped1)
          fun _ => iprop(tileOut A ix d (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownBufs_V, body_eq]
  unfold tileIn tileOut
  iintro ⟨#Hlv, -, ⟨Hk, Hi, H0⟩, ⟨Hs, Hr, Hbufs⟩, Hsems, HO⟩
  iapply (step_wp A ix d L hF hix O W hO cc0_scoped0 cc0_scoped1 (by decide) (by decide) (by decide) (by decide) (by decide))
  isplitr; · iexact Hlv
  isplitl [Hk Hi Hs Hr Hsems HO]
  · isplitl [Hk]; · iexact Hk
    isplitl [Hi]; · iexact Hi
    isplitl [Hs]; · iexact Hs
    isplitl [Hr]; · iexact Hr
    isplitl [Hsems]; · iexact Hsems
    iexists W; isplitr
    · ipureintro; exact fun p hp => Or.inl hp
    iexact HO
  isplitl [H0]; · iexact H0
  iintro ⟨⟨Hk, Hi, Hs, Hr, Hsems, HO⟩, H0⟩
  isplitl [Hk Hi H0]
  · isplitl [Hk]; · iexact Hk
    isplitl [Hi]; · iexact Hi
    iexact H0
  isplitl [Hs Hr Hbufs]
  · isplitl [Hs]; · iexact Hs
    isplitl [Hr]; · iexact Hr
    iexact Hbufs
  isplitl [Hsems]; · iexact Hsems
  iexact HO

end Tile

end Cert.Proof.MinimaIdeal

end
-- ==== Proof.MLaunch.lean ====
/-
  The SparseCore call's handshakes: what the cores and the tiles are handed and hand back, and the arrays dealt to the
  32 tasks and gathered again.
-/
module

public import proofs.«01_k».proof.Proof.MTile
public import Idealize.ShloMosaic.Lib.SparseCore.Quiescent

@[expose] public section

noncomputable section

namespace Cert.Proof.MinimaIdeal

open Cert.MinimaIdeal Cert.MinimaIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The handshakes' rounds in the certificate's ghost state. -/
abbrev EH : Emb UH (MT nD τ sig (HIx 1) (Elt F) ℕ UU ℕ) := embL

variable (A : (d : Dev nD) → S12800000.Idx → Elt F .f32) (ix : (d : Dev nD) → S102400.Idx → BitVec 32)

/-- The number of the task on SparseCore `c`, tile `i`. -/
def taskOf (c : Fin ((K (F := F)).nCore 0)) (i : Fin ((K (F := F)).nSub 0)) : Fin 32 :=
  ⟨i.val * 2 + c.val, by have h0 : c.val < 2 := c.isLt; have h1 : i.val < 16 := i.isLt; omega⟩

/-- What the handshakes carry: a core's 16 tasks' shares there, and their results back. -/
def P : (K (F := F)).Pay (nD := nD) (Val := Elt F) (Name := ℕ) (U := UU) where
  st := fun q d => match q with | 0 => fun c => bigSep Finset.univ fun i => tileIn A ix d (taskOf c i)
  dn := fun q d => match q with | 0 => fun c => bigSep Finset.univ fun i => tileOut A ix d (taskOf c i)
  go := fun q d => match q with | 0 => fun c i => tileIn A ix d (taskOf c i)
  td := fun q d => match q with | 0 => fun c i => tileOut A ix d (taskOf c i)
  x := fun _ _ => iprop(emp)

instance P_storable : (P (F := F) A ix).IsStorable where
  st q d c := match q with | 0 => by show BI.Storable _ (bigSep Finset.univ fun i => tileIn A ix d (taskOf c i)); infer_instance
  dn q d c := match q with | 0 => by show BI.Storable _ (bigSep Finset.univ fun i => tileOut A ix d (taskOf c i)); infer_instance
  go q d c i := match q with | 0 => by show BI.Storable _ (tileIn A ix d (taskOf c i)); infer_instance
  td q d c i := match q with | 0 => by show BI.Storable _ (tileOut A ix d (taskOf c i)); infer_instance

/-- A core's operands are its tasks' and its results theirs. -/
theorem vecSplit : (K (F := F)).VecSplit' (P A ix) 0 := by
  intro d c
  show (bigSep Finset.univ fun i => tileIn A ix d (taskOf c i)) ⊢ |={Set.univ}=> iprop(
    (bigSep Finset.univ fun i => tileIn A ix d (taskOf c i))
      ∗ ((bigSep Finset.univ fun i => tileOut A ix d (taskOf c i)) -∗ bigSep Finset.univ fun i => tileOut A ix d (taskOf c i)))
  iintro H; imodintro
  isplitl [H]; · iexact H
  iintro H; iexact H

/-! ## The tasks' obligation -/

/-- The two grid coordinates of a task. -/
abbrev coordsV (c : Fin (grid0.bound 0)) (s : Fin (grid0.bound 1)) : grid0.Coords :=
  fun | 0 => c | 1 => s | ⟨_ + 2, h⟩ => absurd h (Nat.not_lt.2 (Nat.le_add_left _ _))

/-- A task's own waits are at the index of no call. -/
theorem obl_post {R S₁ S₂ : sProp 𝕄} {thr : Thread nD τ} {O : CellTallies nD τ sig (HIx 1)} {W : Waits sig (HIx 1)} :
    iprop(R ∗ S₁ ∗ S₂ ∗ ∃ W', ⌜∀ p ∈ W', p ∈ W ∨ p.2 = none⌝ ∗ owes thr O W')
      ⊢ iprop(R ∗ S₁ ∗ S₂ ∗ ∃ W', ⌜∀ p ∈ W', p ∈ W ∨ (p.2 = none ∨ p.2 = some (0 : Fin 1))⌝ ∗ owes thr O W') := by
  iintro ⟨HR, H1, H2, ⟨%W', %hW, HO⟩⟩
  isplitl [HR]; · iexact HR
  isplitl [H1]; · iexact H1
  isplitl [H2]; · iexact H2
  iexists W'; isplitr
  · ipureintro; exact fun p hp => (hW p hp).imp id Or.inl
  iexact HO

theorem defs₀_vector (c : Fin τ.nSC) (s : Fin τ.nSub) :
    defs₀ (F := F) (.scVector c s) 0 ()
      = SparseCore.onTile hcore0 hsub0 (fun c s => cc0__g1e_body (coordsV c s) kV (Memref.isWhole_whole _) iV (Memref.isWhole_whole _) oV (Memref.isWhole_whole _) sV (Memref.isWhole_whole _) rV (Memref.isWhole_whole _) cc0_scratch2 cc0_scoped0 cc0_scoped1) ⟨⟩ c s := rfl

/-- Every task runs from its share to its results. -/
theorem tileObl (hix : ∀ d j, (ix d j).toNat < 12800000) : (K (F := F)).TileObl (D (F := F)) 𝒱 (P A ix) v₀ 0 := by
  intro d c i O W hO _ _
  simp only [show (P A ix).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A ix d (coordsV ⟨_, hci.1⟩ ⟨_, hci.2⟩) facts hix O W hO).trans (wp_mono frame _ _ fun _ => obl_post)

/-! ## Dealing the arrays to the 32 tasks -/

theorem orows_disjoint : ∀ i ∈ (Finset.univ : Finset (Fin 32)), ∀ j ∈ (Finset.univ : Finset (Fin 32)), i ≠ j → Disjoint (orow i).set (orow j).set :=
  fun _ _ _ _ h => Rect.part_disjoint odiv h
theorem orows_cover : (Finset.univ : Finset (Fin 32)).biUnion (fun w => (orow w).set) = Finset.univ := Rect.biUnion_part odiv

/-- The output held whole is its 32 tasks' parts. -/
theorem oRows (d : Dev nD) (f : Buf (Elt F) (oLoc d)) :
    (oLoc d ↦{fullShare} f : sProp 𝕄) = bigSep Finset.univ fun w : Fin 32 => oLoc d ↦[(orow w).set]{fullShare} f := by
  rw [← pointsTo_biUnion Finset.univ (ℓ := oLoc d) (fun w : Fin 32 => (orow w).set) orows_disjoint, orows_cover]; try rfl

/-- Cores and tiles number the tasks. -/
def taskEquiv : Fin ((K (F := F)).nCore 0) × Fin ((K (F := F)).nSub 0) ≃ Fin 32 where
  toFun p := taskOf p.1 p.2
  invFun w := (⟨w.val % 2, Nat.mod_lt _ (by decide)⟩, ⟨w.val / 2, by have := w.isLt; show w.val / 2 < 16; omega⟩)
  left_inv p := by
    have h0 : p.1.val < 2 := p.1.isLt
    refine Prod.ext (Fin.ext ?_) (Fin.ext ?_)
    · show (p.2.val * 2 + p.1.val) % 2 = p.1.val; omega
    · show (p.2.val * 2 + p.1.val) / 2 = p.2.val; omega
  right_inv w := Fin.ext (by show w.val / 2 * 2 + w.val % 2 = w.val; omega)

theorem bigSep_tasks (Φ : Fin 32 → sProp 𝕄) :
    (bigSep Finset.univ fun c : Fin ((K (F := F)).nCore 0) => bigSep Finset.univ fun i : Fin ((K (F := F)).nSub 0) => Φ (taskOf c i)) = bigSep Finset.univ Φ := by
  rw [bigSep_univ_equiv (taskEquiv (F := F)) Φ, bigSep_univ_prod]; rfl

/-- The call's operands, from the three arrays held whole. -/
theorem deal (d : Dev nD) (f : Buf (Elt F) (oLoc d)) :
    iprop((kLoc d ↦{fullShare} (A d : Buf (Elt F) (kLoc d))) ∗ (iLoc d ↦{fullShare} (ix d : Buf (Elt F) (iLoc d))) ∗ (oLoc d ↦{fullShare} f))
      ⊢ (bigSep Finset.univ fun c => (P A ix).st 0 d c : sProp 𝕄) := by
  show _ ⊢ bigSep Finset.univ fun c => bigSep Finset.univ fun i => tileIn A ix d (taskOf c i)
  rw [bigSep_tasks (F := F) (fun w => tileIn A ix d w), bigSep_sep', bigSep_sep', oRows,
    Transfers.pointsTo_deal (ℓ := kLoc d) (Finset.univ : Finset (Fin 32)) ⟨0, Finset.mem_univ _⟩ fullShare,
    Transfers.pointsTo_deal (ℓ := iLoc d) (Finset.univ : Finset (Fin 32)) ⟨0, Finset.mem_univ _⟩ fullShare]
  have hp : (bigSep Finset.univ fun w : Fin 32 => iprop(oLoc d ↦[(orow w).set]{fullShare} f) : sProp 𝕄) ⊢ bigSep Finset.univ fun w : Fin 32 => empty d w :=
    bigSep_mono fun w _ => exists_intro (Φ := fun f' : Buf (Elt F) (oLoc d) => iprop(oLoc d ↦[(orow w).set]{fullShare} f')) f
  iintro ⟨H1, H2, H3⟩
  isplitl [H1]; · iexact H1
  isplitl [H2]; · iexact H2
  iapply hp; iexact H3

/-- The call's results: the arrays whole again, the output at the named words. -/
theorem undeal (d : Dev nD) :
    (bigSep Finset.univ fun c => (P A ix).dn 0 d c : sProp 𝕄)
      ⊢ iprop((kLoc d ↦{fullShare} (A d : Buf (Elt F) (kLoc d))) ∗ (iLoc d ↦{fullShare} (ix d : Buf (Elt F) (iLoc d)))
        ∗ (oLoc d ↦{fullShare} (gath (A d) (ix d) : Buf (Elt F) (oLoc d)))) := by
  show (bigSep Finset.univ fun c => bigSep Finset.univ fun i => tileOut A ix d (taskOf c i)) ⊢ _
  rw [bigSep_tasks (F := F) (fun w => tileOut A ix d w), bigSep_sep', bigSep_sep', oRows,
    Transfers.pointsTo_deal (ℓ := kLoc d) (Finset.univ : Finset (Fin 32)) ⟨0, Finset.mem_univ _⟩ fullShare,
    Transfers.pointsTo_deal (ℓ := iLoc d) (Finset.univ : Finset (Fin 32)) ⟨0, Finset.mem_univ _⟩ fullShare]

/-! ## The launch element of the certificate's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A ix).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have he : (iprop(emp) : sProp 𝕄) ⊢ bigSep Finset.univ fun _ : Dev nD => iprop(emp) := Entails.of_eq (bigSep_emp_const _).symm
  have hx : (iprop(emp) : sProp 𝕄) ⊢ bigSep Finset.univ fun thr : Thread nD τ => bigSep Finset.univ fun q : Fin 1 => (P (F := F) A ix).x q thr := by
    rw [show (bigSep Finset.univ fun thr : Thread nD τ => bigSep Finset.univ fun q : Fin 1 => (P (F := F) A ix).x q thr) = bigSep Finset.univ fun _ => BI.emp from
      bigSep_congr fun _ _ => bigSep_univ_of_subsingleton (0 : Fin 1), bigSep_emp_const]
    exact .rfl
  isplitr
  · iapply he; iempintro
  iapply hx; iempintro

end Cert.Proof.MinimaIdeal

end
-- ==== Proof.MRun.lean ====
/-
  The program that reads group minima by place, from its launch to its end: its arguments as they were, and its result
  the named words; and that the precondition puts every place inside the table.
-/
module

public import proofs.«01_k».proof.Proof.Gen.Pre_places_in_range
public import Idealize.ShloMosaic.Lib.WordArith
public import Idealize.ShloMosaic.Lib.Pipeline.Frame
public import proofs.«01_k».proof.Proof.MLaunch

@[expose] public section

noncomputable section

namespace Cert.Proof.MinimaIdeal

open Cert.MinimaIdeal Cert.MinimaIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations -/

/-- Before the SparseCore call: the minima in one row, and the places. -/
def ops0 : List (HloOp τ sig (Elt F)) := [StableHlo.reshape main_arg0 main_v0 (rfl : (.f32 : EltTy) = .f32) shapeCasts_S25x500x1024_S12800000,
  StableHlo.reshape main_arg1 main_v1 (rfl : (.i32 : EltTy) = .i32) shapeCasts_S10x10x1024_S102400]

/-- After it: the words by super-group, group and query. -/
def ops1 : List (HloOp τ sig (Elt F)) := [StableHlo.reshape main_v2 main_v3 (rfl : (.f32 : EltTy) = .f32) shapeCasts_S102400_S10x10x1024]

/-- The program is its operations around the call. -/
theorem main_eq (d : Dev nD) : main (F := F) d = (StableHlo.seq ops0 >>= fun _ => ((K (F := F)).run d 0 >>= fun _ => (StableHlo.seq ops1 >>= fun _ => pure ⟨⟩))) := rfl

/-! ## The valuations between the steps -/

/-- Before the SparseCore call. -/
def val1 (d : Dev nD) : Valuation τ sig (Elt F) := StableHlo.after ops0 (StableHlo.launchContents m d)
/-- The table the SparseCore call reads. -/
def tblK (d : Dev nD) : S12800000.Idx → Elt F .f32 := val1 m d (Proc.devRef .tc main_v0)
/-- The places the SparseCore call reads. -/
def rows (d : Dev nD) : S102400.Idx → BitVec 32 := val1 m d (Proc.devRef .tc main_v1)
/-- After it: the output at the named words. -/
def val2 (d : Dev nD) : Valuation τ sig (Elt F) :=
  Function.update (val1 m d) (Proc.devRef .tc main_v2) (gath (tblK m d) (rows m d))
/-- At the end. -/
def val3 (d : Dev nD) : Valuation τ sig (Elt F) := StableHlo.after ops1 (val2 m d)

/-! ## The SparseCore call's three arrays among all -/

abbrev three : Finset (DevRef τ sig) := {Proc.devRef .tc main_v0, Proc.devRef .tc main_v1, Proc.devRef .tc main_v2}

theorem three_sub : three ⊆ Pipeline.ucRefs τ sig := by decide +kernel

theorem held_three (d : Dev nD) (W : Valuation τ sig (Elt F)) :
    (StableHlo.held (d : Thread nD τ) three W : sProp 𝕄)
      = iprop((kLoc d ↦{fullShare} W (Proc.devRef .tc main_v0)) ∗ (iLoc d ↦{fullShare} W (Proc.devRef .tc main_v1))
        ∗ (oLoc d ↦{fullShare} W (Proc.devRef .tc main_v2))) := by
  unfold StableHlo.held
  rw [SparseCore.bigSep_insert' (by decide), SparseCore.bigSep_insert' (by decide), bigSep_singleton]

/-- The SparseCore call's operands out of every array. -/
theorem take (d : Dev nD) :
    (StableHlo.held (d : Thread nD τ) (Pipeline.ucRefs τ sig) (val1 m d) : sProp 𝕄)
      ⊢ iprop((bigSep Finset.univ fun c => (P (tblK m) (rows m)).st 0 d c) ∗ StableHlo.held (d : Thread nD τ) (Pipeline.ucRefs τ sig \ three) (val1 m d)) := by
  rw [StableHlo.held_sub_split _ three_sub, held_three]
  exact sep_mono_left (deal (tblK m) (rows m) d (val1 m d (Proc.devRef .tc main_v2)))

/-- Its result back among every array. -/
theorem give (d : Dev nD) :
    iprop((bigSep Finset.univ fun c => (P (tblK m) (rows m)).dn 0 d c) ∗ StableHlo.held (d : Thread nD τ) (Pipeline.ucRefs τ sig \ three) (val1 m d))
      ⊢ (StableHlo.held (d : Thread nD τ) (Pipeline.ucRefs τ sig) (val2 m d) : sProp 𝕄) := by
  rw [StableHlo.held_sub_split _ three_sub (val2 m d), held_three]
  have hrest : (StableHlo.held (d : Thread nD τ) (Pipeline.ucRefs τ sig \ three) (val1 m d) : sProp 𝕄) = StableHlo.held (d : Thread nD τ) (Pipeline.ucRefs τ sig \ three) (val2 m d) := by
    refine StableHlo.held_congr _ fun b hb => ?_
    have hb' := (Finset.mem_sdiff.mp hb).2
    unfold val2
    rw [Function.update_of_ne (by rintro rfl; exact hb' (by decide))]
  rw [← hrest]
  exact sep_mono_left (undeal (tblK m) (rows m) d)

/-! ## The TensorCore's thread -/

theorem ops0_sub : ∀ op ∈ ops0 (F := F), op.bufs ⊆ Pipeline.ucRefs τ sig := by
  intro op h; simp only [ops0, List.mem_cons, List.not_mem_nil, _root_.or_false] at h
  rcases h with rfl | rfl <;> exact Pipeline.sub_ucRefs _ (StableHlo.reshape_bufs_sub ..)
theorem ops1_sub : ∀ op ∈ ops1 (F := F), op.bufs ⊆ Pipeline.ucRefs τ sig := by
  intro op h; simp only [ops1, List.mem_cons, List.not_mem_nil, _root_.or_false] at h; rcases h with rfl
  exact Pipeline.sub_ucRefs _ (StableHlo.reshape_bufs_sub ..)
theorem ops0_fresh : ∀ op ∈ ops0 (F := F), op.fresh = ∅ := by
  intro op h; simp only [ops0, List.mem_cons, List.not_mem_nil, _root_.or_false] at h; rcases h with rfl | rfl <;> rfl
theorem ops1_fresh : ∀ op ∈ ops1 (F := F), op.fresh = ∅ := by
  intro op h; simp only [ops1, List.mem_cons, List.not_mem_nil, _root_.or_false] at h; rcases h with rfl; rfl

abbrev FIN (d : Dev nD) : sProp 𝕄 := StableHlo.held (d : Thread nD τ) (Pipeline.ucRefs τ sig) (val3 m d)

/-- The SparseCore call as a step of the TensorCore's thread. -/
theorem step_sc (κ : GSem nD τ sig → ℕ) (d : Dev nD) (Φ : PUnit → sProp 𝕄) :
    iprop((K (F := F)).ctx EH (P (tblK m) (rows m)) κ ∗ (K (F := F)).tcSt EH d 0 ∗ StableHlo.held (d : Thread nD τ) (Pipeline.ucRefs τ sig) (val1 m d)
        ∗ ((iprop((K (F := F)).tcSt EH d 1 ∗ StableHlo.held (d : Thread nD τ) (Pipeline.ucRefs τ sig) (val2 m d))) -∗ Φ ⟨⟩))
      ⊢ wp frame (wpE ((K (F := F)).defs (D (F := F))) 𝒱 (T d) none) Set.univ ((K (F := F)).run d 0) Φ := by
  iintro ⟨Hctx, Hst, Hh, Hk⟩
  ihave H := (take m d) $$ Hh
  icases H with ⟨Hin, Hrest⟩
  iapply ((K (F := F)).wp_run (D (F := F)) 𝒱 (EH := EH) (P := P (tblK m) (rows m)) κ d 0)
  isplitl [Hctx]; · iexact Hctx
  isplitl [Hst]; · iexact Hst
  isplitl [Hin]; · iexact Hin
  iintro ⟨Hst, Hdn⟩
  iapply Hk
  isplitl [Hst]; · iexact Hst
  iapply (give m d)
  isplitl [Hdn] <;> iassumption

/-- The arrays at the launch, as one valuation. -/
theorem unscoped_eq (d : Dev nD) :
    (unscopedBufs d (fun b => m ((SparseCore.T d : Thread nD τ).loc b)) : sProp 𝕄) = StableHlo.held (d : Thread nD τ) (Pipeline.ucRefs τ sig) (StableHlo.launchContents m d) :=
  Pipeline.unscopedBufs_held d (StableHlo.launchContents m d)

/-- The program on a device's TensorCore. -/
theorem hmain [∀ e, Nonempty (Elt F e)] (κ : GSem nD τ sig → ℕ) (d : Dev nD) :
    iprop((K (F := F)).ctx EH (P (tblK m) (rows m)) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, unscoped_eq]
  iintro ⟨#Hctx, Hst, ⟨Hb, Hh, Hts, -⟩, -⟩
  iapply (StableHlo.wp_seq 𝒱 none Set.univ d (Pipeline.ucRefs τ sig) _ ops0 ops0_sub ops0_fresh (StableHlo.launchContents m d)) $$ [Hb Hh]
  · isplitl [Hb] <;> iassumption
  iintro ⟨Hb, Hh⟩
  rw [wp_bind]
  iapply (step_sc m κ d)
  isplitr; · iexact Hctx
  isplitl [Hst]; · iexact Hst
  isplitl [Hh]; · iexact Hh
  iintro ⟨Hst, Hh⟩
  iapply (StableHlo.wp_seq 𝒱 none Set.univ d (Pipeline.ucRefs τ sig) _ ops1 ops1_sub ops1_fresh (val2 m d)) $$ [Hb Hh]
  · isplitl [Hb] <;> iassumption
  iintro ⟨Hb, Hh⟩
  rw [wp_pure]; imodintro
  isplitl [Hst]; · iexact Hst
  isplitl [Hh]; · iexact Hh
  isplitl [Hb] <;> iassumption

/-! ## The run -/

/-- Every array's contents at the end. -/
def fq (d : Dev nD) (s' : Phys nD τ sig (Elt F)) : Prop := ∀ b ∈ Pipeline.ucRefs τ sig, s'.mem.mem (d, b) = val3 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

def QC : PUnit × MemSt nD τ sig (Elt F) → Prop := fun r => (∀ d : Dev nD, ∀ b ∈ Pipeline.ucRefs τ sig, r.2.mem (d, b) = val3 m d b) ∧ r.2.sem = fun _ => 0

/-- From any launch memory whose places are in range, every execution ends with every array at `val3` and every
    semaphore at zero. -/
theorem run_main [∀ e, Nonempty (Elt F e)] (hix : ∀ d j, (rows m d j).toNat < 12800000) :
    θ_run (Cert.MinimaIdeal.defs (F := F)) (Cert.MinimaIdeal.threads (F := F)) ⟨m, fun _ => 0, ρ⟩ (QC m) :=
  SparseCore.Cfg.θ_run_sc_quiescent (K := K (F := F)) (D := D (F := F)) (𝒱 := 𝒱) (EH := EH) (P := P (tblK m) (rows m)) (A := ∅) facts v₀
    (fun q hq => match q with | 0 => nomatch hq)
    (fun q _ => match q with | 0 => tileObl _ _ hix)
    (fun q _ => match q with | 0 => SparseCore.Cfg.VecSplit.of_plain (vecSplit _ _))
    m ρ main (fun _ => iprop(emp)) (FIN m) (u₀ (F := F)) (sep_elim_left.trans (hu₀ _ _)) (hmain m ρ) (fq m) (hfin m) (QC m) (fun _ h hz => ⟨h, hz⟩)

/-! ## The arguments at the end, and the places -/

theorem ops0_writes : (ops0 (F := F)).Forall fun op => op.writes ⊆ (([main_v0, main_v1] : List (Ref sig .tc)).map (Proc.devRef (τ := τ) .tc)).toFinset := by
  exact StableHlo.forall_writes_sub_of_map rfl
theorem ops1_writes : (ops1 (F := F)).Forall fun op => op.writes ⊆ (([main_v3] : List (Ref sig .tc)).map (Proc.devRef (τ := τ) .tc)).toFinset := by
  exact StableHlo.forall_writes_sub_of_map rfl

/-- A buffer no step writes ends as it began. -/
theorem val3_arg (d : Dev nD) {b : Ref sig .tc} (h0 : b ∉ ([main_v0, main_v1] : List (Ref sig .tc))) (h1 : b ∉ ([main_v3] : List (Ref sig .tc)))
    (ho : b ≠ main_v2) : val3 m d (Proc.devRef .tc b) = m ((d.tc : Thread nD τ).loc b) := by
  unfold val3 val2 val1
  rw [StableHlo.after_of_writes_sub (W := [main_v3]) ops1 _ ops1_writes h1,
    Function.update_of_ne (fun e => ho (Proc.devRef_injective _ e)),
    StableHlo.after_of_writes_sub (W := [main_v0, main_v1]) ops0 _ ops0_writes h0]

/-- Both arguments, at the end of a run. -/
theorem QC.args {r : PUnit × MemSt nD τ sig (Elt F)} (h : QC m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1) := by
  exact ⟨(h.1 d (Proc.devRef .tc main_arg0) (by decide +kernel)).trans (val3_arg m d (by decide) (by decide) (by decide)),
    (h.1 d (Proc.devRef .tc main_arg1) (by decide +kernel)).trans (val3_arg m d (by decide) (by decide) (by decide))⟩

/-- A word at least zero and below 12800000, as signed comparisons say it, is below 12800000. -/
theorem lt_of_cmp (v : BitVec 32) (e : IntOp.andi (IntOp.cmpi .sge v 0#32) (IntOp.cmpi .slt v 12800000#32) = 1#1) : v.toNat < 12800000 := by
  simp only [IntOp.cmpi, WordArith.andi_ofBool, WordArith.ofBool_eq_one_iff, Bool.and_eq_true, BitVec.sle_eq_decide, BitVec.slt_eq_decide, decide_eq_true_eq,
    BitVec.toInt_eq_toNat_cond, BitVec.toNat_ofNat, Nat.reducePow, Nat.reduceMod] at e
  omega

/-- The precondition, element by element. -/
theorem lt_of_pre {x0 : S25x500x1024.Idx → F .f32} {x1 : S10x10x1024.Idx → BitVec 32}
    (h : Pre_places_in_range.fn (F := F) x0 x1 = fun _ => 1#1) (j : S10x10x1024.Idx) : (x1 j).toNat < 12800000 := by
  have e := congrFun h j
  simp only [Pre_places_in_range.fn, andi, cmpi, broadcastInDim, constantI] at e
  exact lt_of_cmp _ e

/-- The call's list of places is the argument, place by place; its table the minima. -/
theorem rows_eq (d : Dev nD) : rows m d = shapeCast S102400 (m ((d.tc : Thread nD τ).loc main_arg1) : S10x10x1024.Idx → BitVec 32) shapeCasts_S10x10x1024_S102400 := by
  unfold rows val1 ops0
  rw [StableHlo.after_cons, StableHlo.after_cons, StableHlo.after_nil]
  rfl
theorem tblK_eq (d : Dev nD) : tblK m d = shapeCast S12800000 (m ((d.tc : Thread nD τ).loc main_arg0) : S25x500x1024.Idx → Elt F .f32) shapeCasts_S25x500x1024_S12800000 := by
  unfold tblK val1 ops0
  rw [StableHlo.after_cons, StableHlo.after_cons, StableHlo.after_nil]
  rfl

/-- Every number below 12800000, from the same of the argument. -/
theorem rows_lt (h : ∀ (d : Dev nD) (j : S10x10x1024.Idx), (m ((d.tc : Thread nD τ).loc main_arg1) j : BitVec 32).toNat < 12800000) (d : Dev nD) (j : S102400.Idx) : (rows m d j).toNat < 12800000 := by
  rw [rows_eq]
  exact h d _

end Cert.Proof.MinimaIdeal

end
-- ==== Proof.MVal.lean ====
/-
  The words read by place against the reference's indexing: element `(s, g, b)` of either is the word of the minima, in
  one row, that the place there names.
-/
module

public import proofs.«01_k».proof.Proof.MRun
public import Idealize.ShloMosaic.Lib.StableHlo.ReadAt
public import proofs.«01_k».proof.Proof.Gen.MinimaReferenceIdeal.Read

@[expose] public section

set_option maxRecDepth 16384

noncomputable section

namespace Cert.Proof.MinimaIdeal

open Idealize.ShloMosaic

/-- The word a place names (a place past the last word names the last). -/
def place (v : BitVec 32) : Fin 12800000 := ⟨min v.toNat 12799999, by omega⟩

namespace Ref

open Cert.MinimaReferenceIdeal Cert.MinimaReferenceIdeal.Gen Cert.MinimaReferenceIdeal.Read

/-- The reference's gather: the word at the clamped signed place. -/
theorem gather_apply {α : Type} (x : S12800000.Idx → α) (idx : IVec S10x10x1024x1 32) (s : Fin 10) (g : Fin 10) (b : Fin 1024) :
    Host.gather gather_S12800000_S10x10x1024x1_S10x10x1024_n_0_n_n_0_3_1 x idx (ix3 s g b)
      = x (ix1 ⟨min (idx (ix4 s g b 0)).toInt.toNat 12799999, by omega⟩) := by
  unfold Host.gather
  refine congrArg x (funext fun a => Fin.ext ?_)
  match a with
  | ⟨0, _⟩ =>
    show min (idx _).toInt.toNat 12799999 + 0 + 0 = min (idx (ix4 s g b 0)).toInt.toNat 12799999
    refine congrArg (fun z => min (BitVec.toInt (idx z)).toNat 12799999) (funext fun k => ?_)
    match k with
    | ⟨0, _⟩ => rfl
    | ⟨1, _⟩ => rfl
    | ⟨2, _⟩ => rfl
    | ⟨3, _⟩ => rfl

/-- A place in range is not counted from the end. -/
theorem wrap_toInt (v : BitVec 32) (h : v.toNat < 12800000) :
    (Scalar.select (IntOp.cmpi .slt v 0#32) (IntOp.addi v 12800000#32) v).toInt.toNat = v.toNat := by
  have e : IntOp.cmpi .slt v 0#32 = 0#1 := by
    simp only [IntOp.cmpi, BitVec.slt_eq_decide, BitVec.toInt_eq_toNat_cond, BitVec.toNat_ofNat, Nat.reducePow, Nat.reduceMod]
    rw [decide_eq_false (by omega)]; rfl
  rw [e, show Scalar.select (0#1) (IntOp.addi v 12800000#32) v = v from rfl, BitVec.toInt_eq_toNat_cond]
  omega

/-- The reference's result: the word each place names. -/
theorem v7_apply (x0 : S25x500x1024.Idx → Elt Ideal .f32) (x1 : S10x10x1024.Idx → BitVec 32) (h : ∀ i, (x1 i).toNat < 12800000) (s : Fin 10) (g : Fin 10) (b : Fin 1024) :
    val_main_v7 (F := Ideal) x0 x1 (ix3 s g b)
      = shapeCast S12800000 x0 shapeCasts_S25x500x1024_S12800000 (ix1 (place (x1 (ix3 s g b)))) := by
  unfold val_main_v7
  rw [gather_apply]
  refine congrArg (fun z => shapeCast S12800000 x0 shapeCasts_S25x500x1024_S12800000 (ix1 z)) (Fin.ext ?_)
  have e : val_main_v6 (F := Ideal) x1 (ix4 s g b 0) = Scalar.select (IntOp.cmpi .slt (x1 (ix3 s g b)) 0#32) (IntOp.addi (x1 (ix3 s g b)) 12800000#32) (x1 (ix3 s g b)) := by
    pointwise [val_main_v6, val_main_v5, val_main_v4, val_main_v3, val_main_v2, val_main_v1, val_main_c, val_main_c_0]
  show min (val_main_v6 (F := Ideal) x1 (ix4 s g b 0)).toInt.toNat 12799999 = min (x1 (ix3 s g b)).toNat 12799999
  rw [e, wrap_toInt _ (h _)]

end Ref

open Cert.MinimaIdeal Cert.MinimaIdeal.Gen

variable (m : (ℓ : Loc nD τ sig) → Buf (Elt Ideal) ℓ)

/-- Place `(s, g, b)` among those the SparseCore call reads. -/
theorem rows_apply (d : Dev nD) (s : Fin 10) (g : Fin 10) (b : Fin 1024) : rows m d (ix1 ⟨s.val * 10240 + g.val * 1024 + b.val, by omega⟩)
    = (m ((d.tc : Thread nD τ).loc main_arg1) : S10x10x1024.Idx → BitVec 32) (ix3 s g b) := by
  rw [rows_eq]
  refine shapeCast_apply _ _ _ (ix3 s g b) ?_
  rw [Shape.rowMajor_val_three, Shape.rowMajor_val_one]
  show (s.val * 10 + g.val) * 1024 + b.val = s.val * 10240 + g.val * 1024 + b.val
  omega

/-- The result of a run, at an index. -/
theorem val3_apply (d : Dev nD) (s : Fin 10) (g : Fin 10) (b : Fin 1024) :
    (val3 m d (Proc.devRef .tc main_v3) : S10x10x1024.Idx → Elt Ideal .f32) (ix3 s g b)
      = shapeCast S12800000 (m ((d.tc : Thread nD τ).loc main_arg0) : S25x500x1024.Idx → Elt Ideal .f32) shapeCasts_S25x500x1024_S12800000
          (ix1 (place ((m ((d.tc : Thread nD τ).loc main_arg1) : S10x10x1024.Idx → BitVec 32) (ix3 s g b)))) := by
  have h1 : (val3 m d (Proc.devRef .tc main_v3) : S10x10x1024.Idx → Elt Ideal .f32)
      = shapeCast S10x10x1024 (gath (tblK m d) (rows m d) : S102400.Idx → Elt Ideal .f32) shapeCasts_S102400_S10x10x1024 := by
    unfold val3 ops1
    rw [StableHlo.after_cons, StableHlo.after_nil]
    rfl
  have h2 : shapeCast S10x10x1024 (gath (tblK m d) (rows m d) : S102400.Idx → Elt Ideal .f32) shapeCasts_S102400_S10x10x1024 (ix3 s g b)
      = gath (F := Ideal) (tblK m d) (rows m d) (ix1 ⟨s.val * 10240 + g.val * 1024 + b.val, by omega⟩) := by
    pointwise []
  rw [h1, h2, ← rows_apply m d s g b, ← tblK_eq]
  rfl

end Cert.Proof.MinimaIdeal

end
-- ==== Proof.Groups.lean ====
/-
  The two arrays of minima: what a grid point stores of its blocks, and what the whole arrays hold, against the
  reference's. A row's key against a query is its sum of squares less twice their product; a group's minimum is over
  eight rows, a supergroup's over ten groups and so over eighty rows.
-/
module

public import proofs.«01_k».proof.Proof.Gen.GroupsIdeal.Frame
public import proofs.«01_k».proof.Proof.Gen.GroupsReferenceIdeal.Read
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.Proof.GroupsIdeal

open Idealize.ShloMosaic

/-- Two, and plus infinity, as the programs hold them. -/
abbrev two : EReal := Ideal.ofBits .f32 0x40000000#32
abbrev top : EReal := Ideal.ofBits .f32 0x7F800000#32

/-- A row's key against a query. -/
def key (e q : Fin 128 → EReal) : EReal := (∑ d, e d * e d) - two * ∑ d, e d * q d

/-- The least of finitely many numbers and plus infinity. -/
def lowest {n : ℕ} (f : Fin n → EReal) : EReal := Finset.univ.fold min top f

theorem le_lowest {n : ℕ} (f : Fin n → EReal) (c : EReal) : c ≤ lowest f ↔ c ≤ top ∧ ∀ i, c ≤ f i := by
  unfold lowest
  rw [Finset.le_fold_min]
  simp

/-- The least of ten groups of eight is the least of the eighty. -/
theorem lowest_lowest (f : Fin 10 → Fin 8 → EReal) (g : Fin 80 → EReal)
    (h : ∀ (i : Fin 10) (j : Fin 8), g ⟨i.val * 8 + j.val, by omega⟩ = f i j) : lowest (fun i => lowest (f i)) = lowest g := by
  refine eq_of_forall_le_iff fun c => ?_
  rw [le_lowest, le_lowest]
  refine and_congr_right fun hc => ⟨fun H k => ?_, fun H i => (le_lowest _ _).mpr ⟨hc, fun j => ?_⟩⟩
  · have e : (⟨(⟨k.val / 8, by omega⟩ : Fin 10).val * 8 + (⟨k.val % 8, by omega⟩ : Fin 8).val, by simp only; omega⟩ : Fin 80) = k := Fin.ext (by simp only; omega)
    rw [← e, h]
    exact ((le_lowest _ _).mp (H _)).2 _
  · rw [← h]; exact H _

/-! ## The reference -/

namespace Ref

open Cert.GroupsReferenceIdeal Cert.GroupsReferenceIdeal.Gen Cert.GroupsReferenceIdeal.Read

variable (x0 : S100000x128.Idx → EReal) (x1 : S1024x128.Idx → EReal)

/-- A row's key against a query. -/
theorem v8_apply (r : Fin 100000) (b : Fin 1024) :
    val_main_v8 (F := Ideal) x0 x1 (ix2 r b) = key (fun d => x0 (ix2 r d)) (fun d => x1 (ix2 b d)) := by
  unfold key
  pointwise [val_main_v8, val_main_v7, val_main_v6, val_main_v5, val_main_v4, val_main_v3, val_main_v2, val_main_v1, val_main_v0, val_main_cst, val_main_cst_0]

/-- The groups' minima. -/
theorem v13_apply (t : Fin 25) (r : Fin 500) (b : Fin 1024) :
    val_main_v13 (F := Ideal) x0 x1 (ix3 t r b)
      = lowest fun k : Fin 8 => key (fun d => x0 (ix2 ⟨(t.val * 500 + r.val) * 8 + k.val, by omega⟩ d)) (fun d => x1 (ix2 b d)) := by
  unfold lowest
  simp only [← v8_apply]
  pointwise [val_main_v13, val_main_v10, val_main_v9, val_main_cst_1]

/-- The supergroups' minima. -/
theorem v14_apply (t : Fin 25) (r : Fin 50) (b : Fin 1024) :
    val_main_v14 (F := Ideal) x0 x1 (ix3 t r b)
      = lowest fun k : Fin 80 => key (fun d => x0 (ix2 ⟨(t.val * 50 + r.val) * 80 + k.val, by omega⟩ d)) (fun d => x1 (ix2 b d)) := by
  unfold lowest
  simp only [← v8_apply]
  pointwise [val_main_v14, val_main_v12, val_main_v11, val_main_cst_2]

end Ref

/-! ## A grid point -/

open Cert.GroupsIdeal Cert.GroupsIdeal.Gen
open Idealize.ShloMosaic.Pipeline (Dat)

abbrev Arr (s : Shape) := s.Idx → Elt Ideal .f32

/-- The groups' minima of a block. -/
theorem pay1_apply (x0 : Arr S4000x128) (x1 : Arr S1024x128) (r : Fin 500) (b : Fin 1024) :
    k0_pay1 (F := Ideal) x0 x1 (ix2 r b)
      = lowest fun k : Fin 8 => key (fun d => x0 (ix2 ⟨r.val * 8 + k.val, by omega⟩ d)) (fun d => x1 (ix2 b d)) := by
  unfold lowest key
  pointwise [k0_pay1]

theorem pay2_apply (x0 : Arr S4000x128) (x1 : Arr S1024x128) (r : Fin 500) (b : Fin 1024) :
    k0_pay2 (F := Ideal) x0 x1 (ix3 0 r b)
      = lowest fun k : Fin 8 => key (fun d => x0 (ix2 ⟨r.val * 8 + k.val, by omega⟩ d)) (fun d => x1 (ix2 b d)) := by
  rw [← pay1_apply]
  pointwise [k0_pay2]

/-- Its supergroups' minima. -/
theorem pay3_apply (x0 : Arr S4000x128) (x1 : Arr S1024x128) (r : Fin 50) (b : Fin 1024) :
    k0_pay3 (F := Ideal) x0 x1 (ix3 0 r b)
      = lowest fun k : Fin 80 => key (fun d => x0 (ix2 ⟨r.val * 80 + k.val, by omega⟩ d)) (fun d => x1 (ix2 b d)) := by
  have h : k0_pay3 (F := Ideal) x0 x1 (ix3 0 r b) = lowest fun i : Fin 10 => k0_pay1 (F := Ideal) x0 x1 (ix2 ⟨r.val * 10 + i.val, by omega⟩ b) := by
    unfold lowest
    pointwise [k0_pay3]
  rw [h]
  simp only [pay1_apply]
  refine lowest_lowest _ _ fun i j => ?_
  have e : (⟨r.val * 80 + (i.val * 8 + j.val), by omega⟩ : Fin 4000) = ⟨(r.val * 10 + i.val) * 8 + j.val, by omega⟩ := Fin.ext (by show _ = _; simp only; omega)
  show key (fun d => x0 (ix2 ⟨r.val * 80 + (i.val * 8 + j.val), by omega⟩ d)) _ = _
  rw [e]

variable (m : (ℓ : Loc nD τ sig) → Buf (Elt Ideal) ℓ) (d : Dev nD) (t : Fin cfg0.N)

/-- The two arguments' arrays. -/
abbrev tbl : S100000x128.Idx → EReal := m ((d.tc : Thread nD τ).loc main_arg0)
abbrev qry : S1024x128.Idx → EReal := m ((d.tc : Thread nD τ).loc main_arg1)

/-- A point's rows are 4000 of the table's. -/
theorem blk0 (r : Fin 4000) (e : Fin 128) : (iblk (F := Ideal) m d 0 t : S4000x128.Idx → EReal) (ix2 r e)
    = tbl m d (ix2 ⟨t.val * 4000 + r.val, by have h : t.val < 25 := t.isLt; omega⟩ e) := by
  have h0 : ∀ t : Fin cfg0.N, win0_0.index t 0 = t.val := by decide +kernel
  have h1 : ∀ t : Fin cfg0.N, win0_0.index t 1 = 0 := by decide +kernel
  refine congrArg (tbl m d) (funext fun a => Fin.ext ?_)
  match a with
  | ⟨0, _⟩ => exact (Pipeline.Window.rect_emb_val win0_0 t (ix2 r e) 0).trans (by rw [h0 t]; rfl)
  | ⟨1, _⟩ => exact Pipeline.Window.rect_emb_val_of_index_zero win0_0 t 1 (h1 t) (ix2 r e)

/-- Every point reads all the queries. -/
theorem blk1 : (iblk (F := Ideal) m d 1 t : S1024x128.Idx → EReal) = qry m d := by
  have h : ∀ (t : Fin cfg0.N) a, win0_1.index t a = 0 := by decide +kernel
  exact funext fun i => congrArg (qry m d) (funext fun a => Fin.ext
    (Pipeline.Window.rect_emb_val_of_index_zero win0_1 t a (h t a) i))

theorem off000 : (![0, 0, 0] : Fin 3 → ℕ) = fun _ => 0 := by decide
theorem off00 : (![0, 0] : Fin 2 → ℕ) = fun _ => 0 := by decide

theorem out2_eq (x0 : Arr S4000x128) (x1 : Arr S1024x128) : out0_2 (F := Ideal) x0 x1 = k0_pay2 x0 x1 := by
  unfold out0_2
  rw [View.canon_unit_zero off000, View.ld_unit_zero off00, View.ld_unit_zero off00]

theorem out3_eq (x0 : Arr S4000x128) (x1 : Arr S1024x128) : out0_3 (F := Ideal) x0 x1 = k0_pay3 x0 x1 := by
  unfold out0_3
  rw [View.canon_unit_zero off000, View.ld_unit_zero off00, View.ld_unit_zero off00]

/-! ## The results -/

/-- The groups' minima, whole. -/
theorem final2 : (dats (F := Ideal) m 0 d).arrAt 2 cfg0.N = Cert.GroupsReferenceIdeal.Read.val_main_v13 (F := Ideal) (tbl m d) (qry m d) := by
  refine Dat.arrAt_eq_of_covers _ 2 _ (by decide +kernel) fun t hf y => ?_
  have h0 : ∀ t : Fin cfg0.N, win0_2.index t 0 = t.val := by decide +kernel
  have h1 : ∀ t : Fin cfg0.N, win0_2.index t 1 = 0 := by decide +kernel
  have h2 : ∀ t : Fin cfg0.N, win0_2.index t 2 = 0 := by decide +kernel
  have ht : t.val < 25 := t.isLt
  have hy : y = (ix3 (0 : Fin 1) (y 1) (y 2) : S1x500x1024.Idx) := funext fun a => match a with
    | ⟨0, _⟩ => Subsingleton.elim (α := Fin 1) _ _
    | ⟨1, _⟩ => rfl
    | ⟨2, _⟩ => rfl
  have he : ((cfg0.win 2).blk t).view.emb y = (ix3 ⟨t.val, ht⟩ (y 1) (y 2) : S25x500x1024.Idx) := funext fun a => Fin.ext (match a with
    | ⟨0, _⟩ => (Pipeline.Window.rect_emb_val win0_2 t y 0).trans (by
        have : (y 0).val < 1 := (y 0).isLt
        rw [h0 t]; show t.val * 1 + (y 0).val = t.val; omega)
    | ⟨1, _⟩ => Pipeline.Window.rect_emb_val_of_index_zero win0_2 t 1 (h1 t) y
    | ⟨2, _⟩ => Pipeline.Window.rect_emb_val_of_index_zero win0_2 t 2 (h2 t) y)
  refine Eq.trans ?_ (congrArg (Cert.GroupsReferenceIdeal.Read.val_main_v13 (F := Ideal) (tbl m d) (qry m d)) he.symm)
  refine (congrFun ((after0_2 (F := Ideal) m d t).trans (out2_eq _ _)) y).trans ((congrArg _ hy).trans ((pay2_apply _ _ (y 1) (y 2)).trans ?_))
  refine Eq.trans ?_ (Ref.v13_apply (tbl m d) (qry m d) ⟨t.val, ht⟩ (y 1) (y 2)).symm
  refine congrArg lowest (funext fun k => congr (congrArg key (funext fun e => (blk0 m d t _ e).trans ?_)) (funext fun e => congrFun (blk1 m d t) _))
  refine congrArg (fun z => tbl m d (ix2 z e)) (Fin.ext ?_)
  show t.val * 4000 + ((y 1).val * 8 + k.val) = (t.val * 500 + (y 1).val) * 8 + k.val
  omega

/-- The supergroups' minima, whole. -/
theorem final3 : (dats (F := Ideal) m 0 d).arrAt 3 cfg0.N = Cert.GroupsReferenceIdeal.Read.val_main_v14 (F := Ideal) (tbl m d) (qry m d) := by
  refine Dat.arrAt_eq_of_covers _ 3 _ (by decide +kernel) fun t hf y => ?_
  have h0 : ∀ t : Fin cfg0.N, win0_3.index t 0 = t.val := by decide +kernel
  have h1 : ∀ t : Fin cfg0.N, win0_3.index t 1 = 0 := by decide +kernel
  have h2 : ∀ t : Fin cfg0.N, win0_3.index t 2 = 0 := by decide +kernel
  have ht : t.val < 25 := t.isLt
  have hy : y = (ix3 (0 : Fin 1) (y 1) (y 2) : S1x50x1024.Idx) := funext fun a => match a with
    | ⟨0, _⟩ => Subsingleton.elim (α := Fin 1) _ _
    | ⟨1, _⟩ => rfl
    | ⟨2, _⟩ => rfl
  have he : ((cfg0.win 3).blk t).view.emb y = (ix3 ⟨t.val, ht⟩ (y 1) (y 2) : S25x50x1024.Idx) := funext fun a => Fin.ext (match a with
    | ⟨0, _⟩ => (Pipeline.Window.rect_emb_val win0_3 t y 0).trans (by
        have : (y 0).val < 1 := (y 0).isLt
        rw [h0 t]; show t.val * 1 + (y 0).val = t.val; omega)
    | ⟨1, _⟩ => Pipeline.Window.rect_emb_val_of_index_zero win0_3 t 1 (h1 t) y
    | ⟨2, _⟩ => Pipeline.Window.rect_emb_val_of_index_zero win0_3 t 2 (h2 t) y)
  refine Eq.trans ?_ (congrArg (Cert.GroupsReferenceIdeal.Read.val_main_v14 (F := Ideal) (tbl m d) (qry m d)) he.symm)
  refine (congrFun ((after0_3 (F := Ideal) m d t).trans (out3_eq _ _)) y).trans ((congrArg _ hy).trans ((pay3_apply _ _ (y 1) (y 2)).trans ?_))
  refine Eq.trans ?_ (Ref.v14_apply (tbl m d) (qry m d) ⟨t.val, ht⟩ (y 1) (y 2)).symm
  refine congrArg lowest (funext fun k => congr (congrArg key (funext fun e => (blk0 m d t _ e).trans ?_)) (funext fun e => congrFun (blk1 m d t) _))
  refine congrArg (fun z => tbl m d (ix2 z e)) (Fin.ext ?_)
  show t.val * 4000 + ((y 1).val * 80 + k.val) = (t.val * 50 + (y 1).val) * 80 + k.val
  omega

end Cert.Proof.GroupsIdeal

end
-- ==== Proof.Picks.lean ====
/-
  Picking the least one by one. Of finitely many numbered values, the rounds take the least value not yet taken, of
  equal ones the one with the least number; a sort by value and then number puts the same ones first. Both are the one
  order in which each comes before all that are left.
-/
module

public import Idealize.ShloMosaic.PureOps
public import Idealize.ShloMosaic.PureOps.Ideal
public import Idealize.ShloMosaic.Lib.Pointwise
public import Idealize.ShloMosaic.Lib.SortFacts
public import Idealize.ShloMosaic.Lib.SortNet.Extract

@[expose] public section

set_option maxRecDepth 16384

noncomputable section

namespace Cert.Proof.Picks

open Idealize.ShloMosaic

/-! ## The order -/

section Order

variable {N : ℕ} (key : Fin N → EReal) (id : Fin N → BitVec 32)

/-- One comes before another: a lesser value, or the same and a lesser number. -/
def Before (i j : Fin N) : Prop := key i < key j ∨ key i = key j ∧ (id i).toInt < (id j).toInt

/-- Not both come before the other. -/
theorem Before.asymm {key : Fin N → EReal} {id : Fin N → BitVec 32} {i j : Fin N} (h : Before key id i j) : ¬ Before key id j i := by
  rintro (h' | h') <;> rcases h with h | h
  · exact lt_asymm h h'
  · exact h'.ne h.1.symm
  · exact h.ne h'.1.symm
  · omega

/-- With the numbers distinct, of two one comes before the other. -/
theorem Before.total {key : Fin N → EReal} {id : Fin N → BitVec 32} (hid : Function.Injective id) {i j : Fin N} (hij : i ≠ j) :
    Before key id i j ∨ Before key id j i := by
  rcases lt_trichotomy (key i) (key j) with h | h | h
  · exact .inl (.inl h)
  · have hne : (id i).toInt ≠ (id j).toInt := fun e => hij (hid (BitVec.eq_of_toInt_eq e))
    rcases lt_or_gt_of_ne hne with h' | h'
    · exact .inl (.inr ⟨h, h'⟩)
    · exact .inr (.inr ⟨h.symm, h'⟩)
  · exact .inr (.inl h)

/-- The first `K` in order: each comes before all that are left. -/
def First (K : ℕ) (p : ℕ → Fin N) : Prop :=
  ∀ k < K, (∀ i < k, p k ≠ p i) ∧ ∀ j, (∀ i < k, j ≠ p i) → j = p k ∨ Before key id (p k) j

/-- There is one such order. -/
theorem First.unique {key : Fin N → EReal} {id : Fin N → BitVec 32} {K : ℕ} {p q : ℕ → Fin N} (hp : First key id K p) (hq : First key id K q) :
    ∀ k < K, p k = q k := by
  intro k
  induction k using Nat.strong_induction_on with
  | _ k ih =>
    intro hk
    have e : ∀ i < k, p i = q i := fun i hi => ih i hi (hi.trans hk)
    rcases (hp k hk).2 (q k) (fun i hi h => (hq k hk).1 i hi (h.trans (e i hi))) with h | h
    · exact h.symm
    rcases (hq k hk).2 (p k) (fun i hi h => (hp k hk).1 i hi (h.trans (e i hi).symm)) with h' | h'
    · exact h'
    · exact absurd h' h.asymm

/-- A sort by that order has its first ones first. -/
theorem first_sorted (hid : Function.Injective id) (R : Fin N → Fin N → Bool) (hR : ∀ i j, R i j = true ↔ Before key id i j)
    (K : ℕ) (hK : K ≤ N) (h0 : 0 < N) : First key id K fun k => sortedFrom R (if h : k < N then ⟨k, h⟩ else ⟨0, h0⟩) := by
  have hinj := sortedFrom_injective R
  have hno : ∀ i j, i < j → ¬ Before key id (sortedFrom R j) (sortedFrom R i) := fun i j hij hb => by
    have hf : ∀ a b, R a b = false ↔ ¬ Before key id a b := fun a b => by rw [← hR, Bool.not_eq_true]
    have := sortedFrom_noInversion R R (fun a b h => (hf _ _).mpr ((hR _ _).mp h).asymm) (fun a b h => h)
      (fun a b c hab hbc => (hf _ _).mpr fun hac => by
        rw [hf] at hab hbc
        by_cases e : b = c
        · exact hab (e ▸ hac)
        by_cases e' : a = b
        · exact hbc (e' ▸ hac)
        have h1 := (Before.total (key := key) hid e).resolve_left hbc
        have h2 := (Before.total (key := key) hid e').resolve_left hab
        rcases hac with h | h <;> rcases h1 with h1 | h1 <;> rcases h2 with h2 | h2
        · exact lt_asymm h (h1.trans h2)
        · exact lt_irrefl _ (h.trans (h1.trans_eq h2.1))
        · exact lt_irrefl _ (h.trans_eq h1.1 |>.trans h2)
        · exact h.ne (h2.1.symm.trans h1.1.symm)
        · exact (h1.trans h2).ne h.1.symm
        · exact h1.ne (h.1.symm.trans h2.1.symm)
        · exact h2.ne (h1.1.symm.trans h.1.symm)
        · omega) i j hij
    rw [hf] at this
    exact this hb
  intro k hk
  refine ⟨fun i hi h => ?_, fun j hj => ?_⟩
  · have := hinj h
    rw [dif_pos (hk.trans_le hK), dif_pos ((hi.trans hk).trans_le hK)] at this
    exact absurd (congrArg Fin.val this) (by simp only; omega)
  · obtain ⟨l, rfl⟩ := sortedFrom_surjective R j
    have hkN := hk.trans_le hK
    beta_reduce
    rw [dif_pos hkN]
    by_cases hl : l.val < k
    · exact absurd (congrArg (sortedFrom R) (Fin.ext (by rw [dif_pos l.isLt]) : l = if h : l.val < N then ⟨l.val, h⟩ else ⟨0, h0⟩)) (hj l.val hl)
    by_cases hl' : l.val = k
    · exact .inl (congrArg _ (Fin.ext hl'))
    · have hlt : (⟨k, hkN⟩ : Fin N) < l := Fin.lt_def.mpr (by simp only; omega)
      exact .inr ((Before.total hid fun h => hlt.ne (hinj h)).resolve_right (hno _ _ hlt))

end Order

/-! ## The rounds -/

section Rounds

variable {N L : ℕ}

/-- The shapes of the values, of a lane, and of a lane as a row. -/
abbrev blockS (N L : ℕ) : Shape := ⟨2, ![N, L]⟩
abbrev laneS (L : ℕ) : Shape := ⟨1, ![L]⟩
abbrev rowS (L : ℕ) : Shape := ⟨2, ![1, L]⟩

/-- What a round's reductions and broadcasts need of the shapes. -/
structure Fits (N L : ℕ) : Prop where
  red : (blockS N L).Reduces [0] (laneS L)
  cast : (laneS L).ShapeCasts (rowS L)
  bc : (rowS L).Broadcasts (blockS N L)

variable (h : Fits N L) (ids : IVec (blockS N L) 32) (v : FVec Ideal (blockS N L) .f32)

/-- The least value of each lane. -/
def least : FVec Ideal (rowS L) .f32 :=
  shapeCast (rowS L) (multiReduction .minimumf [0] (laneS L) v 0x7F800000#32 h.red (.inl rfl) rfl) h.cast

/-- The least number with it. -/
def pick : IVec (rowS L) 32 :=
  shapeCast (rowS L) (multiReductionI .minsi [0] (laneS L)
    (select (cmpf .oeq v (broadcastTo (blockS N L) (least h v) h.bc)) ids (broadcast (blockS N L) 2147483647#32)) 2147483647#32 h.red rfl) h.cast

/-- The values after a round: the one picked is plus infinity. -/
def drop : FVec Ideal (blockS N L) .f32 :=
  select (andi (cmpf .oeq v (broadcastTo (blockS N L) (least h v) h.bc)) (cmpi .eq ids (broadcastTo (blockS N L) (pick h ids v) h.bc)))
    (broadcast (blockS N L) (Scalar.ofBits .f32 0x7F800000#32)) v

/-- The values after so many rounds. -/
def after : ℕ → FVec Ideal (blockS N L) .f32
  | 0 => v
  | k + 1 => drop h ids (after k)

variable (hL : L = 1024 ∨ L = 128)
include hL

/-- The least value, at a lane; -/
theorem least_apply (b : Fin L) : least h v (ix2 0 b) = Finset.univ.fold min (Ideal.ofBits .f32 0x7F800000#32) fun j : Fin N => v (ix2 j b) := by
  rcases hL with rfl | rfl <;> pointwise [least]

/-- the number picked; -/
theorem pick_apply (b : Fin L) : pick h ids v (ix2 0 b)
    = Finset.univ.fold IntOp.minsi 2147483647#32 fun j : Fin N => if v (ix2 j b) = least h v (ix2 0 b) then ids (ix2 j b) else 2147483647#32 := by
  rcases hL with rfl | rfl <;> pointwise [pick]

/-- and what is left. -/
theorem drop_apply (j : Fin N) (b : Fin L) : drop h ids v (ix2 j b)
    = if v (ix2 j b) = least h v (ix2 0 b) ∧ ids (ix2 j b) = pick h ids v (ix2 0 b) then Ideal.ofBits .f32 0x7F800000#32 else v (ix2 j b) := by
  have key : drop h ids v (ix2 j b)
      = Scalar.select (IntOp.andi (BitVec.ofBool (decide (v (ix2 j b) = least h v (ix2 0 b))))
        (IntOp.cmpi .eq (ids (ix2 j b)) (pick h ids v (ix2 0 b)))) (Ideal.ofBits .f32 0x7F800000#32) (v (ix2 j b)) := by
    rcases hL with rfl | rfl <;> pointwise [drop]
  rw [key]
  by_cases h1 : v (ix2 j b) = least h v (ix2 0 b) <;> by_cases h2 : ids (ix2 j b) = pick h ids v (ix2 0 b) <;>
    simp [h1, h2, beq_eq_false_iff_ne.mpr, Scalar.select, IntOp.andi, IntOp.cmpi]

omit hL in
/-- A fold of an operation that keeps the lesser of two, by a measure, keeps one no greater than any. -/
theorem fold_least {α β γ : Type} [LinearOrder γ] (op : β → β → β) [Std.Commutative op] [Std.Associative op] (r : β → γ)
    (hr : ∀ a b, r (op a b) = min (r a) (r b)) (hsel : ∀ a b, op a b = a ∨ op a b = b) (z : β) (f : α → β) (s : Finset α) :
    (∀ j ∈ s, r (s.fold op z f) ≤ r (f j)) ∧ (s.fold op z f = z ∨ ∃ j ∈ s, s.fold op z f = f j) := by
  classical
  induction s using Finset.induction_on with
  | empty => exact ⟨fun j hj => absurd hj (Finset.notMem_empty j), .inl Finset.fold_empty⟩
  | insert a s ha ih =>
    rw [Finset.fold_insert ha]
    refine ⟨fun j hj => ?_, ?_⟩
    · rw [hr]
      rcases Finset.mem_insert.mp hj with rfl | hj
      · exact min_le_left _ _
      · exact (min_le_right _ _).trans (ih.1 j hj)
    · rcases hsel (f a) (s.fold op z f) with h | h
      · exact .inr ⟨a, Finset.mem_insert_self a s, h⟩
      · rw [h]
        rcases ih.2 with h' | ⟨j, hj, h'⟩
        · exact .inl h'
        · exact .inr ⟨j, Finset.mem_insert_of_mem hj, h'⟩

omit hL in
/-- The word for plus infinity is it. -/
theorem top_eq : Ideal.ofBits .f32 0x7F800000#32 = ⊤ := by simp [Ideal.ofBits, Ideal.ieee]

omit hL in
/-- No number is above the greatest word. -/
theorem toInt_le_big (x : BitVec 32) : x.toInt ≤ (2147483647#32 : BitVec 32).toInt := by
  have := BitVec.toInt_lt (x := x)
  have e : (2147483647#32 : BitVec 32).toInt = 2147483647 := by decide
  omega

/-- One round. Where the taken ones hold plus infinity and the others their values, all finite, the round picks the
    number of the one that comes before all that are left, and puts plus infinity there. -/
theorem round (w : FVec Ideal (blockS N L) .f32) (b : Fin L) (hid : Function.Injective fun j : Fin N => ids (ix2 j b))
    (hkey : ∀ j : Fin N, w (ix2 j b) < (⊤ : EReal)) (T : Fin N → Prop) [DecidablePred T] (hv : ∀ j : Fin N, v (ix2 j b) = if T j then (⊤ : EReal) else w (ix2 j b))
    (hT : ∃ j, ¬ T j) :
    ∃ j1, ¬ T j1 ∧ pick h ids v (ix2 0 b) = ids (ix2 j1 b)
      ∧ (∀ j, ¬ T j → j = j1 ∨ Before (fun j => w (ix2 j b)) (fun j => ids (ix2 j b)) j1 j)
      ∧ ∀ j : Fin N, drop h ids v (ix2 j b) = if T j ∨ j = j1 then (⊤ : EReal) else w (ix2 j b) := by
  obtain ⟨m, hm⟩ : ∃ m : EReal, least h v (ix2 0 b) = m := ⟨_, rfl⟩
  obtain ⟨p, hp⟩ : ∃ p, pick h ids v (ix2 0 b) = p := ⟨_, rfl⟩
  have hm' := hm
  have hp' := hp
  rw [least_apply h v hL] at hm'
  rw [pick_apply h ids v hL, hm] at hp'
  obtain ⟨m1, m2⟩ := fold_least min (fun x : EReal => x) (fun _ _ => rfl) min_choice (Ideal.ofBits .f32 0x7F800000#32)
    (fun j : Fin N => v (ix2 j b)) Finset.univ
  rw [hm'] at m1 m2
  obtain ⟨p1, p2⟩ := fold_least IntOp.minsi BitVec.toInt SortNet.toInt_minsi
    (fun a b => by show (if _ then _ else _) = _ ∨ (if _ then _ else _) = _; split <;> simp) 2147483647#32
    (fun j : Fin N => if v (ix2 j b) = m then ids (ix2 j b) else 2147483647#32) Finset.univ
  rw [hp'] at p1 p2
  have hlt : m < ⊤ := by
    obtain ⟨j, hj⟩ := hT
    exact lt_of_le_of_lt (m1 j (Finset.mem_univ j)) (by rw [hv, if_neg hj]; exact hkey j)
  obtain ⟨ja, -, hja⟩ := m2.resolve_left (by rw [top_eq]; exact hlt.ne)
  have big : p = 2147483647#32 → ids (ix2 ja b) = p := fun e => by
    have := p1 ja (Finset.mem_univ ja)
    rw [if_pos hja.symm] at this
    exact BitVec.eq_of_toInt_eq (le_antisymm (e ▸ toInt_le_big _) this)
  obtain ⟨j1, h1, h2⟩ : ∃ j1 : Fin N, v (ix2 j1 b) = m ∧ ids (ix2 j1 b) = p := by
    rcases p2 with e | ⟨jb, -, e⟩
    · exact ⟨ja, hja.symm, big e⟩
    · by_cases hb : v (ix2 jb b) = m
      · rw [if_pos hb] at e
        exact ⟨jb, hb, e.symm⟩
      · rw [if_neg hb] at e
        exact ⟨ja, hja.symm, big e⟩
  have hT1 : ¬ T j1 := fun ht => by rw [hv, if_pos ht] at h1; exact hlt.ne h1.symm
  have hw1 : w (ix2 j1 b) = m := by rw [hv, if_neg hT1] at h1; exact h1
  refine ⟨j1, hT1, by rw [hp, h2], fun j hj => ?_, fun j => ?_⟩
  · have hvj : v (ix2 j b) = w (ix2 j b) := by rw [hv, if_neg hj]
    rcases (m1 j (Finset.mem_univ j)).lt_or_eq with hl | he
    · exact .inr (.inl (by show w _ < w _; rw [← hvj]; exact hw1.trans_lt hl))
    · have hq := p1 j (Finset.mem_univ j)
      rw [if_pos he.symm] at hq
      rcases hq.lt_or_eq with hl | he'
      · exact .inr (.inr ⟨by show w _ = w _; rw [← hvj]; exact hw1.trans he, by rw [← h2] at hl; exact hl⟩)
      · exact .inl (hid (show ids _ = ids _ from (h2.trans (BitVec.eq_of_toInt_eq he')).symm))
  · rw [drop_apply h ids v hL, hm, hp, top_eq]
    by_cases hj : j = j1
    · subst hj
      rw [if_pos ⟨h1, h2⟩, if_pos (.inr rfl)]
    · rw [if_neg (fun e => hj (hid (show ids _ = ids _ from e.2.trans h2.symm))), hv]
      by_cases ht : T j
      · rw [if_pos ht, if_pos (.inl ht)]
      · rw [if_neg ht, if_neg (by rintro (h | h) <;> contradiction)]

/-- So many rounds pick the numbers of the first ones, in order. -/
theorem rounds (b : Fin L) (hid : Function.Injective fun j : Fin N => ids (ix2 j b)) (hkey : ∀ j : Fin N, v (ix2 j b) < (⊤ : EReal)) :
    ∀ K ≤ N, 0 < N → ∃ p : ℕ → Fin N, First (fun j => v (ix2 j b)) (fun j => ids (ix2 j b)) K p
      ∧ (∀ k < K, pick h ids (after h ids v k) (ix2 0 b) = ids (ix2 (p k) b))
      ∧ ∀ j : Fin N, after h ids v K (ix2 j b) = if ∃ i < K, j = p i then (⊤ : EReal) else v (ix2 j b) := by
  classical
  intro K
  induction K with
  | zero => exact fun _ h0 => ⟨fun _ => ⟨0, h0⟩, fun k hk => absurd hk (Nat.not_lt_zero k), fun k hk => absurd hk (Nat.not_lt_zero k),
      fun j => by rw [if_neg (by rintro ⟨i, hi, -⟩; exact Nat.not_lt_zero i hi)]; rfl⟩
  | succ K ih =>
    intro hK h0
    obtain ⟨p, hp, hpick, hafter⟩ := ih (by omega) h0
    obtain ⟨j1, hT, hpk, hfirst, hdrop⟩ := round h ids (after h ids v K) hL v b hid hkey (fun j => ∃ i < K, j = p i) hafter (by
      by_contra hall
      have : Finset.univ ⊆ (Finset.range K).image p := fun j _ => by
        obtain ⟨i, hi, e⟩ := not_not.mp (not_exists.mp hall j)
        exact Finset.mem_image.mpr ⟨i, Finset.mem_range.mpr hi, e.symm⟩
      have := (Finset.card_le_card this).trans Finset.card_image_le
      rw [Finset.card_univ, Fintype.card_fin, Finset.card_range] at this
      omega)
    have hlow : ∀ i < K, Function.update p K j1 i = p i := fun i hi => Function.update_of_ne hi.ne _ _
    have htop : Function.update p K j1 K = j1 := Function.update_self _ _ _
    refine ⟨Function.update p K j1, fun k hk => ?_, fun k hk => ?_, fun j => ?_⟩
    · rcases (Nat.lt_succ_iff.mp hk).lt_or_eq with hlt | rfl
      · have := hp k hlt
        rw [hlow k hlt]
        exact ⟨fun i hi => by rw [hlow i (hi.trans hlt)]; exact this.1 i hi,
          fun j hj => this.2 j fun i hi => by rw [← hlow i (hi.trans hlt)]; exact hj i hi⟩
      · rw [htop]
        exact ⟨fun i hi e => hT ⟨i, hi, by rw [e, hlow i hi]⟩,
          fun j hj => hfirst j fun ⟨i, hi, e⟩ => hj i hi (by rw [hlow i hi]; exact e)⟩
    · rcases (Nat.lt_succ_iff.mp hk).lt_or_eq with hlt | rfl
      · rw [hlow k hlt]; exact hpick k hlt
      · rw [htop]; exact hpk
    · refine (hdrop j).trans (if_congr ⟨?_, ?_⟩ rfl rfl)
      · rintro (⟨i, hi, e⟩ | e)
        · exact ⟨i, by omega, by rw [hlow i hi]; exact e⟩
        · exact ⟨K, by omega, by rw [htop]; exact e⟩
      · rintro ⟨i, hi, e⟩
        rcases (Nat.lt_succ_iff.mp hi).lt_or_eq with hlt | rfl
        · exact .inl ⟨i, hlt, by rw [← hlow i hlt]; exact e⟩
        · exact .inr (by rw [← htop]; exact e)

/-- The round `k` picks the number of the one any first order has at `k`. -/
theorem picks (b : Fin L) (hid : Function.Injective fun j : Fin N => ids (ix2 j b)) (hkey : ∀ j : Fin N, v (ix2 j b) < (⊤ : EReal))
    {K : ℕ} (hK : K ≤ N) (h0 : 0 < N) {q : ℕ → Fin N} (hq : First (fun j => v (ix2 j b)) (fun j => ids (ix2 j b)) K q) (k : ℕ) (hk : k < K) :
    pick h ids (after h ids v k) (ix2 0 b) = ids (ix2 (q k) b) := by
  obtain ⟨p, hp, hpick, -⟩ := rounds h ids v hL b hid hkey K hK h0
  rw [hpick k hk, hp.unique hq k hk]

end Rounds

/-- Rows put one under another, at an index. -/
theorem stack_apply {L : ℕ} (hL : L = 1024 ∨ L = 128) (f : ℕ → IVec (rowS L) 32)
    (h : Shape.Concatenates [rowS L, rowS L, rowS L, rowS L, rowS L, rowS L, rowS L, rowS L, rowS L, rowS L] (blockS 10 L) 0) (k : Fin 10) (b : Fin L) :
    concatenate (blockS 10 L) 0 [⟨rowS L, f 0⟩, ⟨rowS L, f 1⟩, ⟨rowS L, f 2⟩, ⟨rowS L, f 3⟩, ⟨rowS L, f 4⟩,
      ⟨rowS L, f 5⟩, ⟨rowS L, f 6⟩, ⟨rowS L, f 7⟩, ⟨rowS L, f 8⟩, ⟨rowS L, f 9⟩] h (ix2 k b) = f k (ix2 0 b) := by
  rcases hL with rfl | rfl <;> fin_cases k <;> pointwise []

/-! ## The sort -/

/-- A value with one zero and one not-a-number, as a sort compares it. -/
abbrev plain (x : EReal) : EReal :=
  Scalar.select (FloatOps.cmpf (F := Ideal) (φ := .f32) .une x x) (FloatOps.ofBits (F := Ideal) .f32 0x7FC00000#32)
    (Scalar.select (FloatOps.cmpf (F := Ideal) (φ := .f32) .oeq x (FloatOps.ofBits (F := Ideal) .f32 0x00000000#32)) (FloatOps.ofBits (F := Ideal) .f32 0x00000000#32) x)

/-- Over the extended reals it is the value. -/
theorem plain_eq (x : EReal) : plain x = x := by
  pointwise [plain]
  rw [if_neg (not_not.mpr rfl)]
  split
  · exact Eq.symm ‹x = 0›
  · rfl

/-- A sort's comparison of values and then numbers. -/
theorem lesser_iff (x y : EReal) (i j : BitVec 32) :
    IntOp.ori (FloatOps.cmpfTotal (F := Ideal) (φ := .f32) .lt (plain x) (plain y))
      (IntOp.andi (FloatOps.cmpfTotal (F := Ideal) (φ := .f32) .eq (plain x) (plain y)) (IntOp.cmpi .slt i j)) = 1#1
      ↔ x < y ∨ x = y ∧ i.toInt < j.toInt := by
  have h1 : FloatOps.cmpfTotal (F := Ideal) (φ := .f32) .lt x y = BitVec.ofBool (decide (x < y)) := rfl
  have h2 : FloatOps.cmpfTotal (F := Ideal) (φ := .f32) .eq x y = BitVec.ofBool (decide (x = y)) := rfl
  have h3 : IntOp.cmpi .slt i j = BitVec.ofBool (decide (i.toInt < j.toInt)) := rfl
  have h : ∀ a b c : Bool, IntOp.ori (BitVec.ofBool a) (IntOp.andi (BitVec.ofBool b) (BitVec.ofBool c)) = 1#1 ↔ a = true ∨ b = true ∧ c = true := by decide
  rw [plain_eq, plain_eq, h1, h2, h3, h]
  simp only [decide_eq_true_eq]

section Sorting

variable {N L : ℕ}

/-- A sort by value and then number puts the first ones, in order, first. -/
theorem sorted (cmp : Ideal .f32 × BitVec 32 → Ideal .f32 × BitVec 32 → BitVec 1)
    (hcmp : ∀ l r : EReal × BitVec 32, cmp l r = 1#1 ↔ l.1 < r.1 ∨ l.1 = r.1 ∧ l.2.toInt < r.2.toInt)
    (x : FVec Ideal (blockS N L) .f32) (y : IVec (blockS N L) 32) (b : Fin L) (hid : Function.Injective fun j : Fin N => y (ix2 j b))
    {K : ℕ} (hK : K ≤ N) (h0 : 0 < N) :
    ∃ q : ℕ → Fin N, First (fun j => x (ix2 j b)) (fun j => y (ix2 j b)) K q
      ∧ ∀ (k : ℕ) (hk : k < N), (Host.sort2 (blockS N L) 0 cmp x y).2 (ix2 ⟨k, hk⟩ b) = y (ix2 (q k) b) := by
  have hal : ∀ k k' : Fin N, (ix2 k b : (blockS N L).Idx).along ⟨0, Nat.two_pos⟩ k' = ix2 k' b := fun k k' => by
    funext a
    refine Fin.cases ?_ (fun a' => ?_) a
    · exact Function.update_self _ _ _
    · refine (Function.update_of_ne (Fin.succ_ne_zero a') _ _).trans ?_
      refine Fin.cases rfl (fun z => z.elim0) a'
  refine ⟨_, first_sorted (key := fun j => x (ix2 j b)) (id := fun j => y (ix2 j b)) hid
    (fun k k' => cmp (x (ix2 k b), y (ix2 k b)) (x (ix2 k' b), y (ix2 k' b)) == 1#1)
    (fun i j => by rw [beq_iff_eq]; exact hcmp _ _) K hK h0, fun k hk => ?_⟩
  unfold Host.sort2
  rw [dif_pos (show 0 < (blockS N L).rank from Nat.two_pos)]
  beta_reduce
  rw [dif_pos hk]
  have e : ∀ k', (ix2 (⟨k, hk⟩ : Fin N) b : (blockS N L).Idx).along ⟨0, Nat.two_pos⟩ k' = ix2 k' b := hal _
  simp only [e]
  rfl

end Sorting

/-! ## Distinctness, as a precondition states it -/

/-- Where two numbered entries are the same one or hold different words, and a further fact holds, equal words are of one entry. -/
theorem distinct {N : ℕ} (hN : N ≤ 2 ^ 32) {i j : Fin N} {a c : BitVec 32} {t : BitVec 1}
    (h : IntOp.andi (IntOp.ori (IntOp.cmpi .eq (BitVec.ofNat 32 i.val) (BitVec.ofNat 32 j.val)) (IntOp.cmpi .ne a c)) t = 1#1) :
    (a = c → i = j) ∧ t = 1#1 := by
  have hand : ∀ x y : BitVec 1, IntOp.andi x y = 1#1 → x = 1#1 ∧ y = 1#1 := by decide
  have hor : ∀ x y : BitVec 1, IntOp.ori x y = 1#1 → x = 1#1 ∨ y = 1#1 := by decide
  refine ⟨fun e => ?_, (hand _ _ h).2⟩
  rcases hor _ _ (hand _ _ h).1 with e' | e'
  · have e'' : (BitVec.ofBool (BitVec.ofNat 32 i.val == BitVec.ofNat 32 j.val)) = 1#1 := e'
    have : BitVec.ofNat 32 i.val = BitVec.ofNat 32 j.val := by
      by_contra hne
      rw [beq_eq_false_iff_ne.mpr hne] at e''
      exact absurd e'' (by decide)
    have := congrArg BitVec.toNat this
    rw [BitVec.toNat_ofNat, BitVec.toNat_ofNat, Nat.mod_eq_of_lt (by omega), Nat.mod_eq_of_lt (by omega)] at this
    exact Fin.ext this
  · have e'' : (BitVec.ofBool (a != c)) = 1#1 := e'
    rw [e, bne_self_eq_false] at e''
    exact absurd e'' (by decide)

/-- A decision that is one holds. -/
theorem of_ofBool {p : Prop} [Decidable p] (h : BitVec.ofBool (decide p) = 1#1) : p := by
  by_contra hn
  rw [decide_eq_false hn] at h
  exact absurd h (by decide)

end Cert.Proof.Picks

end
-- ==== Proof.Supers.lean ====
/-
  The first choice: per query the ten supergroups of least minimum, spread over their hundred groups and those groups'
  places in the array of minima. The call's ten rounds pick what a sort by minimum and then supergroup puts first.
-/
module

public import proofs.«01_k».proof.Proof.Picks
public import proofs.«01_k».proof.Proof.Gen.SupersIdeal.Frame
public import proofs.«01_k».proof.Proof.Gen.SupersReferenceIdeal.Read
public import proofs.«01_k».proof.Proof.Gen.Pre_supers_below_infinity
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.Proof.SupersIdeal

open Idealize.ShloMosaic
open Cert.SupersIdeal Cert.SupersIdeal.Gen
open Cert.Proof.Picks

/-- The shapes of a round. -/
theorem fits : Fits 1250 1024 := ⟨reduces_S1250x1024_S1024, shapeCasts_S1024_S1x1024, broadcasts_S1x1024_S1250x1024⟩

/-- The minima, one row to a supergroup, and the supergroups' numbers. -/
abbrev keys (x0 : S25x50x1024.Idx → EReal) : FVec Ideal S1250x1024 .f32 := shapeCast S1250x1024 x0 shapeCasts_S25x50x1024_S1250x1024
abbrev ids : IVec S1250x1024 32 := iota .tc S1250x1024 32 [0] iota_S1250x1024_d0_w32

/-! ## The ten rounds -/

section Rounds

variable (x0 : S25x50x1024.Idx → EReal) (i : IVec S1250x1024 32) (v : FVec Ideal S1250x1024 .f32)

/-- Which values are the least, and which numbers the one picked. -/
abbrev isLeast : IVec S1250x1024 1 := cmpf .oeq v (broadcastTo S1250x1024 (least fits v) broadcasts_S1x1024_S1250x1024)
abbrev isPick : IVec S1250x1024 1 := cmpi .eq i (broadcastTo S1250x1024 (pick fits i v) broadcasts_S1x1024_S1250x1024)

/-! Each of the call's values is a round of the one before. -/

theorem e5 : k0_pay5 (F := Ideal) x0 = pick fits ids (keys x0) := rfl
theorem e6 : k0_pay6 (F := Ideal) x0 = drop fits ids (keys x0) := rfl
theorem e8 : k0_pay8 (F := Ideal) x0 = pick fits ids (k0_pay6 (F := Ideal) x0) := rfl
theorem e9 : k0_pay9 (F := Ideal) x0 = drop fits ids (k0_pay6 (F := Ideal) x0) := rfl
theorem e11 : k0_pay11 (F := Ideal) x0 = pick fits ids (k0_pay9 (F := Ideal) x0) := rfl
theorem e12 : k0_pay12 (F := Ideal) x0 = andi (isLeast (k0_pay9 (F := Ideal) x0)) (isPick ids (k0_pay9 (F := Ideal) x0)) := rfl
theorem e13 : k0_pay13 (F := Ideal) v (andi (isLeast v) (isPick i v)) = drop fits i v := rfl
theorem e15 (w) : k0_pay15 (F := Ideal) i v w = pick fits i (k0_pay13 v w) := rfl
theorem e16 (w) : k0_pay16 (F := Ideal) i v w = drop fits i (k0_pay13 v w) := rfl
theorem e18 (w) : k0_pay18 (F := Ideal) i v w = pick fits i (k0_pay16 i v w) := rfl
theorem e19 (w) : k0_pay19 (F := Ideal) i v w = drop fits i (k0_pay16 i v w) := rfl
theorem e21 (w) : k0_pay21 (F := Ideal) i v w = pick fits i (k0_pay19 i v w) := rfl
theorem e22 (w) : k0_pay22 (F := Ideal) i v w = drop fits i (k0_pay19 i v w) := rfl
theorem e24 : k0_pay24 (F := Ideal) i v = pick fits i v := rfl
theorem e25 : k0_pay25 (F := Ideal) i v = drop fits i v := rfl
theorem e27 : k0_pay27 (F := Ideal) i v = pick fits i (k0_pay25 i v) := rfl
theorem e28 : k0_pay28 (F := Ideal) i v = drop fits i (k0_pay25 i v) := rfl
theorem e30 : k0_pay30 (F := Ideal) i v = pick fits i (k0_pay28 i v) := rfl
theorem e31 : k0_pay31 (F := Ideal) i v = drop fits i (k0_pay28 i v) := rfl
theorem e32 : k0_pay32 (F := Ideal) i v = least fits (k0_pay31 i v) := rfl

/-- The groups of ten picked supergroups, ten to a supergroup, and their places. -/
abbrev spread (p : ℕ → IVec S1x1024 32) : IVec S10x10x1024 32 :=
  addi (broadcastTo S10x10x1024 (muli (shapeCast S10x1x1024 (concatenate S10x1024 0
    [⟨S1x1024, p 0⟩, ⟨S1x1024, p 1⟩, ⟨S1x1024, p 2⟩, ⟨S1x1024, p 3⟩, ⟨S1x1024, p 4⟩, ⟨S1x1024, p 5⟩, ⟨S1x1024, p 6⟩, ⟨S1x1024, p 7⟩, ⟨S1x1024, p 8⟩, ⟨S1x1024, p 9⟩]
    concatenates_S1x1024_S1x1024_S1x1024_S1x1024_S1x1024_S1x1024_S1x1024_S1x1024_S1x1024_S1x1024_S10x1024_d0) shapeCasts_S10x1024_S10x1x1024)
    (broadcast S10x1x1024 10#32)) broadcasts_S10x1x1024_S10x10x1024) (iota .tc S10x10x1024 32 [1] iota_S10x10x1024_d1_w32)
abbrev places (g : IVec S10x10x1024 32) : IVec S10x10x1024 32 :=
  addi (muli g (broadcast S10x10x1024 1024#32)) (iota .tc S10x10x1024 32 [2] iota_S10x10x1024_d2_w32)

/-- The last round and the two stored arrays. -/
theorem e1 (p : ℕ → IVec S1x1024 32) : k0_pay1 (F := Ideal) i (p 0) (p 1) (p 2) (p 3) (p 4) (p 5) (p 6) (p 7) (p 8) v (least fits v)
    = spread (fun k => if k = 9 then pick fits i v else p k) := rfl
theorem e2 (a b c d e f g h j w z) : k0_pay2 (F := Ideal) i a b c d e f g h j w z = places (k0_pay1 (F := Ideal) i a b c d e f g h j w z) := rfl

/-- What a round picks. -/
abbrev picked (k : ℕ) : IVec S1x1024 32 := pick fits ids (after fits ids (keys x0) k)

/-- The offset of a whole array. -/
theorem off000 : (![0, 0, 0] : Fin 3 → ℕ) = fun _ => 0 := by decide

/-- The first array the call stores. -/
theorem out1_eq : out0_1 (F := Ideal) x0 = spread (picked x0) := by
  unfold_out out0_1
  have l0 : View.ld (Val := Elt Ideal) (e' := .f32) x0 r0_0 = x0 := View.ld_unit_zero off000 _ _
  rw [View.canon_unit_zero off000, l0]
  simp only [e32, e31, e30, e28, e27, e25, e24, e22, e21, e19, e18, e16, e15, e12, e11, e9, e8, e6, e5, e13]
  exact e1 _ _ fun k => picked x0 k

/-- The second is the places of the first. -/
theorem out2_eq : out0_2 (F := Ideal) x0 = places (spread (picked x0)) := by
  rw [← out1_eq]
  unfold out0_2 out0_1
  rw [View.canon_unit_zero off000, View.canon_unit_zero off000]
  exact e2 _ _ _ _ _ _ _ _ _ _ _ _

end Rounds

/-- The groups, at an index. -/
theorem spread_apply (p : ℕ → IVec S1x1024 32) (n k : Fin 10) (b : Fin 1024) :
    spread p (ix3 n k b) = IntOp.addi (IntOp.muli (p n (ix2 0 b)) 10#32) (BitVec.ofNat 32 k.val) := by
  rw [← stack_apply (.inl rfl) p concatenates_S1x1024_S1x1024_S1x1024_S1x1024_S1x1024_S1x1024_S1x1024_S1x1024_S1x1024_S1x1024_S10x1024_d0 n b]
  unfold spread
  generalize concatenate S10x1024 0 _ _ = y
  pointwise []

/-- The places, at an index. -/
theorem places_apply (g : IVec S10x10x1024 32) (n k : Fin 10) (b : Fin 1024) :
    places g (ix3 n k b) = IntOp.addi (IntOp.muli (g (ix3 n k b)) 1024#32) (BitVec.ofNat 32 b.val) := by
  pointwise []

/-! ## The reference -/

namespace Ref

open Cert.SupersReferenceIdeal Cert.SupersReferenceIdeal.Gen Cert.SupersReferenceIdeal.Read

/-- Its sort is by minimum and then number. -/
theorem comparator_iff (l r : EReal × BitVec 32) : comparator_f32_i32_d0 (F := Ideal) l r = 1#1 ↔ l.1 < r.1 ∨ l.1 = r.1 ∧ l.2.toInt < r.2.toInt :=
  lesser_iff l.1 r.1 l.2 r.2

/-- The numbers it sorts with, at an index. -/
theorem v4_apply (n : Fin 1250) (b : Fin 1024) : val_main_v4 (F := Ideal) (ix2 n b) = BitVec.ofNat 32 n.val := by
  pointwise [val_main_v4, val_main_v3, val_main_v2, val_main_v1, val_main_v0, val_main_c]
  exact BitVec.add_zero _

/-- Its groups, at an index; -/
theorem v15_apply (x0 : SupersIdeal.S25x50x1024.Idx → EReal) (n k : Fin 10) (b : Fin 1024) :
    val_main_v15 (F := Ideal) x0 (ix3 n k b)
      = IntOp.addi (IntOp.muli (val_main_v6_1 (F := Ideal) x0 (ix2 ⟨n.val, by omega⟩ b)) 10#32) (BitVec.ofNat 32 k.val) := by
  pointwise [val_main_v15, val_main_v14, val_main_v13, val_main_v12, val_main_v11, val_main_v10, val_main_v9, val_main_v8, val_main_v7, val_main_c_0]

/-- its places. -/
theorem v21_apply (x0 : SupersIdeal.S25x50x1024.Idx → EReal) (n k : Fin 10) (b : Fin 1024) :
    val_main_v21 (F := Ideal) x0 (ix3 n k b) = IntOp.addi (IntOp.muli (val_main_v15 (F := Ideal) x0 (ix3 n k b)) 1024#32) (BitVec.ofNat 32 b.val) := by
  unfold val_main_v21 val_main_v17
  generalize val_main_v15 (F := Ideal) x0 = y
  pointwise [val_main_v20, val_main_v19, val_main_v18, val_main_v16, val_main_c_1]

end Ref

/-- The supergroups' numbers, at an index. -/
theorem ids_apply (n : Fin 1250) (b : Fin 1024) : ids (ix2 n b) = BitVec.ofNat 32 n.val := by
  pointwise []

/-- The numbers the reference sorts by are the call's. -/
theorem ids_eq : Cert.SupersReferenceIdeal.Read.val_main_v4 (F := Ideal) = ids := funext fun y => by
  obtain ⟨n, b, rfl⟩ : ∃ (n : Fin 1250) (b : Fin 1024), y = ix2 n b := ⟨y 0, y 1, funext fun a => match a with
    | ⟨0, _⟩ => rfl
    | ⟨1, _⟩ => rfl⟩
  exact (Ref.v4_apply n b).trans (ids_apply n b).symm

/-- They are distinct. -/
theorem ids_injective (b : Fin 1024) : Function.Injective fun j : Fin 1250 => ids (ix2 j b) := fun i j e => by
  have e' : BitVec.ofNat 32 i.val = BitVec.ofNat 32 j.val := (ids_apply i b).symm.trans (e.trans (ids_apply j b))
  have := congrArg BitVec.toNat e'
  rw [BitVec.toNat_ofNat, BitVec.toNat_ofNat, Nat.mod_eq_of_lt (by omega), Nat.mod_eq_of_lt (by omega)] at this
  exact Fin.ext this

/-- Where the precondition holds every minimum is below plus infinity. -/
theorem of_pre {x0 : S25x50x1024.Idx → EReal} (hpre : Cert.Pre_supers_below_infinity.fn (F := Ideal) x0 = fun _ => 1#1) (y : S25x50x1024.Idx) :
    x0 y < (⊤ : EReal) := by
  have h : BitVec.ofBool (decide (x0 y < Ideal.ofBits .f32 0x7F800000#32)) = 1#1 := congrFun hpre y
  rw [top_eq] at h
  exact of_ofBool h

/-! ## The result -/

/-- The rounds pick the supergroups the sort puts first. -/
theorem same {x0 : S25x50x1024.Idx → EReal} (hpre : Cert.Pre_supers_below_infinity.fn (F := Ideal) x0 = fun _ => 1#1) :
    spread (picked x0) = Cert.SupersReferenceIdeal.Read.val_main_v15 (F := Ideal) x0 := by
  refine funext fun y => ?_
  obtain ⟨n, k, b, rfl⟩ : ∃ (n k : Fin 10) (b : Fin 1024), y = ix3 n k b := ⟨y 0, y 1, y 2, funext fun a => match a with
    | ⟨0, _⟩ => rfl
    | ⟨1, _⟩ => rfl
    | ⟨2, _⟩ => rfl⟩
  obtain ⟨q, hq, hs⟩ := sorted Cert.SupersReferenceIdeal.comparator_f32_i32_d0 Ref.comparator_iff (keys x0) ids b (ids_injective b) (K := 10) (by decide) (by decide)
  have e : picked x0 n.val (ix2 0 b) = Cert.SupersReferenceIdeal.Read.val_main_v6_1 (F := Ideal) x0 (ix2 ⟨n.val, by omega⟩ b) := by
    unfold Cert.SupersReferenceIdeal.Read.val_main_v6_1
    rw [ids_eq]
    exact (picks fits ids (keys x0) (.inl rfl) b (ids_injective b) (fun j => of_pre hpre _) (by decide) (by decide) hq _ n.isLt).trans
      (hs n.val (by omega)).symm
  rw [spread_apply, Ref.v15_apply, e]

/-- And so are the places. -/
theorem same_places {x0 : S25x50x1024.Idx → EReal} (hpre : Cert.Pre_supers_below_infinity.fn (F := Ideal) x0 = fun _ => 1#1) :
    places (spread (picked x0)) = Cert.SupersReferenceIdeal.Read.val_main_v21 (F := Ideal) x0 := by
  rw [same hpre]
  refine funext fun y => ?_
  obtain ⟨n, k, b, rfl⟩ : ∃ (n k : Fin 10) (b : Fin 1024), y = ix3 n k b := ⟨y 0, y 1, y 2, funext fun a => match a with
    | ⟨0, _⟩ => rfl
    | ⟨1, _⟩ => rfl
    | ⟨2, _⟩ => rfl⟩
  rw [places_apply, Ref.v21_apply]

section Final

open Idealize.ShloMosaic.Pipeline (Dat)

variable (m : (ℓ : Loc nD τ sig) → Buf (Elt Ideal) ℓ) (d : Dev nD) (t : Fin cfg0.N)

/-- The argument's array. -/
abbrev mins : S25x50x1024.Idx → EReal := m ((d.tc : Thread nD τ).loc main_arg0)

/-- The one point reads it whole. -/
theorem blk0 : (iblk (F := Ideal) m d 0 t : S25x50x1024.Idx → EReal) = mins m d := by
  have h : ∀ (t : Fin cfg0.N) a, win0_0.index t a = 0 := by decide +kernel
  exact funext fun i => congrArg (mins m d) (funext fun a => Fin.ext
    (Pipeline.Window.rect_emb_val_of_index_zero win0_0 t a (h t a) i))

/-- The groups the call leaves. -/
theorem final1 (hpre : Cert.Pre_supers_below_infinity.fn (F := Ideal) (mins m d) = fun _ => 1#1) :
    (dats (F := Ideal) m 0 d).arrAt 1 cfg0.N = Cert.SupersReferenceIdeal.Read.val_main_v15 (F := Ideal) (mins m d) := by
  refine Dat.arrAt_eq_of_covers _ 1 _ (by decide +kernel) fun t hf y => ?_
  have h : ∀ (t : Fin cfg0.N) a, win0_1.index t a = 0 := by decide +kernel
  have he : ((cfg0.win 1).blk t).view.emb y = y := funext fun a => Fin.ext (Pipeline.Window.rect_emb_val_of_index_zero win0_1 t a (h t a) y)
  refine Eq.trans ?_ (congrArg (Cert.SupersReferenceIdeal.Read.val_main_v15 (F := Ideal) (mins m d)) he.symm)
  refine (congrFun (after0_1 (F := Ideal) m d t) y).trans ?_
  refine (congrFun (congrArg (out0_1 (F := Ideal)) (blk0 m d t)) y).trans ?_
  exact congrFun ((out1_eq _).trans (same hpre)) y

/-- Their places. -/
theorem final2 (hpre : Cert.Pre_supers_below_infinity.fn (F := Ideal) (mins m d) = fun _ => 1#1) :
    (dats (F := Ideal) m 0 d).arrAt 2 cfg0.N = Cert.SupersReferenceIdeal.Read.val_main_v21 (F := Ideal) (mins m d) := by
  refine Dat.arrAt_eq_of_covers _ 2 _ (by decide +kernel) fun t hf y => ?_
  have h : ∀ (t : Fin cfg0.N) a, win0_2.index t a = 0 := by decide +kernel
  have he : ((cfg0.win 2).blk t).view.emb y = y := funext fun a => Fin.ext (Pipeline.Window.rect_emb_val_of_index_zero win0_2 t a (h t a) y)
  refine Eq.trans ?_ (congrArg (Cert.SupersReferenceIdeal.Read.val_main_v21 (F := Ideal) (mins m d)) he.symm)
  refine (congrFun (after0_2 (F := Ideal) m d t) y).trans ?_
  refine (congrFun (congrArg (out0_2 (F := Ideal)) (blk0 m d t)) y).trans ?_
  exact congrFun ((out2_eq _).trans (same_places hpre)) y

end Final

end Cert.Proof.SupersIdeal

end
-- ==== Proof.Rows.lean ====
/-
  The second choice: per query the ten groups of least minimum among a hundred, spread over their eight rows each. The
  call's ten rounds pick what a sort by minimum and then group puts first.
-/
module

public import proofs.«01_k».proof.Proof.Picks
public import proofs.«01_k».proof.Proof.Gen.RowsIdeal.Frame
public import proofs.«01_k».proof.Proof.Gen.RowsReferenceIdeal.Read
public import proofs.«01_k».proof.Proof.Gen.Pre_groups_distinct
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.Proof.RowsIdeal

open Idealize.ShloMosaic
open Cert.RowsIdeal Cert.RowsIdeal.Gen
open Cert.Proof.Picks

/-- The shapes of a round. -/
theorem fits : Fits 100 1024 := ⟨reduces_S100x1024_S1024, shapeCasts_S1024_S1x1024, broadcasts_S1x1024_S100x1024⟩

/-- The minima and the groups' numbers, one row to a candidate. -/
abbrev keys (x0 : S10x10x1024.Idx → EReal) : FVec Ideal S100x1024 .f32 := shapeCast S100x1024 x0 shapeCasts_S10x10x1024_S100x1024
abbrev ids (x1 : S10x10x1024.Idx → BitVec 32) : IVec S100x1024 32 := shapeCast S100x1024 x1 shapeCasts_S10x10x1024_S100x1024

/-! ## The ten rounds -/

section Rounds

variable (x0 : S10x10x1024.Idx → EReal) (x1 : S10x10x1024.Idx → BitVec 32) (i : IVec S100x1024 32) (v : FVec Ideal S100x1024 .f32)

/-- Which values are the least, which numbers the one picked, and the least value in every row. -/
abbrev isLeast : IVec S100x1024 1 := cmpf .oeq v (broadcastTo S100x1024 (least fits v) broadcasts_S1x1024_S100x1024)
abbrev isPick : IVec S100x1024 1 := cmpi .eq i (broadcastTo S100x1024 (pick fits i v) broadcasts_S1x1024_S100x1024)
abbrev lowest : FVec Ideal S100x1024 .f32 := broadcastTo S100x1024 (least fits v) broadcasts_S1x1024_S100x1024

/-! Each of the call's values is a round of the one before. -/

theorem e5 : k0_pay5 (F := Ideal) x0 x1 = pick fits (ids x1) (keys x0) := rfl
theorem e6 : k0_pay6 (F := Ideal) x0 x1 = drop fits (ids x1) (keys x0) := rfl
theorem e8 : k0_pay8 (F := Ideal) x0 x1 = pick fits (ids x1) (k0_pay6 (F := Ideal) x0 x1) := rfl
theorem e9 : k0_pay9 (F := Ideal) x0 x1 = drop fits (ids x1) (k0_pay6 (F := Ideal) x0 x1) := rfl
theorem e11 : k0_pay11 (F := Ideal) x0 x1 = pick fits (ids x1) (k0_pay9 (F := Ideal) x0 x1) := rfl
theorem e12 : k0_pay12 (F := Ideal) x0 x1 = lowest (k0_pay9 (F := Ideal) x0 x1) := rfl
theorem e13 : k0_pay13 (F := Ideal) i v (pick fits i v) (lowest v) = drop fits i v := rfl
theorem e15 (w z) : k0_pay15 (F := Ideal) i v w z = pick fits i (k0_pay13 i v w z) := rfl
theorem e16 (w z) : k0_pay16 (F := Ideal) i v w z = drop fits i (k0_pay13 i v w z) := rfl
theorem e18 (w z) : k0_pay18 (F := Ideal) i v w z = pick fits i (k0_pay16 i v w z) := rfl
theorem e19 (w z) : k0_pay19 (F := Ideal) i v w z = drop fits i (k0_pay16 i v w z) := rfl
theorem e21 (w z) : k0_pay21 (F := Ideal) i v w z = pick fits i (k0_pay19 i v w z) := rfl
theorem e22 (w z) : k0_pay22 (F := Ideal) i v w z = isLeast (k0_pay19 i v w z) := rfl
theorem e23 (w z) : k0_pay23 (F := Ideal) i v w z = isPick i (k0_pay19 i v w z) := rfl
theorem e24 : k0_pay24 (F := Ideal) v (isLeast v) (isPick i v) = drop fits i v := rfl
theorem e26 (w z) : k0_pay26 (F := Ideal) i v w z = pick fits i (k0_pay24 v w z) := rfl
theorem e27 (w z) : k0_pay27 (F := Ideal) i v w z = drop fits i (k0_pay24 v w z) := rfl
theorem e29 (w z) : k0_pay29 (F := Ideal) i v w z = pick fits i (k0_pay27 i v w z) := rfl
theorem e30 (w z) : k0_pay30 (F := Ideal) i v w z = drop fits i (k0_pay27 i v w z) := rfl
theorem e32 (w z) : k0_pay32 (F := Ideal) i v w z = pick fits i (k0_pay30 i v w z) := rfl
theorem e33 (w z) : k0_pay33 (F := Ideal) i v w z = andi (isLeast (k0_pay30 i v w z)) (isPick i (k0_pay30 i v w z)) := rfl

/-- The rows of ten picked groups, eight to a group. -/
abbrev spread (p : ℕ → IVec S1x1024 32) : IVec S80x1024 32 :=
  shapeCast S80x1024 (addi (broadcastTo S10x8x1024 (muli (shapeCast S10x1x1024 (concatenate S10x1024 0
    [⟨S1x1024, p 0⟩, ⟨S1x1024, p 1⟩, ⟨S1x1024, p 2⟩, ⟨S1x1024, p 3⟩, ⟨S1x1024, p 4⟩, ⟨S1x1024, p 5⟩, ⟨S1x1024, p 6⟩, ⟨S1x1024, p 7⟩, ⟨S1x1024, p 8⟩, ⟨S1x1024, p 9⟩]
    concatenates_S1x1024_S1x1024_S1x1024_S1x1024_S1x1024_S1x1024_S1x1024_S1x1024_S1x1024_S1x1024_S10x1024_d0) shapeCasts_S10x1024_S10x1x1024)
    (broadcast S10x1x1024 8#32)) broadcasts_S10x1x1024_S10x8x1024) (iota .tc S10x8x1024 32 [1] iota_S10x8x1024_d1_w32)) shapeCasts_S10x8x1024_S80x1024

/-- The last two rounds and the stored array. -/
theorem e1 (p : ℕ → IVec S1x1024 32) : k0_pay1 (F := Ideal) i (p 0) (p 1) (p 2) (p 3) (p 4) (p 5) (p 6) (p 7) v (p 8) (andi (isLeast v) (isPick i v)) (k0_pay34 (F := Ideal))
    = spread (fun k => if k = 9 then pick fits i (drop fits i v) else p k) := rfl

/-- What a round picks. -/
abbrev picked (k : ℕ) : IVec S1x1024 32 := pick fits (ids x1) (after fits (ids x1) (keys x0) k)

/-- The offsets of a whole array. -/
theorem off00 : (![0, 0] : Fin 2 → ℕ) = fun _ => 0 := by decide
theorem off000 : (![0, 0, 0] : Fin 3 → ℕ) = fun _ => 0 := by decide

/-- The array the call stores. -/
theorem out2_eq : out0_2 (F := Ideal) x0 x1 = spread (picked x0 x1) := by
  unfold_out out0_2
  have l0 : View.ld (Val := Elt Ideal) (e' := .f32) x0 r0_0 = x0 := View.ld_unit_zero off000 _ _
  have l1 : View.ld (Val := Elt Ideal) (e' := .i32) x1 r0_0 = x1 := View.ld_unit_zero off000 _ _
  rw [View.canon_unit_zero off00, l0, l1]
  have e3 : k0_pay3 (F := Ideal) x1 = ids x1 := rfl
  simp only [e3, e33, e32, e30, e29, e27, e26, e23, e22, e21, e19, e18, e16, e15, e12, e11, e9, e8, e6, e5, e13, e24]
  exact e1 _ _ fun k => picked x0 x1 k

end Rounds

/-- What the call stores, at a row. -/
theorem spread_apply (p : ℕ → IVec S1x1024 32) (n : Fin 80) (b : Fin 1024) :
    spread p (ix2 n b) = IntOp.addi (IntOp.muli (p (n.val / 8) (ix2 0 b)) 8#32) (BitVec.ofNat 32 (n.val % 8)) := by
  rw [← stack_apply (.inl rfl) p concatenates_S1x1024_S1x1024_S1x1024_S1x1024_S1x1024_S1x1024_S1x1024_S1x1024_S1x1024_S1x1024_S10x1024_d0 ⟨n.val / 8, by omega⟩ b]
  unfold spread
  generalize concatenate S10x1024 0 _ _ = y
  pointwise []

/-! ## The reference -/

namespace Ref

open Cert.RowsReferenceIdeal Cert.RowsReferenceIdeal.Gen Cert.RowsReferenceIdeal.Read

/-- Its sort is by minimum and then number. -/
theorem comparator_iff (l r : EReal × BitVec 32) : comparator_f32_i32_d0 (F := Ideal) l r = 1#1 ↔ l.1 < r.1 ∨ l.1 = r.1 ∧ l.2.toInt < r.2.toInt :=
  lesser_iff l.1 r.1 l.2 r.2

/-- Its result, at an index. -/
theorem v12_apply (x0 : RowsIdeal.S10x10x1024.Idx → EReal) (x1 : RowsIdeal.S10x10x1024.Idx → BitVec 32) (n : Fin 80) (b : Fin 1024) :
    val_main_v12 (F := Ideal) x0 x1 (ix2 n b)
      = IntOp.addi (IntOp.muli (val_main_v2_1 (F := Ideal) x0 x1 (ix2 ⟨n.val / 8, by omega⟩ b)) 8#32) (BitVec.ofNat 32 (n.val % 8)) := by
  pointwise [val_main_v12, val_main_v11, val_main_v10, val_main_v9, val_main_v8, val_main_v7, val_main_v6, val_main_v5, val_main_v4, val_main_v3, val_main_c]

end Ref

/-! ## The precondition -/

/-- The precondition, at an index. -/
theorem pre_apply (x0 : S10x10x1024.Idx → EReal) (x1 : S10x10x1024.Idx → BitVec 32) (i j : Fin 100) (b : Fin 1024) :
    Cert.Pre_groups_distinct.fn (F := Ideal) x0 x1 (ix3 i j b)
      = IntOp.andi (IntOp.ori (IntOp.cmpi .eq (BitVec.ofNat 32 i.val) (BitVec.ofNat 32 j.val)) (IntOp.cmpi .ne (ids x1 (ix2 i b)) (ids x1 (ix2 j b))))
        (BitVec.ofBool (decide (keys x0 (ix2 i b) < (⊤ : EReal)))) := by
  rw [← top_eq]
  pointwise [Cert.Pre_groups_distinct.fn]

/-- Where it holds every value is below plus infinity, and a query's groups are distinct. -/
theorem of_pre {x0 : S10x10x1024.Idx → EReal} {x1 : S10x10x1024.Idx → BitVec 32} (hpre : Cert.Pre_groups_distinct.fn (F := Ideal) x0 x1 = fun _ => 1#1) (b : Fin 1024) :
    (Function.Injective fun j : Fin 100 => ids x1 (ix2 j b)) ∧ ∀ j : Fin 100, keys x0 (ix2 j b) < (⊤ : EReal) := by
  have h := fun i j => distinct (by decide) ((pre_apply x0 x1 i j b).symm.trans (congrFun hpre _))
  exact ⟨fun i j e => (h i j).1 e, fun j => of_ofBool (h j j).2⟩

/-! ## The result -/

/-- The rounds pick the groups the sort puts first. -/
theorem same {x0 : S10x10x1024.Idx → EReal} {x1 : S10x10x1024.Idx → BitVec 32} (hpre : Cert.Pre_groups_distinct.fn (F := Ideal) x0 x1 = fun _ => 1#1) :
    spread (picked x0 x1) = Cert.RowsReferenceIdeal.Read.val_main_v12 (F := Ideal) x0 x1 := by
  refine funext fun y => ?_
  obtain ⟨n, b, rfl⟩ : ∃ (n : Fin 80) (b : Fin 1024), y = ix2 n b := ⟨y 0, y 1, funext fun a => match a with
    | ⟨0, _⟩ => rfl
    | ⟨1, _⟩ => rfl⟩
  obtain ⟨hid, hkey⟩ := of_pre hpre b
  obtain ⟨q, hq, hs⟩ := sorted Cert.RowsReferenceIdeal.comparator_f32_i32_d0 Ref.comparator_iff (keys x0) (ids x1) b hid (K := 10) (by decide) (by decide)
  have hk : n.val / 8 < 10 := by omega
  have e : picked x0 x1 (n.val / 8) (ix2 0 b) = Cert.RowsReferenceIdeal.Read.val_main_v2_1 (F := Ideal) x0 x1 (ix2 ⟨n.val / 8, by omega⟩ b) :=
    (picks fits (ids x1) (keys x0) (.inl rfl) b hid hkey (by decide) (by decide) hq _ hk).trans (hs (n.val / 8) (by omega)).symm
  rw [spread_apply, Ref.v12_apply, e]

section Final

open Idealize.ShloMosaic.Pipeline (Dat)

variable (m : (ℓ : Loc nD τ sig) → Buf (Elt Ideal) ℓ) (d : Dev nD) (t : Fin cfg0.N)

/-- The two arguments' arrays. -/
abbrev vals : S10x10x1024.Idx → EReal := m ((d.tc : Thread nD τ).loc main_arg0)
abbrev cand : S10x10x1024.Idx → BitVec 32 := m ((d.tc : Thread nD τ).loc main_arg1)

/-- The one point reads the first whole. -/
theorem blk0 : (iblk (F := Ideal) m d 0 t : S10x10x1024.Idx → EReal) = vals m d := by
  have h : ∀ (t : Fin cfg0.N) a, win0_0.index t a = 0 := by decide +kernel
  exact funext fun i => congrArg (vals m d) (funext fun a => Fin.ext
    (Pipeline.Window.rect_emb_val_of_index_zero win0_0 t a (h t a) i))

/-- So it does the second. -/
theorem blk1 : (iblk (F := Ideal) m d 1 t : S10x10x1024.Idx → BitVec 32) = cand m d := by
  have h : ∀ (t : Fin cfg0.N) a, win0_1.index t a = 0 := by decide +kernel
  exact funext fun i => congrArg (cand m d) (funext fun a => Fin.ext
    (Pipeline.Window.rect_emb_val_of_index_zero win0_1 t a (h t a) i))

/-- What the call leaves. -/
theorem final2 (hpre : Cert.Pre_groups_distinct.fn (F := Ideal) (vals m d) (cand m d) = fun _ => 1#1) :
    (dats (F := Ideal) m 0 d).arrAt 2 cfg0.N = Cert.RowsReferenceIdeal.Read.val_main_v12 (F := Ideal) (vals m d) (cand m d) := by
  refine Dat.arrAt_eq_of_covers _ 2 _ (by decide +kernel) fun t hf y => ?_
  have h : ∀ (t : Fin cfg0.N) a, win0_2.index t a = 0 := by decide +kernel
  have he : ((cfg0.win 2).blk t).view.emb y = y := funext fun a => Fin.ext (Pipeline.Window.rect_emb_val_of_index_zero win0_2 t a (h t a) y)
  refine Eq.trans ?_ (congrArg (Cert.RowsReferenceIdeal.Read.val_main_v12 (F := Ideal) (vals m d) (cand m d)) he.symm)
  refine (congrFun (after0_2 (F := Ideal) m d t) y).trans ?_
  refine (congrFun (congrArg₂ (out0_2 (F := Ideal)) (blk0 m d t) (blk1 m d t)) y).trans ?_
  exact congrFun ((out2_eq _ _).trans (same hpre)) y

end Final

end Cert.Proof.RowsIdeal

end
-- ==== Proof.Nearest.lean ====
/-
  The last choice: per query the ten nearest of its eighty rows. The call's rounds order them by the sum of squares
  less twice the product with the query, the reference by the squared distance. Over finite numbers the second is the
  first and the query's own sum of squares, which doesn't change the order.
-/
module

public import proofs.«01_k».proof.Proof.Picks
public import proofs.«01_k».proof.Proof.Gen.NearestIdeal.Frame
public import proofs.«01_k».proof.Proof.Gen.NearestReferenceIdeal.Read
public import proofs.«01_k».proof.Proof.Gen.Pre_rows_distinct
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.Proof.NearestIdeal

open Idealize.ShloMosaic
open Cert.NearestIdeal Cert.NearestIdeal.Gen
open Cert.Proof.Picks

/-! ## The two keys -/

/-- The word for two. -/
abbrev two : EReal := Ideal.ofBits .f32 0x40000000#32

/-- The call's: a row's sum of squares less twice its product with the query. -/
def near (e q : Fin 128 → EReal) : EReal := ∑ d, e d * (e d - two * q d)

/-- The reference's: the squared distance. -/
def dist (e q : Fin 128 → EReal) : EReal := (∑ d, q d * q d) + (∑ d, e d * e d) - two * ∑ d, q d * e d

/-- It is two. -/
theorem two_eq : two = ((2 : ℝ) : EReal) := by
  simp [two, Ideal.ofBits, Ideal.ieee]
  rw [← EReal.coe_mul]
  norm_num

/-- A finite sum of real numbers, as an extended one. -/
theorem coe_sum {n : ℕ} (f : Fin n → ℝ) : ((∑ i, f i : ℝ) : EReal) = ∑ i, (f i : EReal) := by
  classical
  induction (Finset.univ : Finset (Fin n)) using Finset.induction_on with
  | empty => simp
  | insert a s ha ih => rw [Finset.sum_insert ha, Finset.sum_insert ha, EReal.coe_add, ih]

/-- Of real numbers both keys are real, and the second is the first and the query's sum of squares. -/
theorem near_dist (e q : Fin 128 → ℝ) :
    near (fun d => e d) (fun d => q d) = ((∑ d, e d * (e d - 2 * q d) : ℝ) : EReal)
      ∧ dist (fun d => e d) (fun d => q d) = (((∑ d, q d * q d) + ∑ d, e d * (e d - 2 * q d) : ℝ) : EReal) := by
  have h : (∑ d, q d * q d) + (∑ d, e d * (e d - 2 * q d)) = (∑ d, q d * q d) + (∑ d, e d * e d) - 2 * ∑ d, q d * e d := by
    rw [Finset.mul_sum, add_sub_assoc, ← Finset.sum_sub_distrib]
    exact congrArg _ (Finset.sum_congr rfl fun d _ => by ring)
  refine ⟨?_, ?_⟩
  · unfold near
    rw [coe_sum, two_eq]
    exact Finset.sum_congr rfl fun d _ => by rw [EReal.coe_mul, EReal.coe_sub, EReal.coe_mul]
  · unfold dist
    rw [h, EReal.coe_sub, EReal.coe_add, EReal.coe_mul, coe_sum, coe_sum, coe_sum, two_eq]
    simp only [EReal.coe_mul]

/-- So rows of finite numbers are ordered alike by both. -/
theorem before_iff {N : ℕ} (e : Fin N → Fin 128 → EReal) (q : Fin 128 → EReal) (id : Fin N → BitVec 32)
    (he : ∀ j d, e j d ≠ ⊤ ∧ e j d ≠ ⊥) (hq : ∀ d, q d ≠ ⊤ ∧ q d ≠ ⊥) (i j : Fin N) :
    Before (fun j => dist (e j) q) id i j ↔ Before (fun j => near (e j) q) id i j := by
  have hq' : q = fun d => ((q d).toReal : EReal) := funext fun d => (EReal.coe_toReal (hq d).1 (hq d).2).symm
  have he' : ∀ j, e j = fun d => ((e j d).toReal : EReal) := fun j => funext fun d => (EReal.coe_toReal (he j d).1 (he j d).2).symm
  unfold Before
  beta_reduce
  rw [he' i, he' j, hq', (near_dist _ _).1, (near_dist _ _).1, (near_dist _ _).2, (near_dist _ _).2]
  simp only [EReal.coe_lt_coe_iff, EReal.coe_eq_coe_iff, add_lt_add_iff_left, add_right_inj]

/-- The first ones of one order are those of another that is the same. -/
theorem First.congr {N K : ℕ} {key key' : Fin N → EReal} {id : Fin N → BitVec 32} {p : ℕ → Fin N}
    (h : ∀ i j, Before key id i j ↔ Before key' id i j) (hp : First key id K p) : First key' id K p :=
  fun k hk => ⟨(hp k hk).1, fun j hj => ((hp k hk).2 j hj).imp_right (h _ _).mp⟩

/-- And the first key is below plus infinity. -/
theorem near_lt (e q : Fin 128 → EReal) (he : ∀ d, e d ≠ ⊤ ∧ e d ≠ ⊥) (hq : ∀ d, q d ≠ ⊤ ∧ q d ≠ ⊥) : near e q < ⊤ := by
  have hq' : q = fun d => ((q d).toReal : EReal) := funext fun d => (EReal.coe_toReal (hq d).1 (hq d).2).symm
  have he' : e = fun d => ((e d).toReal : EReal) := funext fun d => (EReal.coe_toReal (he d).1 (he d).2).symm
  rw [he', hq', (near_dist _ _).1]
  exact EReal.coe_lt_top _

/-! ## The ten rounds -/

/-- The shapes of a round. -/
theorem fits : Fits 80 128 := ⟨reduces_S80x128_S128, shapeCasts_S128_S1x128, broadcasts_S1x128_S80x128⟩

section Rounds

variable (x0 : S80x128x128.Idx → EReal) (x1 : S128x128.Idx → EReal) (i : IVec S80x128 32) (v : FVec Ideal S80x128 .f32)

/-- The keys a point computes. -/
abbrev keys : FVec Ideal S80x128 .f32 := k0_pay2 (F := Ideal) x0 x1

/-- They, at an index. -/
theorem keys_apply (n : Fin 80) (b : Fin 128) : keys x0 x1 (ix2 n b) = near (fun d => x0 (ix3 n b d)) (fun d => x1 (ix2 b d)) := by
  unfold near
  pointwise [keys, k0_pay2]

/-- The least value of each lane, before it is made a row; which values are the least. -/
abbrev lane : FVec Ideal S128 .f32 := multiReduction .minimumf [0] S128 v 0x7F800000#32 reduces_S80x128_S128 (.inl rfl) rfl
abbrev isLeast : IVec S80x128 1 := cmpf .oeq v (broadcastTo S80x128 (least fits v) broadcasts_S1x128_S80x128)

/-! Each of the call's values is a round of the one before. -/

theorem e4 : k0_pay4 (F := Ideal) x0 x1 i = pick fits i (keys x0 x1) := rfl
theorem e5 : k0_pay5 (F := Ideal) x0 x1 i = drop fits i (keys x0 x1) := rfl
theorem e7 : k0_pay7 (F := Ideal) x0 x1 i = pick fits i (k0_pay5 (F := Ideal) x0 x1 i) := rfl
theorem e8 : k0_pay8 (F := Ideal) x0 x1 i = drop fits i (k0_pay5 (F := Ideal) x0 x1 i) := rfl
theorem e9 : k0_pay9 (F := Ideal) x0 x1 i = lane (k0_pay8 (F := Ideal) x0 x1 i) := rfl
theorem e11 : k0_pay11 (F := Ideal) i v (lane v) = pick fits i v := rfl
theorem e12 : k0_pay12 (F := Ideal) i v (lane v) = drop fits i v := rfl
theorem e14 (w) : k0_pay14 (F := Ideal) i v w = pick fits i (k0_pay12 i v w) := rfl
theorem e15 (w) : k0_pay15 (F := Ideal) i v w = drop fits i (k0_pay12 i v w) := rfl
theorem e17 (w) : k0_pay17 (F := Ideal) i v w = pick fits i (k0_pay15 i v w) := rfl
theorem e18 (w) : k0_pay18 (F := Ideal) i v w = drop fits i (k0_pay15 i v w) := rfl
theorem e19 (w) : k0_pay19 (F := Ideal) i v w = least fits (k0_pay18 i v w) := rfl
theorem e20 (w) : k0_pay20 (F := Ideal) i v w = isLeast (k0_pay18 i v w) := rfl
theorem e21 : k0_pay21 (F := Ideal) i (isLeast v) = pick fits i v := rfl
theorem e22 : k0_pay22 (F := Ideal) i v (least fits v) (isLeast v) = drop fits i v := rfl
theorem e24 (w z) : k0_pay24 (F := Ideal) i v w z = pick fits i (k0_pay22 i v w z) := rfl
theorem e25 (w z) : k0_pay25 (F := Ideal) i v w z = drop fits i (k0_pay22 i v w z) := rfl
theorem e27 (w z) : k0_pay27 (F := Ideal) i v w z = pick fits i (k0_pay25 i v w z) := rfl
theorem e28 (w z) : k0_pay28 (F := Ideal) i v w z = drop fits i (k0_pay25 i v w z) := rfl
theorem e29 (w z) : k0_pay29 (F := Ideal) i v w z = least fits (k0_pay28 i v w z) := rfl
theorem e30 (w z) : k0_pay30 (F := Ideal) i v w z = select (isLeast (k0_pay28 i v w z)) i (broadcast S80x128 2147483647#32) := rfl

/-- Ten picked rows. -/
abbrev spread (p : ℕ → IVec S1x128 32) : IVec S1x10x128 32 :=
  shapeCast S1x10x128 (concatenate S10x128 0
    [⟨S1x128, p 0⟩, ⟨S1x128, p 1⟩, ⟨S1x128, p 2⟩, ⟨S1x128, p 3⟩, ⟨S1x128, p 4⟩, ⟨S1x128, p 5⟩, ⟨S1x128, p 6⟩, ⟨S1x128, p 7⟩, ⟨S1x128, p 8⟩, ⟨S1x128, p 9⟩]
    concatenates_S1x128_S1x128_S1x128_S1x128_S1x128_S1x128_S1x128_S1x128_S1x128_S1x128_S10x128_d0) shapeCasts_S10x128_S1x10x128

/-- The last two rounds and the stored array. -/
theorem e1 (p : ℕ → IVec S1x128 32) : k0_pay1 (F := Ideal) i (p 0) (p 1) (p 2) (p 3) (p 4) (p 5) (p 6) (p 7) v (least fits v)
      (select (isLeast v) i (broadcast S80x128 2147483647#32))
    = spread (fun k => if k = 9 then pick fits i (drop fits i v) else if k = 8 then pick fits i v else p k) := rfl

/-- What a round picks. -/
abbrev picked (k : ℕ) : IVec S1x128 32 := pick fits i (after fits i (keys x0 x1) k)

/-- The offsets of a whole array. -/
theorem off00 : (![0, 0] : Fin 2 → ℕ) = fun _ => 0 := by decide
theorem off000 : (![0, 0, 0] : Fin 3 → ℕ) = fun _ => 0 := by decide

/-- What a point stores. -/
theorem out3_eq : out0_3 (F := Ideal) x0 x1 i = spread (picked x0 x1 i) := by
  unfold_out out0_3
  have l0 : View.ld (Val := Elt Ideal) (e' := .f32) x0 r0_0 = x0 := View.ld_unit_zero off000 _ _
  have l1 : View.ld (Val := Elt Ideal) (e' := .f32) x1 r0_1 = x1 := View.ld_unit_zero off00 _ _
  have l2 : View.ld (Val := Elt Ideal) (e' := .i32) i r0_2 = i := View.ld_unit_zero off00 _ _
  rw [View.canon_unit_zero off000, l0, l1, l2]
  simp only [e30, e29, e28, e27, e25, e24, e20, e19, e22, e21, e18, e17, e15, e14, e9, e12, e11, e8, e7, e5, e4]
  exact e1 _ _ fun k => picked x0 x1 i k

end Rounds

/-- The picked rows, at an index. -/
theorem spread_apply (p : ℕ → IVec S1x128 32) (k : Fin 10) (b : Fin 128) : spread p (ix3 0 k b) = p k (ix2 0 b) := by
  rw [← stack_apply (.inr rfl) p concatenates_S1x128_S1x128_S1x128_S1x128_S1x128_S1x128_S1x128_S1x128_S1x128_S1x128_S10x128_d0 k b]
  unfold spread
  generalize concatenate S10x128 0 _ _ = y
  pointwise []

/-! ## The reference -/

namespace Ref

open Cert.NearestReferenceIdeal Cert.NearestReferenceIdeal.Gen Cert.NearestReferenceIdeal.Read

variable (x0 : NearestIdeal.S80x1024x128.Idx → EReal) (x1 : NearestIdeal.S1024x128.Idx → EReal) (x2 : NearestIdeal.S80x1024.Idx → BitVec 32)

/-- Its sort is by distance and then row. -/
theorem comparator_iff (l r : EReal × BitVec 32) : comparator_f32_i32_d0 (F := Ideal) l r = 1#1 ↔ l.1 < r.1 ∨ l.1 = r.1 ∧ l.2.toInt < r.2.toInt :=
  lesser_iff l.1 r.1 l.2 r.2

/-- Its key is the squared distance. -/
theorem v11_apply (n : Fin 80) (g : Fin 1024) : val_main_v11 (F := Ideal) x0 x1 (ix2 n g) = dist (fun d => x0 (ix3 n g d)) (fun d => x1 (ix2 g d)) := by
  unfold dist
  pointwise [val_main_v11, val_main_v10, val_main_v9, val_main_v8, val_main_v7, val_main_v6, val_main_v5, val_main_v4, val_main_v3, val_main_v2,
    val_main_v1, val_main_v0, val_main_cst, val_main_cst_0, val_main_cst_1]

/-- Its result, at an index. -/
theorem v15_apply (t : Fin 8) (k : Fin 10) (b : Fin 128) :
    val_main_v15 (F := Ideal) x0 x1 x2 (ix3 t k b) = val_main_v12_1 (F := Ideal) x0 x1 x2 (ix2 ⟨k.val, by omega⟩ ⟨t.val * 128 + b.val, by omega⟩) := by
  unfold val_main_v15 val_main_v14 val_main_v13
  generalize val_main_v12_1 (F := Ideal) x0 x1 x2 = y
  pointwise []

end Ref

/-! ## The precondition -/

section Pre

variable {x0 : S80x1024x128.Idx → EReal} {x1 : S1024x128.Idx → EReal} {x2 : S80x1024.Idx → BitVec 32}

/-- The greatest magnitude of some numbers. -/
def span {n : ℕ} (f : Fin n → EReal) : EReal := Finset.univ.fold max (Ideal.ofBits .f32 0xFF800000#32) fun d => FloatOps.absf (F := Ideal) (φ := .f32) (f d)

/-- Where it is finite so is each. -/
theorem of_span {n : ℕ} {f : Fin n → EReal} (h : span f < ⊤) (d : Fin n) : f d ≠ ⊤ ∧ f d ≠ ⊥ := by
  have hd : max (f d) (-f d) < ⊤ := (Finset.fold_max_lt (⊤ : EReal)).mp h |>.2 d (Finset.mem_univ d)
  refine ⟨fun e => ?_, fun e => ?_⟩
  · exact absurd ((le_max_left _ _).trans_lt hd) (by rw [e]; exact lt_irrefl _)
  · exact absurd ((le_max_right _ _).trans_lt hd) (by rw [e, EReal.neg_bot]; exact lt_irrefl _)

/-- Those of every row, and of every query, as the precondition takes them. -/
abbrev spans0 (x0 : S80x1024x128.Idx → EReal) : FVec Ideal Cert.Pre_rows_distinct.S80x1024 .f32 :=
  (fun x v => Host.reduce FloatOps.maximumf x v Cert.Pre_rows_distinct.Facts.reducesTo_S80x1024x128_S80x1024_d2 Cert.Pre_rows_distinct.Facts.h_S_) (Host.absf x0) (constant Cert.Pre_rows_distinct.S_ .f32 0xFF800000#32)
abbrev spans1 (x1 : S1024x128.Idx → EReal) : FVec Ideal Cert.Pre_rows_distinct.S1024 .f32 :=
  (fun x v => Host.reduce FloatOps.maximumf x v Cert.Pre_rows_distinct.Facts.reducesTo_S1024x128_S1024_d1 Cert.Pre_rows_distinct.Facts.h_S_) (Host.absf x1) (constant Cert.Pre_rows_distinct.S_ .f32 0xFF800000#32)

/-- The first, at an index; -/
theorem spans0_apply (i : Fin 80) (g : Fin 1024) : spans0 x0 (ix2 i g) = span (fun d => x0 (ix3 i g d)) := by
  unfold span spans0
  pointwise []

/-- the second. -/
theorem spans1_apply (g : Fin 1024) : spans1 x1 (ix1 g) = span (fun d => x1 (ix2 g d)) := by
  unfold span spans1
  pointwise []

/-- Which two entries of a query are the same one or of different rows. -/
def differ (x2 : IVec Cert.Pre_rows_distinct.S80x1024 32) : IVec Cert.Pre_rows_distinct.S80x80x1024 1 :=
  ori (broadcastInDim Cert.Pre_rows_distinct.S80x80x1024 ![0, 1, 2] Cert.Pre_rows_distinct.Facts.bcast_S80x80x1_S80x80x1024_0_1_2
      (cmpi .eq (broadcastInDim Cert.Pre_rows_distinct.S80x80x1 ![0, 1, 2] Cert.Pre_rows_distinct.Facts.bcast_S80x1x1_S80x80x1_0_1_2 (broadcastInDim Cert.Pre_rows_distinct.S80x1x1 ![0] Cert.Pre_rows_distinct.Facts.bcast_S80_S80x1x1_0 (iotaInDim Cert.Pre_rows_distinct.S80 32 0)))
        (broadcastInDim Cert.Pre_rows_distinct.S80x80x1 ![0, 1, 2] Cert.Pre_rows_distinct.Facts.bcast_S1x80x1_S80x80x1_0_1_2 (broadcastInDim Cert.Pre_rows_distinct.S1x80x1 ![1] Cert.Pre_rows_distinct.Facts.bcast_S80_S1x80x1_1 (iotaInDim Cert.Pre_rows_distinct.S80 32 0)))))
    (cmpi .ne (broadcastInDim Cert.Pre_rows_distinct.S80x80x1024 ![0, 1, 2] Cert.Pre_rows_distinct.Facts.bcast_S80x1x1024_S80x80x1024_0_1_2 (broadcastInDim Cert.Pre_rows_distinct.S80x1x1024 ![0, 2] Cert.Pre_rows_distinct.Facts.bcast_S80x1024_S80x1x1024_0_2 x2))
      (broadcastInDim Cert.Pre_rows_distinct.S80x80x1024 ![0, 1, 2] Cert.Pre_rows_distinct.Facts.bcast_S1x80x1024_S80x80x1024_0_1_2 (broadcastInDim Cert.Pre_rows_distinct.S1x80x1024 ![1, 2] Cert.Pre_rows_distinct.Facts.bcast_S80x1024_S1x80x1024_1_2 x2)))

/-- It, at an index. -/
theorem differ_apply (i j : Fin 80) (g : Fin 1024) : differ x2 (ix3 i j g)
    = IntOp.ori (IntOp.cmpi .eq (BitVec.ofNat 32 i.val) (BitVec.ofNat 32 j.val)) (IntOp.cmpi .ne (x2 (ix2 i g)) (x2 (ix2 j g))) := by
  pointwise [differ]

/-- Which spans are below plus infinity. -/
abbrev below (y0 : FVec Ideal Cert.Pre_rows_distinct.S80x1024 .f32) : IVec Cert.Pre_rows_distinct.S80x1x1024 1 :=
  cmpf .olt (broadcastInDim Cert.Pre_rows_distinct.S80x1x1024 ![0, 2] Cert.Pre_rows_distinct.Facts.bcast_S80x1024_S80x1x1024_0_2 y0)
    (broadcastInDim Cert.Pre_rows_distinct.S80x1x1024 ![] Cert.Pre_rows_distinct.Facts.bcast_S_S80x1x1024 (constant Cert.Pre_rows_distinct.S_ .f32 0x7F800000#32))

/-- The precondition's last part, at an index. -/
theorem part1_apply (y0 : FVec Ideal Cert.Pre_rows_distinct.S80x1024 .f32) (y1 : FVec Ideal Cert.Pre_rows_distinct.S1024 .f32) (z : IVec Cert.Pre_rows_distinct.S80x80x1024 1) (i j : Fin 80) (g : Fin 1024) :
    Cert.Pre_rows_distinct.fn_part1 (F := Ideal) z (below y0) y1 (ix3 i j g)
      = IntOp.andi (z (ix3 i j g)) (IntOp.andi (BitVec.ofBool (decide (y0 (ix2 i g) < Ideal.ofBits .f32 0x7F800000#32)))
        (BitVec.ofBool (decide (y1 (ix1 g) < Ideal.ofBits .f32 0x7F800000#32)))) := by
  unfold below
  pointwise [Cert.Pre_rows_distinct.fn_part1]

/-- The precondition by its parts. -/
theorem fn_eq : Cert.Pre_rows_distinct.fn (F := Ideal) x0 x1 x2 = Cert.Pre_rows_distinct.fn_part1 (F := Ideal) (differ x2) (below (spans0 x0)) (spans1 x1) := rfl

/-- The precondition, at an index. -/
theorem pre_apply (i j : Fin 80) (g : Fin 1024) :
    Cert.Pre_rows_distinct.fn (F := Ideal) x0 x1 x2 (ix3 i j g)
      = IntOp.andi (IntOp.ori (IntOp.cmpi .eq (BitVec.ofNat 32 i.val) (BitVec.ofNat 32 j.val)) (IntOp.cmpi .ne (x2 (ix2 i g)) (x2 (ix2 j g))))
        (IntOp.andi (BitVec.ofBool (decide (span (fun d => x0 (ix3 i g d)) < (⊤ : EReal)))) (BitVec.ofBool (decide (span (fun d => x1 (ix2 g d)) < (⊤ : EReal))))) :=
  (congrFun fn_eq _).trans ((part1_apply _ _ _ i j g).trans (by rw [differ_apply, spans0_apply, spans1_apply, top_eq]))

/-- Where it holds a query's rows are distinct, and they and the query finite. -/
theorem of_pre (hpre : Cert.Pre_rows_distinct.fn (F := Ideal) x0 x1 x2 = fun _ => 1#1) (g : Fin 1024) :
    (Function.Injective fun j : Fin 80 => x2 (ix2 j g)) ∧ (∀ (j : Fin 80) (d : Fin 128), x0 (ix3 j g d) ≠ ⊤ ∧ x0 (ix3 j g d) ≠ ⊥)
      ∧ ∀ d : Fin 128, x1 (ix2 g d) ≠ ⊤ ∧ x1 (ix2 g d) ≠ ⊥ := by
  have hand : ∀ x y : BitVec 1, IntOp.andi x y = 1#1 → x = 1#1 ∧ y = 1#1 := by decide
  have h := fun i j => distinct (by decide) ((pre_apply i j g).symm.trans (congrFun hpre _))
  exact ⟨fun i j e => (h i j).1 e, fun j => of_span (of_ofBool (hand _ _ (h j j).2).1), of_span (of_ofBool (hand _ _ (h 0 0).2).2)⟩

end Pre

/-! ## The result -/

section Final

open Idealize.ShloMosaic.Pipeline (Dat)

variable (m : (ℓ : Loc nD τ sig) → Buf (Elt Ideal) ℓ) (d : Dev nD) (t : Fin cfg0.N)

/-- The three arguments' arrays. -/
abbrev rows : S80x1024x128.Idx → EReal := m ((d.tc : Thread nD τ).loc main_arg0)
abbrev qry : S1024x128.Idx → EReal := m ((d.tc : Thread nD τ).loc main_arg1)
abbrev nums : S80x1024.Idx → BitVec 32 := m ((d.tc : Thread nD τ).loc main_arg2)

/-- The query at a point's lane. -/
abbrev at_ (b : Fin 128) : Fin 1024 := ⟨t.val * 128 + b.val, by have h : t.val < 8 := t.isLt; omega⟩

/-- A point reads 128 queries' rows, -/
theorem blk0 (n : Fin 80) (b : Fin 128) (e : Fin 128) : (iblk (F := Ideal) m d 0 t : S80x128x128.Idx → EReal) (ix3 n b e) = rows m d (ix3 n (at_ t b) e) := by
  have h0 : ∀ t : Fin cfg0.N, win0_0.index t 0 = 0 := by decide +kernel
  have h1 : ∀ t : Fin cfg0.N, win0_0.index t 1 = t.val := by decide +kernel
  have h2 : ∀ t : Fin cfg0.N, win0_0.index t 2 = 0 := by decide +kernel
  refine congrArg (rows m d) (funext fun a => Fin.ext ?_)
  match a with
  | ⟨0, _⟩ => exact Pipeline.Window.rect_emb_val_of_index_zero win0_0 t 0 (h0 t) (ix3 n b e)
  | ⟨1, _⟩ => exact (Pipeline.Window.rect_emb_val win0_0 t (ix3 n b e) 1).trans (by rw [h1 t]; rfl)
  | ⟨2, _⟩ => exact Pipeline.Window.rect_emb_val_of_index_zero win0_0 t 2 (h2 t) (ix3 n b e)

/-- those queries, -/
theorem blk1 (b : Fin 128) (e : Fin 128) : (iblk (F := Ideal) m d 1 t : S128x128.Idx → EReal) (ix2 b e) = qry m d (ix2 (at_ t b) e) := by
  have h0 : ∀ t : Fin cfg0.N, win0_1.index t 0 = t.val := by decide +kernel
  have h1 : ∀ t : Fin cfg0.N, win0_1.index t 1 = 0 := by decide +kernel
  refine congrArg (qry m d) (funext fun a => Fin.ext ?_)
  match a with
  | ⟨0, _⟩ => exact (Pipeline.Window.rect_emb_val win0_1 t (ix2 b e) 0).trans (by rw [h0 t]; rfl)
  | ⟨1, _⟩ => exact Pipeline.Window.rect_emb_val_of_index_zero win0_1 t 1 (h1 t) (ix2 b e)

/-- and the rows' numbers. -/
theorem blk2 (n : Fin 80) (b : Fin 128) : (iblk (F := Ideal) m d 2 t : S80x128.Idx → BitVec 32) (ix2 n b) = nums m d (ix2 n (at_ t b)) := by
  have h0 : ∀ t : Fin cfg0.N, win0_2.index t 0 = 0 := by decide +kernel
  have h1 : ∀ t : Fin cfg0.N, win0_2.index t 1 = t.val := by decide +kernel
  refine congrArg (nums m d) (funext fun a => Fin.ext ?_)
  match a with
  | ⟨0, _⟩ => exact Pipeline.Window.rect_emb_val_of_index_zero win0_2 t 0 (h0 t) (ix2 n b)
  | ⟨1, _⟩ => exact (Pipeline.Window.rect_emb_val win0_2 t (ix2 n b) 1).trans (by rw [h1 t]; rfl)

/-- A point's rounds pick the rows the sort puts first. -/
theorem same (hpre : Cert.Pre_rows_distinct.fn (F := Ideal) (rows m d) (qry m d) (nums m d) = fun _ => 1#1) (k : Fin 10) (b : Fin 128) :
    picked (iblk (F := Ideal) m d 0 t) (iblk (F := Ideal) m d 1 t) (iblk (F := Ideal) m d 2 t) k.val (ix2 0 b)
      = Cert.NearestReferenceIdeal.Read.val_main_v12_1 (F := Ideal) (rows m d) (qry m d) (nums m d) (ix2 ⟨k.val, by omega⟩ (at_ t b)) := by
  obtain ⟨hid, he, hq⟩ := of_pre hpre (at_ t b)
  have hkeys : (fun j : Fin 80 => keys (iblk (F := Ideal) m d 0 t) (iblk (F := Ideal) m d 1 t) (ix2 j b))
      = fun j => near (fun e => rows m d (ix3 j (at_ t b) e)) (fun e => qry m d (ix2 (at_ t b) e)) := funext fun j =>
    (keys_apply _ _ j b).trans (congr (congrArg near (funext fun e => blk0 m d t j b e)) (funext fun e => blk1 m d t b e))
  have hids : (fun j : Fin 80 => (iblk (F := Ideal) m d 2 t : S80x128.Idx → BitVec 32) (ix2 j b)) = fun j => nums m d (ix2 j (at_ t b)) :=
    funext fun j => blk2 m d t j b
  obtain ⟨q, hfirst, hs⟩ := sorted Cert.NearestReferenceIdeal.comparator_f32_i32_d0 Ref.comparator_iff
    (Cert.NearestReferenceIdeal.Read.val_main_v11 (F := Ideal) (rows m d) (qry m d)) (nums m d) (at_ t b) hid (K := 10) (by decide) (by decide)
  have hdist : (fun j : Fin 80 => Cert.NearestReferenceIdeal.Read.val_main_v11 (F := Ideal) (rows m d) (qry m d) (ix2 j (at_ t b)))
      = fun j => dist (fun e => rows m d (ix3 j (at_ t b) e)) (fun e => qry m d (ix2 (at_ t b) e)) := funext fun j => Ref.v11_apply _ _ j _
  rw [hdist] at hfirst
  have hfirst' := First.congr (before_iff _ _ _ he hq) hfirst
  rw [← hkeys, ← hids] at hfirst'
  refine (picks fits (iblk (F := Ideal) m d 2 t) (keys (iblk (F := Ideal) m d 0 t) (iblk (F := Ideal) m d 1 t)) (.inr rfl) b
    (hids ▸ hid) (fun j => ?_) (by decide) (by decide) hfirst' k.val k.isLt).trans ((blk2 m d t _ b).trans (hs k.val (by omega)).symm)
  exact lt_of_eq_of_lt (congrFun hkeys j) (near_lt _ _ (he j) hq)

/-- What the call leaves. -/
theorem final3 (hpre : Cert.Pre_rows_distinct.fn (F := Ideal) (rows m d) (qry m d) (nums m d) = fun _ => 1#1) :
    (dats (F := Ideal) m 0 d).arrAt 3 cfg0.N = Cert.NearestReferenceIdeal.Read.val_main_v15 (F := Ideal) (rows m d) (qry m d) (nums m d) := by
  refine Dat.arrAt_eq_of_covers _ 3 _ (by decide +kernel) fun t hf y => ?_
  have h0 : ∀ t : Fin cfg0.N, win0_3.index t 0 = t.val := by decide +kernel
  have h1 : ∀ t : Fin cfg0.N, win0_3.index t 1 = 0 := by decide +kernel
  have h2 : ∀ t : Fin cfg0.N, win0_3.index t 2 = 0 := by decide +kernel
  have ht : t.val < 8 := t.isLt
  have hy : y = (ix3 (0 : Fin 1) (y 1) (y 2) : S1x10x128.Idx) := funext fun a => match a with
    | ⟨0, _⟩ => Subsingleton.elim (α := Fin 1) _ _
    | ⟨1, _⟩ => rfl
    | ⟨2, _⟩ => rfl
  have he : ((cfg0.win 3).blk t).view.emb y = (ix3 ⟨t.val, ht⟩ (y 1) (y 2) : S8x10x128.Idx) := funext fun a => Fin.ext (match a with
    | ⟨0, _⟩ => (Pipeline.Window.rect_emb_val win0_3 t y 0).trans (by
        have : (y 0).val < 1 := (y 0).isLt
        rw [h0 t]; show t.val * 1 + (y 0).val = t.val; omega)
    | ⟨1, _⟩ => Pipeline.Window.rect_emb_val_of_index_zero win0_3 t 1 (h1 t) y
    | ⟨2, _⟩ => Pipeline.Window.rect_emb_val_of_index_zero win0_3 t 2 (h2 t) y)
  refine Eq.trans ?_ (congrArg (Cert.NearestReferenceIdeal.Read.val_main_v15 (F := Ideal) (rows m d) (qry m d) (nums m d)) he.symm)
  refine (congrFun ((after0_3 (F := Ideal) m d t).trans (out3_eq _ _ _)) y).trans ((congrArg _ hy).trans ((spread_apply _ (y 1) (y 2)).trans ?_))
  exact (same m d t hpre (y 1) (y 2)).trans (Ref.v15_apply (rows m d) (qry m d) (nums m d) ⟨t.val, ht⟩ (y 1) (y 2)).symm

end Final

end Cert.Proof.NearestIdeal

end
-- ==== Proof.lean ====
/-
  The kernel's run with its arguments kept, at the machine's floats and at the extended reals; the reference's; and
  that over the extended reals the two leave the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReferenceIdeal
public import proofs.«01_k».proof.Proof.Gen.GatherReferenceIdeal.Run
public import proofs.«01_k».proof.Proof.Gen.GatherReferenceIdeal.Read
public import proofs.«01_k».proof.Proof.Gen.Pre_candidates_in_range
public import proofs.«01_k».proof.Proof.Gen.Minima
public import proofs.«01_k».proof.Proof.Gen.Minima.Skeleton
public import proofs.«01_k».proof.Proof.Gen.MinimaIdeal
public import proofs.«01_k».proof.Proof.Gen.MinimaIdeal.Skeleton
public import proofs.«01_k».proof.Proof.Gen.MinimaReferenceIdeal
public import proofs.«01_k».proof.Proof.Gen.MinimaReferenceIdeal.Run
public import proofs.«01_k».proof.Proof.Gen.MinimaReferenceIdeal.Read
public import proofs.«01_k».proof.Proof.Gen.Pre_places_in_range
public import proofs.«01_k».proof.Proof.Gen.Groups
public import proofs.«01_k».proof.Proof.Gen.Groups.Skeleton
public import proofs.«01_k».proof.Proof.Gen.Groups.Launch
public import proofs.«01_k».proof.Proof.Gen.Groups.Points
public import proofs.«01_k».proof.Proof.Gen.GroupsIdeal
public import proofs.«01_k».proof.Proof.Gen.GroupsIdeal.Skeleton
public import proofs.«01_k».proof.Proof.Gen.GroupsIdeal.Launch
public import proofs.«01_k».proof.Proof.Gen.GroupsIdeal.Points
public import proofs.«01_k».proof.Proof.Gen.GroupsReferenceIdeal
public import proofs.«01_k».proof.Proof.Gen.GroupsReferenceIdeal.Run
public import proofs.«01_k».proof.Proof.Gen.GroupsReferenceIdeal.Read
public import proofs.«01_k».proof.Proof.Gen.GroupsIdeal.Frame
public import proofs.«01_k».proof.Proof.Gen.Groups.Frame
public import proofs.«01_k».proof.Proof.Gen.Supers
public import proofs.«01_k».proof.Proof.Gen.Supers.Skeleton
public import proofs.«01_k».proof.Proof.Gen.Supers.Launch
public import proofs.«01_k».proof.Proof.Gen.Supers.Points
public import proofs.«01_k».proof.Proof.Gen.Supers.Frame
public import proofs.«01_k».proof.Proof.Gen.SupersIdeal
public import proofs.«01_k».proof.Proof.Gen.SupersIdeal.Skeleton
public import proofs.«01_k».proof.Proof.Gen.SupersIdeal.Launch
public import proofs.«01_k».proof.Proof.Gen.SupersIdeal.Points
public import proofs.«01_k».proof.Proof.Gen.SupersIdeal.Frame
public import proofs.«01_k».proof.Proof.Gen.SupersReferenceIdeal
public import proofs.«01_k».proof.Proof.Gen.SupersReferenceIdeal.Run
public import proofs.«01_k».proof.Proof.Gen.SupersReferenceIdeal.Read
public import proofs.«01_k».proof.Proof.Gen.Rows
public import proofs.«01_k».proof.Proof.Gen.Rows.Skeleton
public import proofs.«01_k».proof.Proof.Gen.Rows.Launch
public import proofs.«01_k».proof.Proof.Gen.Rows.Points
public import proofs.«01_k».proof.Proof.Gen.Rows.Frame
public import proofs.«01_k».proof.Proof.Gen.RowsIdeal
public import proofs.«01_k».proof.Proof.Gen.RowsIdeal.Skeleton
public import proofs.«01_k».proof.Proof.Gen.RowsIdeal.Launch
public import proofs.«01_k».proof.Proof.Gen.RowsIdeal.Points
public import proofs.«01_k».proof.Proof.Gen.RowsIdeal.Frame
public import proofs.«01_k».proof.Proof.Gen.RowsReferenceIdeal
public import proofs.«01_k».proof.Proof.Gen.RowsReferenceIdeal.Run
public import proofs.«01_k».proof.Proof.Gen.RowsReferenceIdeal.Read
public import proofs.«01_k».proof.Proof.Gen.Nearest
public import proofs.«01_k».proof.Proof.Gen.Nearest.Skeleton
public import proofs.«01_k».proof.Proof.Gen.Nearest.Launch
public import proofs.«01_k».proof.Proof.Gen.Nearest.Points
public import proofs.«01_k».proof.Proof.Gen.Nearest.Frame
public import proofs.«01_k».proof.Proof.Gen.NearestIdeal
public import proofs.«01_k».proof.Proof.Gen.NearestIdeal.Skeleton
public import proofs.«01_k».proof.Proof.Gen.NearestIdeal.Launch
public import proofs.«01_k».proof.Proof.Gen.NearestIdeal.Points
public import proofs.«01_k».proof.Proof.Gen.NearestIdeal.Frame
public import proofs.«01_k».proof.Proof.Gen.NearestReferenceIdeal
public import proofs.«01_k».proof.Proof.Gen.NearestReferenceIdeal.Run
public import proofs.«01_k».proof.Proof.Gen.NearestReferenceIdeal.Read
public import proofs.«01_k».proof.Proof.Gen.Pre_supers_below_infinity
public import proofs.«01_k».proof.Proof.Gen.Pre_groups_distinct
public import proofs.«01_k».proof.Proof.Gen.Pre_rows_distinct
public import Idealize.ShloMosaic.Adequacy
public import Idealize.ShloMosaic.Init
public import Idealize.ShloMosaic.Lib.Quiescent
public import proofs.«01_k».proof.Proof.Gen.Pre_rows_in_range
public import proofs.«01_k».proof.Proof.BitsFrame
public import proofs.«01_k».proof.Proof.Out
public import proofs.«01_k».proof.Proof.BitsGRun
public import proofs.«01_k».proof.Proof.GVal
public import proofs.«01_k».proof.Proof.BitsMRun
public import proofs.«01_k».proof.Proof.MVal
public import proofs.«01_k».proof.Proof.Groups
public import proofs.«01_k».proof.Proof.Supers
public import proofs.«01_k».proof.Proof.Rows
public import proofs.«01_k».proof.Proof.Nearest

@[expose] public section

noncomputable section

namespace Cert.Proof

open Idealize.ShloMosaic Idealize.SL.Sem

/-- The printed kernel, at the machine's floats: it ends, its arguments as they were and every counter at zero. -/
theorem frame_p : Cert.quiescent_Kernel := fun m g hpre =>
  (θ_run Cert.Kernel.defs _ _).mono (fun _ h => ⟨fun c => Cert.Proof.Kernel.QC.args m h c, h.2⟩)
    (Cert.Proof.Kernel.run_main (F := Bits) m g (Cert.Proof.Kernel.rows_lt m fun d j => Cert.Proof.Kernel.lt_of_pre (hpre d) j))

/-- The same over the extended reals, with the result's array. -/
theorem run_pi (m : (ℓ : Loc Cert.KernelIdeal.nD Cert.KernelIdeal.τ Cert.KernelIdeal.sig) → Buf (Elt Ideal) ℓ) (g : Dev Cert.KernelIdeal.nD → PrngReg)
    (hpre : Cert.Pre_KernelIdeal m) :
    θ_run (Cert.KernelIdeal.defs (F := Ideal)) (Cert.KernelIdeal.threads (F := Ideal)) ⟨m, fun _ => 0, g⟩ (Cert.Proof.KernelIdeal.QC m) :=
  Cert.Proof.KernelIdeal.run_main (F := Ideal) m g (Cert.Proof.KernelIdeal.rows_lt m fun d j => Cert.Proof.KernelIdeal.lt_of_pre (hpre d) j)

/-- The kernel over the extended reals ends, its arguments as they were and every counter at zero. -/
theorem frame_pi : Cert.quiescent_KernelIdeal := fun m g hpre =>
  (θ_run Cert.KernelIdeal.defs _ _).mono (fun _ h => ⟨fun c => Cert.Proof.KernelIdeal.QC.args m h c, h.2⟩) (run_pi m g hpre)

/-- So does the reference, which has no counters. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference under the precondition. -/
theorem frame_ri_pre : Cert.quiescent_ReferenceIdeal_pre_rows_in_range := fun m g _ => frame_ri m g trivial

set_option maxRecDepth 8192 in
/-- The reference's result is the array the kernel leaves, from memories agreeing on the arguments. -/
theorem result_eq (m : (ℓ : Loc Cert.KernelIdeal.nD Cert.KernelIdeal.τ Cert.KernelIdeal.sig) → Buf (Elt Ideal) ℓ) (c : Dev Cert.KernelIdeal.nD)
    (hlt : ∀ i, (m ((c.tc : Thread Cert.KernelIdeal.nD Cert.KernelIdeal.τ).loc Cert.KernelIdeal.main_arg3) i : BitVec 32).toNat < 100000) :
    Cert.ReferenceIdeal.Read.val_main_v118 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      = Cert.Proof.KernelIdeal.outArr m c := by
  funext y
  have hy : y = (ix2 (y 0 : Fin 1024) (y 1 : Fin 128) : Cert.ReferenceIdeal.S1024x128.Idx) := funext fun a => match a with
    | ⟨0, _⟩ => rfl
    | ⟨1, _⟩ => rfl
  exact (congrArg _ hy).trans (Cert.Proof.Ref.v118_apply _ _ _ _ _ _ _ _ _ _ _ _ _ _ _ _ hlt (y 0) (y 1))

/-- Over the extended reals the kernel's result is the reference's. -/
theorem same : Cert.algebraic_KernelIdeal_ReferenceIdeal := fun m g m' g' hpre hagree => by
  refine ⟨fun c => Cert.Proof.KernelIdeal.outArr m c,
    (θ_run Cert.KernelIdeal.defs _ _).mono (fun _ h c => ⟨(h.1 c (Proc.devRef .tc Cert.KernelIdeal.main_v18) (by decide +kernel)).trans (Cert.Proof.KernelIdeal.val4_out m c), Cert.Proof.KernelIdeal.QC.args m h c⟩) (run_pi m g hpre),
    (θ_run Cert.ReferenceIdeal.defs _ _).mono (fun _ h c => ⟨(h c).1.trans ?_, (h c).2⟩) (Cert.ReferenceIdeal.Value.run (F := Ideal) m' g')⟩
  refine (Cert.ReferenceIdeal.Read.val_main_v118_eq (F := Ideal) (StableHlo.launchContents m' c)).trans ?_
  refine Eq.trans ?_ (result_eq m c fun i => Cert.Proof.KernelIdeal.lt_of_pre (hpre c) i)
  obtain ⟨h0, h1, h2, h3, h4, h5, h6, h7, h8, h9, h10, h11, h12, h13, h14, h15⟩ := hagree c
  rw [← h0, ← h1, ← h2, ← h3, ← h4, ← h5, ← h6, ← h7, ← h8, ← h9, ← h10, ← h11, ← h12, ← h13, ← h14, ← h15]

/-- The candidates' gather, at the machine's floats: it ends, its arguments as they were and every counter at zero. -/
theorem gather_frame_p : Cert.quiescent_Gather := fun m g hpre =>
  (θ_run Cert.Gather.defs _ _).mono (fun _ h => ⟨fun c => Cert.Proof.Gather.QC.args m h c, h.2⟩)
    (Cert.Proof.Gather.run_main (F := Bits) m g (Cert.Proof.Gather.rows_lt m fun d j => Cert.Proof.Gather.lt_of_pre (hpre d) j))

/-- The same over the extended reals, with the result's array. -/
theorem gather_run_pi (m : (ℓ : Loc Cert.GatherIdeal.nD Cert.GatherIdeal.τ Cert.GatherIdeal.sig) → Buf (Elt Ideal) ℓ) (g : Dev Cert.GatherIdeal.nD → PrngReg)
    (hpre : Cert.Pre_GatherIdeal m) :
    θ_run (Cert.GatherIdeal.defs (F := Ideal)) (Cert.GatherIdeal.threads (F := Ideal)) ⟨m, fun _ => 0, g⟩ (Cert.Proof.GatherIdeal.QC m) :=
  Cert.Proof.GatherIdeal.run_main (F := Ideal) m g (Cert.Proof.GatherIdeal.rows_lt m fun d j => Cert.Proof.GatherIdeal.lt_of_pre (hpre d) j)

/-- The gather over the extended reals ends, its arguments as they were and every counter at zero. -/
theorem gather_frame_pi : Cert.quiescent_GatherIdeal := fun m g hpre =>
  (θ_run Cert.GatherIdeal.defs _ _).mono (fun _ h => ⟨fun c => Cert.Proof.GatherIdeal.QC.args m h c, h.2⟩) (gather_run_pi m g hpre)

/-- So does its reference, which has no counters. -/
theorem gather_frame_ri : Cert.quiescent_GatherReferenceIdeal := fun m g _ =>
  (θ_run Cert.GatherReferenceIdeal.defs _ _).mono (fun r h => ⟨fun c => (h c).2, sem_eq_zero_of_no_sems (by decide) r.2⟩)
    (Cert.GatherReferenceIdeal.Value.run (F := Ideal) m g)

/-- The gather's reference under the precondition. -/
theorem gather_frame_ri_pre : Cert.quiescent_GatherReferenceIdeal_pre_candidates_in_range := fun m g _ => gather_frame_ri m g trivial

/-- The gather's reference leaves the array the gather leaves, from memories agreeing on the arguments. -/
theorem gather_result_eq (m : (ℓ : Loc Cert.GatherIdeal.nD Cert.GatherIdeal.τ Cert.GatherIdeal.sig) → Buf (Elt Ideal) ℓ) (c : Dev Cert.GatherIdeal.nD)
    (hlt : ∀ i, (m ((c.tc : Thread Cert.GatherIdeal.nD Cert.GatherIdeal.τ).loc Cert.GatherIdeal.main_arg1) i : BitVec 32).toNat < 100000) :
    Cert.GatherReferenceIdeal.Read.val_main_v6 (F := Ideal)
      (m ((c.tc : Thread Cert.GatherIdeal.nD Cert.GatherIdeal.τ).loc Cert.GatherIdeal.main_arg0))
      (m ((c.tc : Thread Cert.GatherIdeal.nD Cert.GatherIdeal.τ).loc Cert.GatherIdeal.main_arg1))
      = Cert.Proof.GatherIdeal.val3 m c (Proc.devRef .tc Cert.GatherIdeal.main_v2) := by
  funext y
  have hy : y = (ix3 (y 0 : Fin 80) (y 1 : Fin 1024) (y 2 : Fin 128) : Cert.GatherReferenceIdeal.S80x1024x128.Idx) := funext fun a => match a with
    | ⟨0, _⟩ => rfl
    | ⟨1, _⟩ => rfl
    | ⟨2, _⟩ => rfl
  refine (congrArg _ hy).trans ((Cert.Proof.GatherIdeal.Ref.v6_apply _ _ hlt (y 0) (y 1) (y 2)).trans ?_)
  exact (Cert.Proof.GatherIdeal.val3_apply m c (y 0) (y 1) (y 2)).symm.trans (congrArg _ hy.symm)

/-- Over the extended reals the gather's result is its reference's. -/
theorem gather_same : Cert.algebraic_GatherIdeal_GatherReferenceIdeal := fun m g m' g' hpre hagree => by
  refine ⟨fun c => Cert.Proof.GatherIdeal.val3 m c (Proc.devRef .tc Cert.GatherIdeal.main_v2),
    (θ_run Cert.GatherIdeal.defs _ _).mono (fun _ h c => ⟨h.1 c (Proc.devRef .tc Cert.GatherIdeal.main_v2) (by decide +kernel), Cert.Proof.GatherIdeal.QC.args m h c⟩) (gather_run_pi m g hpre),
    (θ_run Cert.GatherReferenceIdeal.defs _ _).mono (fun _ h c => ⟨(h c).1.trans ?_, (h c).2⟩) (Cert.GatherReferenceIdeal.Value.run (F := Ideal) m' g')⟩
  refine (Cert.GatherReferenceIdeal.Read.val_main_v6_eq (F := Ideal) _ _).trans ?_
  refine Eq.trans ?_ (gather_result_eq m c fun i => Cert.Proof.GatherIdeal.lt_of_pre (hpre c) i)
  obtain ⟨h0, h1⟩ := hagree c
  rw [← h0, ← h1]

/-- The read of group minima by place, at the machine's floats: it ends, its arguments as they were and every counter at zero. -/
theorem minima_frame_p : Cert.quiescent_Minima := fun m g hpre =>
  (θ_run Cert.Minima.defs _ _).mono (fun _ h => ⟨fun c => Cert.Proof.Minima.QC.args m h c, h.2⟩)
    (Cert.Proof.Minima.run_main (F := Bits) m g (Cert.Proof.Minima.rows_lt m fun d j => Cert.Proof.Minima.lt_of_pre (hpre d) j))

/-- The same over the extended reals, with the result's array. -/
theorem minima_run_pi (m : (ℓ : Loc Cert.MinimaIdeal.nD Cert.MinimaIdeal.τ Cert.MinimaIdeal.sig) → Buf (Elt Ideal) ℓ) (g : Dev Cert.MinimaIdeal.nD → PrngReg)
    (hpre : Cert.Pre_MinimaIdeal m) :
    θ_run (Cert.MinimaIdeal.defs (F := Ideal)) (Cert.MinimaIdeal.threads (F := Ideal)) ⟨m, fun _ => 0, g⟩ (Cert.Proof.MinimaIdeal.QC m) :=
  Cert.Proof.MinimaIdeal.run_main (F := Ideal) m g (Cert.Proof.MinimaIdeal.rows_lt m fun d j => Cert.Proof.MinimaIdeal.lt_of_pre (hpre d) j)

/-- The read of minima over the extended reals ends, its arguments as they were and every counter at zero. -/
theorem minima_frame_pi : Cert.quiescent_MinimaIdeal := fun m g hpre =>
  (θ_run Cert.MinimaIdeal.defs _ _).mono (fun _ h => ⟨fun c => Cert.Proof.MinimaIdeal.QC.args m h c, h.2⟩) (minima_run_pi m g hpre)

/-- So does its reference, which has no counters. -/
theorem minima_frame_ri : Cert.quiescent_MinimaReferenceIdeal := fun m g _ =>
  (θ_run Cert.MinimaReferenceIdeal.defs _ _).mono (fun r h => ⟨fun c => (h c).2, sem_eq_zero_of_no_sems (by decide) r.2⟩)
    (Cert.MinimaReferenceIdeal.Value.run (F := Ideal) m g)

/-- That read's reference under the precondition. -/
theorem minima_frame_ri_pre : Cert.quiescent_MinimaReferenceIdeal_pre_places_in_range := fun m g _ => minima_frame_ri m g trivial

/-- That read's reference leaves the array the read leaves, from memories agreeing on the arguments. -/
theorem minima_result_eq (m : (ℓ : Loc Cert.MinimaIdeal.nD Cert.MinimaIdeal.τ Cert.MinimaIdeal.sig) → Buf (Elt Ideal) ℓ) (c : Dev Cert.MinimaIdeal.nD)
    (hlt : ∀ i, (m ((c.tc : Thread Cert.MinimaIdeal.nD Cert.MinimaIdeal.τ).loc Cert.MinimaIdeal.main_arg1) i : BitVec 32).toNat < 12800000) :
    Cert.MinimaReferenceIdeal.Read.val_main_v7 (F := Ideal)
      (m ((c.tc : Thread Cert.MinimaIdeal.nD Cert.MinimaIdeal.τ).loc Cert.MinimaIdeal.main_arg0))
      (m ((c.tc : Thread Cert.MinimaIdeal.nD Cert.MinimaIdeal.τ).loc Cert.MinimaIdeal.main_arg1))
      = Cert.Proof.MinimaIdeal.val3 m c (Proc.devRef .tc Cert.MinimaIdeal.main_v3) := by
  funext y
  have hy : y = (ix3 (y 0 : Fin 10) (y 1 : Fin 10) (y 2 : Fin 1024) : Cert.MinimaReferenceIdeal.S10x10x1024.Idx) := funext fun a => match a with
    | ⟨0, _⟩ => rfl
    | ⟨1, _⟩ => rfl
    | ⟨2, _⟩ => rfl
  refine (congrArg _ hy).trans ((Cert.Proof.MinimaIdeal.Ref.v7_apply _ _ hlt (y 0) (y 1) (y 2)).trans ?_)
  exact (Cert.Proof.MinimaIdeal.val3_apply m c (y 0) (y 1) (y 2)).symm.trans (congrArg _ hy.symm)

/-- Over the extended reals that read's result is its reference's. -/
theorem minima_same : Cert.algebraic_MinimaIdeal_MinimaReferenceIdeal := fun m g m' g' hpre hagree => by
  refine ⟨fun c => Cert.Proof.MinimaIdeal.val3 m c (Proc.devRef .tc Cert.MinimaIdeal.main_v3),
    (θ_run Cert.MinimaIdeal.defs _ _).mono (fun _ h c => ⟨h.1 c (Proc.devRef .tc Cert.MinimaIdeal.main_v3) (by decide +kernel), Cert.Proof.MinimaIdeal.QC.args m h c⟩) (minima_run_pi m g hpre),
    (θ_run Cert.MinimaReferenceIdeal.defs _ _).mono (fun _ h c => ⟨(h c).1.trans ?_, (h c).2⟩) (Cert.MinimaReferenceIdeal.Value.run (F := Ideal) m' g')⟩
  refine (Cert.MinimaReferenceIdeal.Read.val_main_v7_eq (F := Ideal) _ _).trans ?_
  refine Eq.trans ?_ (minima_result_eq m c fun i => Cert.Proof.MinimaIdeal.lt_of_pre (hpre c) i)
  obtain ⟨h0, h1⟩ := hagree c
  rw [← h0, ← h1]

/-- The call that finds the groups' minima, at the machine's floats: it ends, its arguments as they were and every counter at zero. -/
theorem groups_frame_p : Cert.quiescent_Groups := fun m g _ => Cert.Groups.Gen.frame (F := Bits) m g

/-- So it does over the extended reals. -/
theorem groups_frame_pi : Cert.quiescent_GroupsIdeal := fun m g _ => Cert.GroupsIdeal.Gen.frame (F := Ideal) m g

/-- So does its reference, which has no counters. -/
theorem groups_frame_ri : Cert.quiescent_GroupsReferenceIdeal := fun m g _ =>
  (θ_run Cert.GroupsReferenceIdeal.defs _ _).mono (fun r h => ⟨fun c => (h c).2.2, sem_eq_zero_of_no_sems (by decide) r.2⟩)
    (Cert.GroupsReferenceIdeal.Value.run (F := Ideal) m g)

/-- Over the extended reals both arrays of minima are the reference's. -/
theorem groups_same : Cert.algebraic_GroupsIdeal_GroupsReferenceIdeal := fun m g m' g' _ hagree => by
  refine ⟨fun c => Cert.GroupsReferenceIdeal.Read.val_main_v13 (F := Ideal) (Cert.Proof.GroupsIdeal.tbl m c) (Cert.Proof.GroupsIdeal.qry m c),
    fun c => Cert.GroupsReferenceIdeal.Read.val_main_v14 (F := Ideal) (Cert.Proof.GroupsIdeal.tbl m c) (Cert.Proof.GroupsIdeal.qry m c),
    (θ_run Cert.GroupsIdeal.defs _ _).mono (fun _ h c => ⟨((h.1 c).1 2).trans (Cert.Proof.GroupsIdeal.final2 m c), ((h.1 c).1 3).trans (Cert.Proof.GroupsIdeal.final3 m c), h.2 c⟩)
      (θ_run_and (Cert.GroupsIdeal.Gen.run_main (F := Ideal) m g) (Cert.GroupsIdeal.Gen.unchanged (F := Ideal) m g)),
    (θ_run Cert.GroupsReferenceIdeal.defs _ _).mono (fun _ h c => ⟨(h c).1.trans ?_, (h c).2.1.trans ?_, (h c).2.2⟩) (Cert.GroupsReferenceIdeal.Value.run (F := Ideal) m' g')⟩
  · refine (Cert.GroupsReferenceIdeal.Read.val_main_v13_eq (F := Ideal) _ _).trans ?_
    obtain ⟨h0, h1⟩ := hagree c
    exact congrArg₂ (Cert.GroupsReferenceIdeal.Read.val_main_v13 (F := Ideal)) h0 h1
  · refine (Cert.GroupsReferenceIdeal.Read.val_main_v14_eq (F := Ideal) _ _).trans ?_
    obtain ⟨h0, h1⟩ := hagree c
    exact congrArg₂ (Cert.GroupsReferenceIdeal.Read.val_main_v14 (F := Ideal)) h0 h1

/-! ## The ten supergroups -/

/-- The call finishes with every counter at zero and its arguments as they were. -/
theorem supers_frame_p : Cert.quiescent_Supers := fun m g _ => Cert.Supers.Gen.frame (F := Bits) m g

/-- So it does over the extended reals. -/
theorem supers_frame_pi : Cert.quiescent_SupersIdeal := fun m g _ => Cert.SupersIdeal.Gen.frame (F := Ideal) m g

/-- The same under the precondition. -/
theorem supers_frame_pi_pre : Cert.quiescent_SupersIdeal_pre_supers_below_infinity := fun m g _ => supers_frame_pi m g trivial

/-- So does its reference, which has no counters. -/
theorem supers_frame_ri : Cert.quiescent_SupersReferenceIdeal := fun m g _ =>
  (θ_run Cert.SupersReferenceIdeal.defs _ _).mono (fun r h => ⟨fun c => (h c).2.2, sem_eq_zero_of_no_sems (by decide) r.2⟩)
    (Cert.SupersReferenceIdeal.Value.run (F := Ideal) m g)

/-- The same under the precondition. -/
theorem supers_frame_ri_pre : Cert.quiescent_SupersReferenceIdeal_pre_supers_below_infinity := fun m g _ => supers_frame_ri m g trivial

/-- Over the extended reals both its results are the reference's. -/
theorem supers_same : Cert.algebraic_SupersIdeal_SupersReferenceIdeal_pre_supers_below_infinity := fun m g m' g' hpre hagree => by
  refine ⟨fun c => Cert.SupersReferenceIdeal.Read.val_main_v15 (F := Ideal) (Cert.Proof.SupersIdeal.mins m c),
    fun c => Cert.SupersReferenceIdeal.Read.val_main_v21 (F := Ideal) (Cert.Proof.SupersIdeal.mins m c),
    (θ_run Cert.SupersIdeal.defs _ _).mono (fun _ h c => ⟨((h.1 c).1 1).trans (Cert.Proof.SupersIdeal.final1 m c (hpre c)), ((h.1 c).1 2).trans (Cert.Proof.SupersIdeal.final2 m c (hpre c)), h.2 c⟩)
      (θ_run_and (Cert.SupersIdeal.Gen.run_main (F := Ideal) m g) (Cert.SupersIdeal.Gen.unchanged (F := Ideal) m g)),
    (θ_run Cert.SupersReferenceIdeal.defs _ _).mono (fun _ h c => ⟨(h c).1.trans ?_, (h c).2.1.trans ?_, (h c).2.2⟩) (Cert.SupersReferenceIdeal.Value.run (F := Ideal) m' g')⟩
  · exact (Cert.SupersReferenceIdeal.Read.val_main_v15_eq (F := Ideal) _).trans (congrArg (Cert.SupersReferenceIdeal.Read.val_main_v15 (F := Ideal)) (hagree c))
  · exact (Cert.SupersReferenceIdeal.Read.val_main_v21_eq (F := Ideal) _).trans (congrArg (Cert.SupersReferenceIdeal.Read.val_main_v21 (F := Ideal)) (hagree c))

/-! ## The eighty rows -/

/-- The call finishes with every counter at zero and its arguments as they were. -/
theorem rows_frame_p : Cert.quiescent_Rows := fun m g _ => Cert.Rows.Gen.frame (F := Bits) m g

/-- So it does over the extended reals. -/
theorem rows_frame_pi : Cert.quiescent_RowsIdeal := fun m g _ => Cert.RowsIdeal.Gen.frame (F := Ideal) m g

/-- The same under the precondition. -/
theorem rows_frame_pi_pre : Cert.quiescent_RowsIdeal_pre_groups_distinct := fun m g _ => rows_frame_pi m g trivial

/-- So does its reference, which has no counters. -/
theorem rows_frame_ri : Cert.quiescent_RowsReferenceIdeal := fun m g _ =>
  (θ_run Cert.RowsReferenceIdeal.defs _ _).mono (fun r h => ⟨fun c => (h c).2, sem_eq_zero_of_no_sems (by decide) r.2⟩)
    (Cert.RowsReferenceIdeal.Value.run (F := Ideal) m g)

/-- The same under the precondition. -/
theorem rows_frame_ri_pre : Cert.quiescent_RowsReferenceIdeal_pre_groups_distinct := fun m g _ => rows_frame_ri m g trivial

/-- Over the extended reals its result is the reference's. -/
theorem rows_same : Cert.algebraic_RowsIdeal_RowsReferenceIdeal_pre_groups_distinct := fun m g m' g' hpre hagree => by
  refine ⟨fun c => Cert.RowsReferenceIdeal.Read.val_main_v12 (F := Ideal) (Cert.Proof.RowsIdeal.vals m c) (Cert.Proof.RowsIdeal.cand m c),
    (θ_run Cert.RowsIdeal.defs _ _).mono (fun _ h c => ⟨((h.1 c).1 2).trans (Cert.Proof.RowsIdeal.final2 m c (hpre c)), h.2 c⟩)
      (θ_run_and (Cert.RowsIdeal.Gen.run_main (F := Ideal) m g) (Cert.RowsIdeal.Gen.unchanged (F := Ideal) m g)),
    (θ_run Cert.RowsReferenceIdeal.defs _ _).mono (fun _ h c => ⟨(h c).1.trans ?_, (h c).2⟩) (Cert.RowsReferenceIdeal.Value.run (F := Ideal) m' g')⟩
  refine (Cert.RowsReferenceIdeal.Read.val_main_v12_eq (F := Ideal) _ _).trans ?_
  obtain ⟨h0, h1⟩ := hagree c
  exact congrArg₂ (Cert.RowsReferenceIdeal.Read.val_main_v12 (F := Ideal)) h0 h1

/-! ## The ten nearest -/

/-- The call finishes with every counter at zero and its arguments as they were. -/
theorem nearest_frame_p : Cert.quiescent_Nearest := fun m g _ => Cert.Nearest.Gen.frame (F := Bits) m g

/-- So it does over the extended reals. -/
theorem nearest_frame_pi : Cert.quiescent_NearestIdeal := fun m g _ => Cert.NearestIdeal.Gen.frame (F := Ideal) m g

/-- The same under the precondition. -/
theorem nearest_frame_pi_pre : Cert.quiescent_NearestIdeal_pre_rows_distinct := fun m g _ => nearest_frame_pi m g trivial

/-- So does its reference, which has no counters. -/
theorem nearest_frame_ri : Cert.quiescent_NearestReferenceIdeal := fun m g _ =>
  (θ_run Cert.NearestReferenceIdeal.defs _ _).mono (fun r h => ⟨fun c => (h c).2, sem_eq_zero_of_no_sems (by decide) r.2⟩)
    (Cert.NearestReferenceIdeal.Value.run (F := Ideal) m g)

/-- The same under the precondition. -/
theorem nearest_frame_ri_pre : Cert.quiescent_NearestReferenceIdeal_pre_rows_distinct := fun m g _ => nearest_frame_ri m g trivial

/-- Over the extended reals its result is the reference's. -/
theorem nearest_same : Cert.algebraic_NearestIdeal_NearestReferenceIdeal_pre_rows_distinct := fun m g m' g' hpre hagree => by
  refine ⟨fun c => Cert.NearestReferenceIdeal.Read.val_main_v15 (F := Ideal) (Cert.Proof.NearestIdeal.rows m c) (Cert.Proof.NearestIdeal.qry m c) (Cert.Proof.NearestIdeal.nums m c),
    (θ_run Cert.NearestIdeal.defs _ _).mono (fun _ h c => ⟨((h.1 c).1 3).trans (Cert.Proof.NearestIdeal.final3 m c (hpre c)), h.2 c⟩)
      (θ_run_and (Cert.NearestIdeal.Gen.run_main (F := Ideal) m g) (Cert.NearestIdeal.Gen.unchanged (F := Ideal) m g)),
    (θ_run Cert.NearestReferenceIdeal.defs _ _).mono (fun _ h c => ⟨(h c).1.trans ?_, (h c).2⟩) (Cert.NearestReferenceIdeal.Value.run (F := Ideal) m' g')⟩
  refine (Cert.NearestReferenceIdeal.Read.val_main_v15_eq (F := Ideal) _ _ _).trans ?_
  obtain ⟨h0, h1, h2⟩ := hagree c
  exact congr (congrArg₂ (Cert.NearestReferenceIdeal.Read.val_main_v15 (F := Ideal)) h0 h1) h2

/-- Every claim. -/
theorem claim : Cert.Claim :=
  ⟨Cert.Kernel.Gen.facts, Cert.KernelIdeal.Gen.facts, Cert.ReferenceIdeal.Gen.facts, Cert.Gather.Gen.facts, Cert.GatherIdeal.Gen.facts, Cert.GatherReferenceIdeal.Gen.facts,
    Cert.Minima.Gen.facts, Cert.MinimaIdeal.Gen.facts, Cert.MinimaReferenceIdeal.Gen.facts, Cert.Groups.Gen.facts, Cert.GroupsIdeal.Gen.facts, Cert.GroupsReferenceIdeal.Gen.facts,
    Cert.Supers.Gen.facts, Cert.SupersIdeal.Gen.facts, Cert.SupersReferenceIdeal.Gen.facts, Cert.Rows.Gen.facts, Cert.RowsIdeal.Gen.facts, Cert.RowsReferenceIdeal.Gen.facts,
    Cert.Nearest.Gen.facts, Cert.NearestIdeal.Gen.facts, Cert.NearestReferenceIdeal.Gen.facts,
    Cert.Pre_rows_in_range.Gen.facts, Cert.Pre_candidates_in_range.Gen.facts, Cert.Pre_places_in_range.Gen.facts,
    Cert.Pre_supers_below_infinity.Gen.facts, Cert.Pre_groups_distinct.Gen.facts, Cert.Pre_rows_distinct.Gen.facts,
    frame_p, frame_pi, frame_ri, frame_ri_pre, gather_frame_p, gather_frame_pi, gather_frame_ri, gather_frame_ri_pre,
    minima_frame_p, minima_frame_pi, minima_frame_ri, minima_frame_ri_pre,
    groups_frame_p, groups_frame_pi, groups_frame_ri,
    supers_frame_p, supers_frame_pi, supers_frame_pi_pre, supers_frame_ri, supers_frame_ri_pre, rows_frame_p, rows_frame_pi, rows_frame_pi_pre, rows_frame_ri, rows_frame_ri_pre,
    nearest_frame_p, nearest_frame_pi, nearest_frame_pi_pre, nearest_frame_ri, nearest_frame_ri_pre,
    trivial, same, trivial, gather_same, trivial, minima_same, trivial, groups_same,
    trivial, supers_same, trivial, rows_same, trivial, nearest_same⟩

end Cert.Proof

end
